-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_below8 [hPre_below8 : Cert.Pre_below8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_below8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_below8 [hPre_below8 : Cert.Pre_below8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_below8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Kernel8Ideal_pre_below8 [hKernel8Ideal : Cert.Kernel8Ideal.Facts] [hPre_below8 : Cert.Pre_below8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_below8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Reference8Ideal_pre_below8 [hReference8Ideal : Cert.Reference8Ideal.Facts] [hPre_below8 : Cert.Pre_below8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_below8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)) (v7 : (c : Dev Cert.Kernel2Ideal.nD) → Buf (Elt Ideal) ((c.tc : Thread Cert.Kernel2Ideal.nD Cert.Kernel2Ideal.τ).loc Cert.Kernel2Ideal.main_v8_7)) (v8 : (c : Dev Cert.Kernel2Ideal.nD) → Buf (Elt Ideal) ((c.tc : Thread Cert.Kernel2Ideal.nD Cert.Kernel2Ideal.τ).loc Cert.Kernel2Ideal.main_v8_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_v8_7) = v7 c
          ∧ r.2.mem ((c.tc : Thread Cert.Kernel2Ideal.nD Cert.Kernel2Ideal.τ).loc Cert.Kernel2Ideal.main_v8_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_v27) = v3 c
          ∧ r.2.mem ((c.tc : Thread Cert.Reference2Ideal.nD Cert.Reference2Ideal.τ).loc Cert.Reference2Ideal.main_v28) = v4 c
          ∧ r.2.mem ((c.tc : Thread Cert.Reference2Ideal.nD Cert.Reference2Ideal.τ).loc Cert.Reference2Ideal.main_v30) = v5 c
          ∧ r.2.mem ((c.tc : Thread Cert.Reference2Ideal.nD Cert.Reference2Ideal.τ).loc Cert.Reference2Ideal.main_v31) = v6 c
          ∧ r.2.mem ((c.tc : Thread Cert.Reference2Ideal.nD Cert.Reference2Ideal.τ).loc Cert.Reference2Ideal.main_v32) = v7 c
          ∧ r.2.mem ((c.tc : Thread Cert.Reference2Ideal.nD Cert.Reference2Ideal.τ).loc Cert.Reference2Ideal.main_v34) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)) (v3 : (c : Dev Cert.Kernel5Ideal.nD) → Buf (Elt Ideal) ((c.tc : Thread Cert.Kernel5Ideal.nD Cert.Kernel5Ideal.τ).loc Cert.Kernel5Ideal.main_v8_3)) (v4 : (c : Dev Cert.Kernel5Ideal.nD) → Buf (Elt Ideal) ((c.tc : Thread Cert.Kernel5Ideal.nD Cert.Kernel5Ideal.τ).loc Cert.Kernel5Ideal.main_v8_4)) (v5 : (c : Dev Cert.Kernel5Ideal.nD) → Buf (Elt Ideal) ((c.tc : Thread Cert.Kernel5Ideal.nD Cert.Kernel5Ideal.τ).loc Cert.Kernel5Ideal.main_v8_5)) (v6 : (c : Dev Cert.Kernel5Ideal.nD) → Buf (Elt Ideal) ((c.tc : Thread Cert.Kernel5Ideal.nD Cert.Kernel5Ideal.τ).loc Cert.Kernel5Ideal.main_v8_6)) (v7 : (c : Dev Cert.Kernel5Ideal.nD) → Buf (Elt Ideal) ((c.tc : Thread Cert.Kernel5Ideal.nD Cert.Kernel5Ideal.τ).loc Cert.Kernel5Ideal.main_v8_7)) (v8 : (c : Dev Cert.Kernel5Ideal.nD) → Buf (Elt Ideal) ((c.tc : Thread Cert.Kernel5Ideal.nD Cert.Kernel5Ideal.τ).loc Cert.Kernel5Ideal.main_v8_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_v8_3) = v3 c
          ∧ r.2.mem ((c.tc : Thread Cert.Kernel5Ideal.nD Cert.Kernel5Ideal.τ).loc Cert.Kernel5Ideal.main_v8_4) = v4 c
          ∧ r.2.mem ((c.tc : Thread Cert.Kernel5Ideal.nD Cert.Kernel5Ideal.τ).loc Cert.Kernel5Ideal.main_v8_5) = v5 c
          ∧ r.2.mem ((c.tc : Thread Cert.Kernel5Ideal.nD Cert.Kernel5Ideal.τ).loc Cert.Kernel5Ideal.main_v8_6) = v6 c
          ∧ r.2.mem ((c.tc : Thread Cert.Kernel5Ideal.nD Cert.Kernel5Ideal.τ).loc Cert.Kernel5Ideal.main_v8_7) = v7 c
          ∧ r.2.mem ((c.tc : Thread Cert.Kernel5Ideal.nD Cert.Kernel5Ideal.τ).loc Cert.Kernel5Ideal.main_v8_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v26) = v2 c
          ∧ r.2.mem ((c.tc : Thread Cert.Reference5Ideal.nD Cert.Reference5Ideal.τ).loc Cert.Reference5Ideal.main_v27) = v3 c
          ∧ r.2.mem ((c.tc : Thread Cert.Reference5Ideal.nD Cert.Reference5Ideal.τ).loc Cert.Reference5Ideal.main_v28) = v4 c
          ∧ r.2.mem ((c.tc : Thread Cert.Reference5Ideal.nD Cert.Reference5Ideal.τ).loc Cert.Reference5Ideal.main_v30) = v5 c
          ∧ r.2.mem ((c.tc : Thread Cert.Reference5Ideal.nD Cert.Reference5Ideal.τ).loc Cert.Reference5Ideal.main_v31) = v6 c
          ∧ r.2.mem ((c.tc : Thread Cert.Reference5Ideal.nD Cert.Reference5Ideal.τ).loc Cert.Reference5Ideal.main_v32) = v7 c
          ∧ r.2.mem ((c.tc : Thread Cert.Reference5Ideal.nD Cert.Reference5Ideal.τ).loc Cert.Reference5Ideal.main_v34) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v50) = v0 c
          ∧ r.2.mem ((c.tc : Thread Cert.Reference6Ideal.nD Cert.Reference6Ideal.τ).loc Cert.Reference6Ideal.main_v51) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_below8 [hKernel8Ideal : Cert.Kernel8Ideal.Facts] [hReference8Ideal : Cert.Reference8Ideal.Facts] [hPre_below8 : Cert.Pre_below8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_below8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v12_0)) (v1 : (c : Dev Cert.Kernel8Ideal.nD) → Buf (Elt Ideal) ((c.tc : Thread Cert.Kernel8Ideal.nD Cert.Kernel8Ideal.τ).loc Cert.Kernel8Ideal.main_v12_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v12_0) = v0 c
          ∧ r.2.mem ((c.tc : Thread Cert.Kernel8Ideal.nD Cert.Kernel8Ideal.τ).loc Cert.Kernel8Ideal.main_v12_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v133) = v0 c
          ∧ r.2.mem ((c.tc : Thread Cert.Reference8Ideal.nD Cert.Reference8Ideal.τ).loc Cert.Reference8Ideal.main_v134) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v154_0)) (v1 : (c : Dev Cert.Kernel9Ideal.nD) → Buf (Elt Ideal) ((c.tc : Thread Cert.Kernel9Ideal.nD Cert.Kernel9Ideal.τ).loc Cert.Kernel9Ideal.main_v154_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v154_0) = v0 c
          ∧ r.2.mem ((c.tc : Thread Cert.Kernel9Ideal.nD Cert.Kernel9Ideal.τ).loc Cert.Kernel9Ideal.main_v154_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v62) = v0 c
          ∧ r.2.mem ((c.tc : Thread Cert.Reference9Ideal.nD Cert.Reference9Ideal.τ).loc Cert.Reference9Ideal.main_v114) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_below8 : Cert.Pre_below8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_below8 (hKernel8Ideal := hKernel8Ideal) (hPre_below8 := hPre_below8)
    ∧ quiescent_Reference8Ideal (hReference8Ideal := hReference8Ideal)
    ∧ quiescent_Reference8Ideal_pre_below8 (hReference8Ideal := hReference8Ideal) (hPre_below8 := hPre_below8)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_below8 (hKernel8Ideal := hKernel8Ideal) (hReference8Ideal := hReference8Ideal) (hPre_below8 := hPre_below8)
    ∧ preserves_Kernel9_Kernel9Ideal
    ∧ algebraic_Kernel9Ideal_Reference9Ideal (hKernel9Ideal := hKernel9Ideal) (hReference9Ideal := hReference9Ideal)
-- ==== Pre_below8.lean ====
abbrev S16x16x1024 : Shape := ⟨3, ![16, 16, 1024]⟩
abbrev S16x16x512 : Shape := ⟨3, ![16, 16, 512]⟩
abbrev S16x16x8 : Shape := ⟨3, ![16, 16, 8]⟩
abbrev S16x3x1024 : Shape := ⟨3, ![16, 3, 1024]⟩
abbrev S16x8x64x128 : Shape := ⟨4, ![16, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩

class Facts : Prop where
  bcast_S_S16x16x8 : S_.BroadcastsInDim S16x16x8 (![] : Fin 0 → Fin S16x16x8.rank)
  reducesTo_S16x16x8_S_d0_1_2 : S16x16x8.ReducesTo [0, 1, 2] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S16x16x1024 .f32) (main_arg1 : FVec F S16x16x512 .f32) (main_arg2 : FVec F S16x16x8 .f32) (main_arg3 : FVec F S16x3x1024 .f32) (main_arg4 : FVec F S16x8x64x128 .f32) (main_arg5 : FVec F S4x1024 .f32) (main_arg6 : FVec F S1024 .f32) (main_arg7 : FVec F S8 .f32) (main_arg8 : FVec F S8 .f32) (main_arg9 : FVec F S8 .f32) (main_arg10 : FVec F S512 .f32) : IVec S_ 1 :=
  let main_cst : FVec F S_ .f32 := constant S_ .f32 0x7F800000#32
  let main_v0 : FVec F S16x16x8 .f32 := broadcastInDim S16x16x8 ![] bcast_S_S16x16x8 main_cst
  let main_v1 : IVec S16x16x8 1 := cmpf .olt main_arg2 main_v0
  let main_c : IVec S_ 1 := constantI S_ 1 1#1
  let main_v2 : IVec S_ 1 := (fun x v => Host.reduce IntOp.andi x v reducesTo_S16x16x8_S_d0_1_2 h_S_) main_v1 main_c
  let main_cst_0 : FVec F S_ .f32 := constant S_ .f32 0x7F800000#32
  let main_v3 : FVec F S8 .f32 := broadcastInDim S8 ![] bcast_S_S8 main_cst_0
  let main_v4 : IVec S8 1 := cmpf .olt main_arg7 main_v3
  let main_c_1 : IVec S_ 1 := constantI S_ 1 1#1
  let main_v5 : IVec S_ 1 := (fun x v => Host.reduce IntOp.andi x v reducesTo_S8_S_d0 h_S_) main_v4 main_c_1
  let main_v6 : IVec S_ 1 := andi main_v2 main_v5
  main_v6
-- ==== Pre_finite.lean ====
abbrev S16x16x512 : Shape := ⟨3, ![16, 16, 512]⟩
abbrev S4x16x2048x4x2x64 : Shape := ⟨6, ![4, 16, 2048, 4, 2, 64]⟩
abbrev S4x16x2048x4x128 : Shape := ⟨5, ![4, 16, 2048, 4, 128]⟩
abbrev S4x16x2064 : Shape := ⟨3, ![4, 16, 2064]⟩
abbrev S64 : Shape := ⟨1, ![64]⟩
abbrev S128 : Shape := ⟨1, ![128]⟩
abbrev S_ : Shape := ⟨0, ![]⟩

class Facts : Prop where
  bitsLt_bf16_f32 : FTy.bits .bf16 < FTy.bits .f32
  bcast_S_S16x16x512 : S_.BroadcastsInDim S16x16x512 (![] : Fin 0 → Fin S16x16x512.rank)
  reducesTo_S16x16x512_S_d0_1_2 : S16x16x512.ReducesTo [0, 1, 2] S_
  h_S_ : 0 < S_.numel
  bcast_S_S4x16x2048x4x2x64 : S_.BroadcastsInDim S4x16x2048x4x2x64 (![] : Fin 0 → Fin S4x16x2048x4x2x64.rank)
  reducesTo_S4x16x2048x4x2x64_S_d0_1_2_3_4_5 : S4x16x2048x4x2x64.ReducesTo [0, 1, 2, 3, 4, 5] S_
  bcast_S_S4x16x2064 : S_.BroadcastsInDim S4x16x2064 (![] : Fin 0 → Fin S4x16x2064.rank)
  reducesTo_S4x16x2064_S_d0_1_2 : S4x16x2064.ReducesTo [0, 1, 2] S_

variable [Facts]

def fn_part1 {F : FTy → Type} [FloatOps F] (main_v14 : IVec S_ 1) (main_v15 : FVec F S4x16x2064 .f32) (main_v16 : FVec F S4x16x2064 .f32) : IVec S_ 1 :=
  let main_v17 : IVec S4x16x2064 1 := cmpf .olt main_v15 main_v16
  let main_c_5 : IVec S_ 1 := constantI S_ 1 1#1
  let main_v18 : IVec S_ 1 := (fun x v => Host.reduce IntOp.andi x v reducesTo_S4x16x2064_S_d0_1_2 h_S_) main_v17 main_c_5
  let main_v19 : IVec S_ 1 := andi main_v14 main_v18
  main_v19

def fn {F : FTy → Type} [FloatOps F] (main_arg0 : FVec F S16x16x512 .bf16) (main_arg1 : FVec F S16x16x512 .f32) (main_arg2 : FVec F S16x16x512 .f32) (main_arg3 : FVec F S4x16x2048x4x2x64 .f32) (main_arg4 : FVec F S4x16x2048x4x128 .f32) (main_arg5 : FVec F S4x16x2064 .f32) (main_arg6 : FVec F S64 .f32) (main_arg7 : FVec F S64 .f32) (main_arg8 : FVec F S64 .f32) (main_arg9 : FVec F S64 .f32) (main_arg10 : FVec F S128 .f32) : IVec S_ 1 :=
  let main_v0 : FVec F S16x16x512 .f32 := (extf .f32 · bitsLt_bf16_f32) main_arg0
  let main_v1 : FVec F S16x16x512 .f32 := Host.absf main_v0
  let main_cst : FVec F S_ .f32 := constant S_ .f32 0x7F800000#32
  let main_v2 : FVec F S16x16x512 .f32 := broadcastInDim S16x16x512 ![] bcast_S_S16x16x512 main_cst
  let main_v3 : IVec S16x16x512 1 := cmpf .olt main_v1 main_v2
  let main_c : IVec S_ 1 := constantI S_ 1 1#1
  let main_v4 : IVec S_ 1 := (fun x v => Host.reduce IntOp.andi x v reducesTo_S16x16x512_S_d0_1_2 h_S_) main_v3 main_c
  let main_v5 : FVec F S16x16x512 .f32 := Host.absf main_arg1
  let main_cst_0 : FVec F S_ .f32 := constant S_ .f32 0x7F800000#32
  let main_v6 : FVec F S16x16x512 .f32 := broadcastInDim S16x16x512 ![] bcast_S_S16x16x512 main_cst_0
  let main_v7 : IVec S16x16x512 1 := cmpf .olt main_v5 main_v6
  let main_c_1 : IVec S_ 1 := constantI S_ 1 1#1
  let main_v8 : IVec S_ 1 := (fun x v => Host.reduce IntOp.andi x v reducesTo_S16x16x512_S_d0_1_2 h_S_) main_v7 main_c_1
  let main_v9 : IVec S_ 1 := andi main_v4 main_v8
  let main_v10 : FVec F S4x16x2048x4x2x64 .f32 := Host.absf main_arg3
  let main_cst_2 : FVec F S_ .f32 := constant S_ .f32 0x7F800000#32
  let main_v11 : FVec F S4x16x2048x4x2x64 .f32 := broadcastInDim S4x16x2048x4x2x64 ![] bcast_S_S4x16x2048x4x2x64 main_cst_2
  let main_v12 : IVec S4x16x2048x4x2x64 1 := cmpf .olt main_v10 main_v11
  let main_c_3 : IVec S_ 1 := constantI S_ 1 1#1
  let main_v13 : IVec S_ 1 := (fun x v => Host.reduce IntOp.andi x v reducesTo_S4x16x2048x4x2x64_S_d0_1_2_3_4_5 h_S_) main_v12 main_c_3
  let main_v14 : IVec S_ 1 := andi main_v9 main_v13
  let main_v15 : FVec F S4x16x2064 .f32 := Host.absf main_arg5
  let main_cst_4 : FVec F S_ .f32 := constant S_ .f32 0x7F800000#32
  let main_v16 : FVec F S4x16x2064 .f32 := broadcastInDim S4x16x2064 ![] bcast_S_S4x16x2064 main_cst_4
  fn_part1 (F := F) main_v14 main_v15 main_v16
-- ==== Kernel.lean ====
abbrev S16x16x512 : Shape := ⟨3, ![16, 16, 512]⟩
abbrev S4x16x2048x4x2x64 : Shape := ⟨6, ![4, 16, 2048, 4, 2, 64]⟩
abbrev S4x16x2048x4x128 : Shape := ⟨5, ![4, 16, 2048, 4, 128]⟩
abbrev S4x16x2064 : Shape := ⟨3, ![4, 16, 2064]⟩
abbrev S64 : Shape := ⟨1, ![64]⟩
abbrev S128 : Shape := ⟨1, ![128]⟩
abbrev S_ : Shape := ⟨0, ![]⟩
abbrev S4x16x2176 : Shape := ⟨3, ![4, 16, 2176]⟩
abbrev S1x64 : Shape := ⟨2, ![1, 64]⟩
abbrev S4x64 : Shape := ⟨2, ![4, 64]⟩
abbrev S4x16x2048x512 : Shape := ⟨4, ![4, 16, 2048, 512]⟩
abbrev S1x128 : Shape := ⟨2, ![1, 128]⟩
abbrev S1x16x128 : Shape := ⟨3, ![1, 16, 128]⟩
abbrev S1x1x2048x128 : Shape := ⟨4, ![1, 1, 2048, 128]⟩
abbrev S1x16x2176 : Shape := ⟨3, ![1, 16, 2176]⟩
abbrev S2176x128 : Shape := ⟨2, ![2176, 128]⟩
abbrev S2048x128 : Shape := ⟨2, ![2048, 128]⟩
abbrev S16x128 : Shape := ⟨2, ![16, 128]⟩
abbrev S112x128 : Shape := ⟨2, ![112, 128]⟩
abbrev S16x2176 : Shape := ⟨2, ![16, 2176]⟩
abbrev S16 : Shape := ⟨1, ![16]⟩
abbrev S16x1 : Shape := ⟨2, ![16, 1]⟩
abbrev S1 : Shape := ⟨1, ![1]⟩
abbrev S1x1 : Shape := ⟨2, ![1, 1]⟩

abbrev nBuf : Space → Nat
  | .hbm => 23
  | .vmem => 18
  | .smem => 0
  | _ => 0

abbrev bufTy : (tb : Table) → Fin (tcTables nBuf tb) → BufTy
  | .hbm, ⟨0, _⟩ => ⟨S16x16x512, .bf16⟩
  | .hbm, ⟨1, _⟩ => ⟨S16x16x512, .f32⟩
  | .hbm, ⟨2, _⟩ => ⟨S16x16x512, .f32⟩
  | .hbm, ⟨3, _⟩ => ⟨S4x16x2048x4x2x64, .f32⟩
  | .hbm, ⟨4, _⟩ => ⟨S4x16x2048x4x128, .f32⟩
  | .hbm, ⟨5, _⟩ => ⟨S4x16x2064, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S4x16x2176, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S4x64, .f32⟩
  | .hbm, ⟨19, _⟩ => ⟨S4x16x2048x512, .f32⟩
  | .hbm, ⟨20, _⟩ => ⟨S4x16x2048x512, .f32⟩
  | .hbm, ⟨21, _⟩ => ⟨S1x128, .f32⟩
  | .hbm, ⟨22, _⟩ => ⟨S16x16x512, .bf16⟩
  | .local _ .vmem, ⟨0, _⟩ => ⟨S1x16x128, .bf16⟩
  | .local _ .vmem, ⟨1, _⟩ => ⟨S1x16x128, .bf16⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x16x2176, .f32⟩
  | .local _ .vmem, ⟨11, _⟩ => ⟨S1x16x2176, .f32⟩
  | .local _ .vmem, ⟨12, _⟩ => ⟨S4x64, .f32⟩
  | .local _ .vmem, ⟨13, _⟩ => ⟨S1x128, .f32⟩
  | .local _ .vmem, ⟨14, _⟩ => ⟨S1x16x128, .bf16⟩
  | .local _ .vmem, ⟨15, _⟩ => ⟨S1x16x128, .bf16⟩
  | .local _ .vmem, ⟨16, _⟩ => ⟨S2176x128, .bf16⟩
  | .local _ .vmem, ⟨17, _⟩ => ⟨S2176x128, .bf16⟩
  | _, _ => ⟨S16x16x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S16x16x512 : Shape := ⟨3, ![16, 16, 512]⟩
abbrev S4x16x2048x4x2x64 : Shape := ⟨6, ![4, 16, 2048, 4, 2, 64]⟩
abbrev S4x16x2048x4x128 : Shape := ⟨5, ![4, 16, 2048, 4, 128]⟩
abbrev S4x16x2064 : Shape := ⟨3, ![4, 16, 2064]⟩
abbrev S64 : Shape := ⟨1, ![64]⟩
abbrev S128 : Shape := ⟨1, ![128]⟩
abbrev S16x16x4x2x64 : Shape := ⟨5, ![16, 16, 4, 2, 64]⟩
abbrev S1x16x2048x4x2x64 : Shape := ⟨6, ![1, 16, 2048, 4, 2, 64]⟩
abbrev S16x2048x4x2x64 : Shape := ⟨5, ![16, 2048, 4, 2, 64]⟩
abbrev S16x2064x4x2x64 : Shape := ⟨5, ![16, 2064, 4, 2, 64]⟩
abbrev S1x16x2048x4x128 : Shape := ⟨5, ![1, 16, 2048, 4, 128]⟩
abbrev S16x2048x4x128 : Shape := ⟨4, ![16, 2048, 4, 128]⟩
abbrev S16x16x4x128 : Shape := ⟨4, ![16, 16, 4, 128]⟩
abbrev S16x2064x4x128 : Shape := ⟨4, ![16, 2064, 4, 128]⟩
abbrev S_ : Shape := ⟨0, ![]⟩
abbrev S2064 : Shape := ⟨1, ![2064]⟩
abbrev S16 : Shape := ⟨1, ![16]⟩
abbrev S1x2064 : Shape := ⟨2, ![1, 2064]⟩
abbrev S16x1 : Shape := ⟨2, ![16, 1]⟩
abbrev S16x2064 : Shape := ⟨2, ![16, 2064]⟩
abbrev S16x2x4x16x2064 : Shape := ⟨5, ![16, 2, 4, 16, 2064]⟩
abbrev S1x1x4x16x2064 : Shape := ⟨5, ![1, 1, 4, 16, 2064]⟩
abbrev S16x2x4x16 : Shape := ⟨4, ![16, 2, 4, 16]⟩
abbrev S16x2x4x16x1 : Shape := ⟨5, ![16, 2, 4, 16, 1]⟩
abbrev S16x1x4x16x2064 : Shape := ⟨5, ![16, 1, 4, 16, 2064]⟩
abbrev S16x4x16x2064 : Shape := ⟨4, ![16, 4, 16, 2064]⟩
abbrev S16x4x128x16 : Shape := ⟨4, ![16, 4, 128, 16]⟩
abbrev S16x16x4 : Shape := ⟨3, ![16, 16, 4]⟩
abbrev S16x16x4x1 : Shape := ⟨4, ![16, 16, 4, 1]⟩
abbrev S1x1x1x128 : Shape := ⟨4, ![1, 1, 1, 128]⟩

abbrev nBuf : Space → Nat
  | .hbm => 131
  | .vmem => 0
  | .smem => 0
  | _ => 0

abbrev hbmTy0_0 (i : Nat) : BufTy := match i % 128 with
  | 0 => ⟨S16x16x512, .bf16⟩
  | 1 => ⟨S16x16x512, .f32⟩
  | 2 => ⟨S16x16x512, .f32⟩
  | 3 => ⟨S4x16x2048x4x2x64, .f32⟩
  | 4 => ⟨S4x16x2048x4x128, .f32⟩
  | 5 => ⟨S4x16x2064, .f32⟩
  | 6 => ⟨S64, .f32⟩
  | 7 => ⟨S64, .f32⟩
  | 8 => ⟨S64, .f32⟩
  | 9 => ⟨S64, .f32⟩
  | 10 => ⟨S128, .f32⟩
  | 11 => ⟨S16x16x512, .f32⟩
  | 12 => ⟨S16x16x4x2x64, .f32⟩
  | 13 => ⟨S1x16x2048x4x2x64, .f32⟩
  | 14 => ⟨S16x2048x4x2x64, .f32⟩
  | 15 => ⟨S16x16x4x2x64, .f32⟩
  | 16 => ⟨S16x2064x4x2x64, .f32⟩
  | 17 => ⟨S1x16x2048x4x128, .f32⟩
  | 18 => ⟨S16x2048x4x128, .f32⟩
  | 19 => ⟨S16x16x4x128, .f32⟩
  | 20 => ⟨S16x2064x4x128, .f32⟩
  | 21 => ⟨S64, .f32⟩
  | 22 => ⟨S_, .f32⟩
  | 23 => ⟨S_, .f32⟩
  | 24 => ⟨S_, .f32⟩
  | 25 => ⟨S64, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S2064, .i32⟩
  | 33 => ⟨S16, .i32⟩
  | 34 => ⟨S_, .i32⟩
  | 35 => ⟨S_, .i32⟩
  | 36 => ⟨S2064, .i32⟩
  | 37 => ⟨S2064, .i32⟩
  | 38 => ⟨S2064, .i32⟩
  | 39 => ⟨S_, .i32⟩
  | 40 => ⟨S2064, .i32⟩
  | 41 => ⟨S2064, .i1⟩
  | 42 => ⟨S2064, .i32⟩
  | 43 => ⟨S2064, .i32⟩
  | 44 => ⟨S_, .i32⟩
  | 45 => ⟨S2064, .i32⟩
  | 46 => ⟨S2064, .i1⟩
  | 47 => ⟨S2064, .i1⟩
  | 48 => ⟨S_, .i32⟩
  | 49 => ⟨S2064, .i32⟩
  | 50 => ⟨S2064, .i32⟩
  | 51 => ⟨S2064, .i32⟩
  | 52 => ⟨S1x2064, .i32⟩
  | 53 => ⟨S_, .i32⟩
  | 54 => ⟨S_, .i32⟩
  | 55 => ⟨S16, .i32⟩
  | 56 => ⟨S16, .i32⟩
  | 57 => ⟨S16, .i32⟩
  | 58 => ⟨S_, .i32⟩
  | 59 => ⟨S16, .i32⟩
  | 60 => ⟨S16, .i1⟩
  | 61 => ⟨S16, .i32⟩
  | 62 => ⟨S16, .i32⟩
  | 63 => ⟨S_, .i32⟩
  | 64 => ⟨S16, .i32⟩
  | 65 => ⟨S16, .i1⟩
  | 66 => ⟨S16, .i1⟩
  | 67 => ⟨S_, .i32⟩
  | 68 => ⟨S16, .i32⟩
  | 69 => ⟨S16, .i32⟩
  | 70 => ⟨S16, .i32⟩
  | 71 => ⟨S16x1, .i32⟩
  | 72 => ⟨S16x2064, .i32⟩
  | 73 => ⟨S16x2064, .i32⟩
  | 74 => ⟨S16x2064, .i1⟩
  | 75 => ⟨S16x2x4x16x2064, .f32⟩
  | 76 => ⟨S_, .f32⟩
  | 77 => ⟨S16x2x4x16x2064, .f32⟩
  | 78 => ⟨S16x2x4x16x2064, .f32⟩
  | 79 => ⟨S1x1x4x16x2064, .f32⟩
  | 80 => ⟨S16x2x4x16x2064, .f32⟩
  | 81 => ⟨S16x2x4x16x2064, .f32⟩
  | 82 => ⟨S_, .f32⟩
  | 83 => ⟨S_, .f32⟩
  | 84 => ⟨S16x2x4x16x2064, .i1⟩
  | 85 => ⟨S16x2x4x16x2064, .f32⟩
  | 86 => ⟨S16x2x4x16x2064, .f32⟩
  | 87 => ⟨S_, .f32⟩
  | 88 => ⟨S16x2x4x16, .f32⟩
  | 89 => ⟨S_, .f32⟩
  | 90 => ⟨S16x2x4x16, .f32⟩
  | 91 => ⟨S16x2x4x16, .f32⟩
  | 92 => ⟨S16x2x4x16x1, .f32⟩
  | 93 => ⟨S16x2x4x16x2064, .f32⟩
  | 94 => ⟨S16x2x4x16x2064, .f32⟩
  | 95 => ⟨S16x2x4x16x2064, .f32⟩
  | 96 => ⟨S_, .f32⟩
  | 97 => ⟨S16x2x4x16, .f32⟩
  | 98 => ⟨S16x2x4x16x1, .f32⟩
  | 99 => ⟨S16x2x4x16x2064, .f32⟩
  | 100 => ⟨S16x2x4x16x2064, .f32⟩
  | 101 => ⟨S16x1x4x16x2064, .f32⟩
  | 102 => ⟨S16x4x16x2064, .f32⟩
  | 103 => ⟨S16x1x4x16x2064, .f32⟩
  | 104 => ⟨S16x4x16x2064, .f32⟩
  | 105 => ⟨S16x4x16x2064, .f32⟩
  | 106 => ⟨S16x4x16x2064, .f32⟩
  | 107 => ⟨S16x4x16x2064, .f32⟩
  | 108 => ⟨S16x4x128x16, .f32⟩
  | 109 => ⟨S16x16x4x128, .f32⟩
  | 110 => ⟨S16x16x4x128, .f32⟩
  | 111 => ⟨S_, .f32⟩
  | 112 => ⟨S16x16x4, .f32⟩
  | 113 => ⟨S16x16x4x1, .f32⟩
  | 114 => ⟨S_, .f32⟩
  | 115 => ⟨S16x16x4x1, .f32⟩
  | 116 => ⟨S16x16x4x1, .f32⟩
  | 117 => ⟨S_, .f32⟩
  | 118 => ⟨S16x16x4x1, .f32⟩
  | 119 => ⟨S16x16x4x1, .f32⟩
  | 120 => ⟨S16x16x4x1, .f32⟩
  | 121 => ⟨S16x16x4x128, .f32⟩
  | 122 => ⟨S16x16x4x128, .f32⟩
  | 123 => ⟨S1x1x1x128, .f32⟩
  | 124 => ⟨S16x16x4x128, .f32⟩
  | 125 => ⟨S16x16x4x128, .f32⟩
  | 126 => ⟨S_, .f32⟩
  | 127 => ⟨S16x16x4x128, .f32⟩
  | _ => ⟨S16x16x512, .bf16⟩

abbrev hbmTy0_1 (i : Nat) : BufTy := match i % 128 with
  | 0 => ⟨S16x16x4x128, .f32⟩
  | 1 => ⟨S16x16x512, .f32⟩
  | 2 => ⟨S16x16x512, .bf16⟩
  | _ => ⟨S16x16x512, .bf16⟩

abbrev hbmTy (i : Nat) : BufTy := match i / 128 with
  | 0 => hbmTy0_0 i
  | 1 => hbmTy0_1 i
  | _ => ⟨S16x16x512, .bf16⟩

abbrev bufTy : (tb : Table) → Fin (tcTables nBuf tb) → BufTy
  | .hbm, ⟨i, _⟩ => hbmTy i
  | _, _ => ⟨S16x16x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_v8 : Ref sig .tc := ⟨.hbm, 43, rfl⟩
abbrev main_call0_c : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_0 : Ref sig .tc := ⟨.hbm, 48, rfl⟩
abbrev main_call0_v12 : Ref sig .tc := ⟨.hbm, 49, rfl⟩
abbrev main_call0_v13 : Ref sig .tc := ⟨.hbm, 50, rfl⟩
abbrev main_v20 : Ref sig .tc := ⟨.hbm, 51, rfl⟩
abbrev main_v21 : Ref sig .tc := ⟨.hbm, 52, rfl⟩
abbrev main_c_2 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_3 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_cst_4 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_v33 : Ref sig .tc := ⟨.hbm, 86, rfl⟩
abbrev main_cst_5 : Ref sig .tc := ⟨.hbm, 87, rfl⟩
abbrev main_v34 : Ref sig .tc := ⟨.hbm, 88, rfl⟩
abbrev main_cst_6 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_7 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_8 : Ref sig .tc := ⟨.hbm, 111, rfl⟩
abbrev main_v55 : Ref sig .tc := ⟨.hbm, 112, rfl⟩
abbrev main_v56 : Ref sig .tc := ⟨.hbm, 113, rfl⟩
abbrev main_cst_9 : Ref sig .tc := ⟨.hbm, 114, rfl⟩
abbrev main_v57 : Ref sig .tc := ⟨.hbm, 115, rfl⟩
abbrev main_v58 : Ref sig .tc := ⟨.hbm, 116, rfl⟩
abbrev main_cst_10 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_cst_11 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩

abbrev nD : Nat := 1
abbrev τ : Topo := Topo.v7x

variable {F : FTy → Type} [FloatOps F]
-- ==== Kernel2.lean ====
abbrev S32x2064x1024 : Shape := ⟨3, ![32, 2064, 1024]⟩
abbrev S1024 : Shape := ⟨1, ![1024]⟩
abbrev S1024x4616 : Shape := ⟨2, ![1024, 4616]⟩
abbrev S1024x3072 : Shape := ⟨2, ![1024, 3072]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x4736 : Shape := ⟨2, ![1024, 4736]⟩
abbrev S66048x1024 : Shape := ⟨2, ![66048, 1024]⟩
abbrev S1x1024 : Shape := ⟨2, ![1, 1024]⟩
abbrev S66048x512 : Shape := ⟨2, ![66048, 512]⟩
abbrev S66048x128 : Shape := ⟨2, ![66048, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 22
  | .vmem => 22
  | .smem => 0
  | _ => 0

abbrev bufTy : (tb : Table) → Fin (tcTables nBuf tb) → BufTy
  | .hbm, ⟨0, _⟩ => ⟨S32x2064x1024, .f32⟩
  | .hbm, ⟨1, _⟩ => ⟨S1024, .f32⟩
  | .hbm, ⟨2, _⟩ => ⟨S1024x4616, .f32⟩
  | .hbm, ⟨3, _⟩ => ⟨S1024x3072, .f32⟩
  | .hbm, ⟨4, _⟩ => ⟨S1024x1536, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x4736, .f32⟩
  | .hbm, ⟨10, _⟩ => ⟨S1024x4736, .bf16⟩
  | .hbm, ⟨11, _⟩ => ⟨S66048x1024, .f32⟩
  | .hbm, ⟨12, _⟩ => ⟨S1x1024, .f32⟩
  | .hbm, ⟨13, _⟩ => ⟨S66048x512, .bf16⟩
  | .hbm, ⟨14, _⟩ => ⟨S66048x512, .f32⟩
  | .hbm, ⟨15, _⟩ => ⟨S66048x512, .f32⟩
  | .hbm, ⟨16, _⟩ => ⟨S66048x512, .f32⟩
  | .hbm, ⟨17, _⟩ => ⟨S66048x1024, .f32⟩
  | .hbm, ⟨18, _⟩ => ⟨S66048x512, .bf16⟩
  | .hbm, ⟨19, _⟩ => ⟨S66048x512, .f32⟩
  | .hbm, ⟨20, _⟩ => ⟨S66048x512, .f32⟩
  | .hbm, ⟨21, _⟩ => ⟨S66048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4736, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | _, _ => ⟨S32x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v8_7 : Ref sig .tc := ⟨.hbm, 20, rfl⟩
abbrev main_v8_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
abbrev S32x2064x1024 : Shape := ⟨3, ![32, 2064, 1024]⟩
abbrev S1024 : Shape := ⟨1, ![1024]⟩
abbrev S1024x4616 : Shape := ⟨2, ![1024, 4616]⟩
abbrev S1024x3072 : Shape := ⟨2, ![1024, 3072]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x4736 : Shape := ⟨2, ![1024, 4736]⟩
abbrev S66048x1024 : Shape := ⟨2, ![66048, 1024]⟩
abbrev S1x1024 : Shape := ⟨2, ![1, 1024]⟩
abbrev S66048x512 : Shape := ⟨2, ![66048, 512]⟩
abbrev S66048x128 : Shape := ⟨2, ![66048, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S1024x1024 : Shape := ⟨2, ![1024, 1024]⟩

abbrev nBuf : Space → Nat
  | .hbm => 22
  | .vmem => 22
  | .smem => 0
  | _ => 0

abbrev bufTy : (tb : Table) → Fin (tcTables nBuf tb) → BufTy
  | .hbm, ⟨0, _⟩ => ⟨S32x2064x1024, .f32⟩
  | .hbm, ⟨1, _⟩ => ⟨S1024, .f32⟩
  | .hbm, ⟨2, _⟩ => ⟨S1024x4616, .f32⟩
  | .hbm, ⟨3, _⟩ => ⟨S1024x3072, .f32⟩
  | .hbm, ⟨4, _⟩ => ⟨S1024x1536, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x4736, .f32⟩
  | .hbm, ⟨10, _⟩ => ⟨S1024x4736, .bf16⟩
  | .hbm, ⟨11, _⟩ => ⟨S66048x1024, .f32⟩
  | .hbm, ⟨12, _⟩ => ⟨S1x1024, .f32⟩
  | .hbm, ⟨13, _⟩ => ⟨S66048x512, .bf16⟩
  | .hbm, ⟨14, _⟩ => ⟨S66048x512, .f32⟩
  | .hbm, ⟨15, _⟩ => ⟨S66048x512, .f32⟩
  | .hbm, ⟨16, _⟩ => ⟨S66048x512, .f32⟩
  | .hbm, ⟨17, _⟩ => ⟨S66048x1024, .f32⟩
  | .hbm, ⟨18, _⟩ => ⟨S66048x512, .bf16⟩
  | .hbm, ⟨19, _⟩ => ⟨S66048x512, .f32⟩
  | .hbm, ⟨20, _⟩ => ⟨S66048x512, .f32⟩
  | .hbm, ⟨21, _⟩ => ⟨S66048x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4736, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | _, _ => ⟨S32x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v8_7 : Ref sig .tc := ⟨.hbm, 20, rfl⟩
abbrev main_v8_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S32x2064x1024 : Shape := ⟨3, ![32, 2064, 1024]⟩
abbrev S1024 : Shape := ⟨1, ![1024]⟩
abbrev S1024x4616 : Shape := ⟨2, ![1024, 4616]⟩
abbrev S_ : Shape := ⟨0, ![]⟩
abbrev S32x2064 : Shape := ⟨2, ![32, 2064]⟩
abbrev S32x2064x1 : Shape := ⟨3, ![32, 2064, 1]⟩
abbrev S1x1x1024 : Shape := ⟨3, ![1, 1, 1024]⟩
abbrev S32x2064x4616 : Shape := ⟨3, ![32, 2064, 4616]⟩
abbrev S32x2064x512 : Shape := ⟨3, ![32, 2064, 512]⟩
abbrev S32x2064x8 : Shape := ⟨3, ![32, 2064, 8]⟩
abbrev S66048x512 : Shape := ⟨2, ![66048, 512]⟩
abbrev S66048x1024 : Shape := ⟨2, ![66048, 1024]⟩
abbrev S66048x8 : Shape := ⟨2, ![66048, 8]⟩
abbrev S66048x128 : Shape := ⟨2, ![66048, 128]⟩

abbrev nBuf : Space → Nat
  | .hbm => 43
  | .vmem => 0
  | .smem => 0
  | _ => 0

abbrev bufTy : (tb : Table) → Fin (tcTables nBuf tb) → BufTy
  | .hbm, ⟨0, _⟩ => ⟨S32x2064x1024, .f32⟩
  | .hbm, ⟨1, _⟩ => ⟨S1024, .f32⟩
  | .hbm, ⟨2, _⟩ => ⟨S1024x4616, .f32⟩
  | .hbm, ⟨3, _⟩ => ⟨S32x2064x1024, .f32⟩
  | .hbm, ⟨4, _⟩ => ⟨S_, .f32⟩
  | .hbm, ⟨5, _⟩ => ⟨S32x2064, .f32⟩
  | .hbm, ⟨6, _⟩ => ⟨S32x2064x1, .f32⟩
  | .hbm, ⟨7, _⟩ => ⟨S_, .f32⟩
  | .hbm, ⟨8, _⟩ => ⟨S32x2064x1, .f32⟩
  | .hbm, ⟨9, _⟩ => ⟨S32x2064x1, .f32⟩
  | .hbm, ⟨10, _⟩ => ⟨S_, .f32⟩
  | .hbm, ⟨11, _⟩ => ⟨S32x2064x1, .f32⟩
  | .hbm, ⟨12, _⟩ => ⟨S32x2064x1, .f32⟩
  | .hbm, ⟨13, _⟩ => ⟨S32x2064x1, .f32⟩
  | .hbm, ⟨14, _⟩ => ⟨S32x2064x1024, .f32⟩
  | .hbm, ⟨15, _⟩ => ⟨S32x2064x1024, .f32⟩
  | .hbm, ⟨16, _⟩ => ⟨S1x1x1024, .f32⟩
  | .hbm, ⟨17, _⟩ => ⟨S32x2064x1024, .f32⟩
  | .hbm, ⟨18, _⟩ => ⟨S32x2064x1024, .f32⟩
  | .hbm, ⟨19, _⟩ => ⟨S32x2064x4616, .f32⟩
  | .hbm, ⟨20, _⟩ => ⟨S32x2064x512, .f32⟩
  | .hbm, ⟨21, _⟩ => ⟨S32x2064x512, .f32⟩
  | .hbm, ⟨22, _⟩ => ⟨S32x2064x512, .f32⟩
  | .hbm, ⟨23, _⟩ => ⟨S32x2064x512, .f32⟩
  | .hbm, ⟨24, _⟩ => ⟨S32x2064x1024, .f32⟩
  | .hbm, ⟨25, _⟩ => ⟨S32x2064x8, .f32⟩
  | .hbm, ⟨26, _⟩ => ⟨S32x2064x512, .f32⟩
  | .hbm, ⟨27, _⟩ => ⟨S32x2064x512, .f32⟩
  | .hbm, ⟨28, _⟩ => ⟨S32x2064x512, .f32⟩
  | .hbm, ⟨29, _⟩ => ⟨S66048x512, .f32⟩
  | .hbm, ⟨30, _⟩ => ⟨S66048x512, .bf16⟩
  | .hbm, ⟨31, _⟩ => ⟨S66048x512, .f32⟩
  | .hbm, ⟨32, _⟩ => ⟨S66048x512, .f32⟩
  | .hbm, ⟨33, _⟩ => ⟨S66048x512, .f32⟩
  | .hbm, ⟨34, _⟩ => ⟨S66048x1024, .f32⟩
  | .hbm, ⟨35, _⟩ => ⟨S66048x512, .f32⟩
  | .hbm, ⟨36, _⟩ => ⟨S66048x512, .bf16⟩
  | .hbm, ⟨37, _⟩ => ⟨S66048x512, .f32⟩
  | .hbm, ⟨38, _⟩ => ⟨S66048x512, .f32⟩
  | .hbm, ⟨39, _⟩ => ⟨S66048x8, .f32⟩
  | .hbm, ⟨40, _⟩ => ⟨S_, .i32⟩
  | .hbm, ⟨41, _⟩ => ⟨S_, .f32⟩
  | .hbm, ⟨42, _⟩ => ⟨S66048x128, .f32⟩
  | _, _ => ⟨S32x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_call0_v0 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel3.lean ====
abbrev S32x2064x1024 : Shape := ⟨3, ![32, 2064, 1024]⟩
abbrev S32x2064x512 : Shape := ⟨3, ![32, 2064, 512]⟩
abbrev S1536x1024 : Shape := ⟨2, ![1536, 1024]⟩
abbrev S1024 : Shape := ⟨1, ![1024]⟩
abbrev S1024x2816 : Shape := ⟨2, ![1024, 2816]⟩
abbrev S2816x1024 : Shape := ⟨2, ![2816, 1024]⟩
abbrev S3x2816 : Shape := ⟨2, ![3, 2816]⟩
abbrev S2816 : Shape := ⟨1, ![2816]⟩
abbrev S_ : Shape := ⟨0, ![]⟩
abbrev S32x8x2816 : Shape := ⟨3, ![32, 8, 2816]⟩
abbrev S1x1024 : Shape := ⟨2, ![1, 1024]⟩
abbrev S1x2816 : Shape := ⟨2, ![1, 2816]⟩
abbrev S1x688x1024 : Shape := ⟨3, ![1, 688, 1024]⟩
abbrev S1x688x512 : Shape := ⟨3, ![1, 688, 512]⟩
abbrev S1x8x2816 : Shape := ⟨3, ![1, 8, 2816]⟩
abbrev S688x2816 : Shape := ⟨2, ![688, 2816]⟩
abbrev S688x1024 : Shape := ⟨2, ![688, 1024]⟩
abbrev S688x512 : Shape := ⟨2, ![688, 512]⟩
abbrev S512x1024 : Shape := ⟨2, ![512, 1024]⟩
abbrev S688 : Shape := ⟨1, ![688]⟩
abbrev S688x1 : Shape := ⟨2, ![688, 1]⟩
abbrev S8x256 : Shape := ⟨2, ![8, 256]⟩
abbrev S1024x256 : Shape := ⟨2, ![1024, 256]⟩
abbrev S688x256 : Shape := ⟨2, ![688, 256]⟩
abbrev S1x8x256 : Shape := ⟨3, ![1, 8, 256]⟩
abbrev S1x256 : Shape := ⟨2, ![1, 256]⟩
abbrev S680x256 : Shape := ⟨2, ![680, 256]⟩

abbrev nBuf : Space → Nat
  | .hbm => 21
  | .vmem => 22
  | .smem => 0
  | _ => 0

abbrev bufTy : (tb : Table) → Fin (tcTables nBuf tb) → BufTy
  | .hbm, ⟨0, _⟩ => ⟨S32x2064x1024, .f32⟩
  | .hbm, ⟨1, _⟩ => ⟨S32x2064x512, .bf16⟩
  | .hbm, ⟨2, _⟩ => ⟨S32x2064x512, .bf16⟩
  | .hbm, ⟨3, _⟩ => ⟨S32x2064x512, .bf16⟩
  | .hbm, ⟨4, _⟩ => ⟨S1536x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S2816, .f32⟩
  | .hbm, ⟨11, _⟩ => ⟨S_, .f32⟩
  | .hbm, ⟨12, _⟩ => ⟨S32x8x2816, .f32⟩
  | .hbm, ⟨13, _⟩ => ⟨S1536x1024, .bf16⟩
  | .hbm, ⟨14, _⟩ => ⟨S1x1024, .f32⟩
  | .hbm, ⟨15, _⟩ => ⟨S1024x2816, .bf16⟩
  | .hbm, ⟨16, _⟩ => ⟨S1024x2816, .bf16⟩
  | .hbm, ⟨17, _⟩ => ⟨S2816x1024, .bf16⟩
  | .hbm, ⟨18, _⟩ => ⟨S1x2816, .f32⟩
  | .hbm, ⟨19, _⟩ => ⟨S32x2064x1024, .f32⟩
  | .hbm, ⟨20, _⟩ => ⟨S32x8x2816, .f32⟩
  | .local _ .vmem, ⟨0, _⟩ => ⟨S1x688x1024, .f32⟩
  | .local _ .vmem, ⟨1, _⟩ => ⟨S1x688x1024, .f32⟩
  | .local _ .vmem, ⟨2, _⟩ => ⟨S1x688x512, .bf16⟩
  | .local _ .vmem, ⟨3, _⟩ => ⟨S1x688x512, .bf16⟩
  | .local _ .vmem, ⟨4, _⟩ => ⟨S1x688x512, .bf16⟩
  | .local _ .vmem, ⟨5, _⟩ => ⟨S1x688x512, .bf16⟩
  | .local _ .vmem, ⟨6, _⟩ => ⟨S1x688x512, .bf16⟩
  | .local _ .vmem, ⟨7, _⟩ => ⟨S1x688x512, .bf16⟩
  | .local _ .vmem, ⟨8, _⟩ => ⟨S1536x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S3x2816, .f32⟩
  | .local _ .vmem, ⟨14, _⟩ => ⟨S1x2816, .f32⟩
  | .local _ .vmem, ⟨15, _⟩ => ⟨S1x8x2816, .f32⟩
  | .local _ .vmem, ⟨16, _⟩ => ⟨S1x8x2816, .f32⟩
  | .local _ .vmem, ⟨17, _⟩ => ⟨S1x688x1024, .f32⟩
  | .local _ .vmem, ⟨18, _⟩ => ⟨S1x688x1024, .f32⟩
  | .local _ .vmem, ⟨19, _⟩ => ⟨S1x8x2816, .f32⟩
  | .local _ .vmem, ⟨20, _⟩ => ⟨S1x8x2816, .f32⟩
  | .local _ .vmem, ⟨21, _⟩ => ⟨S688x2816, .bf16⟩
  | _, _ => ⟨S32x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![32, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x688x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x688x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x688x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x688x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x688x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference3Ideal.lean ====
abbrev S32x2064x1024 : Shape := ⟨3, ![32, 2064, 1024]⟩
abbrev S32x2064x512 : Shape := ⟨3, ![32, 2064, 512]⟩
abbrev S1536x1024 : Shape := ⟨2, ![1536, 1024]⟩
abbrev S1024 : Shape := ⟨1, ![1024]⟩
abbrev S1024x2816 : Shape := ⟨2, ![1024, 2816]⟩
abbrev S2816x1024 : Shape := ⟨2, ![2816, 1024]⟩
abbrev S3x2816 : Shape := ⟨2, ![3, 2816]⟩
abbrev S2816 : Shape := ⟨1, ![2816]⟩
abbrev S32x2064x1536 : Shape := ⟨3, ![32, 2064, 1536]⟩
abbrev S_ : Shape := ⟨0, ![]⟩
abbrev S32x2064 : Shape := ⟨2, ![32, 2064]⟩
abbrev S32x2064x1 : Shape := ⟨3, ![32, 2064, 1]⟩
abbrev S1x1x1024 : Shape := ⟨3, ![1, 1, 1024]⟩
abbrev S32x2064x2816 : Shape := ⟨3, ![32, 2064, 2816]⟩
abbrev S32x2066x2816 : Shape := ⟨3, ![32, 2066, 2816]⟩
abbrev S1x2816 : Shape := ⟨2, ![1, 2816]⟩
abbrev S1x1x2816 : Shape := ⟨3, ![1, 1, 2816]⟩
abbrev S32x8x2816 : Shape := ⟨3, ![32, 8, 2816]⟩

abbrev nBuf : Space → Nat
  | .hbm => 77
  | .vmem => 0
  | .smem => 0
  | _ => 0

abbrev bufTy : (tb : Table) → Fin (tcTables nBuf tb) → BufTy
  | .hbm, ⟨0, _⟩ => ⟨S32x2064x1024, .f32⟩
  | .hbm, ⟨1, _⟩ => ⟨S32x2064x512, .bf16⟩
  | .hbm, ⟨2, _⟩ => ⟨S32x2064x512, .bf16⟩
  | .hbm, ⟨3, _⟩ => ⟨S32x2064x512, .bf16⟩
  | .hbm, ⟨4, _⟩ => ⟨S1536x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S2816, .f32⟩
  | .hbm, ⟨11, _⟩ => ⟨S32x2064x512, .f32⟩
  | .hbm, ⟨12, _⟩ => ⟨S32x2064x512, .f32⟩
  | .hbm, ⟨13, _⟩ => ⟨S32x2064x512, .f32⟩
  | .hbm, ⟨14, _⟩ => ⟨S32x2064x1536, .f32⟩
  | .hbm, ⟨15, _⟩ => ⟨S32x2064x1024, .f32⟩
  | .hbm, ⟨16, _⟩ => ⟨S32x2064x1024, .f32⟩
  | .hbm, ⟨17, _⟩ => ⟨S32x2064x1024, .f32⟩
  | .hbm, ⟨18, _⟩ => ⟨S_, .f32⟩
  | .hbm, ⟨19, _⟩ => ⟨S32x2064, .f32⟩
  | .hbm, ⟨20, _⟩ => ⟨S32x2064x1, .f32⟩
  | .hbm, ⟨21, _⟩ => ⟨S_, .f32⟩
  | .hbm, ⟨22, _⟩ => ⟨S32x2064x1, .f32⟩
  | .hbm, ⟨23, _⟩ => ⟨S32x2064x1, .f32⟩
  | .hbm, ⟨24, _⟩ => ⟨S_, .f32⟩
  | .hbm, ⟨25, _⟩ => ⟨S32x2064x1, .f32⟩
  | .hbm, ⟨26, _⟩ => ⟨S32x2064x1, .f32⟩
  | .hbm, ⟨27, _⟩ => ⟨S32x2064x1, .f32⟩
  | .hbm, ⟨28, _⟩ => ⟨S32x2064x1024, .f32⟩
  | .hbm, ⟨29, _⟩ => ⟨S32x2064x1024, .f32⟩
  | .hbm, ⟨30, _⟩ => ⟨S1x1x1024, .f32⟩
  | .hbm, ⟨31, _⟩ => ⟨S32x2064x1024, .f32⟩
  | .hbm, ⟨32, _⟩ => ⟨S32x2064x1024, .f32⟩
  | .hbm, ⟨33, _⟩ => ⟨S32x2064x2816, .f32⟩
  | .hbm, ⟨34, _⟩ => ⟨S32x2064x2816, .f32⟩
  | .hbm, ⟨35, _⟩ => ⟨S_, .i32⟩
  | .hbm, ⟨36, _⟩ => ⟨S_, .f32⟩
  | .hbm, ⟨37, _⟩ => ⟨S32x2066x2816, .f32⟩
  | .hbm, ⟨38, _⟩ => ⟨S32x2064x2816, .f32⟩
  | .hbm, ⟨39, _⟩ => ⟨S1x2816, .f32⟩
  | .hbm, ⟨40, _⟩ => ⟨S2816, .f32⟩
  | .hbm, ⟨41, _⟩ => ⟨S1x1x2816, .f32⟩
  | .hbm, ⟨42, _⟩ => ⟨S32x2064x2816, .f32⟩
  | .hbm, ⟨43, _⟩ => ⟨S32x2064x2816, .f32⟩
  | .hbm, ⟨44, _⟩ => ⟨S_, .f32⟩
  | .hbm, ⟨45, _⟩ => ⟨S32x2064x2816, .f32⟩
  | .hbm, ⟨46, _⟩ => ⟨S32x2064x2816, .f32⟩
  | .hbm, ⟨47, _⟩ => ⟨S32x2064x2816, .f32⟩
  | .hbm, ⟨48, _⟩ => ⟨S1x2816, .f32⟩
  | .hbm, ⟨49, _⟩ => ⟨S2816, .f32⟩
  | .hbm, ⟨50, _⟩ => ⟨S1x1x2816, .f32⟩
  | .hbm, ⟨51, _⟩ => ⟨S32x2064x2816, .f32⟩
  | .hbm, ⟨52, _⟩ => ⟨S32x2064x2816, .f32⟩
  | .hbm, ⟨53, _⟩ => ⟨S32x2064x2816, .f32⟩
  | .hbm, ⟨54, _⟩ => ⟨S32x2064x2816, .f32⟩
  | .hbm, ⟨55, _⟩ => ⟨S1x2816, .f32⟩
  | .hbm, ⟨56, _⟩ => ⟨S2816, .f32⟩
  | .hbm, ⟨57, _⟩ => ⟨S1x1x2816, .f32⟩
  | .hbm, ⟨58, _⟩ => ⟨S32x2064x2816, .f32⟩
  | .hbm, ⟨59, _⟩ => ⟨S32x2064x2816, .f32⟩
  | .hbm, ⟨60, _⟩ => ⟨S32x2064x2816, .f32⟩
  | .hbm, ⟨61, _⟩ => ⟨S1x1x2816, .f32⟩
  | .hbm, ⟨62, _⟩ => ⟨S32x2064x2816, .f32⟩
  | .hbm, ⟨63, _⟩ => ⟨S32x2064x2816, .f32⟩
  | .hbm, ⟨64, _⟩ => ⟨S32x2064x2816, .f32⟩
  | .hbm, ⟨65, _⟩ => ⟨S32x2064x2816, .f32⟩
  | .hbm, ⟨66, _⟩ => ⟨S_, .f32⟩
  | .hbm, ⟨67, _⟩ => ⟨S32x2064x2816, .f32⟩
  | .hbm, ⟨68, _⟩ => ⟨S32x2064x2816, .f32⟩
  | .hbm, ⟨69, _⟩ => ⟨S_, .f32⟩
  | .hbm, ⟨70, _⟩ => ⟨S32x2064x2816, .f32⟩
  | .hbm, ⟨71, _⟩ => ⟨S32x2064x2816, .f32⟩
  | .hbm, ⟨72, _⟩ => ⟨S32x2064x2816, .f32⟩
  | .hbm, ⟨73, _⟩ => ⟨S32x2064x2816, .f32⟩
  | .hbm, ⟨74, _⟩ => ⟨S32x2064x1024, .f32⟩
  | .hbm, ⟨75, _⟩ => ⟨S32x2064x1024, .f32⟩
  | .hbm, ⟨76, _⟩ => ⟨S32x8x2816, .f32⟩
  | _, _ => ⟨S32x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩

abbrev nD : Nat := 1
abbrev τ : Topo := Topo.v7x

variable {F : FTy → Type} [FloatOps F]
-- ==== Kernel4.lean ====
abbrev S32x2064x1024 : Shape := ⟨3, ![32, 2064, 1024]⟩
abbrev S1024 : Shape := ⟨1, ![1024]⟩
abbrev S1x1024 : Shape := ⟨2, ![1, 1024]⟩
abbrev S32x2048x1024 : Shape := ⟨3, ![32, 2048, 1024]⟩
abbrev S1x2064x1024 : Shape := ⟨3, ![1, 2064, 1024]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 4
  | .vmem => 5
  | .smem => 0
  | _ => 0

abbrev bufTy : (tb : Table) → Fin (tcTables nBuf tb) → BufTy
  | .hbm, ⟨0, _⟩ => ⟨S32x2064x1024, .f32⟩
  | .hbm, ⟨1, _⟩ => ⟨S1024, .f32⟩
  | .hbm, ⟨2, _⟩ => ⟨S1x1024, .f32⟩
  | .hbm, ⟨3, _⟩ => ⟨S32x2048x1024, .f32⟩
  | .local _ .vmem, ⟨0, _⟩ => ⟨S1x2064x1024, .f32⟩
  | .local _ .vmem, ⟨1, _⟩ => ⟨S1x2064x1024, .f32⟩
  | .local _ .vmem, ⟨2, _⟩ => ⟨S1x1024, .f32⟩
  | .local _ .vmem, ⟨3, _⟩ => ⟨S1x2048x1024, .f32⟩
  | .local _ .vmem, ⟨4, _⟩ => ⟨S1x2048x1024, .f32⟩
  | _, _ => ⟨S32x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2064x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S32x2064x1024 : Shape := ⟨3, ![32, 2064, 1024]⟩
abbrev S1024 : Shape := ⟨1, ![1024]⟩
abbrev S32x2048x1024 : Shape := ⟨3, ![32, 2048, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32x2064x1024, .f32⟩
  | .hbm, ⟨1, _⟩ => ⟨S1024, .f32⟩
  | .hbm, ⟨2, _⟩ => ⟨S32x2048x1024, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | _, _ => ⟨S32x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S16x16x1024 : Shape := ⟨3, ![16, 16, 1024]⟩
abbrev S1024 : Shape := ⟨1, ![1024]⟩
abbrev S1024x4616 : Shape := ⟨2, ![1024, 4616]⟩
abbrev S1024x3072 : Shape := ⟨2, ![1024, 3072]⟩
abbrev S1024x1536 : Shape := ⟨2, ![1024, 1536]⟩
abbrev S1024x8 : Shape := ⟨2, ![1024, 8]⟩
abbrev S_ : Shape := ⟨0, ![]⟩
abbrev S1024x128 : Shape := ⟨2, ![1024, 128]⟩
abbrev S1024x4736 : Shape := ⟨2, ![1024, 4736]⟩
abbrev S256x1024 : Shape := ⟨2, ![256, 1024]⟩
abbrev S1x1024 : Shape := ⟨2, ![1, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x512 : Shape := ⟨2, ![1024, 512]⟩
abbrev S1024x1024 : Shape := ⟨2, ![1024, 1024]⟩

abbrev nBuf : Space → Nat
  | .hbm => 22
  | .vmem => 12
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024x4616, .f32⟩
  | .hbm, ⟨3, _⟩ => ⟨S1024x3072, .f32⟩
  | .hbm, ⟨4, _⟩ => ⟨S1024x1536, .f32⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x4736, .f32⟩
  | .hbm, ⟨10, _⟩ => ⟨S1024x4736, .bf16⟩
  | .hbm, ⟨11, _⟩ => ⟨S256x1024, .f32⟩
  | .hbm, ⟨12, _⟩ => ⟨S1x1024, .f32⟩
  | .hbm, ⟨13, _⟩ => ⟨S256x512, .bf16⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S256x1024, .f32⟩
  | .hbm, ⟨18, _⟩ => ⟨S256x512, .bf16⟩
  | .hbm, ⟨19, _⟩ => ⟨S256x512, .f32⟩
  | .hbm, ⟨20, _⟩ => ⟨S256x512, .f32⟩
  | .hbm, ⟨21, _⟩ => ⟨S256x128, .f32⟩
  | .local _ .vmem, ⟨0, _⟩ => ⟨S256x1024, .f32⟩
  | .local _ .vmem, ⟨1, _⟩ => ⟨S1x1024, .f32⟩
  | .local _ .vmem, ⟨2, _⟩ => ⟨S1024x4736, .bf16⟩
  | .local _ .vmem, ⟨3, _⟩ => ⟨S256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x1024, .f32⟩
  | .local _ .vmem, ⟨8, _⟩ => ⟨S256x512, .bf16⟩
  | .local _ .vmem, ⟨9, _⟩ => ⟨S256x512, .f32⟩
  | .local _ .vmem, ⟨10, _⟩ => ⟨S256x512, .f32⟩
  | .local _ .vmem, ⟨11, _⟩ => ⟨S256x128, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev main_v8_6 : Ref sig .tc := ⟨.hbm, 19, rfl⟩
abbrev main_v8_7 : Ref sig .tc := ⟨.hbm, 20, rfl⟩
abbrev main_v8_8 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference5Ideal.lean ====
abbrev S16x16x1024 : Shape := ⟨3, ![16, 16, 1024]⟩
abbrev S1024 : Shape := ⟨1, ![1024]⟩
abbrev S1024x4616 : Shape := ⟨2, ![1024, 4616]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x4616 : Shape := ⟨3, ![16, 16, 4616]⟩
abbrev S16x16x512 : Shape := ⟨3, ![16, 16, 512]⟩
abbrev S16x16x8 : Shape := ⟨3, ![16, 16, 8]⟩
abbrev S256x512 : Shape := ⟨2, ![256, 512]⟩
abbrev S256x1024 : Shape := ⟨2, ![256, 1024]⟩
abbrev S256x8 : Shape := ⟨2, ![256, 8]⟩
abbrev S256x128 : Shape := ⟨2, ![256, 128]⟩

abbrev nBuf : Space → Nat
  | .hbm => 43
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1024x4616, .f32⟩
  | .hbm, ⟨3, _⟩ => ⟨S16x16x1024, .f32⟩
  | .hbm, ⟨4, _⟩ => ⟨S_, .f32⟩
  | .hbm, ⟨5, _⟩ => ⟨S16x16, .f32⟩
  | .hbm, ⟨6, _⟩ => ⟨S16x16x1, .f32⟩
  | .hbm, ⟨7, _⟩ => ⟨S_, .f32⟩
  | .hbm, ⟨8, _⟩ => ⟨S16x16x1, .f32⟩
  | .hbm, ⟨9, _⟩ => ⟨S16x16x1, .f32⟩
  | .hbm, ⟨10, _⟩ => ⟨S_, .f32⟩
  | .hbm, ⟨11, _⟩ => ⟨S16x16x1, .f32⟩
  | .hbm, ⟨12, _⟩ => ⟨S16x16x1, .f32⟩
  | .hbm, ⟨13, _⟩ => ⟨S16x16x1, .f32⟩
  | .hbm, ⟨14, _⟩ => ⟨S16x16x1024, .f32⟩
  | .hbm, ⟨15, _⟩ => ⟨S16x16x1024, .f32⟩
  | .hbm, ⟨16, _⟩ => ⟨S1x1x1024, .f32⟩
  | .hbm, ⟨17, _⟩ => ⟨S16x16x1024, .f32⟩
  | .hbm, ⟨18, _⟩ => ⟨S16x16x1024, .f32⟩
  | .hbm, ⟨19, _⟩ => ⟨S16x16x4616, .f32⟩
  | .hbm, ⟨20, _⟩ => ⟨S16x16x512, .f32⟩
  | .hbm, ⟨21, _⟩ => ⟨S16x16x512, .f32⟩
  | .hbm, ⟨22, _⟩ => ⟨S16x16x512, .f32⟩
  | .hbm, ⟨23, _⟩ => ⟨S16x16x512, .f32⟩
  | .hbm, ⟨24, _⟩ => ⟨S16x16x1024, .f32⟩
  | .hbm, ⟨25, _⟩ => ⟨S16x16x8, .f32⟩
  | .hbm, ⟨26, _⟩ => ⟨S16x16x512, .f32⟩
  | .hbm, ⟨27, _⟩ => ⟨S16x16x512, .f32⟩
  | .hbm, ⟨28, _⟩ => ⟨S16x16x512, .f32⟩
  | .hbm, ⟨29, _⟩ => ⟨S256x512, .f32⟩
  | .hbm, ⟨30, _⟩ => ⟨S256x512, .bf16⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S256x1024, .f32⟩
  | .hbm, ⟨35, _⟩ => ⟨S256x512, .f32⟩
  | .hbm, ⟨36, _⟩ => ⟨S256x512, .bf16⟩
  | .hbm, ⟨37, _⟩ => ⟨S256x512, .f32⟩
  | .hbm, ⟨38, _⟩ => ⟨S256x512, .f32⟩
  | .hbm, ⟨39, _⟩ => ⟨S256x8, .f32⟩
  | .hbm, ⟨40, _⟩ => ⟨S_, .i32⟩
  | .hbm, ⟨41, _⟩ => ⟨S_, .f32⟩
  | .hbm, ⟨42, _⟩ => ⟨S256x128, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_call0_v0 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel6.lean ====
abbrev S16x16x1024 : Shape := ⟨3, ![16, 16, 1024]⟩
abbrev S16x16x512 : Shape := ⟨3, ![16, 16, 512]⟩
abbrev S1536x1024 : Shape := ⟨2, ![1536, 1024]⟩
abbrev S1024 : Shape := ⟨1, ![1024]⟩
abbrev S1024x2816 : Shape := ⟨2, ![1024, 2816]⟩
abbrev S2816x1024 : Shape := ⟨2, ![2816, 1024]⟩
abbrev S3x2816 : Shape := ⟨2, ![3, 2816]⟩
abbrev S2816 : Shape := ⟨1, ![2816]⟩
abbrev S16x2x2816 : Shape := ⟨3, ![16, 2, 2816]⟩
abbrev S_ : Shape := ⟨0, ![]⟩
abbrev S16x8x2816 : Shape := ⟨3, ![16, 8, 2816]⟩
abbrev S1x1024 : Shape := ⟨2, ![1, 1024]⟩
abbrev S1x2816 : Shape := ⟨2, ![1, 2816]⟩
abbrev S1x16x1024 : Shape := ⟨3, ![1, 16, 1024]⟩
abbrev S1x16x512 : Shape := ⟨3, ![1, 16, 512]⟩
abbrev S1x8x2816 : Shape := ⟨3, ![1, 8, 2816]⟩
abbrev S16x2816 : Shape := ⟨2, ![16, 2816]⟩
abbrev S16x1024 : Shape := ⟨2, ![16, 1024]⟩
abbrev S16x512 : Shape := ⟨2, ![16, 512]⟩
abbrev S512x1024 : Shape := ⟨2, ![512, 1024]⟩
abbrev S16 : Shape := ⟨1, ![16]⟩
abbrev S16x1 : Shape := ⟨2, ![16, 1]⟩
abbrev S8x256 : Shape := ⟨2, ![8, 256]⟩
abbrev S1024x256 : Shape := ⟨2, ![1024, 256]⟩
abbrev S16x256 : Shape := ⟨2, ![16, 256]⟩
abbrev S1x8x256 : Shape := ⟨3, ![1, 8, 256]⟩
abbrev S1x256 : Shape := ⟨2, ![1, 256]⟩

abbrev nBuf : Space → Nat
  | .hbm => 23
  | .vmem => 22
  | .smem => 0
  | _ => 0

abbrev bufTy : (tb : Table) → Fin (tcTables nBuf tb) → BufTy
  | .hbm, ⟨0, _⟩ => ⟨S16x16x1024, .f32⟩
  | .hbm, ⟨1, _⟩ => ⟨S16x16x512, .bf16⟩
  | .hbm, ⟨2, _⟩ => ⟨S16x16x512, .bf16⟩
  | .hbm, ⟨3, _⟩ => ⟨S16x16x512, .bf16⟩
  | .hbm, ⟨4, _⟩ => ⟨S1536x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S2816, .f32⟩
  | .hbm, ⟨11, _⟩ => ⟨S16x2x2816, .f32⟩
  | .hbm, ⟨12, _⟩ => ⟨S_, .i32⟩
  | .hbm, ⟨13, _⟩ => ⟨S_, .f32⟩
  | .hbm, ⟨14, _⟩ => ⟨S16x8x2816, .f32⟩
  | .hbm, ⟨15, _⟩ => ⟨S1536x1024, .bf16⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x2816, .f32⟩
  | .hbm, ⟨21, _⟩ => ⟨S16x16x1024, .f32⟩
  | .hbm, ⟨22, _⟩ => ⟨S16x8x2816, .f32⟩
  | .local _ .vmem, ⟨0, _⟩ => ⟨S1x16x1024, .f32⟩
  | .local _ .vmem, ⟨1, _⟩ => ⟨S1x16x1024, .f32⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S1x16x512, .bf16⟩
  | .local _ .vmem, ⟨7, _⟩ => ⟨S1x16x512, .bf16⟩
  | .local _ .vmem, ⟨8, _⟩ => ⟨S1536x1024, .bf16⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S3x2816, .f32⟩
  | .local _ .vmem, ⟨14, _⟩ => ⟨S1x2816, .f32⟩
  | .local _ .vmem, ⟨15, _⟩ => ⟨S1x8x2816, .f32⟩
  | .local _ .vmem, ⟨16, _⟩ => ⟨S1x8x2816, .f32⟩
  | .local _ .vmem, ⟨17, _⟩ => ⟨S1x16x1024, .f32⟩
  | .local _ .vmem, ⟨18, _⟩ => ⟨S1x16x1024, .f32⟩
  | .local _ .vmem, ⟨19, _⟩ => ⟨S1x8x2816, .f32⟩
  | .local _ .vmem, ⟨20, _⟩ => ⟨S1x8x2816, .f32⟩
  | .local _ .vmem, ⟨21, _⟩ => ⟨S16x2816, .bf16⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x2816 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x2816 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference6Ideal.lean ====
abbrev S16x16x1024 : Shape := ⟨3, ![16, 16, 1024]⟩
abbrev S16x16x512 : Shape := ⟨3, ![16, 16, 512]⟩
abbrev S1536x1024 : Shape := ⟨2, ![1536, 1024]⟩
abbrev S1024 : Shape := ⟨1, ![1024]⟩
abbrev S1024x2816 : Shape := ⟨2, ![1024, 2816]⟩
abbrev S2816x1024 : Shape := ⟨2, ![2816, 1024]⟩
abbrev S3x2816 : Shape := ⟨2, ![3, 2816]⟩
abbrev S2816 : Shape := ⟨1, ![2816]⟩
abbrev S16x2x2816 : Shape := ⟨3, ![16, 2, 2816]⟩
abbrev S16x16x1536 : Shape := ⟨3, ![16, 16, 1536]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩
abbrev S16x16x2816 : Shape := ⟨3, ![16, 16, 2816]⟩
abbrev S16x18x2816 : Shape := ⟨3, ![16, 18, 2816]⟩
abbrev S1x2816 : Shape := ⟨2, ![1, 2816]⟩
abbrev S1x1x2816 : Shape := ⟨3, ![1, 1, 2816]⟩
abbrev S16x8x2816 : Shape := ⟨3, ![16, 8, 2816]⟩

abbrev nBuf : Space → Nat
  | .hbm => 76
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S16x16x512, .bf16⟩
  | .hbm, ⟨2, _⟩ => ⟨S16x16x512, .bf16⟩
  | .hbm, ⟨3, _⟩ => ⟨S16x16x512, .bf16⟩
  | .hbm, ⟨4, _⟩ => ⟨S1536x1024, .f32⟩
  | .hbm, ⟨5, _⟩ => ⟨S1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S3x2816, .f32⟩
  | .hbm, ⟨10, _⟩ => ⟨S2816, .f32⟩
  | .hbm, ⟨11, _⟩ => ⟨S16x2x2816, .f32⟩
  | .hbm, ⟨12, _⟩ => ⟨S16x16x512, .f32⟩
  | .hbm, ⟨13, _⟩ => ⟨S16x16x512, .f32⟩
  | .hbm, ⟨14, _⟩ => ⟨S16x16x512, .f32⟩
  | .hbm, ⟨15, _⟩ => ⟨S16x16x1536, .f32⟩
  | .hbm, ⟨16, _⟩ => ⟨S16x16x1024, .f32⟩
  | .hbm, ⟨17, _⟩ => ⟨S16x16x1024, .f32⟩
  | .hbm, ⟨18, _⟩ => ⟨S16x16x1024, .f32⟩
  | .hbm, ⟨19, _⟩ => ⟨S_, .f32⟩
  | .hbm, ⟨20, _⟩ => ⟨S16x16, .f32⟩
  | .hbm, ⟨21, _⟩ => ⟨S16x16x1, .f32⟩
  | .hbm, ⟨22, _⟩ => ⟨S_, .f32⟩
  | .hbm, ⟨23, _⟩ => ⟨S16x16x1, .f32⟩
  | .hbm, ⟨24, _⟩ => ⟨S16x16x1, .f32⟩
  | .hbm, ⟨25, _⟩ => ⟨S_, .f32⟩
  | .hbm, ⟨26, _⟩ => ⟨S16x16x1, .f32⟩
  | .hbm, ⟨27, _⟩ => ⟨S16x16x1, .f32⟩
  | .hbm, ⟨28, _⟩ => ⟨S16x16x1, .f32⟩
  | .hbm, ⟨29, _⟩ => ⟨S16x16x1024, .f32⟩
  | .hbm, ⟨30, _⟩ => ⟨S16x16x1024, .f32⟩
  | .hbm, ⟨31, _⟩ => ⟨S1x1x1024, .f32⟩
  | .hbm, ⟨32, _⟩ => ⟨S16x16x1024, .f32⟩
  | .hbm, ⟨33, _⟩ => ⟨S16x16x1024, .f32⟩
  | .hbm, ⟨34, _⟩ => ⟨S16x16x2816, .f32⟩
  | .hbm, ⟨35, _⟩ => ⟨S16x16x2816, .f32⟩
  | .hbm, ⟨36, _⟩ => ⟨S16x18x2816, .f32⟩
  | .hbm, ⟨37, _⟩ => ⟨S16x16x2816, .f32⟩
  | .hbm, ⟨38, _⟩ => ⟨S1x2816, .f32⟩
  | .hbm, ⟨39, _⟩ => ⟨S2816, .f32⟩
  | .hbm, ⟨40, _⟩ => ⟨S1x1x2816, .f32⟩
  | .hbm, ⟨41, _⟩ => ⟨S16x16x2816, .f32⟩
  | .hbm, ⟨42, _⟩ => ⟨S16x16x2816, .f32⟩
  | .hbm, ⟨43, _⟩ => ⟨S_, .f32⟩
  | .hbm, ⟨44, _⟩ => ⟨S16x16x2816, .f32⟩
  | .hbm, ⟨45, _⟩ => ⟨S16x16x2816, .f32⟩
  | .hbm, ⟨46, _⟩ => ⟨S16x16x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S16x16x2816, .f32⟩
  | .hbm, ⟨51, _⟩ => ⟨S16x16x2816, .f32⟩
  | .hbm, ⟨52, _⟩ => ⟨S16x16x2816, .f32⟩
  | .hbm, ⟨53, _⟩ => ⟨S16x16x2816, .f32⟩
  | .hbm, ⟨54, _⟩ => ⟨S1x2816, .f32⟩
  | .hbm, ⟨55, _⟩ => ⟨S2816, .f32⟩
  | .hbm, ⟨56, _⟩ => ⟨S1x1x2816, .f32⟩
  | .hbm, ⟨57, _⟩ => ⟨S16x16x2816, .f32⟩
  | .hbm, ⟨58, _⟩ => ⟨S16x16x2816, .f32⟩
  | .hbm, ⟨59, _⟩ => ⟨S16x16x2816, .f32⟩
  | .hbm, ⟨60, _⟩ => ⟨S1x1x2816, .f32⟩
  | .hbm, ⟨61, _⟩ => ⟨S16x16x2816, .f32⟩
  | .hbm, ⟨62, _⟩ => ⟨S16x16x2816, .f32⟩
  | .hbm, ⟨63, _⟩ => ⟨S16x16x2816, .f32⟩
  | .hbm, ⟨64, _⟩ => ⟨S16x16x2816, .f32⟩
  | .hbm, ⟨65, _⟩ => ⟨S_, .f32⟩
  | .hbm, ⟨66, _⟩ => ⟨S16x16x2816, .f32⟩
  | .hbm, ⟨67, _⟩ => ⟨S16x16x2816, .f32⟩
  | .hbm, ⟨68, _⟩ => ⟨S_, .f32⟩
  | .hbm, ⟨69, _⟩ => ⟨S16x16x2816, .f32⟩
  | .hbm, ⟨70, _⟩ => ⟨S16x16x2816, .f32⟩
  | .hbm, ⟨71, _⟩ => ⟨S16x16x2816, .f32⟩
  | .hbm, ⟨72, _⟩ => ⟨S16x16x2816, .f32⟩
  | .hbm, ⟨73, _⟩ => ⟨S16x16x1024, .f32⟩
  | .hbm, ⟨74, _⟩ => ⟨S16x16x1024, .f32⟩
  | .hbm, ⟨75, _⟩ => ⟨S16x8x2816, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]
-- ==== Kernel7.lean ====
abbrev S16x16x1024 : Shape := ⟨3, ![16, 16, 1024]⟩
abbrev S1024 : Shape := ⟨1, ![1024]⟩
abbrev S1x1024 : Shape := ⟨2, ![1, 1024]⟩
abbrev S1x16x1024 : Shape := ⟨3, ![1, 16, 1024]⟩
abbrev S16x1024 : Shape := ⟨2, ![16, 1024]⟩
abbrev S16 : Shape := ⟨1, ![16]⟩
abbrev S16x1 : Shape := ⟨2, ![16, 1]⟩

abbrev nBuf : Space → Nat
  | .hbm => 4
  | .vmem => 5
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S1x1024, .f32⟩
  | .hbm, ⟨3, _⟩ => ⟨S16x16x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x1024, .f32⟩
  | .local _ .vmem, ⟨3, _⟩ => ⟨S1x16x1024, .f32⟩
  | .local _ .vmem, ⟨4, _⟩ => ⟨S1x16x1024, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S16x16x1024 : Shape := ⟨3, ![16, 16, 1024]⟩
abbrev S1024 : Shape := ⟨1, ![1024]⟩
abbrev S_ : Shape := ⟨0, ![]⟩
abbrev S16x16 : Shape := ⟨2, ![16, 16]⟩
abbrev S16x16x1 : Shape := ⟨3, ![16, 16, 1]⟩
abbrev S1x1x1024 : Shape := ⟨3, ![1, 1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16x16x1024, .f32⟩
  | .hbm, ⟨1, _⟩ => ⟨S1024, .f32⟩
  | .hbm, ⟨2, _⟩ => ⟨S16x16x1024, .f32⟩
  | .hbm, ⟨3, _⟩ => ⟨S_, .f32⟩
  | .hbm, ⟨4, _⟩ => ⟨S16x16, .f32⟩
  | .hbm, ⟨5, _⟩ => ⟨S16x16x1, .f32⟩
  | .hbm, ⟨6, _⟩ => ⟨S_, .f32⟩
  | .hbm, ⟨7, _⟩ => ⟨S16x16x1, .f32⟩
  | .hbm, ⟨8, _⟩ => ⟨S16x16x1, .f32⟩
  | .hbm, ⟨9, _⟩ => ⟨S_, .f32⟩
  | .hbm, ⟨10, _⟩ => ⟨S16x16x1, .f32⟩
  | .hbm, ⟨11, _⟩ => ⟨S16x16x1, .f32⟩
  | .hbm, ⟨12, _⟩ => ⟨S16x16x1, .f32⟩
  | .hbm, ⟨13, _⟩ => ⟨S16x16x1024, .f32⟩
  | .hbm, ⟨14, _⟩ => ⟨S16x16x1024, .f32⟩
  | .hbm, ⟨15, _⟩ => ⟨S1x1x1024, .f32⟩
  | .hbm, ⟨16, _⟩ => ⟨S16x16x1024, .f32⟩
  | .hbm, ⟨17, _⟩ => ⟨S16x16x1024, .f32⟩
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S16x16x1024 : Shape := ⟨3, ![16, 16, 1024]⟩
abbrev S16x16x512 : Shape := ⟨3, ![16, 16, 512]⟩
abbrev S16x16x8 : Shape := ⟨3, ![16, 16, 8]⟩
abbrev S16x3x1024 : Shape := ⟨3, ![16, 3, 1024]⟩
abbrev S16x8x64x128 : Shape := ⟨4, ![16, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S16x8x1024 : Shape := ⟨3, ![16, 8, 1024]⟩
abbrev S16x512x128 : Shape := ⟨3, ![16, 512, 128]⟩
abbrev S16x16x128 : Shape := ⟨3, ![16, 16, 128]⟩
abbrev S1x1024 : Shape := ⟨2, ![1, 1024]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S1x16x1024 : Shape := ⟨3, ![1, 16, 1024]⟩
abbrev S1x16x512 : Shape := ⟨3, ![1, 16, 512]⟩
abbrev S1x16x128 : Shape := ⟨3, ![1, 16, 128]⟩
abbrev S1x8x1024 : Shape := ⟨3, ![1, 8, 1024]⟩
abbrev S1x512x128 : Shape := ⟨3, ![1, 512, 128]⟩
abbrev S8x1024 : Shape := ⟨2, ![8, 1024]⟩
abbrev S2x128x256 : Shape := ⟨3, ![2, 128, 256]⟩
abbrev S128x128 : Shape := ⟨2, ![128, 128]⟩
abbrev S128x512 : Shape := ⟨2, ![128, 512]⟩
abbrev S1x128x128 : Shape := ⟨3, ![1, 128, 128]⟩
abbrev S16x1024 : Shape := ⟨2, ![16, 1024]⟩
abbrev S24x1024 : Shape := ⟨2, ![24, 1024]⟩
abbrev S16x128 : Shape := ⟨2, ![16, 128]⟩
abbrev S16x512 : Shape := ⟨2, ![16, 512]⟩
abbrev S112x1024 : Shape := ⟨2, ![112, 1024]⟩
abbrev S128x1024 : Shape := ⟨2, ![128, 1024]⟩
abbrev S112x128 : Shape := ⟨2, ![112, 128]⟩
abbrev S112x512 : Shape := ⟨2, ![112, 512]⟩
abbrev S1x128x256 : Shape := ⟨3, ![1, 128, 256]⟩
abbrev S128x256 : Shape := ⟨2, ![128, 256]⟩
abbrev S128x1 : Shape := ⟨2, ![128, 1]⟩
abbrev S1x256 : Shape := ⟨2, ![1, 256]⟩

abbrev nBuf : Space → Nat
  | .hbm => 33
  | .vmem => 22
  | .smem => 0
  | _ => 0

abbrev bufTy : (tb : Table) → Fin (tcTables nBuf tb) → BufTy
  | .hbm, ⟨0, _⟩ => ⟨S16x16x1024, .f32⟩
  | .hbm, ⟨1, _⟩ => ⟨S16x16x512, .f32⟩
  | .hbm, ⟨2, _⟩ => ⟨S16x16x8, .f32⟩
  | .hbm, ⟨3, _⟩ => ⟨S16x3x1024, .f32⟩
  | .hbm, ⟨4, _⟩ => ⟨S16x8x64x128, .f32⟩
  | .hbm, ⟨5, _⟩ => ⟨S4x1024, .f32⟩
  | .hbm, ⟨6, _⟩ => ⟨S1024, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S512, .f32⟩
  | .hbm, ⟨11, _⟩ => ⟨S_, .i32⟩
  | .hbm, ⟨12, _⟩ => ⟨S_, .f32⟩
  | .hbm, ⟨13, _⟩ => ⟨S16x8x1024, .f32⟩
  | .hbm, ⟨14, _⟩ => ⟨S16x512x128, .f32⟩
  | .hbm, ⟨15, _⟩ => ⟨S_, .i32⟩
  | .hbm, ⟨16, _⟩ => ⟨S_, .f32⟩
  | .hbm, ⟨17, _⟩ => ⟨S16x16x128, .f32⟩
  | .hbm, ⟨18, _⟩ => ⟨S1x1024, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S8x64, .f32⟩
  | .hbm, ⟨28, _⟩ => ⟨S512, .f32⟩
  | .hbm, ⟨29, _⟩ => ⟨S1x512, .f32⟩
  | .hbm, ⟨30, _⟩ => ⟨S1x512, .f32⟩
  | .hbm, ⟨31, _⟩ => ⟨S16x16x512, .bf16⟩
  | .hbm, ⟨32, _⟩ => ⟨S16x512x128, .f32⟩
  | .local _ .vmem, ⟨0, _⟩ => ⟨S1x16x1024, .f32⟩
  | .local _ .vmem, ⟨1, _⟩ => ⟨S1x16x1024, .f32⟩
  | .local _ .vmem, ⟨2, _⟩ => ⟨S1x16x512, .f32⟩
  | .local _ .vmem, ⟨3, _⟩ => ⟨S1x16x512, .f32⟩
  | .local _ .vmem, ⟨4, _⟩ => ⟨S1x16x128, .f32⟩
  | .local _ .vmem, ⟨5, _⟩ => ⟨S1x16x128, .f32⟩
  | .local _ .vmem, ⟨6, _⟩ => ⟨S1x8x1024, .f32⟩
  | .local _ .vmem, ⟨7, _⟩ => ⟨S1x8x1024, .f32⟩
  | .local _ .vmem, ⟨8, _⟩ => ⟨S1x512x128, .f32⟩
  | .local _ .vmem, ⟨9, _⟩ => ⟨S1x512x128, .f32⟩
  | .local _ .vmem, ⟨10, _⟩ => ⟨S4x1024, .f32⟩
  | .local _ .vmem, ⟨11, _⟩ => ⟨S1x1024, .f32⟩
  | .local _ .vmem, ⟨12, _⟩ => ⟨S1x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S1x16x512, .bf16⟩
  | .local _ .vmem, ⟨17, _⟩ => ⟨S1x16x512, .bf16⟩
  | .local _ .vmem, ⟨18, _⟩ => ⟨S1x512x128, .f32⟩
  | .local _ .vmem, ⟨19, _⟩ => ⟨S1x512x128, .f32⟩
  | .local _ .vmem, ⟨20, _⟩ => ⟨S8x1024, .f32⟩
  | .local _ .vmem, ⟨21, _⟩ => ⟨S2x128x256, .f32⟩
  | _, _ => ⟨S16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_call1_v0 : Ref sig .tc := ⟨.hbm, 16, rfl⟩
abbrev main_v2 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_v5 : Ref sig .tc := ⟨.hbm, 22, rfl⟩
abbrev main_c_2 : Ref sig .tc := ⟨.hbm, 23, rfl⟩
abbrev main_call3_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S16x16x1024 : Shape := ⟨3, ![16, 16, 1024]⟩
abbrev S16x16x512 : Shape := ⟨3, ![16, 16, 512]⟩
abbrev S16x16x8 : Shape := ⟨3, ![16, 16, 8]⟩
abbrev S16x3x1024 : Shape := ⟨3, ![16, 3, 1024]⟩
abbrev S16x8x64x128 : Shape := ⟨4, ![16, 8, 64, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S16x19x1024 : Shape := ⟨3, ![16, 19, 1024]⟩
abbrev S1x1024 : Shape := ⟨2, ![1, 1024]⟩
abbrev S1x1x1024 : Shape := ⟨3, ![1, 1, 1024]⟩
abbrev S_ : Shape := ⟨0, ![]⟩
abbrev S16x16x256 : Shape := ⟨3, ![16, 16, 256]⟩
abbrev S16x16x8x64 : Shape := ⟨4, ![16, 16, 8, 64]⟩
abbrev S1x1x8 : Shape := ⟨3, ![1, 1, 8]⟩
abbrev S16x16x2x128 : Shape := ⟨4, ![16, 16, 2, 128]⟩
abbrev S16x16x8x1 : Shape := ⟨4, ![16, 16, 8, 1]⟩
abbrev S16x64x8x64 : Shape := ⟨4, ![16, 64, 8, 64]⟩
abbrev S16x1x64x2x4x64 : Shape := ⟨6, ![16, 1, 64, 2, 4, 64]⟩
abbrev S16x64x8 : Shape := ⟨3, ![16, 64, 8]⟩
abbrev S16x1x64x2x4 : Shape := ⟨5, ![16, 1, 64, 2, 4]⟩
abbrev S16x64x2x128 : Shape := ⟨4, ![16, 64, 2, 128]⟩
abbrev S16x1x64x2x128 : Shape := ⟨5, ![16, 1, 64, 2, 128]⟩
abbrev S16x2x4x1x64 : Shape := ⟨5, ![16, 2, 4, 1, 64]⟩
abbrev S64x64 : Shape := ⟨2, ![64, 64]⟩
abbrev S16x2x4x1x64x1 : Shape := ⟨6, ![16, 2, 4, 1, 64, 1]⟩
abbrev S16x2x4x1x1x64 : Shape := ⟨6, ![16, 2, 4, 1, 1, 64]⟩
abbrev S16x2x4x1x64x64 : Shape := ⟨6, ![16, 2, 4, 1, 64, 64]⟩
abbrev S16x2x1x64x64 : Shape := ⟨5, ![16, 2, 1, 64, 64]⟩
abbrev S16x2x1x1x64x64 : Shape := ⟨6, ![16, 2, 1, 1, 64, 64]⟩
abbrev S16x1x2x4x64x64 : Shape := ⟨6, ![16, 1, 2, 4, 64, 64]⟩
abbrev S16x2x4x1x1 : Shape := ⟨5, ![16, 2, 4, 1, 1]⟩
abbrev S16x1x64x2x4x1 : Shape := ⟨6, ![16, 1, 64, 2, 4, 1]⟩
abbrev S1x16x2x4x64x128 : Shape := ⟨6, ![1, 16, 2, 4, 64, 128]⟩
abbrev S16x2x4x1 : Shape := ⟨4, ![16, 2, 4, 1]⟩
abbrev S1x16x2x4 : Shape := ⟨4, ![1, 16, 2, 4]⟩
abbrev S16x2x4x64x128 : Shape := ⟨5, ![16, 2, 4, 64, 128]⟩
abbrev S16x2x4 : Shape := ⟨3, ![16, 2, 4]⟩
abbrev S8x1 : Shape := ⟨2, ![8, 1]⟩
abbrev S1x1x8x1 : Shape := ⟨4, ![1, 1, 8, 1]⟩
abbrev S16x16x2x256 : Shape := ⟨4, ![16, 16, 2, 256]⟩
abbrev S2x256 : Shape := ⟨2, ![2, 256]⟩
abbrev S16x16x2 : Shape := ⟨3, ![16, 16, 2]⟩
abbrev S16x16x2x1 : Shape := ⟨4, ![16, 16, 2, 1]⟩
abbrev S1x1x2x256 : Shape := ⟨4, ![1, 1, 2, 256]⟩
abbrev S16x512x128 : Shape := ⟨3, ![16, 512, 128]⟩

abbrev nBuf : Space → Nat
  | .hbm => 202
  | .vmem => 0
  | .smem => 0
  | _ => 0

abbrev hbmTy0_0 (i : Nat) : BufTy := match i % 128 with
  | 0 => ⟨S16x16x1024, .f32⟩
  | 1 => ⟨S16x16x512, .f32⟩
  | 2 => ⟨S16x16x8, .f32⟩
  | 3 => ⟨S16x3x1024, .f32⟩
  | 4 => ⟨S16x8x64x128, .f32⟩
  | 5 => ⟨S4x1024, .f32⟩
  | 6 => ⟨S1024, .f32⟩
  | 7 => ⟨S8, .f32⟩
  | 8 => ⟨S8, .f32⟩
  | 9 => ⟨S8, .f32⟩
  | 10 => ⟨S512, .f32⟩
  | 11 => ⟨S16x19x1024, .f32⟩
  | 12 => ⟨S16x16x1024, .f32⟩
  | 13 => ⟨S1x1024, .f32⟩
  | 14 => ⟨S1024, .f32⟩
  | 15 => ⟨S1x1x1024, .f32⟩
  | 16 => ⟨S16x16x1024, .f32⟩
  | 17 => ⟨S16x16x1024, .f32⟩
  | 18 => ⟨S_, .f32⟩
  | 19 => ⟨S16x16x1024, .f32⟩
  | 20 => ⟨S16x16x1024, .f32⟩
  | 21 => ⟨S16x16x1024, .f32⟩
  | 22 => ⟨S1x1024, .f32⟩
  | 23 => ⟨S1024, .f32⟩
  | 24 => ⟨S1x1x1024, .f32⟩
  | 25 => ⟨S16x16x1024, .f32⟩
  | 26 => ⟨S16x16x1024, .f32⟩
  | 27 => ⟨S16x16x1024, .f32⟩
  | 28 => ⟨S16x16x1024, .f32⟩
  | 29 => ⟨S1x1024, .f32⟩
  | 30 => ⟨S1024, .f32⟩
  | 31 => ⟨S1x1x1024, .f32⟩
  | 32 => ⟨S16x16x1024, .f32⟩
  | 33 => ⟨S16x16x1024, .f32⟩
  | 34 => ⟨S16x16x1024, .f32⟩
  | 35 => ⟨S16x16x1024, .f32⟩
  | 36 => ⟨S1x1024, .f32⟩
  | 37 => ⟨S1024, .f32⟩
  | 38 => ⟨S1x1x1024, .f32⟩
  | 39 => ⟨S16x16x1024, .f32⟩
  | 40 => ⟨S16x16x1024, .f32⟩
  | 41 => ⟨S16x16x1024, .f32⟩
  | 42 => ⟨S1x1x1024, .f32⟩
  | 43 => ⟨S16x16x1024, .f32⟩
  | 44 => ⟨S16x16x1024, .f32⟩
  | 45 => ⟨S16x16x1024, .f32⟩
  | 46 => ⟨S16x16x1024, .f32⟩
  | 47 => ⟨S_, .f32⟩
  | 48 => ⟨S16x16x1024, .f32⟩
  | 49 => ⟨S16x16x1024, .f32⟩
  | 50 => ⟨S_, .f32⟩
  | 51 => ⟨S16x16x1024, .f32⟩
  | 52 => ⟨S16x16x1024, .f32⟩
  | 53 => ⟨S16x16x1024, .f32⟩
  | 54 => ⟨S16x16x512, .f32⟩
  | 55 => ⟨S16x16x256, .f32⟩
  | 56 => ⟨S16x16x256, .f32⟩
  | 57 => ⟨S16x16x8x64, .f32⟩
  | 58 => ⟨S1x1x8, .f32⟩
  | 59 => ⟨S16x16x8, .f32⟩
  | 60 => ⟨S16x16x8, .f32⟩
  | 61 => ⟨S_, .f32⟩
  | 62 => ⟨S16x16x8, .f32⟩
  | 63 => ⟨S16x16x8, .f32⟩
  | 64 => ⟨S16x16x8, .f32⟩
  | 65 => ⟨S16x16x8, .f32⟩
  | 66 => ⟨S16x16x8, .i1⟩
  | 67 => ⟨S16x16x8, .f32⟩
  | 68 => ⟨S16x16x8, .f32⟩
  | 69 => ⟨S16x16x8, .f32⟩
  | 70 => ⟨S16x16x8, .f32⟩
  | 71 => ⟨S16x16x8, .f32⟩
  | 72 => ⟨S16x16x8, .f32⟩
  | 73 => ⟨S16x16x8, .f32⟩
  | 74 => ⟨S16x16x8, .f32⟩
  | 75 => ⟨S8, .f32⟩
  | 76 => ⟨S8, .f32⟩
  | 77 => ⟨S16x16x2x128, .f32⟩
  | 78 => ⟨S16x16x2x128, .f32⟩
  | 79 => ⟨S16x16x8x1, .f32⟩
  | 80 => ⟨S16x16x8x64, .f32⟩
  | 81 => ⟨S16x16x8x64, .f32⟩
  | 82 => ⟨S_, .i32⟩
  | 83 => ⟨S_, .f32⟩
  | 84 => ⟨S16x64x8x64, .f32⟩
  | 85 => ⟨S16x1x64x2x4x64, .f32⟩
  | 86 => ⟨S1x1x8, .f32⟩
  | 87 => ⟨S16x16x8, .f32⟩
  | 88 => ⟨S16x16x8, .f32⟩
  | 89 => ⟨S_, .i32⟩
  | 90 => ⟨S_, .f32⟩
  | 91 => ⟨S16x64x8, .f32⟩
  | 92 => ⟨S16x1x64x2x4, .f32⟩
  | 93 => ⟨S_, .i32⟩
  | 94 => ⟨S_, .f32⟩
  | 95 => ⟨S16x64x2x128, .f32⟩
  | 96 => ⟨S16x1x64x2x128, .f32⟩
  | 97 => ⟨S_, .i32⟩
  | 98 => ⟨S_, .f32⟩
  | 99 => ⟨S16x64x2x128, .f32⟩
  | 100 => ⟨S16x1x64x2x128, .f32⟩
  | 101 => ⟨S16x2x4x1x64, .f32⟩
  | 102 => ⟨S_, .f32⟩
  | 103 => ⟨S_, .f32⟩
  | 104 => ⟨S16x2x4x1x64, .f32⟩
  | 105 => ⟨S_, .i1⟩
  | 106 => ⟨S64x64, .i1⟩
  | 107 => ⟨S64x64, .i32⟩
  | 108 => ⟨S_, .i32⟩
  | 109 => ⟨S64x64, .i32⟩
  | 110 => ⟨S64x64, .i32⟩
  | 111 => ⟨S64x64, .i32⟩
  | 112 => ⟨S64x64, .i1⟩
  | 113 => ⟨S_, .i1⟩
  | 114 => ⟨S64x64, .i1⟩
  | 115 => ⟨S64x64, .i1⟩
  | 116 => ⟨S16x2x4x1x64x1, .f32⟩
  | 117 => ⟨S16x2x4x1x1x64, .f32⟩
  | 118 => ⟨S16x2x4x1x64x64, .f32⟩
  | 119 => ⟨S16x2x4x1x64x64, .f32⟩
  | 120 => ⟨S16x2x4x1x64x64, .f32⟩
  | 121 => ⟨S_, .f32⟩
  | 122 => ⟨S_, .f32⟩
  | 123 => ⟨S16x2x4x1x64x64, .i1⟩
  | 124 => ⟨S16x2x4x1x64x64, .f32⟩
  | 125 => ⟨S16x2x4x1x64x64, .f32⟩
  | 126 => ⟨S16x2x4x1x64x64, .f32⟩
  | 127 => ⟨S16x2x1x64x64, .f32⟩
  | _ => ⟨S16x16x1024, .f32⟩

abbrev hbmTy0_1 (i : Nat) : BufTy := match i % 128 with
  | 0 => ⟨S16x2x1x1x64x64, .f32⟩
  | 1 => ⟨S16x2x4x1x64x64, .f32⟩
  | 2 => ⟨S16x2x4x1x64x64, .f32⟩
  | 3 => ⟨S16x1x2x4x64x64, .f32⟩
  | 4 => ⟨S16x1x64x2x4x64, .f32⟩
  | 5 => ⟨S16x2x4x1x1, .f32⟩
  | 6 => ⟨S16x2x4x1x64, .f32⟩
  | 7 => ⟨S16x2x4x1x64, .f32⟩
  | 8 => ⟨S16x2x4x1x64, .f32⟩
  | 9 => ⟨S16x1x64x2x4, .f32⟩
  | 10 => ⟨S16x1x64x2x4x1, .f32⟩
  | 11 => ⟨S16x1x64x2x4x64, .f32⟩
  | 12 => ⟨S16x1x64x2x4x64, .f32⟩
  | 13 => ⟨S1x16x2x4x64x128, .f32⟩
  | 14 => ⟨S16x2x4x1x1, .f32⟩
  | 15 => ⟨S16x2x4x1, .f32⟩
  | 16 => ⟨S16x2x4x1, .f32⟩
  | 17 => ⟨S1x16x2x4, .f32⟩
  | 18 => ⟨S16x2x4x64x128, .f32⟩
  | 19 => ⟨S16x2x4, .f32⟩
  | 20 => ⟨S16x2x4x1x1, .f32⟩
  | 21 => ⟨S16x2x4x64x128, .f32⟩
  | 22 => ⟨S16x2x4x64x128, .f32⟩
  | 23 => ⟨S16x2x4x64x128, .f32⟩
  | 24 => ⟨S16x2x4x64x128, .f32⟩
  | 25 => ⟨S1x16x2x4x64x128, .f32⟩
  | 26 => ⟨S16x1x2x4x64x64, .f32⟩
  | 27 => ⟨S16x1x64x2x4x64, .f32⟩
  | 28 => ⟨S16x2x4x1x64, .f32⟩
  | 29 => ⟨S16x1x64x2x4, .f32⟩
  | 30 => ⟨S16x1x64x2x4x1, .f32⟩
  | 31 => ⟨S16x1x64x2x4x64, .f32⟩
  | 32 => ⟨S16x1x64x2x4x64, .f32⟩
  | 33 => ⟨S16x1x64x2x4x64, .f32⟩
  | 34 => ⟨S16x64x8x64, .f32⟩
  | 35 => ⟨S16x16x8x64, .f32⟩
  | 36 => ⟨S16x8x64x128, .f32⟩
  | 37 => ⟨S8x1, .f32⟩
  | 38 => ⟨S1x1x8x1, .f32⟩
  | 39 => ⟨S16x16x8x64, .f32⟩
  | 40 => ⟨S16x16x8x64, .f32⟩
  | 41 => ⟨S16x16x8x64, .f32⟩
  | 42 => ⟨S16x16x512, .f32⟩
  | 43 => ⟨S16x16x512, .f32⟩
  | 44 => ⟨S16x16x512, .f32⟩
  | 45 => ⟨S_, .f32⟩
  | 46 => ⟨S16x16x512, .f32⟩
  | 47 => ⟨S16x16x512, .f32⟩
  | 48 => ⟨S_, .f32⟩
  | 49 => ⟨S16x16x512, .f32⟩
  | 50 => ⟨S16x16x512, .f32⟩
  | 51 => ⟨S16x16x512, .f32⟩
  | 52 => ⟨S16x16x512, .f32⟩
  | 53 => ⟨S16x16x2x256, .f32⟩
  | 54 => ⟨S2x256, .f32⟩
  | 55 => ⟨S16x16x2x256, .f32⟩
  | 56 => ⟨S_, .f32⟩
  | 57 => ⟨S16x16x2, .f32⟩
  | 58 => ⟨S16x16x2x1, .f32⟩
  | 59 => ⟨S_, .f32⟩
  | 60 => ⟨S16x16x2x1, .f32⟩
  | 61 => ⟨S16x16x2x1, .f32⟩
  | 62 => ⟨S_, .f32⟩
  | 63 => ⟨S16x16x2x1, .f32⟩
  | 64 => ⟨S16x16x2x1, .f32⟩
  | 65 => ⟨S16x16x2x1, .f32⟩
  | 66 => ⟨S16x16x2x256, .f32⟩
  | 67 => ⟨S16x16x2x256, .f32⟩
  | 68 => ⟨S1x1x2x256, .f32⟩
  | 69 => ⟨S16x16x2x256, .f32⟩
  | 70 => ⟨S16x16x2x256, .f32⟩
  | 71 => ⟨S16x16x512, .f32⟩
  | 72 => ⟨S16x16x512, .bf16⟩
  | 73 => ⟨S16x512x128, .f32⟩
  | _ => ⟨S16x16x1024, .f32⟩

abbrev hbmTy (i : Nat) : BufTy := match i / 128 with
  | 0 => hbmTy0_0 i
  | 1 => hbmTy0_1 i
  | _ => ⟨S16x16x1024, .f32⟩

abbrev bufTy : (tb : Table) → Fin (tcTables nBuf tb) → BufTy
  | .hbm, ⟨i, _⟩ => hbmTy i
  | _, _ => ⟨S16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c : Ref sig .tc := ⟨.hbm, 82, rfl⟩
abbrev main_call2_v0 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_0 : Ref sig .tc := ⟨.hbm, 89, rfl⟩
abbrev main_call3_v0 : Ref sig .tc := ⟨.hbm, 90, rfl⟩
abbrev main_v54 : Ref sig .tc := ⟨.hbm, 91, rfl⟩
abbrev main_v55 : Ref sig .tc := ⟨.hbm, 92, rfl⟩
abbrev main_c_1 : Ref sig .tc := ⟨.hbm, 93, rfl⟩
abbrev main_call4_v0 : Ref sig .tc := ⟨.hbm, 94, rfl⟩
abbrev main_v56 : Ref sig .tc := ⟨.hbm, 95, rfl⟩
abbrev main_v57 : Ref sig .tc := ⟨.hbm, 96, rfl⟩
abbrev main_c_2 : Ref sig .tc := ⟨.hbm, 97, rfl⟩
abbrev main_call5_v0 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_call6_call0_cst : Ref sig .tc := ⟨.hbm, 102, rfl⟩
abbrev main_call6_call0_v0 : Ref sig .tc := ⟨.hbm, 103, rfl⟩
abbrev main_v61 : Ref sig .tc := ⟨.hbm, 104, rfl⟩
abbrev main_c_3 : Ref sig .tc := ⟨.hbm, 105, rfl⟩
abbrev main_v62 : Ref sig .tc := ⟨.hbm, 106, rfl⟩
abbrev main_call7_v0 : Ref sig .tc := ⟨.hbm, 107, rfl⟩
abbrev main_call7_c : Ref sig .tc := ⟨.hbm, 108, rfl⟩
abbrev main_call7_v1 : Ref sig .tc := ⟨.hbm, 109, rfl⟩
abbrev main_call7_v2 : Ref sig .tc := ⟨.hbm, 110, rfl⟩
abbrev main_call7_v3 : Ref sig .tc := ⟨.hbm, 111, rfl⟩
abbrev main_call7_v4 : Ref sig .tc := ⟨.hbm, 112, rfl⟩
abbrev main_call7_c_0 : Ref sig .tc := ⟨.hbm, 113, rfl⟩
abbrev main_call7_v5 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_4 : Ref sig .tc := ⟨.hbm, 121, rfl⟩
abbrev main_call8_v0 : Ref sig .tc := ⟨.hbm, 122, rfl⟩
abbrev main_call8_v1 : Ref sig .tc := ⟨.hbm, 123, rfl⟩
abbrev main_call8_v2 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call9_v0 : Ref sig .tc := ⟨.hbm, 171, rfl⟩
abbrev main_call9_v1 : Ref sig .tc := ⟨.hbm, 172, rfl⟩
abbrev main_call9_cst : Ref sig .tc := ⟨.hbm, 173, rfl⟩
abbrev main_call9_v2 : Ref sig .tc := ⟨.hbm, 174, rfl⟩
abbrev main_call9_v3 : Ref sig .tc := ⟨.hbm, 175, rfl⟩
abbrev main_call9_cst_0 : Ref sig .tc := ⟨.hbm, 176, rfl⟩
abbrev main_call9_v4 : Ref sig .tc := ⟨.hbm, 177, rfl⟩
abbrev main_call9_v5 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_cst_5 : Ref sig .tc := ⟨.hbm, 184, rfl⟩
abbrev main_v120 : Ref sig .tc := ⟨.hbm, 185, rfl⟩
abbrev main_v121 : Ref sig .tc := ⟨.hbm, 186, rfl⟩
abbrev main_cst_6 : Ref sig .tc := ⟨.hbm, 187, rfl⟩
abbrev main_v122 : Ref sig .tc := ⟨.hbm, 188, rfl⟩
abbrev main_v123 : Ref sig .tc := ⟨.hbm, 189, rfl⟩
abbrev main_cst_7 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩

abbrev nD : Nat := 1
abbrev τ : Topo := Topo.v7x

variable {F : FTy → Type} [FloatOps F]
-- ==== Kernel9.lean ====
abbrev S32x4 : Shape := ⟨2, ![32, 4]⟩
abbrev S128 : Shape := ⟨1, ![128]⟩
abbrev S128x1 : Shape := ⟨2, ![128, 1]⟩
abbrev S1x128 : Shape := ⟨2, ![1, 128]⟩
abbrev S_ : Shape := ⟨0, ![]⟩
abbrev S128x128 : Shape := ⟨2, ![128, 128]⟩
abbrev S1x128x128 : Shape := ⟨3, ![1, 128, 128]⟩
abbrev S4x128x128 : Shape := ⟨3, ![4, 128, 128]⟩
abbrev S16 : Shape := ⟨1, ![16]⟩
abbrev S16x1 : Shape := ⟨2, ![16, 1]⟩
abbrev S2176 : Shape := ⟨1, ![2176]⟩
abbrev S1x2176 : Shape := ⟨2, ![1, 2176]⟩
abbrev S16x2176 : Shape := ⟨2, ![16, 2176]⟩
abbrev S4x5x128x128 : Shape := ⟨4, ![4, 5, 128, 128]⟩
abbrev S4x16x2176 : Shape := ⟨3, ![4, 16, 2176]⟩
abbrev S1x5x128x128 : Shape := ⟨4, ![1, 5, 128, 128]⟩
abbrev S1x16x2176 : Shape := ⟨3, ![1, 16, 2176]⟩
abbrev S1x1 : Shape := ⟨2, ![1, 1]⟩
abbrev S1x1x128x128 : Shape := ⟨4, ![1, 1, 128, 128]⟩

abbrev nBuf : Space → Nat
  | .hbm => 222
  | .vmem => 6
  | .smem => 1
  | _ => 0

abbrev hbmTy0_0 (i : Nat) : BufTy := match i % 128 with
  | 0 => ⟨S32x4, .f32⟩
  | 1 => ⟨S128, .i32⟩
  | 2 => ⟨S128x1, .i32⟩
  | 3 => ⟨S128, .i32⟩
  | 4 => ⟨S1x128, .i32⟩
  | 5 => ⟨S_, .i32⟩
  | 6 => ⟨S128x128, .i32⟩
  | 7 => ⟨S128x128, .i32⟩
  | 8 => ⟨S_, .i32⟩
  | 9 => ⟨S128x128, .i32⟩
  | 10 => ⟨S128x128, .i32⟩
  | 11 => ⟨S128x128, .f32⟩
  | 12 => ⟨S_, .f32⟩
  | 13 => ⟨S128x128, .f32⟩
  | 14 => ⟨S128x128, .f32⟩
  | 15 => ⟨S128x128, .f32⟩
  | 16 => ⟨S_, .f32⟩
  | 17 => ⟨S128x128, .f32⟩
  | 18 => ⟨S128x128, .f32⟩
  | 19 => ⟨S_, .f32⟩
  | 20 => ⟨S128x128, .f32⟩
  | 21 => ⟨S128x128, .f32⟩
  | 22 => ⟨S128x128, .i32⟩
  | 23 => ⟨S_, .i32⟩
  | 24 => ⟨S128x128, .i32⟩
  | 25 => ⟨S128x128, .i32⟩
  | 26 => ⟨S_, .i32⟩
  | 27 => ⟨S128x128, .i32⟩
  | 28 => ⟨S128x128, .i32⟩
  | 29 => ⟨S_, .i32⟩
  | 30 => ⟨S128x128, .i32⟩
  | 31 => ⟨S128x128, .i1⟩
  | 32 => ⟨S_, .i32⟩
  | 33 => ⟨S_, .i32⟩
  | 34 => ⟨S128x128, .i32⟩
  | 35 => ⟨S128x128, .i32⟩
  | 36 => ⟨S128x128, .i32⟩
  | 37 => ⟨S_, .i32⟩
  | 38 => ⟨S128x128, .i32⟩
  | 39 => ⟨S128x128, .i1⟩
  | 40 => ⟨S128x128, .i32⟩
  | 41 => ⟨S128x128, .i32⟩
  | 42 => ⟨S128x128, .i32⟩
  | 43 => ⟨S_, .i32⟩
  | 44 => ⟨S1x128, .i32⟩
  | 45 => ⟨S1x128, .i32⟩
  | 46 => ⟨S128x128, .i32⟩
  | 47 => ⟨S128x128, .i32⟩
  | 48 => ⟨S128x128, .i32⟩
  | 49 => ⟨S128x128, .i32⟩
  | 50 => ⟨S_, .i32⟩
  | 51 => ⟨S128x128, .i32⟩
  | 52 => ⟨S128x128, .i32⟩
  | 53 => ⟨S128x128, .f32⟩
  | 54 => ⟨S_, .f32⟩
  | 55 => ⟨S128x128, .f32⟩
  | 56 => ⟨S128x128, .f32⟩
  | 57 => ⟨S128x128, .f32⟩
  | 58 => ⟨S_, .f32⟩
  | 59 => ⟨S128x128, .f32⟩
  | 60 => ⟨S128x128, .f32⟩
  | 61 => ⟨S_, .f32⟩
  | 62 => ⟨S128x128, .f32⟩
  | 63 => ⟨S128x128, .f32⟩
  | 64 => ⟨S128x128, .i32⟩
  | 65 => ⟨S_, .i32⟩
  | 66 => ⟨S128x128, .i32⟩
  | 67 => ⟨S128x128, .i32⟩
  | 68 => ⟨S_, .i32⟩
  | 69 => ⟨S128x128, .i32⟩
  | 70 => ⟨S128x128, .i32⟩
  | 71 => ⟨S_, .i32⟩
  | 72 => ⟨S128x128, .i32⟩
  | 73 => ⟨S128x128, .i1⟩
  | 74 => ⟨S_, .i32⟩
  | 75 => ⟨S_, .i32⟩
  | 76 => ⟨S128x128, .i32⟩
  | 77 => ⟨S128x128, .i32⟩
  | 78 => ⟨S128x128, .i32⟩
  | 79 => ⟨S_, .i32⟩
  | 80 => ⟨S128x128, .i32⟩
  | 81 => ⟨S128x128, .i1⟩
  | 82 => ⟨S128x128, .i32⟩
  | 83 => ⟨S128x128, .i32⟩
  | 84 => ⟨S128x128, .i32⟩
  | 85 => ⟨S_, .i32⟩
  | 86 => ⟨S1x128, .i32⟩
  | 87 => ⟨S1x128, .i32⟩
  | 88 => ⟨S128x128, .i32⟩
  | 89 => ⟨S128x128, .i32⟩
  | 90 => ⟨S128x128, .i32⟩
  | 91 => ⟨S128x128, .i32⟩
  | 92 => ⟨S_, .i32⟩
  | 93 => ⟨S128x128, .i32⟩
  | 94 => ⟨S128x128, .i32⟩
  | 95 => ⟨S128x128, .f32⟩
  | 96 => ⟨S_, .f32⟩
  | 97 => ⟨S128x128, .f32⟩
  | 98 => ⟨S128x128, .f32⟩
  | 99 => ⟨S128x128, .f32⟩
  | 100 => ⟨S_, .f32⟩
  | 101 => ⟨S128x128, .f32⟩
  | 102 => ⟨S128x128, .f32⟩
  | 103 => ⟨S_, .f32⟩
  | 104 => ⟨S128x128, .f32⟩
  | 105 => ⟨S128x128, .f32⟩
  | 106 => ⟨S128x128, .i32⟩
  | 107 => ⟨S_, .i32⟩
  | 108 => ⟨S128x128, .i32⟩
  | 109 => ⟨S128x128, .i32⟩
  | 110 => ⟨S_, .i32⟩
  | 111 => ⟨S128x128, .i32⟩
  | 112 => ⟨S128x128, .i32⟩
  | 113 => ⟨S_, .i32⟩
  | 114 => ⟨S128x128, .i32⟩
  | 115 => ⟨S128x128, .i1⟩
  | 116 => ⟨S_, .i32⟩
  | 117 => ⟨S_, .i32⟩
  | 118 => ⟨S128x128, .i32⟩
  | 119 => ⟨S128x128, .i32⟩
  | 120 => ⟨S128x128, .i32⟩
  | 121 => ⟨S_, .i32⟩
  | 122 => ⟨S128x128, .i32⟩
  | 123 => ⟨S128x128, .i1⟩
  | 124 => ⟨S128x128, .i32⟩
  | 125 => ⟨S128x128, .i32⟩
  | 126 => ⟨S128x128, .i32⟩
  | 127 => ⟨S_, .i32⟩
  | _ => ⟨S32x4, .f32⟩

abbrev hbmTy0_1 (i : Nat) : BufTy := match i % 128 with
  | 0 => ⟨S1x128, .i32⟩
  | 1 => ⟨S1x128, .i32⟩
  | 2 => ⟨S128x128, .i32⟩
  | 3 => ⟨S128x128, .i32⟩
  | 4 => ⟨S128x128, .i32⟩
  | 5 => ⟨S128x128, .i32⟩
  | 6 => ⟨S_, .i32⟩
  | 7 => ⟨S128x128, .i32⟩
  | 8 => ⟨S128x128, .i32⟩
  | 9 => ⟨S128x128, .f32⟩
  | 10 => ⟨S_, .f32⟩
  | 11 => ⟨S128x128, .f32⟩
  | 12 => ⟨S128x128, .f32⟩
  | 13 => ⟨S128x128, .f32⟩
  | 14 => ⟨S_, .f32⟩
  | 15 => ⟨S128x128, .f32⟩
  | 16 => ⟨S128x128, .f32⟩
  | 17 => ⟨S_, .f32⟩
  | 18 => ⟨S128x128, .f32⟩
  | 19 => ⟨S128x128, .f32⟩
  | 20 => ⟨S128x128, .i32⟩
  | 21 => ⟨S_, .i32⟩
  | 22 => ⟨S128x128, .i32⟩
  | 23 => ⟨S128x128, .i32⟩
  | 24 => ⟨S_, .i32⟩
  | 25 => ⟨S128x128, .i32⟩
  | 26 => ⟨S128x128, .i32⟩
  | 27 => ⟨S_, .i32⟩
  | 28 => ⟨S128x128, .i32⟩
  | 29 => ⟨S128x128, .i1⟩
  | 30 => ⟨S_, .i32⟩
  | 31 => ⟨S_, .i32⟩
  | 32 => ⟨S128x128, .i32⟩
  | 33 => ⟨S128x128, .i32⟩
  | 34 => ⟨S128x128, .i32⟩
  | 35 => ⟨S_, .i32⟩
  | 36 => ⟨S128x128, .i32⟩
  | 37 => ⟨S128x128, .i1⟩
  | 38 => ⟨S128x128, .i32⟩
  | 39 => ⟨S128x128, .i32⟩
  | 40 => ⟨S128x128, .i32⟩
  | 41 => ⟨S1x128x128, .i32⟩
  | 42 => ⟨S1x128x128, .i32⟩
  | 43 => ⟨S1x128x128, .i32⟩
  | 44 => ⟨S1x128x128, .i32⟩
  | 45 => ⟨S4x128x128, .i32⟩
  | 46 => ⟨S16, .i32⟩
  | 47 => ⟨S16x1, .i32⟩
  | 48 => ⟨S_, .i32⟩
  | 49 => ⟨S16x1, .i32⟩
  | 50 => ⟨S16x1, .i32⟩
  | 51 => ⟨S2176, .i32⟩
  | 52 => ⟨S1x2176, .i32⟩
  | 53 => ⟨S16x2176, .i32⟩
  | 54 => ⟨S16x2176, .i32⟩
  | 55 => ⟨S16x2176, .i32⟩
  | 56 => ⟨S16x2176, .i32⟩
  | 57 => ⟨S_, .i32⟩
  | 58 => ⟨S16x2176, .i32⟩
  | 59 => ⟨S16x2176, .i32⟩
  | 60 => ⟨S16x2176, .f32⟩
  | 61 => ⟨S_, .f32⟩
  | 62 => ⟨S16x2176, .f32⟩
  | 63 => ⟨S16x2176, .f32⟩
  | 64 => ⟨S16x2176, .f32⟩
  | 65 => ⟨S_, .f32⟩
  | 66 => ⟨S16x2176, .f32⟩
  | 67 => ⟨S16x2176, .f32⟩
  | 68 => ⟨S_, .f32⟩
  | 69 => ⟨S16x2176, .f32⟩
  | 70 => ⟨S16x2176, .f32⟩
  | 71 => ⟨S16x2176, .i32⟩
  | 72 => ⟨S_, .i32⟩
  | 73 => ⟨S16x2176, .i32⟩
  | 74 => ⟨S16x2176, .i32⟩
  | 75 => ⟨S_, .i32⟩
  | 76 => ⟨S16x2176, .i32⟩
  | 77 => ⟨S16x2176, .i32⟩
  | 78 => ⟨S_, .i32⟩
  | 79 => ⟨S16x2176, .i32⟩
  | 80 => ⟨S16x2176, .i1⟩
  | 81 => ⟨S_, .i32⟩
  | 82 => ⟨S_, .i32⟩
  | 83 => ⟨S16x2176, .i32⟩
  | 84 => ⟨S16x2176, .i32⟩
  | 85 => ⟨S16x2176, .i32⟩
  | 86 => ⟨S_, .i32⟩
  | 87 => ⟨S16x2176, .i32⟩
  | 88 => ⟨S16x2176, .i1⟩
  | 89 => ⟨S16x2176, .i32⟩
  | 90 => ⟨S16x2176, .i32⟩
  | 91 => ⟨S16x2176, .i32⟩
  | 92 => ⟨S4x5x128x128, .f32⟩
  | 93 => ⟨S4x16x2176, .f32⟩
  | _ => ⟨S32x4, .f32⟩

abbrev hbmTy (i : Nat) : BufTy := match i / 128 with
  | 0 => hbmTy0_0 i
  | 1 => hbmTy0_1 i
  | _ => ⟨S32x4, .f32⟩

abbrev bufTy : (tb : Table) → Fin (tcTables nBuf tb) → BufTy
  | .hbm, ⟨i, _⟩ => hbmTy i
  | .local _ .vmem, ⟨0, _⟩ => ⟨S4x128x128, .i32⟩
  | .local _ .vmem, ⟨1, _⟩ => ⟨S16x2176, .i32⟩
  | .local _ .vmem, ⟨2, _⟩ => ⟨S1x5x128x128, .f32⟩
  | .local _ .vmem, ⟨3, _⟩ => ⟨S1x5x128x128, .f32⟩
  | .local _ .vmem, ⟨4, _⟩ => ⟨S1x16x2176, .f32⟩
  | .local _ .vmem, ⟨5, _⟩ => ⟨S1x16x2176, .f32⟩
  | .local _ .smem, ⟨0, _⟩ => ⟨S32x4, .f32⟩
  | _, _ => ⟨S32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_c_4 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_c_6 : Ref sig .tc := ⟨.hbm, 32, rfl⟩
abbrev main_c_7 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_c_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_12 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_14 : Ref sig .tc := ⟨.hbm, 65, rfl⟩
abbrev main_v46 : Ref sig .tc := ⟨.hbm, 66, rfl⟩
abbrev main_v47 : Ref sig .tc := ⟨.hbm, 67, rfl⟩
abbrev main_c_15 : Ref sig .tc := ⟨.hbm, 68, rfl⟩
abbrev main_v48 : Ref sig .tc := ⟨.hbm, 69, rfl⟩
abbrev main_v49 : Ref sig .tc := ⟨.hbm, 70, rfl⟩
abbrev main_c_16 : Ref sig .tc := ⟨.hbm, 71, rfl⟩
abbrev main_v50 : Ref sig .tc := ⟨.hbm, 72, rfl⟩
abbrev main_v51 : Ref sig .tc := ⟨.hbm, 73, rfl⟩
abbrev main_c_17 : Ref sig .tc := ⟨.hbm, 74, rfl⟩
abbrev main_c_18 : Ref sig .tc := ⟨.hbm, 75, rfl⟩
abbrev main_call2_v0 : Ref sig .tc := ⟨.hbm, 76, rfl⟩
abbrev main_call2_v1 : Ref sig .tc := ⟨.hbm, 77, rfl⟩
abbrev main_v52 : Ref sig .tc := ⟨.hbm, 78, rfl⟩
abbrev main_c_19 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_20 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_21 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_22 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_23 : Ref sig .tc := ⟨.hbm, 100, rfl⟩
abbrev main_v70 : Ref sig .tc := ⟨.hbm, 101, rfl⟩
abbrev main_v71 : Ref sig .tc := ⟨.hbm, 102, rfl⟩
abbrev main_cst_24 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_25 : Ref sig .tc := ⟨.hbm, 107, rfl⟩
abbrev main_v75 : Ref sig .tc := ⟨.hbm, 108, rfl⟩
abbrev main_v76 : Ref sig .tc := ⟨.hbm, 109, rfl⟩
abbrev main_c_26 : Ref sig .tc := ⟨.hbm, 110, rfl⟩
abbrev main_v77 : Ref sig .tc := ⟨.hbm, 111, rfl⟩
abbrev main_v78 : Ref sig .tc := ⟨.hbm, 112, rfl⟩
abbrev main_c_27 : Ref sig .tc := ⟨.hbm, 113, rfl⟩
abbrev main_v79 : Ref sig .tc := ⟨.hbm, 114, rfl⟩
abbrev main_v80 : Ref sig .tc := ⟨.hbm, 115, rfl⟩
abbrev main_c_28 : Ref sig .tc := ⟨.hbm, 116, rfl⟩
abbrev main_c_29 : Ref sig .tc := ⟨.hbm, 117, rfl⟩
abbrev main_call4_v0 : Ref sig .tc := ⟨.hbm, 118, rfl⟩
abbrev main_call4_v1 : Ref sig .tc := ⟨.hbm, 119, rfl⟩
abbrev main_v81 : Ref sig .tc := ⟨.hbm, 120, rfl⟩
abbrev main_c_30 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_31 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_32 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_33 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_34 : Ref sig .tc := ⟨.hbm, 142, rfl⟩
abbrev main_v99 : Ref sig .tc := ⟨.hbm, 143, rfl⟩
abbrev main_v100 : Ref sig .tc := ⟨.hbm, 144, rfl⟩
abbrev main_cst_35 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_36 : Ref sig .tc := ⟨.hbm, 149, rfl⟩
abbrev main_v104 : Ref sig .tc := ⟨.hbm, 150, rfl⟩
abbrev main_v105 : Ref sig .tc := ⟨.hbm, 151, rfl⟩
abbrev main_c_37 : Ref sig .tc := ⟨.hbm, 152, rfl⟩
abbrev main_v106 : Ref sig .tc := ⟨.hbm, 153, rfl⟩
abbrev main_v107 : Ref sig .tc := ⟨.hbm, 154, rfl⟩
abbrev main_c_38 : Ref sig .tc := ⟨.hbm, 155, rfl⟩
abbrev main_v108 : Ref sig .tc := ⟨.hbm, 156, rfl⟩
abbrev main_v109 : Ref sig .tc := ⟨.hbm, 157, rfl⟩
abbrev main_c_39 : Ref sig .tc := ⟨.hbm, 158, rfl⟩
abbrev main_c_40 : Ref sig .tc := ⟨.hbm, 159, rfl⟩
abbrev main_call6_v0 : Ref sig .tc := ⟨.hbm, 160, rfl⟩
abbrev main_call6_v1 : Ref sig .tc := ⟨.hbm, 161, rfl⟩
abbrev main_v110 : Ref sig .tc := ⟨.hbm, 162, rfl⟩
abbrev main_c_41 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_c_42 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_43 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_cst_44 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_45 : Ref sig .tc := ⟨.hbm, 193, rfl⟩
abbrev main_v137 : Ref sig .tc := ⟨.hbm, 194, rfl⟩
abbrev main_v138 : Ref sig .tc := ⟨.hbm, 195, rfl⟩
abbrev main_cst_46 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_c_47 : Ref sig .tc := ⟨.hbm, 200, rfl⟩
abbrev main_v142 : Ref sig .tc := ⟨.hbm, 201, rfl⟩
abbrev main_v143 : Ref sig .tc := ⟨.hbm, 202, rfl⟩
abbrev main_c_48 : Ref sig .tc := ⟨.hbm, 203, rfl⟩
abbrev main_v144 : Ref sig .tc := ⟨.hbm, 204, rfl⟩
abbrev main_v145 : Ref sig .tc := ⟨.hbm, 205, rfl⟩
abbrev main_c_49 : Ref sig .tc := ⟨.hbm, 206, rfl⟩
abbrev main_v146 : Ref sig .tc := ⟨.hbm, 207, rfl⟩
abbrev main_v147 : Ref sig .tc := ⟨.hbm, 208, rfl⟩
abbrev main_c_50 : Ref sig .tc := ⟨.hbm, 209, rfl⟩
abbrev main_c_51 : Ref sig .tc := ⟨.hbm, 210, rfl⟩
abbrev main_call8_v0 : Ref sig .tc := ⟨.hbm, 211, rfl⟩
abbrev main_call8_v1 : Ref sig .tc := ⟨.hbm, 212, rfl⟩
abbrev main_v148 : Ref sig .tc := ⟨.hbm, 213, rfl⟩
abbrev main_c_52 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154_0 : Ref sig .tc := ⟨.hbm, 220, rfl⟩
abbrev main_v154_1 : Ref sig .tc := ⟨.hbm, 221, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_4 : Index := 0#32
  let arg0 : BitVec 32 := BitVec.ofNat 32 (i 0).val
  let v15 : Index := Scalar.indexCast arg0
  ![0, v15.toNat]
def k0_off2 (i : grid0.Coords) : Fin 2 → Nat :=
  let c1 : Index := 1#32
  let arg0 : BitVec 32 := BitVec.ofNat 32 (i 0).val
  let v21 : Index := Scalar.indexCast arg0
  ![1, v21.toNat]
def k0_off3 (i : grid0.Coords) : Fin 2 → Nat :=
  let c2 : Index := 2#32
  let arg0 : BitVec 32 := BitVec.ofNat 32 (i 0).val
  let v27 : Index := Scalar.indexCast arg0
  ![2, v27.toNat]
def k0_off4 (i : grid0.Coords) : Fin 2 → Nat :=
  let c3 : Index := 3#32
  let arg0 : BitVec 32 := BitVec.ofNat 32 (i 0).val
  let v33 : Index := Scalar.indexCast arg0
  ![3, v33.toNat]
def k0_off5 (i : grid0.Coords) : Fin 2 → Nat :=
  let c4 : Index := 4#32
  let arg0 : BitVec 32 := BitVec.ofNat 32 (i 0).val
  let v39 : Index := Scalar.indexCast arg0
  ![4, v39.toNat]
def k0_off6 (i : grid0.Coords) : Fin 2 → Nat :=
  let c5 : Index := 5#32
  let arg0 : BitVec 32 := BitVec.ofNat 32 (i 0).val
  let v45 : Index := Scalar.indexCast arg0
  ![5, v45.toNat]
def k0_off7 (i : grid0.Coords) : Fin 2 → Nat :=
  let c6 : Index := 6#32
  let arg0 : BitVec 32 := BitVec.ofNat 32 (i 0).val
  let v51 : Index := Scalar.indexCast arg0
  ![6, v51.toNat]
def k0_off8 (i : grid0.Coords) : Fin 2 → Nat :=
  let c7 : Index := 7#32
  let arg0 : BitVec 32 := BitVec.ofNat 32 (i 0).val
  let v57 : Index := Scalar.indexCast arg0
  ![7, v57.toNat]
def k0_off9 (i : grid0.Coords) : Fin 2 → Nat :=
  let c8 : Index := 8#32
  let arg0 : BitVec 32 := BitVec.ofNat 32 (i 0).val
  let v63 : Index := Scalar.indexCast arg0
  ![8, v63.toNat]
def k0_off10 (i : grid0.Coords) : Fin 2 → Nat :=
  let c9 : Index := 9#32
  let arg0 : BitVec 32 := BitVec.ofNat 32 (i 0).val
  let v69 : Index := Scalar.indexCast arg0
  ![9, v69.toNat]
def k0_off11 (i : grid0.Coords) : Fin 2 → Nat :=
  let c10 : Index := 10#32
  let arg0 : BitVec 32 := BitVec.ofNat 32 (i 0).val
  let v75 : Index := Scalar.indexCast arg0
  ![10, v75.toNat]
def k0_off12 (i : grid0.Coords) : Fin 2 → Nat :=
  let c11 : Index := 11#32
  let arg0 : BitVec 32 := BitVec.ofNat 32 (i 0).val
  let v81 : Index := Scalar.indexCast arg0
  ![11, v81.toNat]
def k0_off13 (i : grid0.Coords) : Fin 2 → Nat :=
  let c12 : Index := 12#32
  let arg0 : BitVec 32 := BitVec.ofNat 32 (i 0).val
  let v87 : Index := Scalar.indexCast arg0
  ![12, v87.toNat]
def k0_off14 (i : grid0.Coords) : Fin 2 → Nat :=
  let c13 : Index := 13#32
  let arg0 : BitVec 32 := BitVec.ofNat 32 (i 0).val
  let v93 : Index := Scalar.indexCast arg0
  ![13, v93.toNat]
def k0_off15 (i : grid0.Coords) : Fin 2 → Nat :=
  let c14 : Index := 14#32
  let arg0 : BitVec 32 := BitVec.ofNat 32 (i 0).val
  let v99 : Index := Scalar.indexCast arg0
  ![14, v99.toNat]
def k0_off16 (i : grid0.Coords) : Fin 2 → Nat :=
  let c15 : Index := 15#32
  let arg0 : BitVec 32 := BitVec.ofNat 32 (i 0).val
  let v105 : Index := Scalar.indexCast arg0
  ![15, v105.toNat]
def k0_off17 (i : grid0.Coords) : Fin 2 → Nat :=
  let c16 : Index := 16#32
  let arg0 : BitVec 32 := BitVec.ofNat 32 (i 0).val
  let v111 : Index := Scalar.indexCast arg0
  ![16, v111.toNat]
def k0_off18 (i : grid0.Coords) : Fin 2 → Nat :=
  let c17 : Index := 17#32
  let arg0 : BitVec 32 := BitVec.ofNat 32 (i 0).val
  let v117 : Index := Scalar.indexCast arg0
  ![17, v117.toNat]
def k0_off19 (i : grid0.Coords) : Fin 2 → Nat :=
  let c18 : Index := 18#32
  let arg0 : BitVec 32 := BitVec.ofNat 32 (i 0).val
  let v123 : Index := Scalar.indexCast arg0
  ![18, v123.toNat]
def k0_off20 (i : grid0.Coords) : Fin 2 → Nat :=
  let c19 : Index := 19#32
  let arg0 : BitVec 32 := BitVec.ofNat 32 (i 0).val
  let v129 : Index := Scalar.indexCast arg0
  ![19, v129.toNat]
def k0_off21 (i : grid0.Coords) : Fin 2 → Nat :=
  let c20 : Index := 20#32
  let arg0 : BitVec 32 := BitVec.ofNat 32 (i 0).val
  let v135 : Index := Scalar.indexCast arg0
  ![20, v135.toNat]
def k0_off22 (i : grid0.Coords) : Fin 2 → Nat :=
  let c21 : Index := 21#32
  let arg0 : BitVec 32 := BitVec.ofNat 32 (i 0).val
  let v141 : Index := Scalar.indexCast arg0
  ![21, v141.toNat]
def k0_off23 (i : grid0.Coords) : Fin 2 → Nat :=
  let c22 : Index := 22#32
  let arg0 : BitVec 32 := BitVec.ofNat 32 (i 0).val
  let v147 : Index := Scalar.indexCast arg0
  ![22, v147.toNat]
def k0_off24 (i : grid0.Coords) : Fin 2 → Nat :=
  let c23 : Index := 23#32
  let arg0 : BitVec 32 := BitVec.ofNat 32 (i 0).val
  let v153 : Index := Scalar.indexCast arg0
  ![23, v153.toNat]
def k0_off25 (i : grid0.Coords) : Fin 2 → Nat :=
  let c24 : Index := 24#32
  let arg0 : BitVec 32 := BitVec.ofNat 32 (i 0).val
  let v159 : Index := Scalar.indexCast arg0
  ![24, v159.toNat]
def k0_off26 (i : grid0.Coords) : Fin 2 → Nat :=
  let c25 : Index := 25#32
  let arg0 : BitVec 32 := BitVec.ofNat 32 (i 0).val
  let v165 : Index := Scalar.indexCast arg0
  ![25, v165.toNat]
def k0_off27 (i : grid0.Coords) : Fin 2 → Nat :=
  let c26 : Index := 26#32
  let arg0 : BitVec 32 := BitVec.ofNat 32 (i 0).val
  let v171 : Index := Scalar.indexCast arg0
  ![26, v171.toNat]
def k0_off28 (i : grid0.Coords) : Fin 2 → Nat :=
  let c27 : Index := 27#32
  let arg0 : BitVec 32 := BitVec.ofNat 32 (i 0).val
  let v177 : Index := Scalar.indexCast arg0
  ![27, v177.toNat]
def k0_off29 (i : grid0.Coords) : Fin 2 → Nat :=
  let c28 : Index := 28#32
  let arg0 : BitVec 32 := BitVec.ofNat 32 (i 0).val
  let v183 : Index := Scalar.indexCast arg0
  ![28, v183.toNat]
def k0_off30 (i : grid0.Coords) : Fin 2 → Nat :=
  let c29 : Index := 29#32
  let arg0 : BitVec 32 := BitVec.ofNat 32 (i 0).val
  let v189 : Index := Scalar.indexCast arg0
  ![29, v189.toNat]
def k0_off31 (i : grid0.Coords) : Fin 2 → Nat :=
  let c30 : Index := 30#32
  let arg0 : BitVec 32 := BitVec.ofNat 32 (i 0).val
  let v195 : Index := Scalar.indexCast arg0
  ![30, v195.toNat]
def k0_off32 (i : grid0.Coords) : Fin 2 → Nat :=
  let c31 : Index := 31#32
  let arg0 : BitVec 32 := BitVec.ofNat 32 (i 0).val
  let v201 : Index := Scalar.indexCast arg0
  ![31, v201.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x2176 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x5x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S32x4 : Shape := ⟨2, ![32, 4]⟩
abbrev S128 : Shape := ⟨1, ![128]⟩
abbrev S_ : Shape := ⟨0, ![]⟩
abbrev S640 : Shape := ⟨1, ![640]⟩
abbrev S1x640 : Shape := ⟨2, ![1, 640]⟩
abbrev S128x1 : Shape := ⟨2, ![128, 1]⟩
abbrev S128x640 : Shape := ⟨2, ![128, 640]⟩
abbrev S128x640x1 : Shape := ⟨3, ![128, 640, 1]⟩
abbrev S128x640x4 : Shape := ⟨3, ![128, 640, 4]⟩
abbrev S4x128x640 : Shape := ⟨3, ![4, 128, 640]⟩
abbrev S1x4x128x640 : Shape := ⟨4, ![1, 4, 128, 640]⟩
abbrev S4x128x5x128 : Shape := ⟨4, ![4, 128, 5, 128]⟩
abbrev S4x5x128x128 : Shape := ⟨4, ![4, 5, 128, 128]⟩
abbrev S16 : Shape := ⟨1, ![16]⟩
abbrev S2064 : Shape := ⟨1, ![2064]⟩
abbrev S1x2064 : Shape := ⟨2, ![1, 2064]⟩
abbrev S16x1 : Shape := ⟨2, ![16, 1]⟩
abbrev S16x2064 : Shape := ⟨2, ![16, 2064]⟩
abbrev S16x2064x1 : Shape := ⟨3, ![16, 2064, 1]⟩
abbrev S16x2064x4 : Shape := ⟨3, ![16, 2064, 4]⟩
abbrev S4x16x2064 : Shape := ⟨3, ![4, 16, 2064]⟩
abbrev S1x4x16x2064 : Shape := ⟨4, ![1, 4, 16, 2064]⟩
abbrev S4x16x2176 : Shape := ⟨3, ![4, 16, 2176]⟩

abbrev nBuf : Space → Nat
  | .hbm => 234
  | .vmem => 0
  | .smem => 0
  | _ => 0

abbrev hbmTy0_0 (i : Nat) : BufTy := match i % 128 with
  | 0 => ⟨S32x4, .f32⟩
  | 1 => ⟨S128, .i32⟩
  | 2 => ⟨S_, .i32⟩
  | 3 => ⟨S128, .i32⟩
  | 4 => ⟨S128, .i32⟩
  | 5 => ⟨S640, .i32⟩
  | 6 => ⟨S1x640, .i32⟩
  | 7 => ⟨S128x1, .i32⟩
  | 8 => ⟨S128x640, .i32⟩
  | 9 => ⟨S128x640, .i32⟩
  | 10 => ⟨S128x640, .i32⟩
  | 11 => ⟨S128x640, .i32⟩
  | 12 => ⟨S_, .i32⟩
  | 13 => ⟨S128x640, .i32⟩
  | 14 => ⟨S128x640, .i32⟩
  | 15 => ⟨S128x640, .f32⟩
  | 16 => ⟨S_, .f32⟩
  | 17 => ⟨S128x640, .f32⟩
  | 18 => ⟨S128x640, .f32⟩
  | 19 => ⟨S128x640, .f32⟩
  | 20 => ⟨S_, .f32⟩
  | 21 => ⟨S128x640, .f32⟩
  | 22 => ⟨S128x640, .f32⟩
  | 23 => ⟨S_, .f32⟩
  | 24 => ⟨S128x640, .f32⟩
  | 25 => ⟨S128x640, .f32⟩
  | 26 => ⟨S128x640, .i32⟩
  | 27 => ⟨S_, .i32⟩
  | 28 => ⟨S128x640, .i32⟩
  | 29 => ⟨S128x640, .i32⟩
  | 30 => ⟨S_, .i32⟩
  | 31 => ⟨S128x640, .i32⟩
  | 32 => ⟨S128x640, .i32⟩
  | 33 => ⟨S_, .i32⟩
  | 34 => ⟨S128x640, .i32⟩
  | 35 => ⟨S128x640, .i1⟩
  | 36 => ⟨S_, .i32⟩
  | 37 => ⟨S_, .i32⟩
  | 38 => ⟨S128x640, .i32⟩
  | 39 => ⟨S128x640, .i32⟩
  | 40 => ⟨S128x640, .i32⟩
  | 41 => ⟨S_, .i32⟩
  | 42 => ⟨S128x640, .i32⟩
  | 43 => ⟨S128x640, .i1⟩
  | 44 => ⟨S128x640, .i32⟩
  | 45 => ⟨S128x640, .i32⟩
  | 46 => ⟨S128x640, .i32⟩
  | 47 => ⟨S_, .i32⟩
  | 48 => ⟨S128x640, .i32⟩
  | 49 => ⟨S128x640, .i1⟩
  | 50 => ⟨S_, .i32⟩
  | 51 => ⟨S128x640, .i32⟩
  | 52 => ⟨S128x640, .i32⟩
  | 53 => ⟨S128x640, .i32⟩
  | 54 => ⟨S128x640x1, .i32⟩
  | 55 => ⟨S128x640x4, .f32⟩
  | 56 => ⟨S4x128x640, .f32⟩
  | 57 => ⟨S_, .i32⟩
  | 58 => ⟨S128, .i32⟩
  | 59 => ⟨S128, .i1⟩
  | 60 => ⟨S_, .i32⟩
  | 61 => ⟨S128, .i32⟩
  | 62 => ⟨S128, .i32⟩
  | 63 => ⟨S_, .i32⟩
  | 64 => ⟨S_, .i32⟩
  | 65 => ⟨S128, .i32⟩
  | 66 => ⟨S128, .i32⟩
  | 67 => ⟨S128, .i32⟩
  | 68 => ⟨S_, .i32⟩
  | 69 => ⟨S128, .i32⟩
  | 70 => ⟨S128, .i1⟩
  | 71 => ⟨S128, .i32⟩
  | 72 => ⟨S128, .i32⟩
  | 73 => ⟨S_, .i32⟩
  | 74 => ⟨S128, .i32⟩
  | 75 => ⟨S128, .i1⟩
  | 76 => ⟨S128, .i1⟩
  | 77 => ⟨S_, .i32⟩
  | 78 => ⟨S128, .i32⟩
  | 79 => ⟨S128, .i32⟩
  | 80 => ⟨S128, .i32⟩
  | 81 => ⟨S_, .i32⟩
  | 82 => ⟨S_, .i32⟩
  | 83 => ⟨S128, .i32⟩
  | 84 => ⟨S128, .i32⟩
  | 85 => ⟨S_, .i32⟩
  | 86 => ⟨S640, .i32⟩
  | 87 => ⟨S640, .i1⟩
  | 88 => ⟨S_, .i32⟩
  | 89 => ⟨S640, .i32⟩
  | 90 => ⟨S640, .i32⟩
  | 91 => ⟨S_, .i32⟩
  | 92 => ⟨S_, .i32⟩
  | 93 => ⟨S640, .i32⟩
  | 94 => ⟨S640, .i32⟩
  | 95 => ⟨S640, .i32⟩
  | 96 => ⟨S_, .i32⟩
  | 97 => ⟨S640, .i32⟩
  | 98 => ⟨S640, .i1⟩
  | 99 => ⟨S640, .i32⟩
  | 100 => ⟨S640, .i32⟩
  | 101 => ⟨S_, .i32⟩
  | 102 => ⟨S640, .i32⟩
  | 103 => ⟨S640, .i1⟩
  | 104 => ⟨S640, .i1⟩
  | 105 => ⟨S_, .i32⟩
  | 106 => ⟨S640, .i32⟩
  | 107 => ⟨S640, .i32⟩
  | 108 => ⟨S640, .i32⟩
  | 109 => ⟨S_, .i32⟩
  | 110 => ⟨S_, .i32⟩
  | 111 => ⟨S640, .i32⟩
  | 112 => ⟨S640, .i32⟩
  | 113 => ⟨S1x640, .i32⟩
  | 114 => ⟨S128x1, .i32⟩
  | 115 => ⟨S128x640, .i32⟩
  | 116 => ⟨S128x640, .i32⟩
  | 117 => ⟨S128x640, .i1⟩
  | 118 => ⟨S1x4x128x640, .f32⟩
  | 119 => ⟨S_, .f32⟩
  | 120 => ⟨S_, .f32⟩
  | 121 => ⟨S1x4x128x640, .i1⟩
  | 122 => ⟨S1x4x128x640, .f32⟩
  | 123 => ⟨S1x4x128x640, .f32⟩
  | 124 => ⟨S4x128x640, .f32⟩
  | 125 => ⟨S4x128x5x128, .f32⟩
  | 126 => ⟨S4x5x128x128, .f32⟩
  | 127 => ⟨S16, .i32⟩
  | _ => ⟨S32x4, .f32⟩

abbrev hbmTy0_1 (i : Nat) : BufTy := match i % 128 with
  | 0 => ⟨S_, .i32⟩
  | 1 => ⟨S16, .i32⟩
  | 2 => ⟨S16, .i32⟩
  | 3 => ⟨S2064, .i32⟩
  | 4 => ⟨S1x2064, .i32⟩
  | 5 => ⟨S16x1, .i32⟩
  | 6 => ⟨S16x2064, .i32⟩
  | 7 => ⟨S16x2064, .i32⟩
  | 8 => ⟨S16x2064, .i32⟩
  | 9 => ⟨S16x2064, .i32⟩
  | 10 => ⟨S_, .i32⟩
  | 11 => ⟨S16x2064, .i32⟩
  | 12 => ⟨S16x2064, .i32⟩
  | 13 => ⟨S16x2064, .f32⟩
  | 14 => ⟨S_, .f32⟩
  | 15 => ⟨S16x2064, .f32⟩
  | 16 => ⟨S16x2064, .f32⟩
  | 17 => ⟨S16x2064, .f32⟩
  | 18 => ⟨S_, .f32⟩
  | 19 => ⟨S16x2064, .f32⟩
  | 20 => ⟨S16x2064, .f32⟩
  | 21 => ⟨S_, .f32⟩
  | 22 => ⟨S16x2064, .f32⟩
  | 23 => ⟨S16x2064, .f32⟩
  | 24 => ⟨S16x2064, .i32⟩
  | 25 => ⟨S_, .i32⟩
  | 26 => ⟨S16x2064, .i32⟩
  | 27 => ⟨S16x2064, .i32⟩
  | 28 => ⟨S_, .i32⟩
  | 29 => ⟨S16x2064, .i32⟩
  | 30 => ⟨S16x2064, .i32⟩
  | 31 => ⟨S_, .i32⟩
  | 32 => ⟨S16x2064, .i32⟩
  | 33 => ⟨S16x2064, .i1⟩
  | 34 => ⟨S_, .i32⟩
  | 35 => ⟨S_, .i32⟩
  | 36 => ⟨S16x2064, .i32⟩
  | 37 => ⟨S16x2064, .i32⟩
  | 38 => ⟨S16x2064, .i32⟩
  | 39 => ⟨S_, .i32⟩
  | 40 => ⟨S16x2064, .i32⟩
  | 41 => ⟨S16x2064, .i1⟩
  | 42 => ⟨S16x2064, .i32⟩
  | 43 => ⟨S16x2064, .i32⟩
  | 44 => ⟨S16x2064, .i32⟩
  | 45 => ⟨S_, .i32⟩
  | 46 => ⟨S16x2064, .i32⟩
  | 47 => ⟨S16x2064, .i1⟩
  | 48 => ⟨S_, .i32⟩
  | 49 => ⟨S16x2064, .i32⟩
  | 50 => ⟨S16x2064, .i32⟩
  | 51 => ⟨S16x2064, .i32⟩
  | 52 => ⟨S16x2064x1, .i32⟩
  | 53 => ⟨S16x2064x4, .f32⟩
  | 54 => ⟨S4x16x2064, .f32⟩
  | 55 => ⟨S_, .i32⟩
  | 56 => ⟨S_, .i32⟩
  | 57 => ⟨S16, .i32⟩
  | 58 => ⟨S16, .i32⟩
  | 59 => ⟨S16, .i32⟩
  | 60 => ⟨S_, .i32⟩
  | 61 => ⟨S16, .i32⟩
  | 62 => ⟨S16, .i1⟩
  | 63 => ⟨S16, .i32⟩
  | 64 => ⟨S16, .i32⟩
  | 65 => ⟨S_, .i32⟩
  | 66 => ⟨S16, .i32⟩
  | 67 => ⟨S16, .i1⟩
  | 68 => ⟨S16, .i1⟩
  | 69 => ⟨S_, .i32⟩
  | 70 => ⟨S16, .i32⟩
  | 71 => ⟨S16, .i32⟩
  | 72 => ⟨S16, .i32⟩
  | 73 => ⟨S_, .i32⟩
  | 74 => ⟨S_, .i32⟩
  | 75 => ⟨S2064, .i32⟩
  | 76 => ⟨S2064, .i32⟩
  | 77 => ⟨S2064, .i32⟩
  | 78 => ⟨S_, .i32⟩
  | 79 => ⟨S2064, .i32⟩
  | 80 => ⟨S2064, .i1⟩
  | 81 => ⟨S2064, .i32⟩
  | 82 => ⟨S2064, .i32⟩
  | 83 => ⟨S_, .i32⟩
  | 84 => ⟨S2064, .i32⟩
  | 85 => ⟨S2064, .i1⟩
  | 86 => ⟨S2064, .i1⟩
  | 87 => ⟨S_, .i32⟩
  | 88 => ⟨S2064, .i32⟩
  | 89 => ⟨S2064, .i32⟩
  | 90 => ⟨S2064, .i32⟩
  | 91 => ⟨S1x2064, .i32⟩
  | 92 => ⟨S16x1, .i32⟩
  | 93 => ⟨S16x2064, .i32⟩
  | 94 => ⟨S16x2064, .i32⟩
  | 95 => ⟨S16x2064, .i1⟩
  | 96 => ⟨S1x4x16x2064, .f32⟩
  | 97 => ⟨S_, .f32⟩
  | 98 => ⟨S_, .f32⟩
  | 99 => ⟨S1x4x16x2064, .i1⟩
  | 100 => ⟨S1x4x16x2064, .f32⟩
  | 101 => ⟨S1x4x16x2064, .f32⟩
  | 102 => ⟨S4x16x2064, .f32⟩
  | 103 => ⟨S_, .f32⟩
  | 104 => ⟨S_, .f32⟩
  | 105 => ⟨S4x16x2176, .f32⟩
  | _ => ⟨S32x4, .f32⟩

abbrev hbmTy (i : Nat) : BufTy := match i / 128 with
  | 0 => hbmTy0_0 i
  | 1 => hbmTy0_1 i
  | _ => ⟨S32x4, .f32⟩

abbrev bufTy : (tb : Table) → Fin (tcTables nBuf tb) → BufTy
  | .hbm, ⟨i, _⟩ => hbmTy i
  | _, _ => ⟨S32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_3 : Ref sig .tc := ⟨.hbm, 27, rfl⟩
abbrev main_v21 : Ref sig .tc := ⟨.hbm, 28, rfl⟩
abbrev main_v22 : Ref sig .tc := ⟨.hbm, 29, rfl⟩
abbrev main_c_4 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_c_7 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_c_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_v41 : Ref sig .tc := ⟨.hbm, 58, rfl⟩
abbrev main_v42 : Ref sig .tc := ⟨.hbm, 59, rfl⟩
abbrev main_c_12 : Ref sig .tc := ⟨.hbm, 60, rfl⟩
abbrev main_v43 : Ref sig .tc := ⟨.hbm, 61, rfl⟩
abbrev main_v44 : Ref sig .tc := ⟨.hbm, 62, rfl⟩
abbrev main_c_13 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_c : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_0 : Ref sig .tc := ⟨.hbm, 77, rfl⟩
abbrev main_call2_v12 : Ref sig .tc := ⟨.hbm, 78, rfl⟩
abbrev main_call2_v13 : Ref sig .tc := ⟨.hbm, 79, rfl⟩
abbrev main_v45 : Ref sig .tc := ⟨.hbm, 80, rfl⟩
abbrev main_c_14 : Ref sig .tc := ⟨.hbm, 81, rfl⟩
abbrev main_call3_v0 : Ref sig .tc := ⟨.hbm, 82, rfl⟩
abbrev main_call3_v1 : Ref sig .tc := ⟨.hbm, 83, rfl⟩
abbrev main_v46 : Ref sig .tc := ⟨.hbm, 84, rfl⟩
abbrev main_c_15 : Ref sig .tc := ⟨.hbm, 85, rfl⟩
abbrev main_v47 : Ref sig .tc := ⟨.hbm, 86, rfl⟩
abbrev main_v48 : Ref sig .tc := ⟨.hbm, 87, rfl⟩
abbrev main_c_16 : Ref sig .tc := ⟨.hbm, 88, rfl⟩
abbrev main_v49 : Ref sig .tc := ⟨.hbm, 89, rfl⟩
abbrev main_v50 : Ref sig .tc := ⟨.hbm, 90, rfl⟩
abbrev main_c_17 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_v5 : Ref sig .tc := ⟨.hbm, 97, rfl⟩
abbrev main_call4_v6 : Ref sig .tc := ⟨.hbm, 98, rfl⟩
abbrev main_call4_v7 : Ref sig .tc := ⟨.hbm, 99, rfl⟩
abbrev main_call4_v8 : Ref sig .tc := ⟨.hbm, 100, rfl⟩
abbrev main_call4_c : Ref sig .tc := ⟨.hbm, 101, rfl⟩
abbrev main_call4_v9 : Ref sig .tc := ⟨.hbm, 102, rfl⟩
abbrev main_call4_v10 : Ref sig .tc := ⟨.hbm, 103, rfl⟩
abbrev main_call4_v11 : Ref sig .tc := ⟨.hbm, 104, rfl⟩
abbrev main_call4_c_0 : Ref sig .tc := ⟨.hbm, 105, rfl⟩
abbrev main_call4_v12 : Ref sig .tc := ⟨.hbm, 106, rfl⟩
abbrev main_call4_v13 : Ref sig .tc := ⟨.hbm, 107, rfl⟩
abbrev main_v51 : Ref sig .tc := ⟨.hbm, 108, rfl⟩
abbrev main_c_18 : Ref sig .tc := ⟨.hbm, 109, rfl⟩
abbrev main_call5_v0 : Ref sig .tc := ⟨.hbm, 110, rfl⟩
abbrev main_call5_v1 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_19 : Ref sig .tc := ⟨.hbm, 119, rfl⟩
abbrev main_call6_v0 : Ref sig .tc := ⟨.hbm, 120, rfl⟩
abbrev main_call6_v1 : Ref sig .tc := ⟨.hbm, 121, rfl⟩
abbrev main_call6_v2 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_c_20 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_c_21 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_22 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_23 : Ref sig .tc := ⟨.hbm, 146, rfl⟩
abbrev main_v79 : Ref sig .tc := ⟨.hbm, 147, rfl⟩
abbrev main_v80 : Ref sig .tc := ⟨.hbm, 148, rfl⟩
abbrev main_cst_24 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_c_25 : Ref sig .tc := ⟨.hbm, 153, rfl⟩
abbrev main_v84 : Ref sig .tc := ⟨.hbm, 154, rfl⟩
abbrev main_v85 : Ref sig .tc := ⟨.hbm, 155, rfl⟩
abbrev main_c_26 : Ref sig .tc := ⟨.hbm, 156, rfl⟩
abbrev main_v86 : Ref sig .tc := ⟨.hbm, 157, rfl⟩
abbrev main_v87 : Ref sig .tc := ⟨.hbm, 158, rfl⟩
abbrev main_c_27 : Ref sig .tc := ⟨.hbm, 159, rfl⟩
abbrev main_v88 : Ref sig .tc := ⟨.hbm, 160, rfl⟩
abbrev main_v89 : Ref sig .tc := ⟨.hbm, 161, rfl⟩
abbrev main_c_28 : Ref sig .tc := ⟨.hbm, 162, rfl⟩
abbrev main_c_29 : Ref sig .tc := ⟨.hbm, 163, rfl⟩
abbrev main_call7_v0 : Ref sig .tc := ⟨.hbm, 164, rfl⟩
abbrev main_call7_v1 : Ref sig .tc := ⟨.hbm, 165, rfl⟩
abbrev main_v90 : Ref sig .tc := ⟨.hbm, 166, rfl⟩
abbrev main_c_30 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_c_31 : Ref sig .tc := ⟨.hbm, 173, rfl⟩
abbrev main_v96 : Ref sig .tc := ⟨.hbm, 174, rfl⟩
abbrev main_v97 : Ref sig .tc := ⟨.hbm, 175, rfl⟩
abbrev main_c_32 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_c_33 : Ref sig .tc := ⟨.hbm, 183, rfl⟩
abbrev main_call9_v0 : Ref sig .tc := ⟨.hbm, 184, rfl⟩
abbrev main_call9_v1 : Ref sig .tc := ⟨.hbm, 185, rfl⟩
abbrev main_call9_v2 : Ref sig .tc := ⟨.hbm, 186, rfl⟩
abbrev main_call9_v3 : Ref sig .tc := ⟨.hbm, 187, rfl⟩
abbrev main_call9_v4 : Ref sig .tc := ⟨.hbm, 188, rfl⟩
abbrev main_call9_v5 : Ref sig .tc := ⟨.hbm, 189, rfl⟩
abbrev main_call9_v6 : Ref sig .tc := ⟨.hbm, 190, rfl⟩
abbrev main_call9_v7 : Ref sig .tc := ⟨.hbm, 191, rfl⟩
abbrev main_call9_v8 : Ref sig .tc := ⟨.hbm, 192, rfl⟩
abbrev main_call9_c : Ref sig .tc := ⟨.hbm, 193, rfl⟩
abbrev main_call9_v9 : Ref sig .tc := ⟨.hbm, 194, rfl⟩
abbrev main_call9_v10 : Ref sig .tc := ⟨.hbm, 195, rfl⟩
abbrev main_call9_v11 : Ref sig .tc := ⟨.hbm, 196, rfl⟩
abbrev main_call9_c_0 : Ref sig .tc := ⟨.hbm, 197, rfl⟩
abbrev main_call9_v12 : Ref sig .tc := ⟨.hbm, 198, rfl⟩
abbrev main_call9_v13 : Ref sig .tc := ⟨.hbm, 199, rfl⟩
abbrev main_v104 : Ref sig .tc := ⟨.hbm, 200, rfl⟩
abbrev main_c_34 : Ref sig .tc := ⟨.hbm, 201, rfl⟩
abbrev main_call10_v0 : Ref sig .tc := ⟨.hbm, 202, rfl⟩
abbrev main_call10_v1 : Ref sig .tc := ⟨.hbm, 203, rfl⟩
abbrev main_call10_v2 : Ref sig .tc := ⟨.hbm, 204, rfl⟩
abbrev main_call10_v3 : Ref sig .tc := ⟨.hbm, 205, rfl⟩
abbrev main_call10_v4 : Ref sig .tc := ⟨.hbm, 206, rfl⟩
abbrev main_call10_v5 : Ref sig .tc := ⟨.hbm, 207, rfl⟩
abbrev main_call10_v6 : Ref sig .tc := ⟨.hbm, 208, rfl⟩
abbrev main_call10_v7 : Ref sig .tc := ⟨.hbm, 209, rfl⟩
abbrev main_call10_v8 : Ref sig .tc := ⟨.hbm, 210, rfl⟩
abbrev main_call10_c : Ref sig .tc := ⟨.hbm, 211, rfl⟩
abbrev main_call10_v9 : Ref sig .tc := ⟨.hbm, 212, rfl⟩
abbrev main_call10_v10 : Ref sig .tc := ⟨.hbm, 213, rfl⟩
abbrev main_call10_v11 : Ref sig .tc := ⟨.hbm, 214, rfl⟩
abbrev main_call10_c_0 : Ref sig .tc := ⟨.hbm, 215, rfl⟩
abbrev main_call10_v12 : Ref sig .tc := ⟨.hbm, 216, rfl⟩
abbrev main_call10_v13 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_cst_35 : Ref sig .tc := ⟨.hbm, 225, rfl⟩
abbrev main_call11_v0 : Ref sig .tc := ⟨.hbm, 226, rfl⟩
abbrev main_call11_v1 : Ref sig .tc := ⟨.hbm, 227, rfl⟩
abbrev main_call11_v2 : Ref sig .tc := ⟨.hbm, 228, rfl⟩
abbrev main_v112 : Ref sig .tc := ⟨.hbm, 229, rfl⟩
abbrev main_v113 : Ref sig .tc := ⟨.hbm, 230, rfl⟩
abbrev main_cst_36 : Ref sig .tc := ⟨.hbm, 231, rfl⟩
abbrev main_call12_v0 : Ref sig .tc := ⟨.hbm, 232, rfl⟩
abbrev main_v114 : Ref sig .tc := ⟨.hbm, 233, rfl⟩

abbrev nD : Nat := 1
abbrev τ : Topo := Topo.v7x

variable {F : FTy → Type} [FloatOps F]
-- ==== Proof.Soft.lean ====
module

public import Idealize.ShloMosaic.PureOps.Ideal.Laws
public import Idealize.ShloMosaic.Lib.IdealHost

@[expose] public section

/-!
# Softmax over extended reals, with and without padded keys

What the attention proof needs of the extended reals, with no array and no program in it: the maximum and the sum of a
row of scores do not see keys whose score is `⊥`, and a row of real scores has a softmax denominator that is not zero.
-/

noncomputable section

namespace Cert.Soft

open Idealize.ShloMosaic

/-- The extended real is a real number. -/
def Re (x : EReal) : Prop := ∃ r : ℝ, x = (r : EReal)

theorem Re.add {x y : EReal} : Re x → Re y → Re (x + y)
  | ⟨a, ha⟩, ⟨b, hb⟩ => ⟨a + b, by rw [ha, hb, EReal.coe_add]⟩

theorem Re.mul {x y : EReal} : Re x → Re y → Re (x * y)
  | ⟨a, ha⟩, ⟨b, hb⟩ => ⟨a * b, by rw [ha, hb, EReal.coe_mul]⟩

theorem Re.sum {ι : Type} [Fintype ι] {f : ι → EReal} (h : ∀ i, Re (f i)) : Re (∑ i, f i) := by
  choose g hg using h
  exact ⟨∑ i, g i, by simp only [hg]; exact (map_sum (⟨⟨Real.toEReal, rfl⟩, EReal.coe_add⟩ : ℝ →+ EReal) g _).symm⟩

/-- A real factor leaves a sum of real terms. -/
theorem sum_mul_re {ι : Type} [Fintype ι] {f : ι → EReal} {c : EReal} (h : ∀ i, Re (f i)) (hc : Re c) :
    (∑ i, f i * c) = (∑ i, f i) * c := by
  choose g hg using h
  obtain ⟨r, rfl⟩ := hc
  let co : ℝ →+ EReal := ⟨⟨Real.toEReal, rfl⟩, EReal.coe_add⟩
  have e : ∀ (u : ι → ℝ), (∑ i, ((u i : ℝ) : EReal)) = ((∑ i, u i : ℝ) : EReal) := fun u => (map_sum co u _).symm
  simp only [hg, ← EReal.coe_mul, e, Finset.sum_mul]

theorem re_of_abs_lt {x : EReal} (h : max x (-x) < ⊤) : Re x := by
  induction x with
  | bot => simp at h
  | coe r => exact ⟨r, rfl⟩
  | top => simp at h

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem re_eighth : Re (Ideal.ofBits .f32 0x3E000000#32) := by
  simp [Ideal.ofBits, Ideal.ieee, Re]
  exact ⟨_, rfl⟩

/-- The row maximum. -/
abbrev mx {n : ℕ} (s : Fin n → EReal) : EReal := Finset.univ.fold max ⊥ s

theorem mx_eq_sup {n : ℕ} (s : Fin n → EReal) : mx s = Finset.univ.sup s := rfl

/-- The exponentials of a row, shifted by its maximum. -/
abbrev ex {n : ℕ} (s : Fin n → EReal) (j : Fin n) : EReal := Ideal.exp (s j - mx s)

section Pad

variable {n p N : ℕ} (hN : N = n + p) (s : Fin n → EReal) (t : Fin N → EReal)

/-- A row `t` that is `s` on the first `n` keys and `⊥` after them. -/
def Padded : Prop := (∀ (j : Fin N) (h : j.val < n), t j = s ⟨j, h⟩) ∧ ∀ j : Fin N, n ≤ j.val → t j = ⊥

include hN in
theorem mx_pad (h : Padded s t) : mx t = mx s := by
  rw [mx_eq_sup, mx_eq_sup]
  refine le_antisymm (Finset.sup_le fun j _ => ?_) (Finset.sup_le fun j _ => ?_)
  · by_cases hj : j.val < n
    · rw [h.1 j hj]; exact Finset.le_sup (f := s) (Finset.mem_univ _)
    · rw [h.2 j (by omega)]; exact bot_le
  · have := h.1 ⟨j.val, by omega⟩ j.isLt
    rw [show s j = t ⟨j.val, by omega⟩ from this.symm]
    exact Finset.le_sup (f := t) (Finset.mem_univ _)

include hN in
theorem ex_pad (h : Padded s t) (j : Fin N) : ex t j = if hj : j.val < n then ex s ⟨j, hj⟩ else 0 := by
  unfold ex
  rw [mx_pad hN s t h]
  by_cases hj : j.val < n
  · rw [dif_pos hj, h.1 j hj]
  · rw [dif_neg hj, h.2 j (by omega)]
    rw [EReal.bot_sub]
    rfl

/-- A sum whose terms vanish from `n` on. -/
theorem sum_pad (f : Fin N → EReal) (g : Fin n → EReal) (h1 : ∀ (j : Fin N) (h : j.val < n), f j = g ⟨j, h⟩)
    (h0 : ∀ j : Fin N, n ≤ j.val → f j = 0) (hN : N = n + p) : (∑ j, f j) = ∑ j, g j := by
  subst hN
  rw [Fin.sum_univ_add, Finset.sum_eq_zero (s := (Finset.univ : Finset (Fin p))), add_zero]
  · exact Finset.sum_congr rfl fun j _ => h1 _ j.isLt
  · intro j _; exact h0 _ (by simp)

include hN in
theorem sum_ex_pad (h : Padded s t) : (∑ j, ex t j) = ∑ j, ex s j :=
  sum_pad (p := p) (fun j => ex t j) (fun j => ex s j)
    (fun j hj => by rw [ex_pad hN s t h, dif_pos hj])
    (fun j hj => by rw [ex_pad hN s t h, dif_neg (by omega)]) hN

end Pad

theorem exp_nonneg (x : EReal) : 0 ≤ Ideal.exp x := by
  induction x with
  | bot => exact le_rfl
  | coe r => exact EReal.coe_nonneg.mpr (Real.exp_pos r).le
  | top => exact le_top

/-- A row of real scores has a denominator that is not zero. -/
theorem sum_ex_ne_zero {n : ℕ} (hn : 0 < n) (s : Fin n → EReal) (hs : ∀ j, Re (s j)) : (∑ j, ex s j) ≠ 0 := by
  haveI : Nonempty (Fin n) := ⟨⟨0, hn⟩⟩
  obtain ⟨j, -, hj⟩ := Finset.exists_mem_eq_sup (Finset.univ : Finset (Fin n)) Finset.univ_nonempty s
  have hm : mx s = s j := hj
  have h1 : ex s j = 1 := by
    obtain ⟨r, hr⟩ := hs j
    show Ideal.exp (s j - mx s) = 1
    rw [hm, hr, ← EReal.coe_sub, sub_self]
    show ((Real.exp 0 : ℝ) : EReal) = 1
    rw [Real.exp_zero]; rfl
  intro h0
  have : ex s j ≤ ∑ i, ex s i := Finset.single_le_sum (f := ex s) (fun i _ => exp_nonneg _) (Finset.mem_univ j)
  rw [h1, h0] at this
  exact absurd this (not_le.mpr zero_lt_one)

theorem div_ne {x y : EReal} (h : y ≠ 0) : Ideal.div x y = x * y⁻¹ := if_neg h

/-! ## Differential attention over one row of keys -/

/-- The factor on the scores. -/
abbrev c8 : EReal := Ideal.ofBits .f32 0x3E000000#32

/-- One component's score of a key: the dot product over its 64 lanes, scaled, and the bias. -/
def score {n : ℕ} (q : Fin 64 → EReal) (k : Fin n → Fin 64 → EReal) (b : Fin n → EReal) (j : Fin n) : EReal :=
  (∑ d, q d * k j d) * c8 + b j

theorem score_re {n : ℕ} {q : Fin 64 → EReal} {k : Fin n → Fin 64 → EReal} {b : Fin n → EReal} (hq : ∀ d, Re (q d))
    (hk : ∀ j d, Re (k j d)) (hb : ∀ j, Re (b j)) (j : Fin n) : Re (score q k b j) :=
  ((Re.sum fun d => (hq d).mul (hk j d)).mul re_eighth).add (hb j)

/-- The difference of two softmaxes, the second times `lam`, over the values. -/
def diffOut {n : ℕ} (s0 s1 : Fin n → EReal) (lam : EReal) (v : Fin n → Fin 128 → EReal) (e : Fin 128) : EReal :=
  ∑ j, (ex s0 j * (∑ i, ex s0 i)⁻¹ - lam * (ex s1 j * (∑ i, ex s1 i)⁻¹)) * v j e

/-- The root-mean-square norm of a head with its gain. -/
def norm (o g : Fin 128 → EReal) (e : Fin 128) : EReal :=
  o e * Ideal.rsqrt (Ideal.div (∑ x, o x * o x) (Ideal.ofBits .f32 1124073472#32) + Ideal.ofBits .f32 897988541#32)
    * (g e * Ideal.ofBits .f32 1059388764#32)

/-- The weight of the second softmax. -/
def lamOf (a b c d : Fin 64 → EReal) : EReal :=
  Ideal.exp (∑ x, a x * b x) - Ideal.exp (∑ x, c x * d x) + Ideal.ofBits .f32 1052116297#32

/-- The two components' lanes of a head of 128 lanes. -/
def lane (c : Fin 2) (d : Fin 64) : Fin 128 := ⟨64 * c.val + d.val, by omega⟩

theorem mask_lt (x : Fin 128) (a b : EReal) :
    Scalar.select (IntOp.cmpi .slt (BitVec.ofNat 32 x.val) 64#32) a b = if x.val < 64 then a else b := by
  have h : ∀ x : Fin 128, IntOp.cmpi .slt (BitVec.ofNat 32 x.val) 64#32 = if x.val < 64 then 1#1 else 0#1 := by decide
  rw [h]; split <;> rfl

theorem mask_ge (x : Fin 128) (a b : EReal) :
    Scalar.select (IntOp.cmpi .sge (BitVec.ofNat 32 x.val) 64#32) a b = if x.val < 64 then b else a := by
  have h : ∀ x : Fin 128, IntOp.cmpi .sge (BitVec.ofNat 32 x.val) 64#32 = if x.val < 64 then 0#1 else 1#1 := by decide
  rw [h]; split <;> rfl

theorem sum_lanes (f : Fin 128 → EReal) : (∑ x, f x) = (∑ d, f (lane 0 d)) + ∑ d, f (lane 1 d) := by
  have h := Fin.sum_univ_add (a := 64) (b := 64) f
  rw [h]
  exact congrArg₂ (· + ·) (Finset.sum_congr rfl fun d _ => congrArg f (Fin.ext (by simp [lane])))
    (Finset.sum_congr rfl fun d _ => congrArg f (Fin.ext (by simp [lane, add_comm])))

/-- The scaled dot product over the first (second) half of 128 lanes, written over all of them. -/
def halfLo (q K : Fin 128 → EReal) : EReal := ∑ x : Fin 128, if x.val < 64 then q x * c8 * K x else 0
/-- The scaled dot product over the second half of 128 lanes, written over all of them. -/
def halfHi (q K : Fin 128 → EReal) : EReal := ∑ x : Fin 128, if x.val < 64 then 0 else q x * c8 * K x

/-- The masked, scaled dot product over 128 lanes is the component's dot product, scaled. -/
theorem halfLo_eq (q K : Fin 128 → EReal) (hq : ∀ x, Re (q x)) (hK : ∀ x, Re (K x)) :
    halfLo q K = (∑ d, q (lane 0 d) * K (lane 0 d)) * c8 := by
  unfold halfLo
  rw [sum_lanes, Finset.sum_eq_zero (f := fun d : Fin 64 => if (lane 1 d).val < 64 then q (lane 1 d) * c8 * K (lane 1 d) else 0),
    add_zero, ← sum_mul_re (fun d => (hq _).mul (hK _)) re_eighth]
  · refine Finset.sum_congr rfl fun d _ => ?_
    rw [if_pos (by simp [lane]), mul_right_comm]
  · intro d _
    rw [if_neg (by simp [lane])]

theorem halfHi_eq (q K : Fin 128 → EReal) (hq : ∀ x, Re (q x)) (hK : ∀ x, Re (K x)) :
    halfHi q K = (∑ d, q (lane 1 d) * K (lane 1 d)) * c8 := by
  unfold halfHi
  rw [sum_lanes, Finset.sum_eq_zero (f := fun d : Fin 64 => if (lane 0 d).val < 64 then 0 else q (lane 0 d) * c8 * K (lane 0 d)),
    zero_add, ← sum_mul_re (fun d => (hq _).mul (hK _)) re_eighth]
  · refine Finset.sum_congr rfl fun d _ => ?_
    rw [if_neg (by simp [lane]), mul_right_comm]
  · intro d _
    rw [if_pos (by simp [lane])]

theorem halfLo_zero (q : Fin 128 → EReal) : halfLo q (fun _ => 0) = 0 :=
  Finset.sum_eq_zero fun x _ => by rw [mul_zero, ite_self]

theorem halfHi_zero (q : Fin 128 → EReal) : halfHi q (fun _ => 0) = 0 :=
  Finset.sum_eq_zero fun x _ => by rw [mul_zero, ite_self]

/-- The sum over padded keys, with each softmax's reciprocal taken first, is the difference of softmaxes. -/
theorem diffOut_pad {n p N : ℕ} (hN : N = n + p) (hn : 0 < n) {s0 s1 : Fin n → EReal} {t0 t1 : Fin N → EReal}
    (h0 : Padded s0 t0) (h1 : Padded s1 t1) (r0 : ∀ j, Re (s0 j)) (r1 : ∀ j, Re (s1 j)) (lam : EReal)
    (v : Fin n → Fin 128 → EReal) (w : Fin N → EReal) (e : Fin 128)
    (hw : ∀ (j : Fin N) (h : j.val < n), w j = v ⟨j, h⟩ e) (hw0 : ∀ j : Fin N, n ≤ j.val → w j = 0) :
    (∑ j, (ex t0 j * Ideal.div 1 (∑ i, ex t0 i) - ex t1 j * Ideal.div lam (∑ i, ex t1 i)) * w j)
      = diffOut s0 s1 lam v e := by
  refine sum_pad (p := p) _ _ (fun j hj => ?_) (fun j hj => ?_) hN
  · rw [sum_ex_pad hN s0 t0 h0, sum_ex_pad hN s1 t1 h1, ex_pad hN s0 t0 h0, ex_pad hN s1 t1 h1, dif_pos hj, dif_pos hj,
      div_ne (sum_ex_ne_zero hn s0 r0), div_ne (sum_ex_ne_zero hn s1 r1), one_mul, hw j hj, mul_left_comm (ex s1 _)]
  · rw [hw0 j hj, mul_zero]

end Cert.Soft
-- ==== Proof.Da.lean ====
module

public import proofs.«01_k».proof.Proof.Gen.KernelIdeal.Value
public import proofs.«01_k».proof.Proof.Soft
public import Idealize.ShloMosaic.Lib.Pointwise
public import Idealize.ShloMosaic.Lib.Pipeline.ValueKit
public import Idealize.ShloMosaic.Lib.Pipeline.ReadBack

@[expose] public section

/-!
# The differential-attention kernel's block, read at an index
-/

noncomputable section

namespace Cert.KernelIdeal.Da

open Idealize.ShloMosaic.Pointwise Cert.KernelIdeal Cert.KernelIdeal.Gen Idealize.ShloMosaic Idealize.ShloMosaic.TcCoe Idealize.SL.Sem
open Cert.Soft

set_option maxRecDepth 16384

/-- The 2176 stored keys (or values) of one head: the cached rows, the new rows, and rows of zeros. -/
def rows (x : Vec Ideal S1x1x2048x128 .f32) (y : Vec Ideal S1x16x128 .f32) (j : Fin 2176) (d : Fin 128) : EReal :=
  if h : j.val < 2048 then x (ix4 0 0 ⟨j, h⟩ d) else if h' : j.val < 2064 then y (ix3 0 ⟨j.val - 2048, by omega⟩ d) else 0

/-- The three stores of a scratch of 2176 rows: the cached rows, the new rows, zeros. -/
abbrev stores (i1 : ∀ a, (![2064, 0] : Fin 2 → Nat) a + (![112, 128] : Fin 2 → Nat) a ≤ S2176x128.size a)
    (i2 : ∀ a, (![2048, 0] : Fin 2 → Nat) a + (![16, 128] : Fin 2 → Nat) a ≤ S2176x128.size a)
    (i3 : ∀ a, (![0, 0] : Fin 2 → Nat) a + (![2048, 128] : Fin 2 → Nat) a ≤ S2176x128.size a)
    (z : FVec Ideal S112x128 .bf16) (y : FVec Ideal S16x128 .bf16) (x : FVec Ideal S2048x128 .bf16) :
    List (View.Piece (Elt Ideal) S2176x128 .bf16) :=
  [⟨Rect.unit ![2064, 0] ![112, 128] i1, z⟩, ⟨Rect.unit ![2048, 0] ![16, 128] i2, y⟩,
    ⟨Rect.unit ![0, 0] ![2048, 128] i3, x⟩]

theorem cover (i1 i2 i3 z y x) (j : S2176x128.Idx) : ∃ p ∈ stores i1 i2 i3 z y x, j ∈ p.1.set := by
  have h0 : (j 0).val < 2176 := (j 0).isLt
  have h1 : (j 1).val < 128 := (j 1).isLt
  by_cases ha : (j 0).val < 2048
  · refine ⟨_, List.mem_cons_of_mem _ (List.mem_cons_of_mem _ List.mem_cons_self), ?_⟩
    rw [Rect.mem_set_unit]
    intro a; fin_cases a
    · exact ⟨Nat.zero_le _, by simpa using ha⟩
    · exact ⟨Nat.zero_le _, by simpa using h1⟩
  · by_cases hb : (j 0).val < 2064
    · refine ⟨_, List.mem_cons_of_mem _ List.mem_cons_self, ?_⟩
      rw [Rect.mem_set_unit]
      intro a; fin_cases a
      · exact ⟨by simpa using ha, by simpa using hb⟩
      · exact ⟨Nat.zero_le _, by simpa using h1⟩
    · refine ⟨_, List.mem_cons_self, ?_⟩
      rw [Rect.mem_set_unit]
      intro a; fin_cases a
      · exact ⟨by simpa using hb, by simpa using h0⟩
      · exact ⟨Nat.zero_le _, by simpa using h1⟩

theorem stored_at (arg : Memref sig .tc .vmem S2176x128 .bf16) (i1 i2 i3 z y x)
    (i4 : ∀ a, (![0, 0] : Fin 2 → Nat) a + (![2176, 128] : Fin 2 → Nat) a ≤ S2176x128.size a)
    (X : Vec Ideal S1x1x2048x128 .f32) (Y : Vec Ideal S1x16x128 .f32) (hz : ∀ j d, z (ix2 j d) = 0)
    (hy : ∀ j d, y (ix2 j d) = Y (ix3 0 j d)) (hx : ∀ j d, x (ix2 j d) = X (ix4 0 0 j d)) (j : Fin 2176) (d : Fin 128) :
    (arg.view.readCov (stores i1 i2 i3 z y x) (Rect.unit (s := S2176x128) ![0, 0] ![2176, 128] i4).toLoadRect : S2176x128.Idx → EReal) (ix2 j d)
      = rows X Y j d := by
  rw [View.readCov_eq_canon_ld _ _ _ (cover i1 i2 i3 z y x), View.ld_unit_zero (by funext a; fin_cases a <;> rfl)]
  unfold rows
  canon_tiles u h using (cover i1 i2 i3 z y x _)
  all_goals (have h0' : j.val = _ := h0; have h1' : d.val = _ := h1)
  · rw [dif_neg (by omega), dif_neg (by omega), eq_ix2 u]; exact hz _ _
  · rw [dif_neg (by omega), dif_pos (by omega)]
    refine (congrArg y (eq_ix2 u)).trans ((hy _ _).trans (congrArg Y ?_))
    exact congrArg₂ (ix3 0) (Fin.ext (by show (u 0).val = j.val - 2048; omega)) (Fin.ext h1'.symm)
  · rw [dif_pos (by omega)]
    refine (congrArg x (eq_ix2 u)).trans ((hx _ _).trans (congrArg X ?_))
    exact congrArg₂ (ix4 0 0) (Fin.ext (by show (u 0).val = j.val; omega)) (Fin.ext h1'.symm)

theorem pay2_at (x : Vec Ideal S1x1x2048x128 .f32) (j : Fin 2048) (d : Fin 128) : k0_pay2 x (ix2 j d) = x (ix4 0 0 j d) := by
  pointwise [k0_pay2]
theorem pay3_at (x : Vec Ideal S1x1x2048x128 .f32) (j : Fin 2048) (d : Fin 128) : k0_pay3 x (ix2 j d) = x (ix4 0 0 j d) := by
  pointwise [k0_pay3]
theorem pay4_at (x : Vec Ideal S1x16x128 .f32) (j : Fin 16) (d : Fin 128) : k0_pay4 x (ix2 j d) = x (ix3 0 j d) := by
  pointwise [k0_pay4]
theorem pay5_at (x : Vec Ideal S1x16x128 .f32) (j : Fin 16) (d : Fin 128) : k0_pay5 x (ix2 j d) = x (ix3 0 j d) := by
  pointwise [k0_pay5]
theorem pay6_at (j : Fin 112) (d : Fin 128) : (k0_pay6 : FVec Ideal _ _) (ix2 j d) = (0 : EReal) := by
  pointwise [k0_pay6]
theorem pay7_at (j : Fin 112) (d : Fin 128) : (k0_pay7 : FVec Ideal _ _) (ix2 j d) = (0 : EReal) := by
  pointwise [k0_pay7]

/-- A key among the 2064 that count, as a stored row. -/
abbrev up (j : Fin 2064) : Fin 2176 := ⟨j.val, by omega⟩

theorem pay10_at (q : Vec Ideal S1x16x128 .bf16) (b : Vec Ideal S1x16x2176 .f32) (k : Vec Ideal S2176x128 .bf16)
    (l : Fin 16) (j : Fin 2176) : k0_pay10 q b k (ix2 l j)
      = halfHi (fun x => q (ix3 0 l x)) (fun x => k (ix2 j x)) + b (ix3 0 l j) := by
  pointwise [k0_pay10, k0_pay8, k0_pay9]
  simp only [mask_ge]
  rfl

theorem pay12_at (q : Vec Ideal S1x16x128 .bf16) (b : Vec Ideal S1x16x2176 .f32) (k : Vec Ideal S2176x128 .bf16)
    (l : Fin 16) (j : Fin 2176) : k0_pay12 q b k (ix2 l j) = mx fun i => k0_pay10 q b k (ix2 l i) := by
  pointwise [k0_pay12]
  rw [ofBits_bot]

theorem pay11_at (q : Vec Ideal S1x16x128 .bf16) (b : Vec Ideal S1x16x2176 .f32) (k : Vec Ideal S2176x128 .bf16)
    (l : Fin 16) (j : Fin 2176) : k0_pay11 q b k (ix2 l j)
      = ex (fun i : Fin 2176 => halfLo (fun x => q (ix3 0 l x)) (fun x => k (ix2 i x)) + b (ix3 0 l i)) j := by
  pointwise [k0_pay11, k0_pay8, k0_pay9]
  simp only [mask_lt, ofBits_bot]
  rfl

theorem pay13_at (s1 e0 m1 : FVec Ideal S16x2176 .f32) (w : Vec Ideal S4x64 .f32) (v : Vec Ideal S2176x128 .bf16)
    (l : Fin 16) (e : Fin 128) : k0_pay13 s1 e0 m1 w v (ix2 l e)
      = ∑ x, ((e0 (ix2 l x) : EReal) * Ideal.div 1 (∑ x, e0 (ix2 l x)) - Ideal.exp (s1 (ix2 l x) - m1 (ix2 l x)) *
            Ideal.div (lamOf (fun d => w (ix2 0 d)) (fun d => w (ix2 1 d)) (fun d => w (ix2 2 d)) (fun d => w (ix2 3 d)))
              (∑ x, Ideal.exp (s1 (ix2 l x) - m1 (ix2 l x)))) * v (ix2 x e) := by
  pointwise [k0_pay13]
  rfl

/-- The block the kernel stores for one batch row and head, as a function of its input blocks. -/
def blockOut (x0 : Vec Ideal S1x16x128 .bf16) (x1 x2 : Vec Ideal S1x16x128 .f32) (x3 x4 : Vec Ideal S1x1x2048x128 .f32)
    (x5 : Vec Ideal S1x16x2176 .f32) (x6 : Vec Ideal S4x64 .f32) (x7 : Vec Ideal S1x128 .f32) (l : Fin 16) (e : Fin 128) : EReal :=
  norm (diffOut
      (score (fun d => x0 (ix3 0 l (lane 0 d))) (fun j d => rows x3 x1 (up j) (lane 0 d)) fun j => x5 (ix3 0 l (up j)))
      (score (fun d => x0 (ix3 0 l (lane 1 d))) (fun j d => rows x3 x1 (up j) (lane 1 d)) fun j => x5 (ix3 0 l (up j)))
      (lamOf (fun d => x6 (ix2 0 d)) (fun d => x6 (ix2 1 d)) (fun d => x6 (ix2 2 d)) fun d => x6 (ix2 3 d))
      fun j e => rows x4 x2 (up j) e)
    (fun e => x7 (ix2 0 e)) e

theorem rows_re {x : Vec Ideal S1x1x2048x128 .f32} {y : Vec Ideal S1x16x128 .f32} (hx : ∀ i, Re (x i)) (hy : ∀ i, Re (y i))
    (j : Fin 2176) (d : Fin 128) : Re (rows x y j d) := by
  unfold rows
  split
  · exact hx _
  · split
    · exact hy _
    · exact ⟨0, rfl⟩

theorem rows_zero (x : Vec Ideal S1x1x2048x128 .f32) (y : Vec Ideal S1x16x128 .f32) (j : Fin 2176) (h : 2064 ≤ j.val)
    (d : Fin 128) : rows x y j d = 0 := by
  unfold rows
  rw [dif_neg (by omega), dif_neg (by omega)]

section Block

variable (x0 : Vec Ideal S1x16x128 .bf16) (x1 x2 : Vec Ideal S1x16x128 .f32) (x3 x4 : Vec Ideal S1x1x2048x128 .f32)
  (x5 : Vec Ideal S1x16x2176 .f32) (x6 : Vec Ideal S4x64 .f32) (x7 : Vec Ideal S1x128 .f32)
  (KS VS : Vec Ideal S2176x128 .bf16) (hK : ∀ j d, KS (ix2 j d) = rows x3 x1 j d) (hV : ∀ j d, VS (ix2 j d) = rows x4 x2 j d)
  (r0 : ∀ i, Re (x0 i)) (r1 : ∀ i, Re (x1 i)) (r3 : ∀ i, Re (x3 i)) (r5 : ∀ l j, Re (x5 (ix3 0 l (up j))))
  (b5 : ∀ l (j : Fin 2176), 2064 ≤ j.val → x5 (ix3 0 l j) = (⊥ : EReal))

include hK r0 r1 r3 b5 in
theorem padded0 (l : Fin 16) : Padded
    (score (fun d => x0 (ix3 0 l (lane 0 d))) (fun j d => rows x3 x1 (up j) (lane 0 d)) fun j => x5 (ix3 0 l (up j)))
    (fun i : Fin 2176 => halfLo (fun x => x0 (ix3 0 l x)) (fun x => KS (ix2 i x)) + x5 (ix3 0 l i)) := by
  refine ⟨fun j h => ?_, fun j h => ?_⟩
  · simp only [hK]
    rw [halfLo_eq (fun x => x0 (ix3 0 l x)) (fun x => rows x3 x1 j x) (fun _ => r0 _) fun _ => rows_re r3 r1 _ _]
    rfl
  · simp only [hK, b5 l j h, EReal.add_bot]

include hK r0 r1 r3 b5 in
theorem padded1 (l : Fin 16) : Padded
    (score (fun d => x0 (ix3 0 l (lane 1 d))) (fun j d => rows x3 x1 (up j) (lane 1 d)) fun j => x5 (ix3 0 l (up j)))
    (fun i : Fin 2176 => k0_pay10 x0 x5 KS (ix2 l i)) := by
  refine ⟨fun j h => ?_, fun j h => ?_⟩
  · simp only [pay10_at, hK]
    rw [halfHi_eq (fun x => x0 (ix3 0 l x)) (fun x => rows x3 x1 j x) (fun _ => r0 _) fun _ => rows_re r3 r1 _ _]
    rfl
  · simp only [pay10_at, hK, b5 l j h, EReal.add_bot]

include hK hV r0 r1 r3 r5 b5 in
theorem pay13_diff (l : Fin 16) (e : Fin 128) :
    k0_pay13 (k0_pay10 x0 x5 KS) (k0_pay11 x0 x5 KS) (k0_pay12 x0 x5 KS) x6 VS (ix2 l e)
      = diffOut
      (score (fun d => x0 (ix3 0 l (lane 0 d))) (fun j d => rows x3 x1 (up j) (lane 0 d)) fun j => x5 (ix3 0 l (up j)))
      (score (fun d => x0 (ix3 0 l (lane 1 d))) (fun j d => rows x3 x1 (up j) (lane 1 d)) fun j => x5 (ix3 0 l (up j)))
      (lamOf (fun d => x6 (ix2 0 d)) (fun d => x6 (ix2 1 d)) (fun d => x6 (ix2 2 d)) fun d => x6 (ix2 3 d))
      (fun j e => rows x4 x2 (up j) e) e := by
  rw [pay13_at]
  simp only [pay11_at, pay12_at]
  refine diffOut_pad (p := 112) rfl (by norm_num) (padded0 x0 x1 x3 x5 KS hK r0 r1 r3 b5 l) (padded1 x0 x1 x3 x5 KS hK r0 r1 r3 b5 l)
    (score_re (fun _ => r0 _) (fun _ _ => rows_re r3 r1 _ _) fun _ => r5 _ _)
    (score_re (fun _ => r0 _) (fun _ _ => rows_re r3 r1 _ _) fun _ => r5 _ _) _ _ _ e (fun j _ => hV j e) fun j h => ?_
  rw [hV]; exact rows_zero _ _ _ h _

include hK hV r0 r1 r3 r5 b5 in
theorem block_at (l : Fin 16) (e : Fin 128) :
    k0_pay1 (k0_pay13 (k0_pay10 x0 x5 KS) (k0_pay11 x0 x5 KS) (k0_pay12 x0 x5 KS) x6 VS) (k0_pay14 x7)
      (k0_pay15 (k0_pay10 x0 x5 KS) (k0_pay11 x0 x5 KS) (k0_pay12 x0 x5 KS) x6 VS) (ix3 0 l e)
      = blockOut x0 x1 x2 x3 x4 x5 x6 x7 l e := by
  pointwise [k0_pay1, k0_pay14, k0_pay15]
  simp only [pay13_diff x0 x1 x2 x3 x4 x5 x6 KS VS hK hV r0 r1 r3 r5 b5]
  rfl

end Block

end Cert.KernelIdeal.Da
-- ==== Proof.DaArr.lean ====
module

public import proofs.«01_k».proof.Proof.Da
public import Idealize.ShloMosaic.Lib.Claim
public import Idealize.ShloMosaic.Lib.ValueIdxRank6

@[expose] public section

/-!
# The differential-attention kernel's result array
-/

noncomputable section

namespace Cert.KernelIdeal.Da

open Idealize.ShloMosaic.Pointwise Cert.KernelIdeal Cert.KernelIdeal.Gen Idealize.ShloMosaic Idealize.ShloMosaic.TcCoe Idealize.SL.Sem
open Cert.Soft

set_option maxRecDepth 16384

theorem idx : ∀ t : Fin cfg0.N, win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![1, (grid0.coords t 0).val, 0, (grid0.coords t 1).val]
    ∧ win0_4.index t = ![1, (grid0.coords t 0).val, 0, (grid0.coords t 1).val]
    ∧ win0_5.index t = ![(grid0.coords t 1).val, 0, 0]
    ∧ win0_6.index t = ![0, 0] ∧ win0_7.index t = ![0, 0]
    ∧ win0_8.index t = ![(grid0.coords t 0).val, 0, (grid0.coords t 1).val] :=
  (by decide +kernel : ∀ t : Fin grid0.N, _)

variable (m : (ℓ : Loc nD τ sig) → Buf (Elt Ideal) ℓ) (c : Dev nD) (t : Fin cfg0.N)

/-- The batch row of a grid point. -/
def bt : Fin 16 := ⟨(grid0.coords t 0).val, (grid0.coords t 0).isLt⟩
/-- The head of a grid point. -/
def ht : Fin 4 := ⟨(grid0.coords t 1).val, (grid0.coords t 1).isLt⟩
/-- Lane `d` of head `h` among 512. -/
def hl (h : Fin 4) (d : Fin 128) : Fin 512 := ⟨h.val * 128 + d.val, by omega⟩

theorem blk0 (l : Fin 16) (d : Fin 128) : iblk m c 0 t (ix3 0 l d)
    = m ((c : Thread nD τ).loc main_arg0) (ix3 (bt t) l (hl (ht t) d)) := by
  blk_ext [iblk, V, idx t, hl, ht, bt]

theorem blk1 (l : Fin 16) (d : Fin 128) : iblk m c 1 t (ix3 0 l d)
    = m ((c : Thread nD τ).loc main_arg1) (ix3 (bt t) l (hl (ht t) d)) := by
  blk_ext [iblk, V, idx t, hl, ht, bt]

theorem blk2 (l : Fin 16) (d : Fin 128) : iblk m c 2 t (ix3 0 l d)
    = m ((c : Thread nD τ).loc main_arg2) (ix3 (bt t) l (hl (ht t) d)) := by
  blk_ext [iblk, V, idx t, hl, ht, bt]

theorem V6 : V m c main_v6 = shapeCast S4x16x2048x512 (m ((c : Thread nD τ).loc main_arg3)) shapeCasts_S4x16x2048x4x2x64_S4x16x2048x512 := rfl
theorem V7 : V m c main_v7 = shapeCast S4x16x2048x512 (m ((c : Thread nD τ).loc main_arg4)) shapeCasts_S4x16x2048x4x128_S4x16x2048x512 := rfl
theorem V8 : V m c main_v8 = shapeCast S1x128 (m ((c : Thread nD τ).loc main_arg10)) shapeCasts_S128_S1x128 := rfl
theorem V0 : V m c main_v0 = pad (s := S4x16x2064) (α := EReal) S4x16x2176 ![0, 0, 0] ![0, 0, 112] ![0, 0, 0] (m ((c : Thread nD τ).loc main_arg5) : FVec Ideal S4x16x2064 .f32)
    (constant (F := Ideal) S_ .f32 0xFF800000#32) pads_S4x16x2064_S4x16x2176_000_000_01120 h_S_ := rfl
theorem V5 : V m c main_v5 = concatenate S4x64 0 [
    ⟨S1x64, broadcastInDim S1x64 ![1] bcast_S64_S1x64_1 (m ((c : Thread nD τ).loc main_arg6) : FVec Ideal S64 .f32)⟩,
    ⟨S1x64, broadcastInDim S1x64 ![1] bcast_S64_S1x64_1 (m ((c : Thread nD τ).loc main_arg7) : FVec Ideal S64 .f32)⟩,
    ⟨S1x64, broadcastInDim S1x64 ![1] bcast_S64_S1x64_1 (m ((c : Thread nD τ).loc main_arg8) : FVec Ideal S64 .f32)⟩,
    ⟨S1x64, broadcastInDim S1x64 ![1] bcast_S64_S1x64_1 (m ((c : Thread nD τ).loc main_arg9) : FVec Ideal S64 .f32)⟩]
    concatenates_S1x64_S1x64_S1x64_S1x64_S4x64_d0 := rfl

theorem blk3 (j : Fin 2048) (d : Fin 128) : iblk m c 3 t (ix4 0 0 j d)
    = m ((c : Thread nD τ).loc main_arg3) (ValueIdx.ix6 1 (bt t) j (ht t) ⟨d.val / 64, by omega⟩ ⟨d.val % 64, by omega⟩) := by
  show V m c main_v6 (((cfg0.win 3).blk t).view.emb _) = _
  have e : ((cfg0.win 3).blk t).view.emb (ix4 0 0 j d) = ix4 1 (bt t) j (hl (ht t) d) := by blk_ext [idx t, hl, ht, bt]
  rw [V6, e]
  refine shapeCast_apply _ _ _ _ ?_
  show (S4x16x2048x4x2x64.rowMajor _).val = _
  rw [Shape.rowMajor_val_six, Shape.rowMajor_val_four]
  show ((((1 * 16 + (bt t).val) * 2048 + j.val) * 4 + (ht t).val) * 2 + d.val / 64) * 64 + d.val % 64
    = ((1 * 16 + (bt t).val) * 2048 + j.val) * 512 + ((ht t).val * 128 + d.val)
  omega

theorem blk4 (j : Fin 2048) (d : Fin 128) : iblk m c 4 t (ix4 0 0 j d)
    = m ((c : Thread nD τ).loc main_arg4) (ix5 1 (bt t) j (ht t) d) := by
  show V m c main_v7 (((cfg0.win 4).blk t).view.emb _) = _
  have e : ((cfg0.win 4).blk t).view.emb (ix4 0 0 j d) = ix4 1 (bt t) j (hl (ht t) d) := by blk_ext [idx t, hl, ht, bt]
  rw [V7, e]
  refine shapeCast_apply _ _ _ _ ?_
  show (S4x16x2048x4x128.rowMajor _).val = _
  rw [Shape.rowMajor_val_five, Shape.rowMajor_val_four]
  show (((1 * 16 + (bt t).val) * 2048 + j.val) * 4 + (ht t).val) * 128 + d.val
    = ((1 * 16 + (bt t).val) * 2048 + j.val) * 512 + ((ht t).val * 128 + d.val)
  omega

theorem blk5 (l : Fin 16) (j : Fin 2176) : iblk m c 5 t (ix3 0 l j)
    = if h : j.val < 2064 then m ((c : Thread nD τ).loc main_arg5) (ix3 (ht t) l ⟨j, h⟩) else (⊥ : EReal) := by
  show V m c main_v0 (((cfg0.win 5).blk t).view.emb _) = _
  have e : ((cfg0.win 5).blk t).view.emb (ix3 0 l j) = ix3 (ht t) l j := by blk_ext [idx t, ht]
  rw [V0, e]
  pointwise
  rw [ofBits_bot]

theorem blk6 (i : Fin 4) (j : Fin 64) : iblk m c 6 t (ix2 i j)
    = ![m ((c : Thread nD τ).loc main_arg6), m ((c : Thread nD τ).loc main_arg7), m ((c : Thread nD τ).loc main_arg8), m ((c : Thread nD τ).loc main_arg9)] i (ix1 j) := by
  show V m c main_v5 (((cfg0.win 6).blk t).view.emb _) = _
  rw [V5]
  have e : ((cfg0.win 6).blk t).view.emb (ix2 i j) = ix2 i j := by blk_ext [idx t]
  rw [e]
  fin_cases i
  all_goals pointwise

theorem blk7 (d : Fin 128) : iblk m c 7 t (ix2 0 d)
    = m ((c : Thread nD τ).loc main_arg10) (ix1 d) := by
  show V m c main_v8 (((cfg0.win 7).blk t).view.emb _) = _
  rw [V8]
  refine shapeCast_apply _ _ _ _ ?_
  have e : ((cfg0.win 7).blk t).view.emb (ix2 0 d) = ix2 0 d := by blk_ext [idx t]
  rw [e]
  show (S128.rowMajor _).val = _
  rw [Shape.rowMajor_val_one, Shape.rowMajor_val_two]
  show d.val = 0 * 128 + d.val
  omega

/-! ## The array -/

section Spec

variable (A0 : FVec Ideal S16x16x512 .bf16) (A1 A2 : FVec Ideal S16x16x512 .f32) (A3 : FVec Ideal S4x16x2048x4x2x64 .f32)
  (A4 : FVec Ideal S4x16x2048x4x128 .f32) (A5 : FVec Ideal S4x16x2064 .f32) (A6 A7 A8 A9 : FVec Ideal S64 .f32)
  (A10 : FVec Ideal S128 .f32)

/-- Key `j`'s lane: of the cache for the first 2048 keys, of the new rows after them. -/
def key (b : Fin 16) (h : Fin 4) (j : Fin 2064) (d : Fin 128) : EReal :=
  if hj : j.val < 2048 then A3 (ValueIdx.ix6 1 b ⟨j, hj⟩ h ⟨d.val / 64, by omega⟩ ⟨d.val % 64, by omega⟩)
  else A1 (ix3 b ⟨j.val - 2048, by omega⟩ (hl h d))

/-- Value `j`'s lane. -/
def value (b : Fin 16) (h : Fin 4) (j : Fin 2064) (d : Fin 128) : EReal :=
  if hj : j.val < 2048 then A4 (ix5 1 b ⟨j, hj⟩ h d) else A2 (ix3 b ⟨j.val - 2048, by omega⟩ (hl h d))

/-- Differential attention at batch row `b`, token `l`, head `h`, lane `e`. -/
def attn (b l : Fin 16) (h : Fin 4) (e : Fin 128) : EReal :=
  norm (diffOut
      (score (fun d => A0 (ix3 b l (hl h (lane 0 d)))) (fun j d => key A1 A3 b h j (lane 0 d)) fun j => A5 (ix3 h l j))
      (score (fun d => A0 (ix3 b l (hl h (lane 1 d)))) (fun j d => key A1 A3 b h j (lane 1 d)) fun j => A5 (ix3 h l j))
      (lamOf (fun d => A6 (ix1 d)) (fun d => A7 (ix1 d)) (fun d => A8 (ix1 d)) fun d => A9 (ix1 d))
      fun j e => value A2 A4 b h j e)
    (fun e => A10 (ix1 e)) e

/-- The result array. -/
def attnArr : FVec Ideal S16x16x512 .bf16 := fun i =>
  attn A0 A1 A2 A3 A4 A5 A6 A7 A8 A9 A10 (i 0) (i 1) ⟨(i 2).val / 128, by have : (i 2).val < 512 := (i 2).isLt; omega⟩
    ⟨(i 2).val % 128, by omega⟩

end Spec

/-- The arguments the scores are made of are real numbers. -/
structure Fin4 : Prop where
  q : ∀ i, Re (m ((c : Thread nD τ).loc main_arg0) i)
  k : ∀ i, Re (m ((c : Thread nD τ).loc main_arg1) i)
  ck : ∀ i, Re (m ((c : Thread nD τ).loc main_arg3) i)
  b : ∀ i, Re (m ((c : Thread nD τ).loc main_arg5) i)

theorem rows3 (j : Fin 2064) (d : Fin 128) : rows (iblk m c 3 t) (iblk m c 1 t) (up j) d
    = key (m ((c : Thread nD τ).loc main_arg1)) (m ((c : Thread nD τ).loc main_arg3)) (bt t) (ht t) j d := by
  unfold rows key
  by_cases hj : j.val < 2048
  · rw [dif_pos hj, dif_pos hj, blk3]
  · rw [dif_neg hj, dif_neg hj, dif_pos j.isLt, blk1]

theorem rows4 (j : Fin 2064) (d : Fin 128) : rows (iblk m c 4 t) (iblk m c 2 t) (up j) d
    = value (m ((c : Thread nD τ).loc main_arg2)) (m ((c : Thread nD τ).loc main_arg4)) (bt t) (ht t) j d := by
  unfold rows value
  by_cases hj : j.val < 2048
  · rw [dif_pos hj, dif_pos hj, blk4]
  · rw [dif_neg hj, dif_neg hj, dif_pos j.isLt, blk2]

/-- The block of a grid point is the array's entry at its batch row and head. -/
theorem blockOut_eq (l : Fin 16) (e : Fin 128) :
    blockOut (iblk m c 0 t) (iblk m c 1 t) (iblk m c 2 t) (iblk m c 3 t) (iblk m c 4 t) (iblk m c 5 t) (iblk m c 6 t) (iblk m c 7 t) l e
      = attn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (bt t) l (ht t) e := by
  unfold blockOut attn
  have h5 : ∀ (j : Fin 2064), iblk m c 5 t (ix3 0 l (up j)) = m ((c : Thread nD τ).loc main_arg5) (ix3 (ht t) l j) := fun j => by
    rw [blk5, dif_pos j.isLt]
  simp only [rows3, rows4, blk0, h5, blk6, blk7]
  rfl

theorem re5 (h : Fin4 m c) (l : Fin 16) (j : Fin 2064) : Re (iblk m c 5 t (ix3 0 l (up j))) := by
  rw [blk5, dif_pos j.isLt]; exact h.b _

theorem bot5 (l : Fin 16) (j : Fin 2176) (hj : 2064 ≤ j.val) : iblk m c 5 t (ix3 0 l j) = (⊥ : EReal) := by
  rw [blk5, dif_neg (by omega)]

theorem re0 (h : Fin4 m c) (i : S1x16x128.Idx) : Re (iblk m c 0 t i) := h.q _
theorem re1 (h : Fin4 m c) (i : S1x16x128.Idx) : Re (iblk m c 1 t i) := h.k _
theorem re3 (h : Fin4 m c) (i : S1x1x2048x128.Idx) : Re (iblk m c 3 t i) := by
  show Re (V m c main_v6 (((cfg0.win 3).blk t).view.emb _))
  rw [V6]; exact h.ck _

/-- The keys the body reads back at a grid point. -/
abbrev keys : Vec Ideal S2176x128 .bf16 := (View.whole cc0_scratch0).readCov
  (stores inb_S2176x128_S112x128_2064_0 inb_S2176x128_S16x128_2048_0 inb_S2176x128_S2048x128_0_0 k0_pay6 (k0_pay4 (iblk m c 1 t))
    (k0_pay2 (iblk m c 3 t))) (Rect.unit (s := S2176x128) ![0, 0] ![2176, 128] inb_S2176x128_S2176x128_0_0).toLoadRect
/-- The values the body reads back at a grid point. -/
abbrev values : Vec Ideal S2176x128 .bf16 := (View.whole cc0_scratch1).readCov
  (stores inb_S2176x128_S112x128_2064_0 inb_S2176x128_S16x128_2048_0 inb_S2176x128_S2048x128_0_0 k0_pay7 (k0_pay5 (iblk m c 2 t))
    (k0_pay3 (iblk m c 4 t))) (Rect.unit (s := S2176x128) ![0, 0] ![2176, 128] inb_S2176x128_S2176x128_0_0).toLoadRect

theorem keys_at (j : Fin 2176) (d : Fin 128) : keys m c t (ix2 j d) = rows (iblk m c 3 t) (iblk m c 1 t) j d :=
  stored_at scM0_0 _ _ _ _ _ _ _ _ _ pay6_at (pay4_at _) (pay2_at _) j d
theorem values_at (j : Fin 2176) (d : Fin 128) : values m c t (ix2 j d) = rows (iblk m c 4 t) (iblk m c 2 t) j d :=
  stored_at scM0_1 _ _ _ _ _ _ _ _ _ pay7_at (pay5_at _) (pay3_at _) j d

theorem final (h : Fin4 m c) : (dats m 0 c).arrAt 8 (cfgs 0).N
    = attnArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (dats m 0 c).arrAt_eq_of_covers 8 _ (by decide +kernel) fun t _ y => ?_
  have e : (((cfg0.win 8).blk t).view.emb y : S16x16x512.Idx) = ix3 (bt t) (y 1) (hl (ht t) (y 2)) := by
    blk_ext [idx t, hl, ht, bt]
  rw [e, after0_8]
  have hy0 : (y 0).val < 1 := (y 0).isLt
  have ey : ((cfg0.win 8).xinj (cfg0.grid.coords t) y : S1x16x128.Idx) = ix3 0 (y 1) (y 2) := by
    blk_ext []
  rw [show outsAt0 m c t = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) from rfl]
  frame_out
  have hb := (block_at (iblk m c 0 t) (iblk m c 1 t) (iblk m c 2 t) (iblk m c 3 t) (iblk m c 4 t) (iblk m c 5 t) (iblk m c 6 t) (iblk m c 7 t)
    (keys m c t) (values m c t) (keys_at m c t) (values_at m c t)
    (re0 m c t h) (re1 m c t h) (re3 m c t h) (re5 m c t h) (bot5 m c t) (y 1) (y 2)).trans (blockOut_eq m c t (y 1) (y 2))
  refine Eq.trans ?_ (hb.trans ?_)
  · blk_simp
    exact congrArg (k0_pay1 (F := Ideal) _ _ _) ey
  · unfold attnArr
    have h2 : (y 2).val < 128 := (y 2).isLt
    have e1 : ∀ h', (⟨(hl (ht t) (y 2)).val / 128, h'⟩ : Fin 4) = ht t := fun h' => Fin.ext (by
      show ((ht t).val * 128 + (y 2).val) / 128 = _; omega)
    have e2 : ∀ h', (⟨(hl (ht t) (y 2)).val % 128, h'⟩ : Fin 128) = y 2 := fun h' => Fin.ext (by
      show ((ht t).val * 128 + (y 2).val) % 128 = _; omega)
    exact (congrArg₂ (attn _ _ _ _ _ _ _ _ _ _ _ (bt t) (y 1)) (e1 _) (e2 _)).symm

end Cert.KernelIdeal.Da
-- ==== Proof.DaRef.lean ====
module

public import proofs.«01_k».proof.Proof.DaArr
public import proofs.«01_k».proof.Proof.Gen.ReferenceIdeal.Read

@[expose] public section

/-!
# The reference's result array is differential attention, row by row
-/

noncomputable section

namespace Cert.ReferenceIdeal.Da

open Cert.ReferenceIdeal Cert.ReferenceIdeal.Gen Cert.ReferenceIdeal.Read Idealize.ShloMosaic Idealize.ShloMosaic.TcCoe Idealize.SL.Sem
open Idealize.ShloMosaic.Pointwise Idealize.ShloMosaic.StableHlo
open Cert.Soft
open Cert.KernelIdeal.Da (hl key value attn attnArr)

set_option maxRecDepth 16384

/-! ## The causal mask holds everywhere -/

theorem v20_le : ∀ j : Fin 2064, IntOp.cmpi .sle (val_main_v20 (F := Ideal) (ix1 j)) 32#32 = 1#1 := by decide +kernel
theorem v22_eq : ∀ l : Fin 16, val_main_v22 (F := Ideal) (ix1 l) = 32#32 := by decide +kernel

theorem mask (l : Fin 16) (j : Fin 2064) : val_main_v26 (F := Ideal) (ix2 l j) = 1#1 := by
  have h := v20_le j
  rw [← v22_eq l] at h
  rw [val_main_v26_apply, val_main_v24_apply, val_main_v25_apply, val_main_v21_apply, val_main_v23_apply]
  refine Eq.trans ?_ h
  refine congrArg₂ (IntOp.cmpi .sle) (congrArg val_main_v20 ?_) (congrArg val_main_v22 ?_)
  · funext a; match a with | ⟨0, _⟩ => rfl
  · funext a; match a with | ⟨0, _⟩ => rfl

variable (x0 : FVec Ideal S16x16x512 .bf16) (x1 x2 : FVec Ideal S16x16x512 .f32) (x3 : FVec Ideal S4x16x2048x4x2x64 .f32)
  (x4 : FVec Ideal S4x16x2048x4x128 .f32) (x5 : FVec Ideal S4x16x2064 .f32) (x6 x7 x8 x9 : FVec Ideal S64 .f32)
  (x10 : FVec Ideal S128 .f32)

/-! ## Queries, keys and values -/

theorem v1_at (b l : Fin 16) (h : Fin 4) (c : Fin 2) (d : Fin 64) :
    val_main_v1 (F := Ideal) x0 (ix5 b l h c d) = x0 (ix3 b l (hl h (lane c d))) := by
  unfold val_main_v1
  refine (shapeCast_apply _ _ _ (ix3 b l (hl h (lane c d))) ?_).trans rfl
  rw [Shape.rowMajor_val_three, Shape.rowMajor_val_five]
  show (b.val * 16 + l.val) * 512 + (h.val * 128 + (64 * c.val + d.val)) = (((b.val * 16 + l.val) * 4 + h.val) * 2 + c.val) * 64 + d.val
  omega

theorem v3_at (b : Fin 16) (j : Fin 2048) (h : Fin 4) (c : Fin 2) (d : Fin 64) :
    val_main_v3 (F := Ideal) x3 (ix5 b j h c d) = x3 (ValueIdx.ix6 1 b j h c d) := by
  unfold val_main_v3
  refine (shapeCast_apply _ _ _ (ValueIdx.ix6 0 b j h c d) ?_).trans ?_
  · rw [Shape.rowMajor_val_six, Shape.rowMajor_val_five]
    show ((((0 * 16 + b.val) * 2048 + j.val) * 4 + h.val) * 2 + c.val) * 64 + d.val = (((b.val * 2048 + j.val) * 4 + h.val) * 2 + c.val) * 64 + d.val
    omega
  · rw [val_main_v2_apply]
    refine congrArg x3 (funext fun a => Fin.ext ?_)
    match a with
    | ⟨0, _⟩ => rfl
    | ⟨1, _⟩ => rfl
    | ⟨2, _⟩ => rfl
    | ⟨3, _⟩ => rfl
    | ⟨4, _⟩ => rfl
    | ⟨5, _⟩ => rfl

theorem v5_at (b : Fin 16) (j : Fin 2064) (h : Fin 4) (c : Fin 2) (d : Fin 64) :
    val_main_v5 (F := Ideal) x1 x3 (ix5 b j h c d) = key x1 x3 b h j (lane c d) := by
  unfold val_main_v5 key
  by_cases hj : j.val < 2048
  · rw [dif_pos hj]
    refine (concatenate_pair_apply_left (t := S16x2064x4x2x64) (s₁ := S16x2048x4x2x64) (s₂ := S16x16x4x2x64) (1 : Fin 5) _ _ _ _ rfl
      (ix5 b (⟨j.val, hj⟩ : Fin 2048) h c d) (fun a => by match a with | ⟨0, _⟩ => rfl | ⟨1, _⟩ => rfl | ⟨2, _⟩ => rfl | ⟨3, _⟩ => rfl | ⟨4, _⟩ => rfl)).trans ?_
    rw [v3_at]
    have e1 : ∀ h', (⟨(lane c d).val / 64, h'⟩ : Fin 2) = c := fun _ => Fin.ext (by show (64 * c.val + d.val) / 64 = _; omega)
    have e2 : ∀ h', (⟨(lane c d).val % 64, h'⟩ : Fin 64) = d := fun _ => Fin.ext (by show (64 * c.val + d.val) % 64 = _; omega)
    rw [e1, e2]
  · rw [dif_neg hj]
    refine (concatenate_pair_apply_right (t := S16x2064x4x2x64) (s₁ := S16x2048x4x2x64) (s₂ := S16x16x4x2x64) (1 : Fin 5) _ _ _ _ rfl rfl
      (ix5 b (⟨j.val - 2048, by omega⟩ : Fin 16) h c d) (fun a => by match a with | ⟨0, _⟩ => exact fun _ => rfl | ⟨1, _⟩ => exact fun h => absurd rfl h | ⟨2, _⟩ => exact fun _ => rfl | ⟨3, _⟩ => exact fun _ => rfl | ⟨4, _⟩ => exact fun _ => rfl)
      (by show j.val - 2048 + 2048 = j.val; omega)).trans ?_
    unfold val_main_v4
    refine shapeCast_apply _ _ _ (ix3 b _ (hl h (lane c d))) ?_
    rw [Shape.rowMajor_val_three, Shape.rowMajor_val_five]
    show (b.val * 16 + (j.val - 2048)) * 512 + (h.val * 128 + (64 * c.val + d.val)) = (((b.val * 16 + (j.val - 2048)) * 4 + h.val) * 2 + c.val) * 64 + d.val
    omega

theorem v9_at (b : Fin 16) (j : Fin 2064) (h : Fin 4) (e : Fin 128) :
    val_main_v9 (F := Ideal) x2 x4 (ix4 b j h e) = value x2 x4 b h j e := by
  unfold val_main_v9 value
  by_cases hj : j.val < 2048
  · rw [dif_pos hj]
    refine (concatenate_pair_apply_left (t := S16x2064x4x128) (s₁ := S16x2048x4x128) (s₂ := S16x16x4x128) (1 : Fin 4) _ _ _ _ rfl
      (ix4 b (⟨j.val, hj⟩ : Fin 2048) h e) (fun a => by match a with | ⟨0, _⟩ => rfl | ⟨1, _⟩ => rfl | ⟨2, _⟩ => rfl | ⟨3, _⟩ => rfl)).trans ?_
    unfold val_main_v7
    refine (shapeCast_apply _ _ _ (ix5 0 b (⟨j.val, hj⟩ : Fin 2048) h e) ?_).trans ?_
    · rw [Shape.rowMajor_val_five, Shape.rowMajor_val_four]
      show (((0 * 16 + b.val) * 2048 + j.val) * 4 + h.val) * 128 + e.val = ((b.val * 2048 + j.val) * 4 + h.val) * 128 + e.val
      omega
    · rw [val_main_v6_apply]
      refine congrArg x4 (funext fun a => Fin.ext ?_)
      match a with
      | ⟨0, _⟩ => rfl
      | ⟨1, _⟩ => rfl
      | ⟨2, _⟩ => rfl
      | ⟨3, _⟩ => rfl
      | ⟨4, _⟩ => rfl
  · rw [dif_neg hj]
    refine (concatenate_pair_apply_right (t := S16x2064x4x128) (s₁ := S16x2048x4x128) (s₂ := S16x16x4x128) (1 : Fin 4) _ _ _ _ rfl rfl
      (ix4 b (⟨j.val - 2048, by omega⟩ : Fin 16) h e) (fun a => by match a with | ⟨0, _⟩ => exact fun _ => rfl | ⟨1, _⟩ => exact fun h => absurd rfl h | ⟨2, _⟩ => exact fun _ => rfl | ⟨3, _⟩ => exact fun _ => rfl)
      (by show j.val - 2048 + 2048 = j.val; omega)).trans ?_
    unfold val_main_v8
    refine shapeCast_apply _ _ _ (ix3 b _ (hl h e)) ?_
    rw [Shape.rowMajor_val_three, Shape.rowMajor_val_four]
    show (b.val * 16 + (j.val - 2048)) * 512 + (h.val * 128 + e.val) = ((b.val * 16 + (j.val - 2048)) * 4 + h.val) * 128 + e.val
    omega

/-! ## Scores and the softmax -/

/-- The scores of component `c` at batch row `b`, token `l`, head `h`. -/
abbrev sc (b l : Fin 16) (h : Fin 4) (c : Fin 2) : Fin 2064 → EReal :=
  score (fun d => x0 (ix3 b l (hl h (lane c d)))) (fun j d => key x1 x3 b h j (lane c d)) fun j => x5 (ix3 h l j)

theorem v33_at (b : Fin 16) (c : Fin 2) (h : Fin 4) (l : Fin 16) (j : Fin 2064) :
    val_main_v33 (F := Ideal) x0 x1 x3 x5 (ix5 b c h l j) = sc x0 x1 x3 x5 b l h c j := by
  have em : val_main_call2_v1 (F := Ideal) (ix5 b c h l j) = 1#1 := by
    rw [val_main_call2_v1_apply]
    exact (congrArg (val_main_v26 (F := Ideal)) (funext fun a => by match a with | ⟨0, _⟩ => rfl | ⟨1, _⟩ => rfl)).trans (mask l j)
  rw [val_main_v33_apply, em, ValueIdx.select_one, val_main_v32_apply, val_main_v29_apply, val_main_v27_apply, val_main_v31_apply, val_main_v30_apply]
  refine congrArg₂ (· + ·) (congrArg₂ (· * ·) (Finset.sum_congr rfl fun d _ => congrArg₂ (· * ·) ?_ ?_) ?_) ?_
  · exact (congrArg (val_main_v1 (F := Ideal) x0) (funext fun a => by match a with | ⟨0, _⟩ => rfl | ⟨1, _⟩ => rfl | ⟨2, _⟩ => rfl | ⟨3, _⟩ => rfl | ⟨4, _⟩ => rfl)).trans (v1_at x0 b l h c d)
  · exact (congrArg (val_main_v5 (F := Ideal) x1 x3) (funext fun a => by match a with | ⟨0, _⟩ => rfl | ⟨1, _⟩ => rfl | ⟨2, _⟩ => rfl | ⟨3, _⟩ => rfl | ⟨4, _⟩ => rfl)).trans (v5_at x1 x3 b j h c d)
  · rw [val_main_v28_apply]; rfl
  · exact congrArg x5 (funext fun a => by match a with | ⟨0, _⟩ => rfl | ⟨1, _⟩ => rfl | ⟨2, _⟩ => rfl)

theorem v34_at (b : Fin 16) (c : Fin 2) (h : Fin 4) (l : Fin 16) :
    val_main_v34 (F := Ideal) x0 x1 x3 x5 (ix4 b c h l) = mx (sc x0 x1 x3 x5 b l h c) := by
  unfold val_main_v34
  rw [Host.reduce_eq_fold_single FloatOps.maximumf _ _ reducesTo_S16x2x4x16x2064_S16x2x4x16_d4 (by decide) h_S_]
  refine Eq.trans (congrArg₂ (fun a f => Finset.fold (max : EReal → EReal → EReal) a f Finset.univ) (ofBits_bot)
    (funext fun j : Fin 2064 => ?_)) rfl
  refine Eq.trans (congrArg (val_main_v33 (F := Ideal) x0 x1 x3 x5) (a₂ := ix5 b c h l j) ?_) (v33_at x0 x1 x3 x5 b c h l j)
  exact funext fun a => Fin.ext (by match a with | ⟨0, _⟩ => rfl | ⟨1, _⟩ => rfl | ⟨2, _⟩ => rfl | ⟨3, _⟩ => rfl | ⟨4, _⟩ => rfl)

theorem v40_at (b : Fin 16) (c : Fin 2) (h : Fin 4) (l : Fin 16) (j : Fin 2064) :
    val_main_v40 (F := Ideal) x0 x1 x3 x5 (ix5 b c h l j) = ex (sc x0 x1 x3 x5 b l h c) j := by
  rw [val_main_v40_apply, val_main_v39_apply, v33_at, val_main_v38_apply, val_main_v37_apply, val_main_v36_apply]
  refine congrArg (fun y => Ideal.exp (sc x0 x1 x3 x5 b l h c j - y)) ?_
  refine Eq.trans (congrArg₂ max ?_ ?_) (bot_sup_eq (mx (sc x0 x1 x3 x5 b l h c)))
  · rw [val_main_v35_apply]; exact ofBits_bot
  · exact (congrArg (val_main_v34 (F := Ideal) x0 x1 x3 x5) (funext fun a => by match a with | ⟨0, _⟩ => rfl | ⟨1, _⟩ => rfl | ⟨2, _⟩ => rfl | ⟨3, _⟩ => rfl)).trans (v34_at x0 x1 x3 x5 b c h l)

theorem v41_at (b : Fin 16) (c : Fin 2) (h : Fin 4) (l : Fin 16) :
    val_main_v41 (F := Ideal) x0 x1 x3 x5 (ix4 b c h l) = ∑ j, ex (sc x0 x1 x3 x5 b l h c) j := by
  rw [val_main_v41_apply]
  refine (congrArg₂ (· + ·) (?_ : _ = (0 : EReal)) (Finset.sum_congr rfl fun j _ => ?_)).trans (zero_add _)
  · exact Ideal.ofBits_zero_f32
  · exact (congrArg (val_main_v40 (F := Ideal) x0 x1 x3 x5) (funext fun a => by match a with | ⟨0, _⟩ => rfl | ⟨1, _⟩ => rfl | ⟨2, _⟩ => rfl | ⟨3, _⟩ => rfl | ⟨4, _⟩ => rfl)).trans (v40_at x0 x1 x3 x5 b c h l j)

variable {x0 x1 x3 x5} in
theorem sc_re (r0 : ∀ i, Re (x0 i)) (r1 : ∀ i, Re (x1 i)) (r3 : ∀ i, Re (x3 i)) (r5 : ∀ i, Re (x5 i)) (b l : Fin 16) (h : Fin 4)
    (c : Fin 2) (j : Fin 2064) : Re (sc x0 x1 x3 x5 b l h c j) :=
  score_re (fun _ => r0 _) (fun j d => by unfold key; split; exacts [r3 _, r1 _]) (fun _ => r5 _) j

section Real
variable (r0 : ∀ i, Re (x0 i)) (r1 : ∀ i, Re (x1 i)) (r3 : ∀ i, Re (x3 i)) (r5 : ∀ i, Re (x5 i))
include r0 r1 r3 r5

theorem v44_at (b : Fin 16) (c : Fin 2) (h : Fin 4) (l : Fin 16) (j : Fin 2064) :
    val_main_v44 (F := Ideal) x0 x1 x3 x5 (ix5 b c h l j)
      = ex (sc x0 x1 x3 x5 b l h c) j * (∑ i, ex (sc x0 x1 x3 x5 b l h c) i)⁻¹ := by
  rw [val_main_v44_apply, v40_at, val_main_v43_apply, val_main_v42_apply]
  refine Eq.trans (congrArg (Ideal.div (ex (sc x0 x1 x3 x5 b l h c) j)) ?_)
    (div_ne (sum_ex_ne_zero (by norm_num) _ (sc_re r0 r1 r3 r5 b l h c)))
  exact (congrArg (val_main_v41 (F := Ideal) x0 x1 x3 x5) (funext fun a => by match a with | ⟨0, _⟩ => rfl | ⟨1, _⟩ => rfl | ⟨2, _⟩ => rfl | ⟨3, _⟩ => rfl)).trans (v41_at x0 x1 x3 x5 b c h l)

theorem v46_at (b : Fin 16) (h : Fin 4) (l : Fin 16) (j : Fin 2064) :
    val_main_v46 (F := Ideal) x0 x1 x3 x5 (ix4 b h l j)
      = ex (sc x0 x1 x3 x5 b l h 0) j * (∑ i, ex (sc x0 x1 x3 x5 b l h 0) i)⁻¹ := by
  unfold val_main_v46
  refine (shapeCast_apply _ _ _ (ix5 b 0 h l j) ?_).trans ?_
  · rw [Shape.rowMajor_val_five, Shape.rowMajor_val_four]
    show (((b.val * 1 + 0) * 4 + h.val) * 16 + l.val) * 2064 + j.val = ((b.val * 4 + h.val) * 16 + l.val) * 2064 + j.val
    omega
  · rw [val_main_v45_apply]
    refine (congrArg (val_main_v44 (F := Ideal) x0 x1 x3 x5) (a₂ := ix5 b 0 h l j) (funext fun a => Fin.ext ?_)).trans (v44_at x0 x1 x3 x5 r0 r1 r3 r5 b 0 h l j)
    match a with
    | ⟨0, _⟩ => rfl
    | ⟨1, _⟩ => rfl
    | ⟨2, _⟩ => rfl
    | ⟨3, _⟩ => rfl
    | ⟨4, _⟩ => rfl

theorem v48_at (b : Fin 16) (h : Fin 4) (l : Fin 16) (j : Fin 2064) :
    val_main_v48 (F := Ideal) x0 x1 x3 x5 (ix4 b h l j)
      = ex (sc x0 x1 x3 x5 b l h 1) j * (∑ i, ex (sc x0 x1 x3 x5 b l h 1) i)⁻¹ := by
  unfold val_main_v48
  refine (shapeCast_apply _ _ _ (ix5 b 0 h l j) ?_).trans ?_
  · rw [Shape.rowMajor_val_five, Shape.rowMajor_val_four]
    show (((b.val * 1 + 0) * 4 + h.val) * 16 + l.val) * 2064 + j.val = ((b.val * 4 + h.val) * 16 + l.val) * 2064 + j.val
    omega
  · rw [val_main_v47_apply]
    refine (congrArg (val_main_v44 (F := Ideal) x0 x1 x3 x5) (a₂ := ix5 b 1 h l j) (funext fun a => Fin.ext ?_)).trans (v44_at x0 x1 x3 x5 r0 r1 r3 r5 b 1 h l j)
    match a with
    | ⟨0, _⟩ => rfl
    | ⟨1, _⟩ => rfl
    | ⟨2, _⟩ => rfl
    | ⟨3, _⟩ => rfl
    | ⟨4, _⟩ => rfl

omit r0 r1 r3 r5 in
theorem v17_at (i : S_.Idx) : val_main_v17 (F := Ideal) x6 x7 x8 x9 i
    = lamOf (fun d => x6 (ix1 d)) (fun d => x7 (ix1 d)) (fun d => x8 (ix1 d)) fun d => x9 (ix1 d) := by
  pointwise [val_main_v17, val_main_v16, val_main_v15, val_main_v12, val_main_v11, val_main_v14, val_main_v10, val_main_v13, val_main_cst, val_main_cst_0, val_main_cst_1, lamOf]

/-- The difference of the two softmaxes over the values. -/
abbrev diff (b l : Fin 16) (h : Fin 4) (e : Fin 128) : EReal :=
  diffOut (sc x0 x1 x3 x5 b l h 0) (sc x0 x1 x3 x5 b l h 1)
      (lamOf (fun d => x6 (ix1 d)) (fun d => x7 (ix1 d)) (fun d => x8 (ix1 d)) fun d => x9 (ix1 d))
      (fun j e => value x2 x4 b h j e) e

theorem v53_at (b l : Fin 16) (h : Fin 4) (e : Fin 128) :
    val_main_v53 (F := Ideal) x0 x1 x2 x3 x4 x5 x6 x7 x8 x9 (ix4 b l h e) = diff x0 x1 x2 x3 x4 x5 x6 x7 x8 x9 b l h e := by
  rw [val_main_v53_apply, val_main_v52_apply]
  refine Finset.sum_congr rfl fun j _ => (mul_comm _ _).trans (congrArg₂ (· * ·) ?_ ?_)
  · refine (congrArg (val_main_v51 (F := Ideal) x0 x1 x3 x5 x6 x7 x8 x9) (a₂ := ix4 b h l j) (funext fun a => by match a with | ⟨0, _⟩ => rfl | ⟨1, _⟩ => rfl | ⟨2, _⟩ => rfl | ⟨3, _⟩ => rfl)).trans ?_
    rw [val_main_v51_apply, val_main_v50_apply, val_main_v49_apply, v17_at, v46_at x0 x1 x3 x5 r0 r1 r3 r5, v48_at x0 x1 x3 x5 r0 r1 r3 r5]
    rfl
  · exact (congrArg (val_main_v9 (F := Ideal) x2 x4) (a₂ := ix4 b j h e) (funext fun a => by match a with | ⟨0, _⟩ => rfl | ⟨1, _⟩ => rfl | ⟨2, _⟩ => rfl | ⟨3, _⟩ => rfl)).trans (v9_at x2 x4 b j h e)

theorem v68_at (b l : Fin 16) (h : Fin 4) (e : Fin 128) :
    val_main_v68 (F := Ideal) x0 x1 x2 x3 x4 x5 x6 x7 x8 x9 x10 (ix4 b l h e)
      = Soft.norm (diff x0 x1 x2 x3 x4 x5 x6 x7 x8 x9 b l h) (fun e => x10 (ix1 e)) e := by
  rw [val_main_v68_apply, val_main_v66_apply, val_main_v63_apply, v53_at x0 x1 x2 x3 x4 x5 x6 x7 x8 x9 r0 r1 r3 r5,
    val_main_v62_apply, val_main_v61_apply, val_main_v60_apply, val_main_v58_apply, val_main_v56_apply, val_main_v55_apply,
    val_main_v65_apply, val_main_v64_apply, val_main_v67_apply, val_main_v59_apply, val_main_v57_apply]
  unfold Soft.norm
  refine (mul_assoc _ _ _).trans (congrArg₂ (· * ·) (congrArg₂ (· * ·) rfl (congrArg (fun y => Ideal.rsqrt (Ideal.div y _ + _)) ?_)) (congrArg₂ (· * ·) ?_ rfl))
  · refine (congrArg₂ (· + ·) (?_ : _ = (0 : EReal)) (Finset.sum_congr rfl fun j _ => ?_)).trans (zero_add _)
    · exact Ideal.ofBits_zero_f32
    · refine (congrArg (val_main_v54 (F := Ideal) x0 x1 x2 x3 x4 x5 x6 x7 x8 x9) (a₂ := ix4 b l h j) (funext fun a => by match a with | ⟨0, _⟩ => rfl | ⟨1, _⟩ => rfl | ⟨2, _⟩ => rfl | ⟨3, _⟩ => rfl)).trans ?_
      rw [val_main_v54_apply, v53_at x0 x1 x2 x3 x4 x5 x6 x7 x8 x9 r0 r1 r3 r5]
      rfl
  · exact congrArg x10 (funext fun a => by match a with | ⟨0, _⟩ => rfl)

theorem v70_eq : val_main_v70 (F := Ideal) x0 x1 x2 x3 x4 x5 x6 x7 x8 x9 x10 = attnArr x0 x1 x2 x3 x4 x5 x6 x7 x8 x9 x10 := by
  funext i
  have h0 : (i 0).val < 16 := (i 0).isLt
  have h1 : (i 1).val < 16 := (i 1).isLt
  have h2 : (i 2).val < 512 := (i 2).isLt
  refine Eq.trans ?_ (v68_at x0 x1 x2 x3 x4 x5 x6 x7 x8 x9 x10 r0 r1 r3 r5 (i 0) (i 1) ⟨(i 2).val / 128, by omega⟩ ⟨(i 2).val % 128, by omega⟩)
  rw [val_main_v70_apply]
  unfold val_main_v69
  refine shapeCast_apply _ _ _ (ix4 (i 0) (i 1) (⟨(i 2).val / 128, by omega⟩ : Fin 4) (⟨(i 2).val % 128, by omega⟩ : Fin 128)) ?_
  rw [Shape.rowMajor_val_three, Shape.rowMajor_val_four]
  show (((i 0).val * 16 + (i 1).val) * 4 + (i 2).val / 128) * 128 + (i 2).val % 128 = ((i 0).val * 16 + (i 1).val) * 512 + (i 2).val
  omega

end Real

end Cert.ReferenceIdeal.Da
-- ==== Proof.DaClaim.lean ====
module

public import proofs.«01_k».proof.Defs
public import proofs.«01_k».proof.Proof.DaRef
public import Idealize.ShloMosaic.Lib.ReduceAll
public import proofs.«01_k».proof.Proof.Gen.KernelIdeal.Frame

@[expose] public section

/-!
# Differential attention: the value claim
-/

noncomputable section

namespace Cert.DaClaim

open Idealize.ShloMosaic Idealize.SL.Sem Cert.Soft
open Cert.KernelIdeal.Da (attnArr Fin4)

instance preFacts : Cert.Pre_finite.Facts where
  bitsLt_bf16_f32 := by decide
  bcast_S_S16x16x512 := by decide
  reducesTo_S16x16x512_S_d0_1_2 := by decide
  h_S_ := by decide
  bcast_S_S4x16x2048x4x2x64 := by decide
  reducesTo_S4x16x2048x4x2x64_S_d0_1_2_3_4_5 := by decide
  bcast_S_S4x16x2064 := by decide
  reducesTo_S4x16x2064_S_d0_1_2 := by decide

/-- A comparison of magnitudes with the infinity that holds says the number is real. -/
theorem re_of_cmp {x y : EReal} (hy : y = Ideal.ofBits .f32 0x7F800000#32)
    (h : FloatOps.cmpf (F := Ideal) (φ := .f32) .olt (FloatOps.absf (F := Ideal) (φ := .f32) x) y = 1#1) : Re x := by
  subst hy
  have h' : BitVec.ofBool (decide (max x (-x) < Ideal.ofBits .f32 0x7F800000#32)) = 1#1 := h
  rw [ofBits_top] at h'
  by_cases hx : max x (-x) < ⊤
  · exact re_of_abs_lt hx
  · rw [decide_eq_false hx] at h'; exact absurd h' (by decide)

theorem and_one {a b : BitVec 1} (h : IntOp.andi a b = 1#1) : a = 1#1 ∧ b = 1#1 := by
  revert a b; decide

instance : Subsingleton Cert.Pre_finite.S_.Idx := ⟨fun a b => funext fun i => i.elim0⟩

theorem fin4 (m : (ℓ : Loc Cert.KernelIdeal.nD Cert.KernelIdeal.τ Cert.KernelIdeal.sig) → Buf (Elt Ideal) ℓ)
    (h : Cert.Pre_KernelIdeal_finite m) (c : Dev Cert.KernelIdeal.nD) : Fin4 m c := by
  have e := congrFun (h c) (fun a => a.elim0)
  unfold Cert.Pre_finite.fn Cert.Pre_finite.fn_part1 at e
  obtain ⟨e, e3⟩ := and_one e
  obtain ⟨e, e2⟩ := and_one e
  obtain ⟨e0, e1⟩ := and_one e
  exact ⟨fun i => re_of_cmp rfl (Host.reduce_andi_all _ _ _ _ _ e0 i), fun i => re_of_cmp rfl (Host.reduce_andi_all _ _ _ _ _ e1 i),
    fun i => re_of_cmp rfl (Host.reduce_andi_all _ _ _ _ _ e2 i), fun i => re_of_cmp rfl (Host.reduce_andi_all _ _ _ _ _ e3 i)⟩

theorem algebraic : Cert.algebraic_KernelIdeal_ReferenceIdeal_pre_finite := by
  pair_intro
  · run_from Cert.KernelIdeal.Value.run_blocks m g
  · run_from Cert.ReferenceIdeal.Value.run m' g'
    have hf := fin4 m hpre c
    have e := Cert.ReferenceIdeal.Read.val_main_v70_eq (F := Ideal) m' c
    obtain ⟨a0, a1, a2, a3, a4, a5, a6, a7, a8, a9, a10⟩ := hagree c
    rw [a0, a1, a2, a3, a4, a5, a6, a7, a8, a9, a10] at e
    refine e.trans (Eq.trans ?_ (Cert.KernelIdeal.Da.final m c hf).symm)
    exact Cert.ReferenceIdeal.Da.v70_eq _ _ _ _ _ _ _ _ _ _ _ hf.q hf.k hf.ck hf.b

theorem refQuiet : Cert.quiescent_ReferenceIdeal := by
  intro m g _
  hlo_run
  all_goals first
    | exact sem_eq_zero_of_no_sems (sig := Cert.ReferenceIdeal.sig) (by decide) _
    | exact fun _ => ⟨trivial, trivial, trivial, trivial, trivial, trivial, trivial, trivial, trivial, trivial, trivial⟩

theorem refQuietPre : Cert.quiescent_ReferenceIdeal_pre_finite := fun m g _ => refQuiet m g trivial

end Cert.DaClaim
-- ==== Proof.SsdSpec.lean ====
module

public import proofs.«01_k».proof.Proof.Soft

@[expose] public section

/-!
# The state-space recurrence of sixteen rows, index by index
-/

noncomputable section

namespace Cert.Ssd

open Idealize.ShloMosaic Cert.Soft

/-- The head of a column. -/
def hd (e : Fin 512) : Fin 8 := ⟨e.val / 64, by omega⟩
/-- The column of the input matrix of a head's group. -/
def gB (e : Fin 512) (n : Fin 128) : Fin 1024 := ⟨512 + 128 * (e.val / 256) + n.val, by omega⟩
/-- The column of the output matrix of a head's group. -/
def gC (e : Fin 512) (n : Fin 128) : Fin 1024 := ⟨768 + 128 * (e.val / 256) + n.val, by omega⟩
/-- A column, among all the convolved columns. -/
def cx (e : Fin 512) : Fin 1024 := ⟨e.val, by omega⟩
/-- Column `k` of the half of a column. -/
def half (e : Fin 512) (k : Fin 256) : Fin 512 := ⟨256 * (e.val / 256) + k.val, by omega⟩

/-- The gate `x / (1 + exp (-x))`. -/
def silu (x : EReal) : EReal := x * Ideal.div 1 (1 + Ideal.exp (0 - x))
/-- The logarithm of `1 + exp x`. -/
def softplus (x : EReal) : EReal := max x 0 + Ideal.log1p (Ideal.exp (0 - max x (-x)))

section Rows

variable (u : Fin 16 → Fin 1024 → EReal) (d : Fin 16 → Fin 8 → EReal) (a : Fin 8 → EReal) (H : Fin 512 → Fin 128 → EReal)
  (z : Fin 16 → Fin 512 → EReal) (dk : Fin 8 → EReal) (gn : Fin 512 → EReal)

/-- The sum of the logarithms of the decays up to row `l`. -/
def cs (l : ℕ) (h : Fin 8) : EReal := ∑ s : Fin 16, if s.val ≤ l then d s h * a h else 0
/-- A row's input times its step. -/
def xd (s : Fin 16) (e : Fin 512) : EReal := u s (cx e) * d s (hd e)
/-- The product of an output row and an input row. -/
def cb (l s : Fin 16) (e : Fin 512) : EReal := ∑ n : Fin 128, u l (gC e n) * u s (gB e n)
/-- The decay between two rows. -/
def lm (l s : Fin 16) (h : Fin 8) : EReal := Ideal.exp (if s.val ≤ l.val then cs d a l.val h - cs d a s.val h else ⊥)
/-- The recurrence's rows. -/
def y (l : Fin 16) (e : Fin 512) : EReal :=
  (∑ n : Fin 128, u l (gC e n) * H e n) * Ideal.exp (cs d a l.val (hd e))
    + ∑ s : Fin 16, cb u l s e * lm d a l s (hd e) * xd u d s e
/-- The rows with the skip added, gated. -/
def yy (l : Fin 16) (e : Fin 512) : EReal := (y u d a H l e + dk (hd e) * u l (cx e)) * silu (z l e)
/-- The gated rows, each half divided by its root mean square and scaled. -/
def out (l : Fin 16) (e : Fin 512) : EReal :=
  yy u d a H z dk l e * Ideal.rsqrt (Ideal.div (∑ k : Fin 256, yy u d a H z dk l (half e k) * yy u d a H z dk l (half e k)) (Ideal.ofBits .f32 1132462080#32)
    + Ideal.ofBits .f32 897988541#32) * gn e
/-- The state after the last row. -/
def hf (e : Fin 512) (n : Fin 128) : EReal :=
  Ideal.exp (cs d a 15 (hd e)) * H e n + ∑ s : Fin 16, u s (gB e n) * (Ideal.exp (cs d a 15 (hd e) - cs d a s.val (hd e)) * xd u d s e)

theorem cs_last {l : ℕ} (hl : 15 ≤ l) (h : Fin 8) : cs d a l h = cs d a 15 h :=
  Finset.sum_congr rfl fun s _ => by rw [if_pos (by omega), if_pos (by omega)]

end Rows

/-- The extended real is below infinity. -/
def Below (x : EReal) : Prop := x ≠ ⊤

/-- A number below infinity, split in itself and two remainders, is their sum. -/
theorem split3 {x : EReal} (h : x ≠ ⊤) : x + (x - x) + (x - x - (x - x)) = x := by
  induction x with
  | bot => rw [EReal.bot_sub, EReal.bot_add, EReal.bot_add]
  | coe r => rw [← EReal.coe_sub, ← EReal.coe_sub, ← EReal.coe_add, ← EReal.coe_add]; congr 1; ring
  | top => exact absurd rfl h

theorem sum_ne_top {ι : Type} (s : Finset ι) {f : ι → EReal} (h : ∀ i, f i ≠ ⊤) : (∑ i ∈ s, f i) ≠ ⊤ := by
  classical
  induction s using Finset.induction_on with
  | empty => rw [Finset.sum_empty]; exact EReal.zero_ne_top
  | insert a s ha ih => rw [Finset.sum_insert ha]; exact EReal.add_ne_top (h a) ih

theorem cs_ne_top {d : Fin 16 → Fin 8 → EReal} {a : Fin 8 → EReal} (h : ∀ s q, d s q * a q ≠ ⊤) (l : ℕ) (q : Fin 8) : cs d a l q ≠ ⊤ :=
  sum_ne_top _ fun s => by
    by_cases hs : s.val ≤ l
    · rw [if_pos hs]; exact h s q
    · rw [if_neg hs]; exact EReal.zero_ne_top

theorem coe_max (p q : ℝ) : ((max p q : ℝ) : EReal) = max (p : EReal) (q : EReal) := EReal.coe_strictMono.monotone.map_max

/-- The step of a number below infinity is a real number, not below zero. -/
theorem softplus_real {x : EReal} (h : x ≠ ⊤) : ∃ r : ℝ, 0 ≤ r ∧ softplus x = (r : EReal) := by
  induction x with
  | bot =>
    refine ⟨0, le_refl _, ?_⟩
    have e0 : (0 : EReal) - max (⊥ : EReal) (-⊥) = ⊥ := by rw [EReal.neg_bot, max_eq_right bot_le, zero_sub, EReal.neg_top]
    have e1 : Ideal.log1p (Ideal.exp ⊥) = 0 := by
      show Ideal.log (((1 : ℝ) : EReal) + 0) = 0
      rw [add_zero]
      show (if (1 : ℝ) ≤ 0 then ⊥ else ((Real.log 1 : ℝ) : EReal)) = 0
      rw [if_neg (by norm_num), Real.log_one, EReal.coe_zero]
    unfold softplus
    rw [e0, e1, max_eq_right bot_le, add_zero, EReal.coe_zero]
  | coe r =>
    have e0 : (0 : EReal) - max (r : EReal) (-(r : EReal)) = ((0 - max r (-r) : ℝ) : EReal) := by
      rw [EReal.coe_sub, EReal.coe_zero, coe_max, EReal.coe_neg]
    have e1 : Ideal.log1p (Ideal.exp (((0 - max r (-r) : ℝ) : EReal))) = ((Real.log (1 + Real.exp (0 - max r (-r))) : ℝ) : EReal) := by
      show Ideal.log (((1 : ℝ) : EReal) + ((Real.exp (0 - max r (-r)) : ℝ) : EReal)) = _
      rw [← EReal.coe_add]
      exact if_neg (not_le.mpr (by positivity))
    refine ⟨max r 0 + Real.log (1 + Real.exp (0 - max r (-r))), add_nonneg (le_max_right _ _) (Real.log_nonneg (le_add_of_nonneg_right (Real.exp_pos _).le)), ?_⟩
    unfold softplus
    rw [e0, e1, EReal.coe_add, coe_max, EReal.coe_zero]
  | top => exact absurd rfl h

theorem neg_exp_nonpos (x : EReal) : 0 - Ideal.exp x ≤ 0 := by
  rw [zero_sub, EReal.neg_le_zero]
  induction x with
  | bot => exact le_refl _
  | coe r => exact EReal.coe_nonneg.mpr (Real.exp_pos r).le
  | top => exact le_top

end Cert.Ssd
-- ==== Proof.SsdSample.lean ====
module

public import proofs.«01_k».proof.Defs
public import proofs.«01_k».proof.Proof.SsdSpec
public import proofs.«01_k».proof.Proof.Gen.Kernel8Ideal.Value
public import Idealize.ShloMosaic.Lib.KernelVsHost
public import Idealize.ShloMosaic.Lib.Pointwise
public import Idealize.ShloMosaic.Lib.Pipeline.ValueKit
public import Idealize.ShloMosaic.Lib.Pipeline.ReadBack

@[expose] public section

/-!
# The sample rows' state-space kernel: the values one grid point writes
-/

noncomputable section

namespace Cert.Kernel8Ideal.SsdSample

open Cert.Kernel8Ideal Cert.Kernel8Ideal.Gen Idealize.ShloMosaic Idealize.ShloMosaic.TcCoe Idealize.SL.Sem
open Idealize.ShloMosaic.Pointwise
open Cert.Soft (Re)
open Cert.Ssd

set_option maxRecDepth 16384

/-! ## The masks -/

theorem tril_at (r s : Fin 128) : k0_pay4 (ix2 r s) = if s.val ≤ r.val then 1#1 else 0#1 := by
  refine Eq.trans (b := IntOp.cmpi CmpIPredicate.sge (BitVec.ofNat 32 r.val) (BitVec.ofNat 32 s.val)) ?_ ?_
  · pointwise [k0_pay4]
  · revert r s; decide +kernel

theorem tri_at (r s : Fin 128) : (k0_pay5 (F := Ideal)) (ix2 r s) = if s.val ≤ r.val then 1 else 0 := by
  refine Eq.trans (b := Scalar.select (k0_pay4 (ix2 r s)) 1 0) ?_ ?_
  · pointwise [k0_pay5]
  · rw [tril_at]
    by_cases h : s.val ≤ r.val
    · rw [if_pos h, if_pos h]; rfl
    · rw [if_neg h, if_neg h]; rfl

theorem shr_at : ∀ e : Fin 512, IntOp.shrsi ArithUnit.vector (BitVec.ofNat 32 e.val) 6#32 = BitVec.ofNat 32 (hd e).val := by
  decide +kernel

theorem eq_at : ∀ (h : Fin 8) (q : Fin 128), IntOp.cmpi CmpIPredicate.eq (BitVec.ofNat 32 h.val) (BitVec.ofNat 32 q.val)
    = if q.val = h.val then 1#1 else 0#1 := by
  decide +kernel

theorem expand_at (q : Fin 128) (e : Fin 512) : (k0_pay6 (F := Ideal)) (ix2 q e) = if q.val = (hd e).val then 1 else 0 := by
  refine Eq.trans (b := Scalar.select (IntOp.cmpi CmpIPredicate.eq (IntOp.shrsi ArithUnit.vector (BitVec.ofNat 32 e.val) 6#32)
    (BitVec.ofNat 32 q.val)) 1 0) ?_ ?_
  · pointwise [k0_pay6]
  · rw [shr_at, eq_at]
    by_cases h : q.val = (hd e).val
    · rw [if_pos h, if_pos h]; rfl
    · rw [if_neg h, if_neg h]; rfl

theorem slt64 : ∀ k : Fin 128, IntOp.cmpi CmpIPredicate.slt (BitVec.ofNat 32 k.val) 64#32 = if k.val < 64 then 1#1 else 0#1 := by
  decide +kernel

/-- A row, among the padded rows. -/
def row (l : Fin 16) : Fin 128 := ⟨l.val, by omega⟩
/-- A head, among the lanes. -/
def lane (h : Fin 8) : Fin 128 := ⟨h.val, by omega⟩

/-- A sum over the lanes with the expansion picks the head's lane. -/
theorem pick (f : Fin 128 → EReal) (e : Fin 512) : (∑ q, f q * (k0_pay6 (F := Ideal)) (ix2 q e)) = f (lane (hd e)) := by
  rw [Finset.sum_eq_single (lane (hd e))]
  · rw [expand_at, if_pos (show (lane (hd e)).val = (hd e).val from rfl), mul_one]
  · intro q _ hq
    rw [expand_at, if_neg (fun h : q.val = (hd e).val => hq (Fin.ext h)), mul_zero]
  · intro h; exact absurd (Finset.mem_univ _) h

/-! ## The steps and the sums of the logarithms of the decays -/

section Steps

variable (D : FVec Ideal S16x128 .f32) (N : FVec Ideal S1x128 .f32) (d : Fin 16 → Fin 8 → EReal) (a : Fin 8 → EReal)
  (hD : ∀ (r : Fin 16) (h : Fin 8), D (ix2 r (lane h)) = d r h) (hN : ∀ h : Fin 8, N (ix2 0 (lane h)) = a h)
  (hd : ∀ (r : Fin 16) (h : Fin 8), d r h ≠ ⊤) (hre : ∀ (r : Fin 16) (h : Fin 8), d r h * a h ≠ ⊤)

theorem dpad_at (r q : Fin 128) : k0_pay21 D (ix2 r q) = if h : r.val < 16 then D (ix2 ⟨r.val, h⟩ q) else 0 := by
  pointwise [k0_pay21]

include hD in
theorem dpad_lane (r : Fin 128) (h : Fin 8) : k0_pay21 D (ix2 r (lane h)) = if hr : r.val < 16 then d ⟨r.val, hr⟩ h else 0 := by
  rw [dpad_at]
  simp only [hD]

include hD hN hre in
theorem cs_at (r : Fin 128) (h : Fin 8) : k0_pay24 (k0_pay5 (F := Ideal)) N D (ix2 r (lane h)) = cs d a r.val h := by
  have e0 : ∀ x : Fin 128, k0_pay21 D (ix2 x (lane h)) * N (ix2 0 (lane h)) = if hx : x.val < 16 then d ⟨x.val, hx⟩ h * a h else 0 := by
    intro x
    rw [dpad_lane D d hD, hN]
    by_cases hx : x.val < 16
    · rw [dif_pos hx, dif_pos hx]
    · rw [dif_neg hx, dif_neg hx, zero_mul]
  have e1 : ∀ x : Fin 128, k0_pay21 D (ix2 x (lane h)) * N (ix2 0 (lane h)) ≠ ⊤ := by
    intro x
    rw [e0]
    by_cases hx : x.val < 16
    · rw [dif_pos hx]; exact hre _ _
    · rw [dif_neg hx]; exact EReal.zero_ne_top
  refine Eq.trans (b := (∑ x : Fin 128, (k0_pay5 (F := Ideal)) (ix2 r x) * (k0_pay21 D (ix2 x (lane h)) * N (ix2 0 (lane h)))
      + ∑ x : Fin 128, (k0_pay5 (F := Ideal)) (ix2 r x) * (k0_pay21 D (ix2 x (lane h)) * N (ix2 0 (lane h)) - k0_pay21 D (ix2 x (lane h)) * N (ix2 0 (lane h))))
      + ∑ x : Fin 128, (k0_pay5 (F := Ideal)) (ix2 r x) * (k0_pay21 D (ix2 x (lane h)) * N (ix2 0 (lane h)) - k0_pay21 D (ix2 x (lane h)) * N (ix2 0 (lane h))
        - (k0_pay21 D (ix2 x (lane h)) * N (ix2 0 (lane h)) - k0_pay21 D (ix2 x (lane h)) * N (ix2 0 (lane h))))) ?_ ?_
  · generalize lane h = q
    pointwise [k0_pay24]
  · rw [← Finset.sum_add_distrib, ← Finset.sum_add_distrib]
    refine Eq.trans (b := ∑ x : Fin 128, (k0_pay5 (F := Ideal)) (ix2 r x) * (k0_pay21 D (ix2 x (lane h)) * N (ix2 0 (lane h)))) (Finset.sum_congr rfl fun x _ => ?_) ?_
    · rw [tri_at]
      by_cases hr : x.val ≤ r.val
      · rw [if_pos hr, one_mul, one_mul, one_mul, split3 (e1 x)]
      · rw [if_neg hr, zero_mul, zero_mul, zero_mul, add_zero, add_zero]
    refine Cert.Soft.sum_pad (p := 112) _ _ (fun x hx => ?_) (fun x hx => ?_) rfl
    · rw [e0, dif_pos hx, tri_at]
      by_cases hr : x.val ≤ r.val
      · rw [if_pos hr, if_pos hr, one_mul]
      · rw [if_neg hr, if_neg hr, zero_mul]
    · rw [e0, dif_neg (by omega), mul_zero]

include hD hN hre in
theorem cst_at (r : Fin 128) (h : Fin 8) : k0_pay25 (k0_pay5 (F := Ideal)) N D (ix2 (lane h) r) = cs d a r.val h := by
  refine Eq.trans ?_ (cs_at D N d a hD hN hre r h)
  generalize lane h = q
  pointwise [k0_pay25]

include hD hd in
theorem dte_at (r : Fin 128) (e : Fin 512) : k0_pay26 (k0_pay6 (F := Ideal)) D (ix2 r e)
    = if hr : r.val < 16 then d ⟨r.val, hr⟩ (Ssd.hd e) else 0 := by
  refine Eq.trans (b := (∑ x : Fin 128, k0_pay21 D (ix2 r x) * (k0_pay6 (F := Ideal)) (ix2 x e)
      + ∑ x : Fin 128, (k0_pay21 D (ix2 r x) - k0_pay21 D (ix2 r x)) * (k0_pay6 (F := Ideal)) (ix2 x e))
      + ∑ x : Fin 128, (k0_pay21 D (ix2 r x) - k0_pay21 D (ix2 r x) - (k0_pay21 D (ix2 r x) - k0_pay21 D (ix2 r x)))
        * (k0_pay6 (F := Ideal)) (ix2 x e)) ?_ ?_
  · pointwise [k0_pay26]
  · have e1 : k0_pay21 D (ix2 r (lane (Ssd.hd e))) ≠ ⊤ := by
      rw [dpad_lane D d hD]
      by_cases hx : r.val < 16
      · rw [dif_pos hx]; exact hd _ _
      · rw [dif_neg hx]; exact EReal.zero_ne_top
    rw [pick (fun x => k0_pay21 D (ix2 r x)), pick (fun x => k0_pay21 D (ix2 r x) - k0_pay21 D (ix2 r x)),
      pick (fun x => k0_pay21 D (ix2 r x) - k0_pay21 D (ix2 r x) - (k0_pay21 D (ix2 r x) - k0_pay21 D (ix2 r x)))]
    exact (split3 e1).trans (dpad_lane D d hD r _)

include hD hN hre in
theorem cse_at (r : Fin 128) (e : Fin 512) : k0_pay27 (k0_pay5 (F := Ideal)) (k0_pay6 (F := Ideal)) N D (ix2 r e) = cs d a r.val (Ssd.hd e) := by
  have e2 := cs_at D N d a hD hN hre r (Ssd.hd e)
  have e1 : k0_pay24 (k0_pay5 (F := Ideal)) N D (ix2 r (lane (Ssd.hd e))) ≠ ⊤ := by rw [e2]; exact cs_ne_top hre _ _
  refine Eq.trans ?_ e2
  have hp : ∀ A : FVec Ideal S128x128 .f32, A (ix2 r (lane (Ssd.hd e))) ≠ ⊤ →
      (∑ x : Fin 128, A (ix2 r x) * (k0_pay6 (F := Ideal)) (ix2 x e)
        + ∑ x : Fin 128, (A (ix2 r x) - A (ix2 r x)) * (k0_pay6 (F := Ideal)) (ix2 x e))
        + ∑ x : Fin 128, (A (ix2 r x) - A (ix2 r x) - (A (ix2 r x) - A (ix2 r x))) * (k0_pay6 (F := Ideal)) (ix2 x e)
      = A (ix2 r (lane (Ssd.hd e))) := by
    intro A e1
    rw [pick (fun x => A (ix2 r x)), pick (fun x => A (ix2 r x) - A (ix2 r x)),
      pick (fun x => A (ix2 r x) - A (ix2 r x) - (A (ix2 r x) - A (ix2 r x)))]
    exact split3 e1
  refine Eq.trans ?_ (hp (k0_pay24 (k0_pay5 (F := Ideal)) N D) e1)
  pointwise [k0_pay27]

end Steps

end Cert.Kernel8Ideal.SsdSample
-- ==== Proof.SsdSampleRows.lean ====
module

public import proofs.«01_k».proof.Proof.SsdSample

@[expose] public section

/-!
# The sample rows' state-space kernel: the rows and the state
-/

noncomputable section

namespace Cert.Kernel8Ideal.SsdSample

open Cert.Kernel8Ideal Cert.Kernel8Ideal.Gen Idealize.ShloMosaic Idealize.ShloMosaic.TcCoe Idealize.SL.Sem
open Idealize.ShloMosaic.Pointwise
open Cert.Soft (Re)
open Cert.Ssd

set_option maxRecDepth 16384

/-- Lane numbers. -/
abbrev laneNo : IVec S1x128 32 := iota Kind.tc S1x128 32 [1] iota_S1x128_d1_w32

section Main

variable (UP : FVec Ideal S128x1024 .f32) (XS DTE CSE Z : FVec Ideal S128x512 .f32) (CS CST : FVec Ideal S128x128 .f32)
  (HT0 HT1 : Vec Ideal S1x128x256 .f32) (DX GN : Vec Ideal S1x512 .f32)
  (u : Fin 16 → Fin 1024 → EReal) (d : Fin 16 → Fin 8 → EReal) (a : Fin 8 → EReal) (H : Fin 512 → Fin 128 → EReal)
  (z : Fin 16 → Fin 512 → EReal) (dk : Fin 8 → EReal) (gn : Fin 512 → EReal)

/-- What the padded arrays hold. -/
structure Holds : Prop where
  up : ∀ (r : Fin 128) (e : Fin 1024), UP (ix2 r e) = if h : r.val < 16 then u ⟨r.val, h⟩ e else 0
  xs : ∀ (r : Fin 128) (e : Fin 512), XS (ix2 r e) = if h : r.val < 16 then u ⟨r.val, h⟩ (cx e) else 0
  dte : ∀ (r : Fin 128) (e : Fin 512), DTE (ix2 r e) = if h : r.val < 16 then d ⟨r.val, h⟩ (hd e) else 0
  cse : ∀ (r : Fin 128) (e : Fin 512), CSE (ix2 r e) = cs d a r.val (hd e)
  z : ∀ (l : Fin 16) (e : Fin 512), Z (ix2 (row l) e) = z l e
  cs : ∀ (r : Fin 128) (h : Fin 8), CS (ix2 r (lane h)) = Ssd.cs d a r.val h
  cst : ∀ (r : Fin 128) (h : Fin 8), CST (ix2 (lane h) r) = Ssd.cs d a r.val h
  h0 : ∀ (n : Fin 128) (k : Fin 256), HT0 (ix3 0 n k) = H ⟨k.val, by omega⟩ n
  h1 : ∀ (n : Fin 128) (k : Fin 256), HT1 (ix3 0 n k) = H ⟨256 + k.val, by omega⟩ n
  dx : ∀ e : Fin 512, DX (ix2 0 e) = dk (hd e)

variable {UP XS DTE CSE Z CS CST HT0 HT1 DX u d a H z dk}
variable (hh : Holds UP XS DTE CSE Z CS CST HT0 HT1 DX u d a H z dk)

include hh

theorem p_at (x : Fin 128) (e : Fin 512) : k0_pay29 XS DTE (ix2 x e) = if h : x.val < 16 then xd u d ⟨x.val, h⟩ e else 0 := by
  refine Eq.trans (b := XS (ix2 x e) * DTE (ix2 x e)) ?_ ?_
  · pointwise [k0_pay29, k0_pay28]
  · rw [hh.xs, hh.dte]
    by_cases h : x.val < 16
    · rw [dif_pos h, dif_pos h, dif_pos h]; rfl
    · rw [dif_neg h, dif_neg h, dif_neg h, zero_mul]

theorem up_row (l : Fin 16) (e : Fin 1024) : UP (ix2 (row l) e) = u l e := by
  rw [hh.up]; exact dif_pos l.isLt

/-- One head's sum over the padded rows. -/
theorem head_sum (C : FVec Ideal S128x128 .f32) (l : Fin 16) (e e' : Fin 512) (he : e' = e) (h : Fin 8) (q : Fin 128) (hq : q = lane h) (hde : hd e = h)
    (hC : ∀ x : Fin 128, C (ix2 (row l) x) = ∑ n : Fin 128, UP (ix2 (row l) (gC e n)) * UP (ix2 x (gB e n))) :
    (∑ x : Fin 128, C (ix2 (row l) x) * Ideal.exp (Scalar.select (k0_pay4 (ix2 (row l) x)) (CS (ix2 (row l) q) - CST (ix2 q x))
      (Ideal.ofBits FTy.f32 4286578688#32)) * k0_pay29 XS DTE (ix2 x e'))
      = ∑ s : Fin 16, cb u l s e * lm d a l s (hd e) * xd u d s e := by
  subst hde hq he
  refine Cert.Soft.sum_pad (p := 112) _ _ (fun x hx => ?_) (fun x hx => ?_) rfl
  · rw [p_at hh, dif_pos hx, hC, hh.cs, hh.cst, tril_at, Cert.Soft.ofBits_bot]
    congr 1
    congr 1
    · unfold cb
      refine Finset.sum_congr rfl fun n _ => ?_
      rw [up_row hh, hh.up, dif_pos hx]
    · unfold lm
      congr 1
      by_cases hs : x.val ≤ l.val
      · rw [if_pos hs]
        rw [if_pos (show x.val ≤ (row l).val from hs)]; rfl
      · rw [if_neg hs]
        rw [if_neg (show ¬ x.val ≤ (row l).val from hs)]; rfl
  · rw [p_at hh, dif_neg (by omega), mul_zero]

theorem cb0_at (l : Fin 16) (e : Fin 512) (he : e.val < 256) (x : Fin 128) :
    k0_pay36 UP (ix2 (row l) x) = ∑ n : Fin 128, UP (ix2 (row l) (gC e n)) * UP (ix2 x (gB e n)) := by
  refine Eq.trans (b := ∑ n : Fin 128, UP (ix2 (row l) ⟨768 + n.val, by omega⟩) * UP (ix2 x ⟨512 + n.val, by omega⟩)) ?_ ?_
  · generalize row l = r
    pointwise [k0_pay36, k0_pay35, k0_pay34]
  · refine Finset.sum_congr rfl fun n _ => ?_
    rw [show gC e n = ⟨768 + n.val, by omega⟩ from Fin.ext (by show 768 + 128 * (e.val / 256) + n.val = 768 + n.val; omega),
      show gB e n = ⟨512 + n.val, by omega⟩ from Fin.ext (by show 512 + 128 * (e.val / 256) + n.val = 512 + n.val; omega)]

theorem cb1_at (l : Fin 16) (e : Fin 512) (he : 256 ≤ e.val) (x : Fin 128) :
    k0_pay45 UP (ix2 (row l) x) = ∑ n : Fin 128, UP (ix2 (row l) (gC e n)) * UP (ix2 x (gB e n)) := by
  refine Eq.trans (b := ∑ n : Fin 128, UP (ix2 (row l) ⟨896 + n.val, by omega⟩) * UP (ix2 x ⟨640 + n.val, by omega⟩)) ?_ ?_
  · generalize row l = r
    pointwise [k0_pay45, k0_pay44, k0_pay43]
  · refine Finset.sum_congr rfl fun n _ => ?_
    rw [show gC e n = ⟨896 + n.val, by omega⟩ from Fin.ext (by show 768 + 128 * (e.val / 256) + n.val = 896 + n.val; omega),
      show gB e n = ⟨640 + n.val, by omega⟩ from Fin.ext (by show 512 + 128 * (e.val / 256) + n.val = 640 + n.val; omega)]

theorem off0_at (l : Fin 16) (k : Fin 256) (e : Fin 512) (he : e.val = k.val) : k0_pay38 UP CSE HT0 (ix2 (row l) k)
    = (∑ n : Fin 128, u l (gC e n) * H e n) * Ideal.exp (cs d a l.val (hd e)) := by
  refine Eq.trans (b := (∑ n : Fin 128, UP (ix2 (row l) ⟨768 + n.val, by omega⟩) * HT0 (ix3 0 n k)) * Ideal.exp (CSE (ix2 (row l) ⟨k.val, by omega⟩))) ?_ ?_
  · generalize row l = r
    pointwise [k0_pay38, k0_pay35, k0_pay37, k0_pay30]
  · rw [hh.cse]
    congr 1
    · refine Finset.sum_congr rfl fun n _ => ?_
      rw [up_row hh, hh.h0]
      congr 2
      · exact Fin.ext (by show 768 + n.val = 768 + 128 * (e.val / 256) + n.val; omega)
      · exact Fin.ext he.symm
    · rw [show hd ⟨k.val, _⟩ = hd e from Fin.ext (by show k.val / 64 = e.val / 64; omega)]; rfl

theorem off1_at (l : Fin 16) (k : Fin 256) (e : Fin 512) (he : e.val = 256 + k.val) : k0_pay47 (k0_pay30 CSE) (k0_pay44 UP) HT1 (ix2 (row l) k)
    = (∑ n : Fin 128, u l (gC e n) * H e n) * Ideal.exp (cs d a l.val (hd e)) := by
  refine Eq.trans (b := (∑ n : Fin 128, UP (ix2 (row l) ⟨896 + n.val, by omega⟩) * HT1 (ix3 0 n k)) * Ideal.exp (CSE (ix2 (row l) ⟨256 + k.val, by omega⟩))) ?_ ?_
  · generalize row l = r
    pointwise [k0_pay47, k0_pay44, k0_pay46, k0_pay30]
  · rw [hh.cse]
    congr 1
    · refine Finset.sum_congr rfl fun n _ => ?_
      rw [up_row hh, hh.h1]
      congr 2
      · exact Fin.ext (by show 896 + n.val = 768 + 128 * (e.val / 256) + n.val; omega)
      · exact Fin.ext he.symm
    · rw [show hd ⟨256 + k.val, _⟩ = hd e from Fin.ext (by show (256 + k.val) / 64 = e.val / 64; omega)]; rfl

/-- A head's sum over the padded rows, as the kernel writes it. -/
abbrev headSum (C : FVec Ideal S128x128 .f32) (r : Fin 128) (q : Fin 128) (e : Fin 512) : EReal :=
  ∑ x : Fin 128, C (ix2 r x) * Ideal.exp (Scalar.select (k0_pay4 (ix2 r x)) (CS (ix2 r q) - CST (ix2 q x))
      (Ideal.ofBits FTy.f32 4286578688#32)) * k0_pay29 XS DTE (ix2 x e)

/-- Two heads' sums, chosen by the lane. -/
theorem pair_sum (C : FVec Ideal S128x128 .f32) (l : Fin 16) (k : Fin 128) (e e' : Fin 512) (i : Fin 4) (he : e.val = 128 * i.val + k.val)
    (he' : e' = e) (q0 q1 : Fin 128) (h0 : q0.val = 2 * i.val) (h1 : q1.val = 2 * i.val + 1)
    (hC : ∀ x : Fin 128, C (ix2 (row l) x) = ∑ n : Fin 128, UP (ix2 (row l) (gC e n)) * UP (ix2 x (gB e n))) :
    Scalar.select (IntOp.cmpi CmpIPredicate.slt (BitVec.ofNat 32 k.val) 64#32)
      (∑ x : Fin 128, C (ix2 (row l) x) * Ideal.exp (Scalar.select (k0_pay4 (ix2 (row l) x)) (CS (ix2 (row l) q0) - CST (ix2 q0 x))
        (Ideal.ofBits FTy.f32 4286578688#32)) * k0_pay29 XS DTE (ix2 x e'))
      (∑ x : Fin 128, C (ix2 (row l) x) * Ideal.exp (Scalar.select (k0_pay4 (ix2 (row l) x)) (CS (ix2 (row l) q1) - CST (ix2 q1 x))
        (Ideal.ofBits FTy.f32 4286578688#32)) * k0_pay29 XS DTE (ix2 x e'))
      = ∑ s : Fin 16, cb u l s e * lm d a l s (hd e) * xd u d s e := by
  rw [slt64]
  by_cases hk : k.val < 64
  · rw [if_pos hk]
    exact head_sum hh C l e e' he' (hd e) q0 (Fin.ext (by show q0.val = e.val / 64; omega)) rfl hC
  · rw [if_neg hk]
    exact head_sum hh C l e e' he' (hd e) q1 (Fin.ext (by show q1.val = e.val / 64; omega)) rfl hC

theorem slab0_at (l : Fin 16) (k : Fin 128) (e : Fin 512) (he : e.val = k.val) :
    k0_pay39 k0_pay4 laneNo UP XS CS CST DTE (ix2 (row l) k) = ∑ s : Fin 16, cb u l s e * lm d a l s (hd e) * xd u d s e := by
  refine Eq.trans ?_ (pair_sum hh (k0_pay36 UP) l k e ⟨k.val, by omega⟩ 0 (by show e.val = 128 * 0 + k.val; omega) (Fin.ext he.symm) 0 1 rfl rfl (cb0_at hh l e (by omega)))
  generalize row l = r
  generalize k0_pay4 = M
  pointwise [k0_pay39]

theorem slab2_at (l : Fin 16) (k : Fin 128) (e : Fin 512) (he : e.val = 256 + k.val) :
    k0_pay48 k0_pay4 laneNo CS CST (k0_pay29 XS DTE) (k0_pay45 UP) (ix2 (row l) k) = ∑ s : Fin 16, cb u l s e * lm d a l s (hd e) * xd u d s e := by
  refine Eq.trans ?_ (pair_sum hh (k0_pay45 UP) l k e ⟨256 + k.val, by omega⟩ 2 (by show e.val = 128 * 2 + k.val; omega) (Fin.ext he.symm) 4 5 rfl rfl (cb1_at hh l e (by omega)))
  generalize row l = r
  generalize k0_pay4 = M
  generalize k0_pay45 UP = C
  generalize k0_pay29 XS DTE = P
  pointwise [k0_pay48]

/-- The first half of the rows. -/
abbrev lowHalf (UP : FVec Ideal S128x1024 .f32) (XS DTE CSE : FVec Ideal S128x512 .f32) (CS CST : FVec Ideal S128x128 .f32)
    (HT0 : Vec Ideal S1x128x256 .f32) : FVec Ideal S128x256 .f32 :=
  k0_pay41 k0_pay4 laneNo CS CST (k0_pay36 UP) (k0_pay38 UP CSE HT0) (k0_pay39 k0_pay4 laneNo UP XS CS CST DTE) (k0_pay40 XS DTE)

theorem low_at (l : Fin 16) (k : Fin 256) (e : Fin 512) (he : e.val = k.val) : lowHalf UP XS DTE CSE CS CST HT0 (ix2 (row l) k) = y u d a H l e := by
  unfold y
  rw [← off0_at hh l k e he]
  by_cases hk : k.val < 128
  · rw [← slab0_at hh l ⟨k.val, hk⟩ e he]
    generalize row l = r
    pointwise [lowHalf, k0_pay41]
    rw [dif_pos hk]
  · rw [← pair_sum hh (k0_pay36 UP) l ⟨k.val - 128, by omega⟩ e ⟨128 + (k.val - 128), by omega⟩ 1 (by show e.val = 128 * 1 + (k.val - 128); omega)
      (Fin.ext (by show 128 + (k.val - 128) = e.val; omega)) 2 3 rfl rfl (cb0_at hh l e (by omega))]
    generalize row l = r
    pointwise [lowHalf, k0_pay41, k0_pay40]
    rw [dif_neg hk]

/-- The gated rows. -/
abbrev gatedRows (UP : FVec Ideal S128x1024 .f32) (XS DTE CSE Z : FVec Ideal S128x512 .f32) (CS CST : FVec Ideal S128x128 .f32)
    (HT0 HT1 : Vec Ideal S1x128x256 .f32) (DX : Vec Ideal S1x512 .f32) : FVec Ideal S128x512 .f32 :=
  k0_pay54 k0_pay4 laneNo Z XS (lowHalf UP XS DTE CSE CS CST HT0) (k0_pay45 UP) (k0_pay47 (k0_pay30 CSE) (k0_pay44 UP) HT1)
    (k0_pay48 k0_pay4 laneNo CS CST (k0_pay29 XS DTE) (k0_pay45 UP)) (k0_pay49 (k0_pay29 XS DTE))
    (k0_pay50 k0_pay4 CS CST (k0_pay29 XS DTE) (k0_pay45 UP)) (k0_pay51 CS CST) k0_pay52 DX

theorem gated_at (l : Fin 16) (e : Fin 512) : gatedRows UP XS DTE CSE Z CS CST HT0 HT1 DX (ix2 (row l) e) = yy u d a H z dk l e := by
  have ex : XS (ix2 (row l) e) = u l (cx e) := by rw [hh.xs]; exact dif_pos l.isLt
  unfold yy silu
  rw [← hh.z, ← hh.dx, ← ex]
  by_cases hk : e.val < 256
  · rw [← low_at hh l ⟨e.val, hk⟩ e rfl]
    generalize row l = r
    pointwise [gatedRows, k0_pay54]
    rw [dif_pos hk]
  · have ey : y u d a H l e = k0_pay47 (k0_pay30 CSE) (k0_pay44 UP) HT1 (ix2 (row l) ⟨e.val - 256, by omega⟩)
        + ∑ s : Fin 16, cb u l s e * lm d a l s (hd e) * xd u d s e := by
      rw [off1_at hh l ⟨e.val - 256, by omega⟩ e (by show e.val = 256 + (e.val - 256); omega)]; rfl
    rw [ey]
    by_cases h2 : e.val - 256 < 128
    · rw [← slab2_at hh l ⟨e.val - 256, h2⟩ e (by show e.val = 256 + (e.val - 256); omega)]
      generalize row l = r
      pointwise [gatedRows, k0_pay54]
      rw [dif_neg hk, dif_pos h2]
    · rw [← pair_sum hh (k0_pay45 UP) l ⟨e.val - 256 - 128, by omega⟩ e ⟨384 + (e.val - 256 - 128), by omega⟩ 3
        (by show e.val = 128 * 3 + (e.val - 256 - 128); omega)
        (Fin.ext (by show 384 + (e.val - 256 - 128) = e.val; omega)) 6 7 rfl rfl (cb1_at hh l e (by omega))]
      generalize row l = r
      pointwise [gatedRows, k0_pay54, k0_pay49, k0_pay50, k0_pay51, k0_pay52]
      rw [dif_neg hk, dif_neg h2]

theorem rms_at (G0 G1 : FVec Ideal S1x256 .f32) (l : Fin 16) (e : Fin 512)
    (g0 : ∀ k : Fin 256, G0 (ix2 0 k) = gn ⟨k.val, by omega⟩) (g1 : ∀ k : Fin 256, G1 (ix2 0 k) = gn ⟨256 + k.val, by omega⟩) :
    k0_pay58 (gatedRows UP XS DTE CSE Z CS CST HT0 HT1 DX)
      (k0_pay55 k0_pay4 laneNo Z XS (lowHalf UP XS DTE CSE CS CST HT0) (k0_pay45 UP) (k0_pay47 (k0_pay30 CSE) (k0_pay44 UP) HT1)
        (k0_pay48 k0_pay4 laneNo CS CST (k0_pay29 XS DTE) (k0_pay45 UP)) (k0_pay49 (k0_pay29 XS DTE))
        (k0_pay50 k0_pay4 CS CST (k0_pay29 XS DTE) (k0_pay45 UP)) (k0_pay51 CS CST) k0_pay52 DX)
      (k0_pay56 G0)
      (k0_pay57 k0_pay4 laneNo Z XS (lowHalf UP XS DTE CSE CS CST HT0) (k0_pay45 UP) (k0_pay47 (k0_pay30 CSE) (k0_pay44 UP) HT1)
        (k0_pay48 k0_pay4 laneNo CS CST (k0_pay29 XS DTE) (k0_pay45 UP)) (k0_pay49 (k0_pay29 XS DTE))
        (k0_pay50 k0_pay4 CS CST (k0_pay29 XS DTE) (k0_pay45 UP)) (k0_pay51 CS CST) k0_pay52 DX)
      (FloatOps.ofBits FTy.f32 1132462080#32) G1 (ix3 0 l e) = out u d a H z dk gn l e := by
  unfold out
  have hy := fun e => gated_at hh l e
  by_cases hk : e.val < 256
  · have eh : ∀ k : Fin 256, half e k = ⟨k.val, by omega⟩ := fun k => Fin.ext (by show 256 * (e.val / 256) + k.val = k.val; omega)
    rw [show gn e = G0 (ix2 0 ⟨e.val, hk⟩) from (g0 ⟨e.val, hk⟩).symm]
    simp only [eh, ← hy]
    pointwise [k0_pay58, k0_pay55, k0_pay56, k0_pay57]
    rw [dif_pos hk]
    rfl
  · have eh : ∀ k : Fin 256, half e k = ⟨256 + k.val, by omega⟩ := fun k => Fin.ext (by show 256 * (e.val / 256) + k.val = 256 + k.val; omega)
    have ee : (⟨256 + (e.val - 256), by omega⟩ : Fin 512) = e := Fin.ext (by show 256 + (e.val - 256) = e.val; omega)
    rw [show gn e = G1 (ix2 0 ⟨e.val - 256, by omega⟩) from ((g1 ⟨e.val - 256, by omega⟩).trans (congrArg gn ee)).symm]
    simp only [eh, ← hy]
    pointwise [k0_pay58, k0_pay55, k0_pay56, k0_pay57]
    rw [dif_neg hk]
    simp only [ee]
    rfl

theorem te_at (x : Fin 128) (e : Fin 512) (hx : x.val < 16) : k0_pay32 XS DTE CSE (ix2 x e)
    = Ideal.exp (cs d a 15 (hd e) - cs d a x.val (hd e)) * xd u d ⟨x.val, hx⟩ e := by
  refine Eq.trans (b := Ideal.exp (CSE (ix2 127 e) - CSE (ix2 x e)) * (XS (ix2 x e) * DTE (ix2 x e))) ?_ ?_
  · pointwise [k0_pay32, k0_pay31, k0_pay28]
  · rw [hh.cse, hh.cse, hh.xs, hh.dte, dif_pos hx, dif_pos hx, cs_last d a (l := (127 : Fin 128).val) (by decide)]; rfl

theorem st0_at (n : Fin 128) (k : Fin 256) : k0_pay42 (k0_pay32 XS DTE CSE) (k0_pay33 CSE) (k0_pay34 UP) (k0_pay37 HT0) (ix3 0 n k)
    = hf u d a H ⟨k.val, by omega⟩ n := by
  refine Eq.trans (b := Ideal.exp (CSE (ix2 127 ⟨k.val, by omega⟩)) * HT0 (ix3 0 n k)
    + ∑ x : Fin 128, UP (ix2 x ⟨512 + n.val, by omega⟩) * k0_pay32 XS DTE CSE (ix2 x ⟨k.val, by omega⟩)) ?_ ?_
  · pointwise [k0_pay42, k0_pay33, k0_pay37, k0_pay34, k0_pay31]
  · unfold hf
    rw [hh.cse, hh.h0, cs_last d a (l := (127 : Fin 128).val) (by decide)]
    congr 1
    refine Cert.Soft.sum_pad (p := 112) _ _ (fun x hx => ?_) (fun x hx => ?_) rfl
    · rw [te_at hh x _ hx, hh.up, dif_pos hx]
      congr 2
      exact Fin.ext (by show 512 + n.val = 512 + 128 * (k.val / 256) + n.val; omega)
    · rw [hh.up, dif_neg (by omega), zero_mul]

theorem st1_at (n : Fin 128) (k : Fin 256) : k0_pay53 (k0_pay32 XS DTE CSE) (k0_pay33 CSE) (k0_pay43 UP) (k0_pay46 HT1) (ix3 0 n k)
    = hf u d a H ⟨256 + k.val, by omega⟩ n := by
  refine Eq.trans (b := Ideal.exp (CSE (ix2 127 ⟨256 + k.val, by omega⟩)) * HT1 (ix3 0 n k)
    + ∑ x : Fin 128, UP (ix2 x ⟨640 + n.val, by omega⟩) * k0_pay32 XS DTE CSE (ix2 x ⟨256 + k.val, by omega⟩)) ?_ ?_
  · pointwise [k0_pay53, k0_pay33, k0_pay46, k0_pay43, k0_pay31]
  · unfold hf
    rw [hh.cse, hh.h1, cs_last d a (l := (127 : Fin 128).val) (by decide)]
    congr 1
    refine Cert.Soft.sum_pad (p := 112) _ _ (fun x hx => ?_) (fun x hx => ?_) rfl
    · rw [te_at hh x _ hx, hh.up, dif_pos hx]
      congr 2
      exact Fin.ext (by show 640 + n.val = 512 + 128 * ((256 + k.val) / 256) + n.val; omega)
    · rw [hh.up, dif_neg (by omega), zero_mul]

end Main

/-! ## The carried state: what is stored and read back -/

section State

variable (A8 A9 A10 A11 : FVec Ideal S1x128x128 .f32) (T : Fin 2 → Fin 128 → Fin 256 → EReal)

/-- The four stores of the incoming state. -/
abbrev L4 : List (View.Piece (Elt Ideal) S2x128x256 .f32) :=
  [⟨Rect.unit ![1, 0, 128] ![1, 128, 128] inb_S2x128x256_S1x128x128_1_0_128, A11⟩,
    ⟨Rect.unit ![1, 0, 0] ![1, 128, 128] inb_S2x128x256_S1x128x128_1_0_0, A10⟩,
    ⟨Rect.unit ![0, 0, 128] ![1, 128, 128] inb_S2x128x256_S1x128x128_0_0_128, A9⟩,
    ⟨Rect.unit ![0, 0, 0] ![1, 128, 128] inb_S2x128x256_S1x128x128_0_0_0, A8⟩]

/-- A table of entries, as an array. -/
abbrev stateFn : S2x128x256.Idx → Elt Ideal .f32 := fun y => T (y 0) (y 1) (y 2)

theorem tab3 {g g' : Fin 2} {n n' : Fin 128} {k k' : Fin 256} (h1 : g = g') (h2 : n = n') (h3 : k = k') : T g n k = T g' n' k' := by
  rw [h1, h2, h3]

theorem quarter_at (A : FVec Ideal S1x128x128 .f32) (g : Fin 2) {o : ℕ} (ho : o + 128 ≤ 256)
    (h : ∀ n k : Fin 128, A (ix3 0 n k) = T g n ⟨o + k.val, by omega⟩)
    (i : ∀ a, (![g.val, 0, o] : Fin 3 → ℕ) a + (![1, 128, 128] : Fin 3 → ℕ) a ≤ S2x128x256.size a) (x : S1x128x128.Idx) :
    A x = stateFn T ((Rect.unit (s := S2x128x256) ![g.val, 0, o] ![1, 128, 128] i).emb x) := by
  have e0 : x 0 = (0 : Fin 1) := Subsingleton.elim (α := Fin 1) _ _
  have ex : x = ix3 0 (x 1) (x 2) := (eq_ix3 x).trans (congrArg (fun a : Fin 1 => (ix3 a (x 1) (x 2) : S1x128x128.Idx)) e0)
  refine (congrArg A ex).trans ((h _ _).trans ?_)
  have e00 : (x 0).val = 0 := congrArg Fin.val e0
  refine tab3 T (Fin.ext ?_) (Fin.ext ?_) (Fin.ext ?_)
  · show g.val = g.val + 1 * (x 0).val; omega
  · show (x 1).val = 0 + 1 * (x 1).val; omega
  · show o + (x 2).val = o + 1 * (x 2).val; omega

theorem half_at (A : FVec Ideal S1x128x256 .f32) (g : Fin 2) (h : ∀ (n : Fin 128) (k : Fin 256), A (ix3 0 n k) = T g n k)
    (i : ∀ a, (![g.val, 0, 0] : Fin 3 → ℕ) a + (![1, 128, 256] : Fin 3 → ℕ) a ≤ S2x128x256.size a) (x : S1x128x256.Idx) :
    A x = stateFn T ((Rect.unit (s := S2x128x256) ![g.val, 0, 0] ![1, 128, 256] i).emb x) := by
  have e0 : x 0 = (0 : Fin 1) := Subsingleton.elim (α := Fin 1) _ _
  have ex : x = ix3 0 (x 1) (x 2) := (eq_ix3 x).trans (congrArg (fun a : Fin 1 => (ix3 a (x 1) (x 2) : S1x128x256.Idx)) e0)
  refine (congrArg A ex).trans ((h _ _).trans ?_)
  have e00 : (x 0).val = 0 := congrArg Fin.val e0
  refine tab3 T (Fin.ext ?_) (Fin.ext ?_) (Fin.ext ?_)
  · show g.val = g.val + 1 * (x 0).val; omega
  · show (x 1).val = 0 + 1 * (x 1).val; omega
  · show (x 2).val = 0 + 1 * (x 2).val; omega

theorem L4_cover (y : S2x128x256.Idx) : ∃ p ∈ L4 A8 A9 A10 A11, y ∈ p.1.set :=
  View.cover_of_tiledBy (L4 A8 A9 A10 A11) ![1, 128, 128] (by sl_kernel_rfl) y

/-- A half of the state, read after the four stores. -/
theorem read4 (h8 : ∀ n k : Fin 128, A8 (ix3 0 n k) = T 0 n ⟨0 + k.val, by omega⟩) (h9 : ∀ n k : Fin 128, A9 (ix3 0 n k) = T 0 n ⟨128 + k.val, by omega⟩)
    (h10 : ∀ n k : Fin 128, A10 (ix3 0 n k) = T 1 n ⟨0 + k.val, by omega⟩) (h11 : ∀ n k : Fin 128, A11 (ix3 0 n k) = T 1 n ⟨128 + k.val, by omega⟩)
    (g : Fin 2) (i : ∀ a, (![g.val, 0, 0] : Fin 3 → ℕ) a + (![1, 128, 256] : Fin 3 → ℕ) a ≤ S2x128x256.size a) (n : Fin 128) (k : Fin 256) :
    ((View.whole cc0_scratch1).readCov (L4 A8 A9 A10 A11) (Rect.unit (s := S2x128x256) ![g.val, 0, 0] ![1, 128, 256] i).toLoadRect : S1x128x256.Idx → EReal) (ix3 0 n k)
      = T g n k := by
  rw [View.readCov_eq_canon_ld _ _ _ (L4_cover A8 A9 A10 A11)]
  refine (View.canon_append_of_piecesOf (stateFn T) [] (L4 A8 A9 A10 A11)
    ⟨quarter_at T A11 1 (by decide) h11 inb_S2x128x256_S1x128x128_1_0_128, quarter_at T A10 1 (by decide) h10 inb_S2x128x256_S1x128x128_1_0_0,
      quarter_at T A9 0 (by decide) h9 inb_S2x128x256_S1x128x128_0_0_128, quarter_at T A8 0 (by decide) h8 inb_S2x128x256_S1x128x128_0_0_0, trivial⟩ _
    (L4_cover A8 A9 A10 A11 _)).trans ?_
  refine tab3 T (Fin.ext ?_) (Fin.ext ?_) (Fin.ext ?_)
  · show g.val + 1 * 0 = g.val; omega
  · show 0 + 1 * n.val = n.val; omega
  · show 0 + 1 * k.val = k.val; omega

/-- A half of the state, read after the half before it was stored again. -/
theorem read5 {κ sp} (v : View sig κ sp S2x128x256 .f32) {o' o : ℕ} (B : FVec Ideal S1x128x256 .f32)
    (L : List (View.Piece (Elt Ideal) S2x128x256 .f32)) (R : Fin 128 → Fin 256 → EReal)
    (i' : ∀ a, (![o', 0, 0] : Fin 3 → ℕ) a + (S1x128x256).size a ≤ S2x128x256.size a)
    (i : ∀ a, (![o, 0, 0] : Fin 3 → ℕ) a + (S1x128x256).size a ≤ S2x128x256.size a) (dj : o' + 1 ≤ o)
    (h : ∀ (n : Fin 128) (k : Fin 256), (v.readCov L (Rect.unit (s := S2x128x256) ![o, 0, 0] S1x128x256.size i).toLoadRect : S1x128x256.Idx → EReal) (ix3 0 n k) = R n k)
    (n : Fin 128) (k : Fin 256) :
    (v.readCov (⟨Rect.unit (s := S2x128x256) ![o', 0, 0] S1x128x256.size i', B⟩ :: L)
      (Rect.unit (s := S2x128x256) ![o, 0, 0] S1x128x256.size i).toLoadRect : S1x128x256.Idx → EReal) (ix3 0 n k) = R n k := by
  have hd : Disjoint (Rect.unit (s := S2x128x256) ![o', 0, 0] S1x128x256.size i').set (Rect.unit (s := S2x128x256) ![o, 0, 0] S1x128x256.size i).toLoadRect.set := by
    refine Rect.unit_disjoint (s := S2x128x256) (inb := i') (inb' := i) (0 : Fin 3) (Or.inl ?_)
    exact dj
  have e := View.readCov_cons_of_disjoint v ⟨Rect.unit (s := S2x128x256) ![o', 0, 0] S1x128x256.size i', B⟩ L
    (Rect.unit (s := S2x128x256) ![o, 0, 0] S1x128x256.size i).toLoadRect hd
  rw [e]
  exact h n k

/-- The two stores of the outgoing state. -/
abbrev L2 (B0 B1 : FVec Ideal S1x128x256 .f32) : List (View.Piece (Elt Ideal) S2x128x256 .f32) :=
  [⟨Rect.unit ![1, 0, 0] ![1, 128, 256] inb_S2x128x256_S1x128x256_1_0_0, B1⟩,
    ⟨Rect.unit ![0, 0, 0] ![1, 128, 256] inb_S2x128x256_S1x128x256_0_0_0, B0⟩]

theorem L2_cover (B0 B1 : FVec Ideal S1x128x256 .f32) (y : S2x128x256.Idx) : ∃ p ∈ L2 B0 B1, y ∈ p.1.set :=
  View.cover_of_tiledBy (L2 B0 B1) ![1, 128, 256] (by sl_kernel_rfl) y

/-- A quarter of the outgoing state, read after its two stores. -/
theorem read6 (B0 B1 : FVec Ideal S1x128x256 .f32) (L : List (View.Piece (Elt Ideal) S2x128x256 .f32))
    (h0 : ∀ (n : Fin 128) (k : Fin 256), B0 (ix3 0 n k) = T 0 n k) (h1 : ∀ (n : Fin 128) (k : Fin 256), B1 (ix3 0 n k) = T 1 n k)
    (g : Fin 2) {o : ℕ} (ho : o + 128 ≤ 256) (i : ∀ a, (![g.val, 0, o] : Fin 3 → ℕ) a + (![1, 128, 128] : Fin 3 → ℕ) a ≤ S2x128x256.size a) (n k : Fin 128) :
    ((View.whole cc0_scratch1).readCov (L2 B0 B1 ++ L) (Rect.unit (s := S2x128x256) ![g.val, 0, o] ![1, 128, 128] i).toLoadRect : S1x128x128.Idx → EReal) (ix3 0 n k)
      = T g n ⟨o + k.val, by omega⟩ := by
  rw [View.readCov_eq_canon_ld _ _ _ (fun y => (L2_cover B0 B1 y).imp fun p hp => ⟨List.mem_append_left _ hp.1, hp.2⟩)]
  refine (View.canon_append_of_piecesOf (stateFn T) L (L2 B0 B1)
    ⟨half_at T B1 1 h1 inb_S2x128x256_S1x128x256_1_0_0, half_at T B0 0 h0 inb_S2x128x256_S1x128x256_0_0_0, trivial⟩ _
    (L2_cover B0 B1 _)).trans ?_
  refine tab3 T (Fin.ext ?_) (Fin.ext ?_) (Fin.ext ?_)
  · show g.val + 1 * 0 = g.val; omega
  · show 0 + 1 * n.val = n.val; omega
  · show o + 1 * k.val = o + k.val; omega

/-- The four stores of the second result. -/
abbrev P4 : List (View.Piece (Elt Ideal) S1x512x128 .f32) :=
  [⟨Rect.unit ![0, 384, 0] ![1, 128, 128] inb_S1x512x128_S1x128x128_0_384_0, A11⟩,
    ⟨Rect.unit ![0, 256, 0] ![1, 128, 128] inb_S1x512x128_S1x128x128_0_256_0, A10⟩,
    ⟨Rect.unit ![0, 128, 0] ![1, 128, 128] inb_S1x512x128_S1x128x128_0_128_0, A9⟩,
    ⟨Rect.unit ![0, 0, 0] ![1, 128, 128] inb_S1x512x128_S1x128x128_0_0_0, A8⟩]

theorem P4_cover (y : S1x512x128.Idx) : ∃ p ∈ P4 A8 A9 A10 A11, y ∈ p.1.set :=
  View.cover_of_tiledBy (P4 A8 A9 A10 A11) ![1, 128, 128] (by sl_kernel_rfl) y

/-- A table of entries, as an array. -/
abbrev rowsFn (R : Fin 512 → Fin 128 → EReal) : S1x512x128.Idx → Elt Ideal .f32 := fun y => R (y 1) (y 2)

theorem rows_piece (A : FVec Ideal S1x128x128 .f32) (R : Fin 512 → Fin 128 → EReal) {o : ℕ} (ho : o + 128 ≤ 512)
    (h : ∀ k n : Fin 128, A (ix3 0 k n) = R ⟨o + k.val, by omega⟩ n)
    (i : ∀ a, (![0, o, 0] : Fin 3 → ℕ) a + (![1, 128, 128] : Fin 3 → ℕ) a ≤ S1x512x128.size a) (x : S1x128x128.Idx) :
    A x = rowsFn R ((Rect.unit (s := S1x512x128) ![0, o, 0] ![1, 128, 128] i).emb x) := by
  have e0 : x 0 = (0 : Fin 1) := Subsingleton.elim (α := Fin 1) _ _
  have ex : x = ix3 0 (x 1) (x 2) := (eq_ix3 x).trans (congrArg (fun a : Fin 1 => (ix3 a (x 1) (x 2) : S1x128x128.Idx)) e0)
  refine (congrArg A ex).trans ((h _ _).trans ?_)
  refine congrArg₂ R (Fin.ext ?_) (Fin.ext ?_)
  · show o + (x 1).val = o + 1 * (x 1).val; omega
  · show (x 2).val = 0 + 1 * (x 2).val; omega

theorem rows_at (R : Fin 512 → Fin 128 → EReal) (h8 : ∀ k n : Fin 128, A8 (ix3 0 k n) = R ⟨0 + k.val, by omega⟩ n)
    (h9 : ∀ k n : Fin 128, A9 (ix3 0 k n) = R ⟨128 + k.val, by omega⟩ n) (h10 : ∀ k n : Fin 128, A10 (ix3 0 k n) = R ⟨256 + k.val, by omega⟩ n)
    (h11 : ∀ k n : Fin 128, A11 (ix3 0 k n) = R ⟨384 + k.val, by omega⟩ n) (y : S1x512x128.Idx) :
    View.canon (P4 A8 A9 A10 A11) y = R (y 1) (y 2) :=
  View.canon_append_of_piecesOf (rowsFn R) [] (P4 A8 A9 A10 A11)
    ⟨rows_piece A11 R (by decide) h11 inb_S1x512x128_S1x128x128_0_384_0, rows_piece A10 R (by decide) h10 inb_S1x512x128_S1x128x128_0_256_0,
      rows_piece A9 R (by decide) h9 inb_S1x512x128_S1x128x128_0_128_0, rows_piece A8 R (by decide) h8 inb_S1x512x128_S1x128x128_0_0_0, trivial⟩ _
    (P4_cover A8 A9 A10 A11 _)

end State

end Cert.Kernel8Ideal.SsdSample
-- ==== Proof.SsdSampleArr.lean ====
module

public import proofs.«01_k».proof.Proof.SsdSampleRows

@[expose] public section

/-!
# The sample rows' state-space kernel: the arrays it writes
-/

noncomputable section

namespace Cert.Kernel8Ideal.SsdSample

open Cert.Kernel8Ideal Cert.Kernel8Ideal.Gen Idealize.ShloMosaic Idealize.ShloMosaic.TcCoe Idealize.SL.Sem
open Idealize.ShloMosaic.Pointwise
open Cert.Soft (Re)
open Cert.Ssd

set_option maxRecDepth 16384

/-! ## The arrays, index by index -/

section Spec

variable (A0 : FVec Ideal S16x16x1024 .f32) (A1 : FVec Ideal S16x16x512 .f32) (A2 : FVec Ideal S16x16x8 .f32) (A3 : FVec Ideal S16x3x1024 .f32)
  (A4 : FVec Ideal S16x8x64x128 .f32) (A5 : FVec Ideal S4x1024 .f32) (A6 : FVec Ideal S1024 .f32) (A7 A8 A9 : FVec Ideal S8 .f32) (A10 : FVec Ideal S512 .f32)

/-- A row some rows earlier, a row of the state before the first row. -/
def back (b : Fin 16) (k : ℕ) (s : Fin 16) (j : Fin 1024) : EReal :=
  if h : s.val < k then A3 (ix3 b ⟨(s.val + 3 - k) % 3, by omega⟩ j) else A0 (ix3 b ⟨s.val - k, by omega⟩ j)
/-- The convolved columns, gated. -/
def uA (b : Fin 16) (s : Fin 16) (j : Fin 1024) : EReal :=
  silu (A5 (ix2 3 j) * A0 (ix3 b s j) + A5 (ix2 2 j) * back A0 A3 b 1 s j + A5 (ix2 1 j) * back A0 A3 b 2 s j
    + A5 (ix2 0 j) * back A0 A3 b 3 s j + A6 (ix1 j))
/-- The step of a row. -/
def dA (b : Fin 16) (s : Fin 16) (h : Fin 8) : EReal := softplus (A2 (ix3 b s h) + A7 (ix1 h))
/-- The rate of a head. -/
def aA (h : Fin 8) : EReal := 0 - Ideal.exp (A8 (ix1 h))
/-- The incoming state. -/
def HA (b : Fin 16) (e : Fin 512) (n : Fin 128) : EReal := A4 (ix4 b (hd e) ⟨e.val % 64, by omega⟩ n)

/-- The first result. -/
def outArr : FVec Ideal S16x16x512 .bf16 := fun i =>
  out (uA A0 A3 A5 A6 (i 0)) (dA A2 A7 (i 0)) (aA A8) (HA A4 (i 0)) (fun s e => A1 (ix3 (i 0) s e)) (fun h => A9 (ix1 h)) (fun e => A10 (ix1 e)) (i 1) (i 2)
/-- The second result: the state after the last row. -/
def stArr : FVec Ideal S16x512x128 .f32 := fun i => hf (uA A0 A3 A5 A6 (i 0)) (dA A2 A7 (i 0)) (aA A8) (HA A4 (i 0)) (i 1) (i 2)

theorem dA_real (h2 : ∀ i, Below (A2 i)) (h7 : ∀ i, Below (A7 i)) (b s : Fin 16) (h : Fin 8) : ∃ r : ℝ, 0 ≤ r ∧ dA A2 A7 b s h = (r : EReal) :=
  softplus_real (EReal.add_ne_top (h2 _) (h7 _))
theorem dA_ne_top (h2 : ∀ i, Below (A2 i)) (h7 : ∀ i, Below (A7 i)) (b s : Fin 16) (h : Fin 8) : dA A2 A7 b s h ≠ ⊤ := by
  obtain ⟨r, _, e⟩ := dA_real A2 A7 h2 h7 b s h
  rw [e]; exact EReal.coe_ne_top r
theorem ld_ne_top (h2 : ∀ i, Below (A2 i)) (h7 : ∀ i, Below (A7 i)) (b s : Fin 16) (h : Fin 8) : dA A2 A7 b s h * aA A8 h ≠ ⊤ := by
  obtain ⟨r, hr, e⟩ := dA_real A2 A7 h2 h7 b s h
  rw [e]
  exact ne_top_of_le_ne_top EReal.zero_ne_top (mul_nonpos_of_nonneg_of_nonpos (EReal.coe_nonneg.mpr hr) (neg_exp_nonpos _))

end Spec

section Pays

variable (x0 : Vec Ideal S1x16x1024 .f32) (x1 : Vec Ideal S1x16x512 .f32) (x2 : Vec Ideal S1x16x128 .f32) (x3 : Vec Ideal S1x8x1024 .f32)
  (x5 : Vec Ideal S4x1024 .f32) (x6 : Vec Ideal S1x1024 .f32) (x7 x8 : Vec Ideal S1x128 .f32)

/-- The convolved columns. -/
abbrev uOf : FVec Ideal S16x1024 .f32 := k0_pay17 x5 (k0_pay14 x0 (k0_pay7 x3)) (k0_pay15 x5 x0 (k0_pay7 x3)) (k0_pay16 x5) x6

/-- A row some rows earlier. -/
def backB (k : ℕ) (r : Fin 16) (e : Fin 1024) : EReal :=
  if h : r.val < k then x3 (ix3 0 ⟨(r.val + 8 - k) % 8, by omega⟩ e) else x0 (ix3 0 ⟨r.val - k, by omega⟩ e)

theorem backB_eq (k : ℕ) (h1 : 1 ≤ k) (h3 : k ≤ 3) (r : Fin 16) (e : Fin 1024) : backB x0 x3 k r e
    = if h : (8 + r.val + 24 - k) % 24 < 8 then x3 (ix3 0 ⟨(8 + r.val + 24 - k) % 24, h⟩ e)
      else x0 (ix3 0 ⟨(8 + r.val + 24 - k) % 24 - 8, by omega⟩ e) := by
  unfold backB
  by_cases h : r.val < k
  · rw [dif_pos h, dif_pos (by omega)]
    exact congrArg (fun i : Fin 8 => x3 (ix3 0 i e)) (Fin.ext (by show (r.val + 8 - k) % 8 = (8 + r.val + 24 - k) % 24; omega))
  · rw [dif_neg h, dif_neg (by omega)]
    exact congrArg (fun i : Fin 16 => x0 (ix3 0 i e)) (Fin.ext (by show r.val - k = (8 + r.val + 24 - k) % 24 - 8; omega))

theorem uOf_at (r : Fin 16) (e : Fin 1024) : uOf x0 x3 x5 x6 (ix2 r e) = silu (x5 (ix2 3 e) * x0 (ix3 0 r e) + x5 (ix2 2 e) * backB x0 x3 1 r e
    + x5 (ix2 1 e) * backB x0 x3 2 r e + x5 (ix2 0 e) * backB x0 x3 3 r e + x6 (ix2 0 e)) := by
  unfold silu
  pointwise [uOf, k0_pay17, k0_pay14, k0_pay15, k0_pay16, k0_pay13, k0_pay7]
  rw [backB_eq x0 x3 1 (by decide) (by decide), backB_eq x0 x3 2 (by decide) (by decide), backB_eq x0 x3 3 (by decide) (by decide)]

theorem up_at (U : FVec Ideal S16x1024 .f32) (r : Fin 128) (e : Fin 1024) : k0_pay20 U (ix2 r e) = if h : r.val < 16 then U (ix2 ⟨r.val, h⟩ e) else 0 := by
  pointwise [k0_pay20]

theorem xs_at (U : FVec Ideal S16x1024 .f32) (r : Fin 128) (e : Fin 512) : k0_pay23 U (ix2 r e) = k0_pay20 U (ix2 r (cx e)) := by
  pointwise [k0_pay23, cx]

theorem zp_at (r : Fin 128) (e : Fin 512) : k0_pay22 x1 (ix2 r e) = if h : r.val < 16 then x1 (ix3 0 ⟨r.val, h⟩ e) else 0 := by
  pointwise [k0_pay22]

theorem dt_at (r : Fin 16) (q : Fin 128) : k0_pay19 x2 x7 (ix2 r q) = softplus (x2 (ix3 0 r q) + x7 (ix2 0 q)) := by
  unfold softplus
  pointwise [k0_pay19]
  rfl

theorem an_at (q : Fin 128) : k0_pay12 x8 (ix2 0 q) = 0 - Ideal.exp (x8 (ix2 0 q)) := by
  pointwise [k0_pay12]

end Pays

section Turn
variable (X : Vec Ideal S1x128x128 .f32) (k n : Fin 128)
theorem pay8_at : k0_pay8 X (ix3 0 n k) = X (ix3 0 k n) := by pointwise [k0_pay8]
theorem pay9_at : k0_pay9 X (ix3 0 n k) = X (ix3 0 k n) := by pointwise [k0_pay9]
theorem pay10_at : k0_pay10 X (ix3 0 n k) = X (ix3 0 k n) := by pointwise [k0_pay10]
theorem pay11_at : k0_pay11 X (ix3 0 n k) = X (ix3 0 k n) := by pointwise [k0_pay11]
theorem pay59_at : k0_pay59 X (ix3 0 n k) = X (ix3 0 k n) := by pointwise [k0_pay59]
theorem pay60_at : k0_pay1 (k0_pay60 X) (ix3 0 n k) = X (ix3 0 k n) := by pointwise [k0_pay60, k0_pay1]
theorem pay2_at : k0_pay2 X (ix3 0 n k) = X (ix3 0 k n) := by pointwise [k0_pay2]
theorem pay3_at : k0_pay3 X (ix3 0 n k) = X (ix3 0 k n) := by pointwise [k0_pay3]
end Turn

/-! ## The blocks of a grid point -/

variable (m : (ℓ : Loc nD τ sig) → Buf (Elt Ideal) ℓ) (c : Dev nD)

theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0, 0]
    ∧ win0_12.index t = ![t.val, 0, 0] :=
  (by decide +kernel : ∀ t : Fin grid0.N, _)

theorem V0 : V m c main_v0 = (pad S16x8x1024 ![0, 5, 0] ![0, 0, 0] ![0, 0, 0] (m ((c : Thread nD τ).loc main_arg3) : FVec Ideal S16x3x1024 .f32)
    (sitofp .f32 (constantI S_ 32 0#32)) pads_S16x3x1024_S16x8x1024_000_500_000 h_S_ : FVec Ideal S16x8x1024 .f32) := rfl
theorem V1 : V m c main_v1 = shapeCast S16x512x128 (m ((c : Thread nD τ).loc main_arg4) : FVec Ideal S16x8x64x128 .f32) shapeCasts_S16x8x64x128_S16x512x128 := rfl
theorem V2 : V m c main_v2 = (pad S16x16x128 ![0, 0, 0] ![0, 0, 120] ![0, 0, 0] (m ((c : Thread nD τ).loc main_arg2) : FVec Ideal S16x16x8 .f32)
    (sitofp .f32 (constantI S_ 32 0#32)) pads_S16x16x8_S16x16x128_000_000_01200 h_S_ : FVec Ideal S16x16x128 .f32) := rfl
theorem V3 : V m c main_v3 = shapeCast S1x1024 (m ((c : Thread nD τ).loc main_arg6) : FVec Ideal S1024 .f32) shapeCasts_S1024_S1x1024 := rfl
theorem V5 : V m c main_v5 = shapeCast S1x128 (pad S128 ![0] ![120] ![0] (m ((c : Thread nD τ).loc main_arg7) : FVec Ideal S8 .f32)
    (sitofp .f32 (constantI S_ 32 0#32)) pads_S8_S128_01200 h_S_ : FVec Ideal S128 .f32) shapeCasts_S128_S1x128 := rfl
theorem V7 : V m c main_v7 = shapeCast S1x128 (pad S128 ![0] ![120] ![0] (m ((c : Thread nD τ).loc main_arg8) : FVec Ideal S8 .f32)
    (sitofp .f32 (constantI S_ 32 0#32)) pads_S8_S128_01200 h_S_ : FVec Ideal S128 .f32) shapeCasts_S128_S1x128 := rfl
theorem V10 : V m c main_v10 = shapeCast S1x512 (shapeCast S512 (broadcastInDim S8x64 ![0] bcast_S8_S8x64_0 (m ((c : Thread nD τ).loc main_arg9) : FVec Ideal S8 .f32)
    : FVec Ideal S8x64 .f32) shapeCasts_S8x64_S512) shapeCasts_S512_S1x512 := rfl
theorem V11 : V m c main_v11 = shapeCast S1x512 (m ((c : Thread nD τ).loc main_arg10) : FVec Ideal S512 .f32) shapeCasts_S512_S1x512 := rfl

variable (t : Fin cfg0.N)

/-- The batch entry of a grid point. -/
def bt : Fin 16 := ⟨t.val, t.isLt⟩

theorem blk0 (r : Fin 16) (k : Fin 1024) : iblk m c 0 t (ix3 0 r k) = m ((c : Thread nD τ).loc main_arg0) (ix3 (bt t) r k) := by
  blk_ext [iblk, V, idx t, bt]
theorem blk1 (r : Fin 16) (k : Fin 512) : iblk m c 1 t (ix3 0 r k) = m ((c : Thread nD τ).loc main_arg1) (ix3 (bt t) r k) := by
  blk_ext [iblk, V, idx t, bt]
theorem blk2 (r : Fin 16) (h : Fin 8) : iblk m c 2 t (ix3 0 r (lane h)) = m ((c : Thread nD τ).loc main_arg2) (ix3 (bt t) r h) := by
  show V m c main_v2 (((cfg0.win 2).blk t).view.emb _) = _
  have e : ((cfg0.win 2).blk t).view.emb (ix3 0 r (lane h)) = ix3 (bt t) r (lane h) := by blk_ext [idx t, bt]
  rw [V2, e]
  refine pad_apply_of_inside _ _ _ _ _ _ _ _ (ix3 (bt t) r h) ?_
  intro a; fin_cases a
  · show (bt t).val = 0 + (bt t).val * (0 + 1); omega
  · show r.val = 0 + r.val * (0 + 1); omega
  · show h.val = 0 + h.val * (0 + 1); omega
theorem blk3 (i : Fin 3) (j : Fin 1024) : iblk m c 3 t (ix3 0 ⟨5 + i.val, by omega⟩ j) = m ((c : Thread nD τ).loc main_arg3) (ix3 (bt t) i j) := by
  show V m c main_v0 (((cfg0.win 3).blk t).view.emb _) = _
  have e : ((cfg0.win 3).blk t).view.emb (ix3 0 ⟨5 + i.val, by omega⟩ j) = ix3 (bt t) ⟨5 + i.val, by omega⟩ j := by blk_ext [idx t, bt]
  rw [V0, e]
  refine pad_apply_of_inside _ _ _ _ _ _ _ _ (ix3 (bt t) i j) ?_
  intro a; fin_cases a
  · show (bt t).val = 0 + (bt t).val * (0 + 1); omega
  · show 5 + i.val = 5 + i.val * (0 + 1); omega
  · show j.val = 0 + j.val * (0 + 1); omega
theorem blk4 (e : Fin 512) (n : Fin 128) : iblk m c 4 t (ix3 0 e n) = HA (m ((c : Thread nD τ).loc main_arg4)) (bt t) e n := by
  show V m c main_v1 (((cfg0.win 4).blk t).view.emb _) = _
  have e' : ((cfg0.win 4).blk t).view.emb (ix3 0 e n) = ix3 (bt t) e n := by blk_ext [idx t, bt]
  rw [V1, e']
  refine shapeCast_apply _ _ _ _ ?_
  show (S16x8x64x128.rowMajor _).val = _
  rw [Shape.rowMajor_val_four, Shape.rowMajor_val_three]
  show (((bt t).val * 8 + e.val / 64) * 64 + e.val % 64) * 128 + n.val = ((bt t).val * 512 + e.val) * 128 + n.val
  omega
theorem blk5 (i : Fin 4) (j : Fin 1024) : iblk m c 5 t (ix2 i j) = m ((c : Thread nD τ).loc main_arg5) (ix2 i j) := by
  blk_ext [iblk, V, idx t]
theorem blk6 (j : Fin 1024) : iblk m c 6 t (ix2 0 j) = m ((c : Thread nD τ).loc main_arg6) (ix1 j) := by
  show V m c main_v3 (((cfg0.win 6).blk t).view.emb _) = _
  have e : ((cfg0.win 6).blk t).view.emb (ix2 0 j) = ix2 0 j := by blk_ext [idx t]
  rw [V3, e]
  refine shapeCast_apply _ _ _ _ ?_
  show (S1024.rowMajor _).val = _
  rw [Shape.rowMajor_val_one, Shape.rowMajor_val_two]
  show j.val = 0 * 1024 + j.val
  omega
theorem pad8 (x : FVec Ideal S8 .f32) (h : Fin 8) : (shapeCast S1x128 (pad S128 ![0] ![120] ![0] x
    (sitofp .f32 (constantI S_ 32 0#32)) pads_S8_S128_01200 h_S_ : FVec Ideal S128 .f32) shapeCasts_S128_S1x128 : FVec Ideal S1x128 .f32) (ix2 0 (lane h)) = x (ix1 h) := by
  refine (shapeCast_apply _ _ _ (ix1 (lane h)) ?_).trans ?_
  · show (S128.rowMajor _).val = _
    rw [Shape.rowMajor_val_one, Shape.rowMajor_val_two]
    show (lane h).val = 0 * 128 + (lane h).val
    omega
  · refine pad_apply_of_inside _ _ _ _ _ _ _ _ (ix1 h) ?_
    intro a; fin_cases a
    show h.val = 0 + h.val * (0 + 1); omega
theorem blk7 (h : Fin 8) : iblk m c 7 t (ix2 0 (lane h)) = m ((c : Thread nD τ).loc main_arg7) (ix1 h) := by
  show V m c main_v5 (((cfg0.win 7).blk t).view.emb _) = _
  have e : ((cfg0.win 7).blk t).view.emb (ix2 0 (lane h)) = ix2 0 (lane h) := by blk_ext [idx t]
  rw [V5, e]
  exact pad8 _ h
theorem blk8 (h : Fin 8) : iblk m c 8 t (ix2 0 (lane h)) = m ((c : Thread nD τ).loc main_arg8) (ix1 h) := by
  show V m c main_v7 (((cfg0.win 8).blk t).view.emb _) = _
  have e : ((cfg0.win 8).blk t).view.emb (ix2 0 (lane h)) = ix2 0 (lane h) := by blk_ext [idx t]
  rw [V7, e]
  exact pad8 _ h
theorem blk9 (e : Fin 512) : iblk m c 9 t (ix2 0 e) = m ((c : Thread nD τ).loc main_arg9) (ix1 (hd e)) := by
  show V m c main_v10 (((cfg0.win 9).blk t).view.emb _) = _
  have e' : ((cfg0.win 9).blk t).view.emb (ix2 0 e) = ix2 0 e := by blk_ext [idx t]
  rw [V10, e']
  refine (shapeCast_apply _ _ _ (ix1 e) ?_).trans ((shapeCast_apply _ _ _ (ix2 (hd e) (⟨e.val % 64, by omega⟩ : Fin 64)) ?_).trans ?_)
  · show (S512.rowMajor _).val = _
    rw [Shape.rowMajor_val_one, Shape.rowMajor_val_two]
    show e.val = 0 * 512 + e.val
    omega
  · show (S8x64.rowMajor _).val = (S512.rowMajor _).val
    rw [Shape.rowMajor_val_one, Shape.rowMajor_val_two]
    show e.val / 64 * 64 + e.val % 64 = e.val
    omega
  · pointwise []
theorem blk10 (e : Fin 512) : iblk m c 10 t (ix2 0 e) = m ((c : Thread nD τ).loc main_arg10) (ix1 e) := by
  show V m c main_v11 (((cfg0.win 10).blk t).view.emb _) = _
  have e' : ((cfg0.win 10).blk t).view.emb (ix2 0 e) = ix2 0 e := by blk_ext [idx t]
  rw [V11, e']
  refine shapeCast_apply _ _ _ _ ?_
  show (S512.rowMajor _).val = _
  rw [Shape.rowMajor_val_one, Shape.rowMajor_val_two]
  show e.val = 0 * 512 + e.val
  omega

end Cert.Kernel8Ideal.SsdSample
-- ==== Proof.SsdSampleRef.lean ====
module

public import proofs.«01_k».proof.Proof.SsdSampleArr
public import proofs.«01_k».proof.Proof.Gen.Reference8Ideal.Read
public import Idealize.ShloMosaic.Lib.KernelVsHost
public import Idealize.ShloMosaic.Lib.Pointwise
public import Idealize.ShloMosaic.Lib.Pipeline.ValueKit

@[expose] public section

/-!
# The sample rows' state-space reference: the arrays it writes
-/

noncomputable section

namespace Cert.Reference8Ideal.SsdSample

open Cert.Reference8Ideal Cert.Reference8Ideal.Gen Idealize.ShloMosaic Idealize.ShloMosaic.TcCoe Idealize.SL.Sem
open Idealize.ShloMosaic.Pointwise Cert.Reference8Ideal.Read
open Cert.Ssd
open Cert.Kernel8Ideal.SsdSample (back uA dA aA HA outArr stArr)

set_option maxRecDepth 16384

theorem sitofp_zero : (FloatOps.sitofp FTy.f32 0#32 : Ideal .f32) = 0 := by
  show ((((0#32 : BitVec 32).toInt : ℝ)) : EReal) = 0
  simp

/-! ## A running sum -/

theorem foldl_sum {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

theorem window_sum (x : FVec Ideal S16x2x4x1x64 .f32) (init : FVec Ideal S_ .f32) (h0 : ∀ i, init i = 0) (b : Fin 16) (g : Fin 2) (r : Fin 4) (l : Fin 64) :
    (Host.reduceWindowAdd ![1, 1, 1, 1, 64] ![1, 1, 1, 1, 1] ![0, 0, 0, 0, 63] ![0, 0, 0, 0, 0] x init
      reduceWindows_S16x2x4x1x64_S16x2x4x1x64_w1s1p0_0_w1s1p0_0_w1s1p0_0_w1s1p0_0_w64s1p63_0 h_S_ : FVec Ideal S16x2x4x1x64 .f32) (ix5 b g r 0 l)
      = ∑ k : Fin 64, if h : 63 ≤ l.val + k.val then x (ix5 b g r 0 ⟨l.val + k.val - 63, by omega⟩) else 0 := by
  unfold Host.reduceWindowAdd
  show Host.reduceWindow (s := S16x2x4x1x64) (t := S16x2x4x1x64) (u := ⟨0, ![]⟩) (fun p q : EReal => p + q) ![1, 1, 1, 1, 64] ![1, 1, 1, 1, 1] ![0, 0, 0, 0, 63] ![0, 0, 0, 0, 0] x
    (fun _ => init (Shape.Idx.first h_S_)) reduceWindows_S16x2x4x1x64_S16x2x4x1x64_w1s1p0_0_w1s1p0_0_w1s1p0_0_w1s1p0_0_w64s1p63_0 (by decide) (ix5 b g r 0 l) = _
  unfold Host.reduceWindow
  refine (foldl_sum _ _).trans ?_
  rw [h0, zero_add]
  refine (Equiv.sum_comp (Shape.rowMajor ⟨5, ![1, 1, 1, 1, 64]⟩) _).symm.trans ?_
  rw [sum_idx5]
  simp only [Fin.sum_univ_one, Equiv.symm_apply_apply]
  refine Finset.sum_congr rfl fun k _ => ?_
  by_cases h : 63 ≤ l.val + k.val
  · refine (dif_pos (fun a => ?_)).trans (Eq.trans ?_ (dif_pos h).symm)
    · fin_cases a
      · show 0 ≤ b.val * 1 + 0 ∧ b.val * 1 + 0 - 0 < 16
        omega
      · show 0 ≤ g.val * 1 + 0 ∧ g.val * 1 + 0 - 0 < 2
        omega
      · show 0 ≤ r.val * 1 + 0 ∧ r.val * 1 + 0 - 0 < 4
        omega
      · show 0 ≤ 0 * 1 + 0 ∧ 0 * 1 + 0 - 0 < 1
        omega
      · show 63 ≤ l.val * 1 + k.val ∧ l.val * 1 + k.val - 63 < 64
        omega
    · refine congrArg x (funext fun a => Fin.ext ?_)
      fin_cases a
      · show b.val * 1 + 0 - 0 = b.val
        omega
      · show g.val * 1 + 0 - 0 = g.val
        omega
      · show r.val * 1 + 0 - 0 = r.val
        omega
      · show 0 * 1 + 0 - 0 = 0
        omega
      · show l.val * 1 + k.val - 63 = l.val + k.val - 63
        omega
  · rw [dif_neg h]
    refine dif_neg (fun q => h ?_)
    have q4 : 63 ≤ l.val * 1 + k.val := (q 4).1
    omega

variable (x0 : FVec Ideal S16x16x1024 .f32) (x1 : FVec Ideal S16x16x512 .f32) (x2 : FVec Ideal S16x16x8 .f32) (x3 : FVec Ideal S16x3x1024 .f32)
  (x4 : FVec Ideal S16x8x64x128 .f32) (x5 : FVec Ideal S4x1024 .f32) (x6 : FVec Ideal S1024 .f32) (x7 x8 x9 : FVec Ideal S8 .f32) (x10 : FVec Ideal S512 .f32)

/-! ## The convolved columns and the steps -/

theorem cat_at (b : Fin 16) (i : Fin 19) (j : Fin 1024) : val_main_v0 (F := Ideal) x0 x3 (ix3 b i j)
    = if h : i.val < 3 then x3 (ix3 b ⟨i.val, h⟩ j) else x0 (ix3 b ⟨i.val - 3, by omega⟩ j) := by
  pointwise [val_main_v0]

theorem cat_back (b s : Fin 16) (j : Fin 1024) (k : ℕ) (hk : k ≤ 3) (i : Fin 19) (hi : i.val + k = s.val + 3) :
    val_main_v0 (F := Ideal) x0 x3 (ix3 b i j) = back x0 x3 b k s j := by
  rw [cat_at]
  unfold back
  by_cases h : s.val < k
  · rw [dif_pos h, dif_pos (by omega)]
    exact congrArg (fun q : Fin 3 => x3 (ix3 b q j)) (Fin.ext (by show i.val = (s.val + 3 - k) % 3; omega))
  · rw [dif_neg h, dif_neg (by omega)]
    exact congrArg (fun q : Fin 16 => x0 (ix3 b q j)) (Fin.ext (by show i.val - 3 = s.val - k; omega))

theorem taps (p q r s v a b c d : EReal) : a * p + b * q + c * r + d * s + v = s * d + r * c + q * b + p * a + v := by
  rw [mul_comm a, mul_comm b, mul_comm c, mul_comm d]
  abel

theorem u_at (b s : Fin 16) (j : Fin 1024) : val_main_v33 (F := Ideal) x0 x3 x5 x6 (ix3 b s j) = uA x0 x3 x5 x6 b s j := by
  pointwise [val_main_v33, val_main_call0_v5, val_main_call0_v4, val_main_call0_v3, val_main_call0_v2, val_main_call0_v1, val_main_call0_v0, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_cst, val_main_call0_cst, val_main_call0_cst_0]
  rw [cat_back x0 x3 b s j 3 (by decide) ⟨s.val, by omega⟩ (by show s.val + 3 = s.val + 3; rfl),
    cat_back x0 x3 b s j 2 (by decide) ⟨1 + s.val, by omega⟩ (by show 1 + s.val + 2 = s.val + 3; omega),
    cat_back x0 x3 b s j 1 (by decide) ⟨2 + s.val, by omega⟩ (by show 2 + s.val + 1 = s.val + 3; omega),
    cat_back x0 x3 b s j 0 (by decide) ⟨3 + s.val, by omega⟩ (by show 3 + s.val + 0 = s.val + 3; omega), taps, ← zero_sub]
  rfl

theorem d_at (b s : Fin 16) (h : Fin 8) : val_main_v41 (F := Ideal) x2 x7 (ix3 b s h) = dA x2 x7 b s h := by
  pointwise [val_main_v41, val_main_call1_v11, val_main_call1_v10, val_main_call1_v9, val_main_call1_v8, val_main_call1_v7, val_main_call1_v6, val_main_call1_v5, val_main_call1_v4, val_main_call1_v3, val_main_call1_v2, val_main_call1_v1, val_main_call1_v0, val_main_call1_cst, val_main_v40, val_main_v39, val_main_v38]
  rw [if_neg (by simp), ← zero_sub]
  rfl

/-! ## The padded rows -/

/-- A column, from its group, its head within the group and its place within the head. -/
def col (g : Fin 2) (r : Fin 4) (p : Fin 64) : Fin 512 := ⟨(g.val * 4 + r.val) * 64 + p.val, by omega⟩
theorem hd_col (g : Fin 2) (r : Fin 4) (p : Fin 64) : hd (col g r p) = ⟨g.val * 4 + r.val, by omega⟩ :=
  Fin.ext (by show ((g.val * 4 + r.val) * 64 + p.val) / 64 = g.val * 4 + r.val; omega)
theorem gB_col (g : Fin 2) (r : Fin 4) (p : Fin 64) (n : Fin 128) : gB (col g r p) n = ⟨512 + (g.val * 128 + n.val), by omega⟩ :=
  Fin.ext (by show 512 + 128 * (((g.val * 4 + r.val) * 64 + p.val) / 256) + n.val = 512 + (g.val * 128 + n.val); omega)
theorem gC_col (g : Fin 2) (r : Fin 4) (p : Fin 64) (n : Fin 128) : gC (col g r p) n = ⟨768 + (g.val * 128 + n.val), by omega⟩ :=
  Fin.ext (by show 768 + 128 * (((g.val * 4 + r.val) * 64 + p.val) / 256) + n.val = 768 + (g.val * 128 + n.val); omega)

variable (b : Fin 16) (g : Fin 2) (r : Fin 4) (p : Fin 64)

set_option maxHeartbeats 4000000 in
theorem xdt_at (l : Fin 64) : val_main_v50 (F := Ideal) x0 x2 x3 x5 x6 x7 (ix6 b 0 l g r p)
    = if h : l.val < 16 then xd (uA x0 x3 x5 x6 b) (dA x2 x7 b) ⟨l.val, h⟩ (col g r p) else 0 := by
  pointwise [val_main_v50, val_main_v49, val_main_call2_v0, val_main_c, val_main_v48, val_main_v47, val_main_v46, val_main_v37, val_main_v34]
  by_cases h : l.val < 16
  · refine ((dif_pos ⟨h, by omega⟩).trans ?_).trans (dif_pos h).symm
    unfold xd
    rw [u_at, d_at]
    exact congrArg (fun q : Fin 8 => uA x0 x3 x5 x6 b ⟨l.val, h⟩ (cx (col g r p)) * dA x2 x7 b ⟨l.val, h⟩ q) (hd_col g r p).symm
  · exact ((dif_neg (fun q => h q.1)).trans sitofp_zero).trans (dif_neg h).symm

theorem B_at (l : Fin 64) (n : Fin 128) : val_main_v57 (F := Ideal) x0 x3 x5 x6 (ix5 b 0 l g n)
    = if h : l.val < 16 then uA x0 x3 x5 x6 b ⟨l.val, h⟩ (gB (col g r p) n) else 0 := by
  pointwise [val_main_v57, val_main_v56, val_main_call4_v0, val_main_c_1, val_main_v44, val_main_v35]
  simp only [u_at, sitofp_zero, gB_col]

theorem C_at (l : Fin 64) (n : Fin 128) : val_main_v59 (F := Ideal) x0 x3 x5 x6 (ix5 b 0 l g n)
    = if h : l.val < 16 then uA x0 x3 x5 x6 b ⟨l.val, h⟩ (gC (col g r p) n) else 0 := by
  pointwise [val_main_v59, val_main_v58, val_main_call5_v0, val_main_c_2, val_main_v45, val_main_v36]
  simp only [u_at, sitofp_zero, gC_col]

set_option maxHeartbeats 1000000 in
theorem ld_at (l : Fin 64) : val_main_v60 (F := Ideal) x2 x7 x8 (ix5 b g r 0 l)
    = if h : l.val < 16 then dA x2 x7 b ⟨l.val, h⟩ (hd (col g r p)) * aA x8 (hd (col g r p)) else 0 := by
  pointwise [val_main_v60, val_main_v55, val_main_v54, val_main_call3_v0, val_main_c_0, val_main_v53, val_main_v52, val_main_v51, val_main_v43, val_main_v42]
  by_cases h : l.val < 16
  · refine ((dif_pos ⟨h, by omega⟩).trans ?_).trans (dif_pos h).symm
    rw [d_at, hd_col]
    exact congrArg (fun y : EReal => dA x2 x7 b ⟨l.val, h⟩ ⟨g.val * 4 + r.val, by omega⟩ * y) (zero_sub _).symm
  · exact ((dif_neg (fun q => h q.1)).trans sitofp_zero).trans (dif_neg h).symm

theorem cs_at (l : Fin 64) : val_main_v61 (F := Ideal) x2 x7 x8 (ix5 b g r 0 l) = cs (dA x2 x7 b) (aA x8) l.val (hd (col g r p)) := by
  unfold val_main_v61
  refine (window_sum _ _ (fun i => by pointwise [val_main_call6_call0_v0, val_main_call6_call0_cst]) b g r l).trans ?_
  have e : ∀ k : Fin 64, (if h : 63 ≤ l.val + k.val then val_main_v60 (F := Ideal) x2 x7 x8 (ix5 b g r 0 ⟨l.val + k.val - 63, by omega⟩) else 0)
      = (fun s : Fin 64 => if s.val ≤ l.val then val_main_v60 (F := Ideal) x2 x7 x8 (ix5 b g r 0 s) else 0) ((Equiv.addRight (⟨(l.val + 1) % 64, by omega⟩ : Fin 64)) k) := by
    intro k
    have hv : ((Equiv.addRight (⟨(l.val + 1) % 64, by omega⟩ : Fin 64)) k).val = (k.val + (l.val + 1) % 64) % 64 := rfl
    by_cases h : 63 ≤ l.val + k.val
    · rw [dif_pos h]
      refine Eq.trans ?_ (if_pos (by rw [hv]; omega)).symm
      exact congrArg (fun q : Fin 64 => val_main_v60 (F := Ideal) x2 x7 x8 (ix5 b g r 0 q)) (Fin.ext (by rw [hv]; show l.val + k.val - 63 = _; omega))
    · rw [dif_neg h]
      exact (if_neg (by rw [hv]; omega)).symm
  refine (Finset.sum_congr rfl fun k _ => e k).trans ((Equiv.sum_comp (Equiv.addRight (⟨(l.val + 1) % 64, by omega⟩ : Fin 64))
    (fun s : Fin 64 => if s.val ≤ l.val then val_main_v60 (F := Ideal) x2 x7 x8 (ix5 b g r 0 s) else 0)).trans ?_)
  refine Cert.Soft.sum_pad (p := 48) _ _ (fun x hx => ?_) (fun x hx => ?_) rfl
  · rw [ld_at x2 x7 x8 b g r p, dif_pos hx]
  · rw [ld_at x2 x7 x8 b g r p, dif_neg (not_lt.mpr hx), ite_self]

end Cert.Reference8Ideal.SsdSample
-- ==== Proof.SsdSampleRefOut.lean ====
module

public import proofs.«01_k».proof.Proof.SsdSampleRef

@[expose] public section

/-!
# The sample rows' state-space reference: its two results
-/

noncomputable section

namespace Cert.Reference8Ideal.SsdSample

open Cert.Reference8Ideal Cert.Reference8Ideal.Gen Idealize.ShloMosaic Idealize.ShloMosaic.TcCoe Idealize.SL.Sem
open Idealize.ShloMosaic.Pointwise Cert.Reference8Ideal.Read
open Cert.Ssd
open Cert.Kernel8Ideal.SsdSample (back uA dA aA HA outArr stArr)

set_option maxRecDepth 16384

/-! ## The decay between two rows -/

theorem low_at (l s : Fin 64) : val_main_v63 (F := Ideal) (ix2 l s) = if s.val ≤ l.val then 1#1 else 0#1 := by
  refine Eq.trans (b := Scalar.select (IntOp.cmpi CmpIPredicate.sge (IntOp.addi (BitVec.ofNat 32 l.val) 0#32) (BitVec.ofNat 32 s.val)) 1#1 0#1) ?_ ?_
  · pointwise [val_main_v63, val_main_v62, val_main_c_3, val_main_call7_v0, val_main_call7_c, val_main_call7_v1, val_main_call7_v2, val_main_call7_v3, val_main_call7_v4, val_main_call7_c_0, val_main_call7_v5]
  · revert l s; decide +kernel

variable (x0 : FVec Ideal S16x16x1024 .f32) (x1 : FVec Ideal S16x16x512 .f32) (x2 : FVec Ideal S16x16x8 .f32) (x3 : FVec Ideal S16x3x1024 .f32)
  (x4 : FVec Ideal S16x8x64x128 .f32) (x5 : FVec Ideal S4x1024 .f32) (x6 : FVec Ideal S1024 .f32) (x7 x8 x9 : FVec Ideal S8 .f32) (x10 : FVec Ideal S512 .f32)
variable (b : Fin 16) (g : Fin 2) (r : Fin 4) (p : Fin 64)

theorem decay_at (l s : Fin 64) : val_main_v70 (F := Ideal) x2 x7 x8 (ix6 b g r 0 l s)
    = Ideal.exp (if s.val ≤ l.val then cs (dA x2 x7 b) (aA x8) l.val (hd (col g r p)) - cs (dA x2 x7 b) (aA x8) s.val (hd (col g r p)) else ⊥) := by
  refine Eq.trans (b := Ideal.exp (Scalar.select (val_main_v63 (F := Ideal) (ix2 l s))
    (val_main_v61 (F := Ideal) x2 x7 x8 (ix5 b g r 0 l) - val_main_v61 (F := Ideal) x2 x7 x8 (ix5 b g r 0 s)) (Ideal.ofBits .f32 0xFF800000#32))) ?_ ?_
  · pointwise [val_main_v70, val_main_v69, val_main_v68, val_main_v67, val_main_v66, val_main_v65, val_main_v64, val_main_call8_v2, val_main_call8_v1, val_main_call8_v0, val_main_cst_4]
    rfl
  · rw [low_at, Cert.Soft.ofBits_bot, cs_at x2 x7 x8 b g r p, cs_at x2 x7 x8 b g r p]
    by_cases h : s.val ≤ l.val
    · rw [if_pos h, if_pos h]; rfl
    · rw [if_neg h, if_neg h]; rfl

/-! ## The recurrence's rows -/

theorem prod_at (l : Fin 16) (s : Fin 16) : (∑ n : Fin 128, val_main_v59 (F := Ideal) x0 x3 x5 x6 (ix5 b 0 ⟨l.val, by omega⟩ g n) * val_main_v57 (F := Ideal) x0 x3 x5 x6 (ix5 b 0 ⟨s.val, by omega⟩ g n))
    = cb (uA x0 x3 x5 x6 b) l s (col g r p) := by
  unfold cb
  refine Finset.sum_congr rfl fun n _ => ?_
  rw [B_at x0 x3 x5 x6 b g r p, C_at x0 x3 x5 x6 b g r p, dif_pos l.isLt, dif_pos s.isLt]

theorem diag_at (l : Fin 16) : val_main_v76 (F := Ideal) x0 x2 x3 x5 x6 x7 x8 (ix6 b 0 ⟨l.val, by omega⟩ g r p)
    = ∑ s : Fin 16, cb (uA x0 x3 x5 x6 b) l s (col g r p) * lm (dA x2 x7 b) (aA x8) l s (hd (col g r p)) * xd (uA x0 x3 x5 x6 b) (dA x2 x7 b) s (col g r p) := by
  refine Eq.trans (b := ∑ x : Fin 64, val_main_v50 (F := Ideal) x0 x2 x3 x5 x6 x7 (ix6 b 0 x g r p) * ((∑ n : Fin 128, val_main_v59 (F := Ideal) x0 x3 x5 x6 (ix5 b 0 ⟨l.val, by omega⟩ g n)
    * val_main_v57 (F := Ideal) x0 x3 x5 x6 (ix5 b 0 x g n)) * val_main_v70 (F := Ideal) x2 x7 x8 (ix6 b g r 0 ⟨l.val, by omega⟩ x))) ?_ ?_
  · pointwise [val_main_v76, val_main_v75, val_main_v74, val_main_v73, val_main_v72, val_main_v71]
  · refine Cert.Soft.sum_pad (p := 48) _ _ (fun x hx => ?_) (fun x hx => ?_) rfl
    · rw [xdt_at, dif_pos hx, decay_at x2 x7 x8 b g r p, mul_comm]
      refine congrArg (fun q : EReal => q * _ * _) (prod_at x0 x3 x5 x6 b g r p l ⟨x.val, hx⟩)
    · rw [xdt_at, dif_neg (not_lt.mpr hx), zero_mul]

theorem off_at (l : Fin 16) : val_main_v104 (F := Ideal) x0 x2 x3 x4 x5 x6 x7 x8 (ix6 b 0 ⟨l.val, by omega⟩ g r p)
    = (∑ n : Fin 128, uA x0 x3 x5 x6 b l (gC (col g r p) n) * HA x4 b (col g r p) n) * Ideal.exp (cs (dA x2 x7 b) (aA x8) l.val (hd (col g r p))) := by
  refine Eq.trans (b := (∑ n : Fin 128, x4 (ix4 b ⟨g.val * 4 + r.val, by omega⟩ p n) * val_main_v59 (F := Ideal) x0 x3 x5 x6 (ix5 b 0 ⟨l.val, by omega⟩ g n))
    * Ideal.exp (val_main_v61 (F := Ideal) x2 x7 x8 (ix5 b g r 0 ⟨l.val, by omega⟩))) ?_ ?_
  · pointwise [val_main_v104, val_main_v103, val_main_v102, val_main_v101, val_main_v100, val_main_v99, val_main_v98, val_main_v97, val_main_v90]
  · rw [cs_at x2 x7 x8 b g r p]
    refine congrArg (fun q : EReal => q * _) (Finset.sum_congr rfl fun n _ => ?_)
    rw [C_at x0 x3 x5 x6 b g r p, dif_pos l.isLt, mul_comm]
    unfold HA
    rw [hd_col]
    exact congrArg (fun q : Fin 64 => uA x0 x3 x5 x6 b l (gC (col g r p) n) * x4 (ix4 b ⟨g.val * 4 + r.val, by omega⟩ q n))
      (Fin.ext (by show p.val = ((g.val * 4 + r.val) * 64 + p.val) % 64; omega))

theorem y_at (l : Fin 16) : val_main_v105 (F := Ideal) x0 x2 x3 x4 x5 x6 x7 x8 (ix6 b 0 ⟨l.val, by omega⟩ g r p)
    = y (uA x0 x3 x5 x6 b) (dA x2 x7 b) (aA x8) (HA x4 b) l (col g r p) := by
  refine Eq.trans (b := val_main_v76 (F := Ideal) x0 x2 x3 x5 x6 x7 x8 (ix6 b 0 ⟨l.val, by omega⟩ g r p)
    + val_main_v104 (F := Ideal) x0 x2 x3 x4 x5 x6 x7 x8 (ix6 b 0 ⟨l.val, by omega⟩ g r p)) rfl ?_
  rw [diag_at, off_at, add_comm]
  rfl

/-! ## The state -/

theorem state_at (n : Fin 128) : val_main_v96 (F := Ideal) x0 x2 x3 x4 x5 x6 x7 x8 (ix5 b g r p n)
    = hf (uA x0 x3 x5 x6 b) (dA x2 x7 b) (aA x8) (HA x4 b) (col g r p) n := by
  refine Eq.trans (b := Ideal.exp (val_main_v61 (F := Ideal) x2 x7 x8 (ix5 b g r 0 63)) * x4 (ix4 b ⟨g.val * 4 + r.val, by omega⟩ p n)
    + ∑ x : Fin 64, Ideal.exp (val_main_v61 (F := Ideal) x2 x7 x8 (ix5 b g r 0 63) - val_main_v61 (F := Ideal) x2 x7 x8 (ix5 b g r 0 x))
      * val_main_v50 (F := Ideal) x0 x2 x3 x5 x6 x7 (ix6 b 0 x g r p) * val_main_v57 (F := Ideal) x0 x3 x5 x6 (ix5 b 0 x g n)) ?_ ?_
  · pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77]
  · unfold hf
    rw [cs_at x2 x7 x8 b g r p, cs_last _ _ (show 15 ≤ (63 : Fin 64).val by decide)]
    congr 1
    · unfold HA
      rw [hd_col]
      exact congrArg (fun q : Fin 64 => _ * x4 (ix4 b ⟨g.val * 4 + r.val, by omega⟩ q n)) (Fin.ext (by show p.val = ((g.val * 4 + r.val) * 64 + p.val) % 64; omega))
    · refine Cert.Soft.sum_pad (p := 48) _ _ (fun x hx => ?_) (fun x hx => ?_) rfl
      · rw [xdt_at, dif_pos hx, B_at x0 x3 x5 x6 b g r p, dif_pos hx, cs_at x2 x7 x8 b g r p, mul_comm]
      · rw [xdt_at, dif_neg (not_lt.mpr hx), mul_zero, zero_mul]

/-! ## The results -/

theorem col_eq (e : Fin 512) (h1 : e.val / 64 / 4 < 2) (h2 : e.val / 64 % 4 < 4) (h3 : e.val % 64 < 64) : col ⟨e.val / 64 / 4, h1⟩ ⟨e.val / 64 % 4, h2⟩ ⟨e.val % 64, h3⟩ = e :=
  Fin.ext (by show (e.val / 64 / 4 * 4 + e.val / 64 % 4) * 64 + e.val % 64 = e.val; omega)

theorem gated_at (s : Fin 16) (e : Fin 512) : val_main_v116 (F := Ideal) x0 x1 x2 x3 x4 x5 x6 x7 x8 x9 (ix3 b s e)
    = yy (uA x0 x3 x5 x6 b) (dA x2 x7 b) (aA x8) (HA x4 b) (fun s e => x1 (ix3 b s e)) (fun h => x9 (ix1 h)) s e := by
  refine Eq.trans (b := (val_main_v105 (F := Ideal) x0 x2 x3 x4 x5 x6 x7 x8 (ix6 b 0 ⟨s.val, by omega⟩ ⟨e.val / 64 / 4, by omega⟩ ⟨e.val / 64 % 4, by omega⟩ ⟨e.val % 64, by omega⟩)
    + x9 (ix1 ⟨e.val / 64, by omega⟩) * val_main_v33 (F := Ideal) x0 x3 x5 x6 (ix3 b s ⟨e.val, by omega⟩)) * (x1 (ix3 b s e) * Ideal.div 1 (1 + Ideal.exp (-x1 (ix3 b s e))))) ?_ ?_
  · pointwise [val_main_v116, val_main_v115, val_main_call9_v5, val_main_call9_v4, val_main_call9_v3, val_main_call9_v2, val_main_call9_v1, val_main_call9_v0, val_main_call9_cst, val_main_call9_cst_0, val_main_v114, val_main_v113, val_main_v112, val_main_v111, val_main_v110, val_main_v109, val_main_v107, val_main_v106, val_main_v37, val_main_v34]
  · rw [y_at, col_eq, u_at]
    unfold yy silu
    exact congrArg (fun q : EReal => _ * (_ * Ideal.div 1 (1 + Ideal.exp q))) (zero_sub (x1 (ix3 b s e))).symm

theorem v133_eq : val_main_v133 (F := Ideal) x0 x1 x2 x3 x4 x5 x6 x7 x8 x9 x10 = outArr x0 x1 x2 x3 x4 x5 x6 x7 x8 x9 x10 := by
  funext i
  obtain ⟨b, s, e, rfl⟩ : ∃ (b : Fin 16) (s : Fin 16) (e : Fin 512), i = ix3 b s e := ⟨i 0, i 1, i 2, by funext a; fin_cases a <;> rfl⟩
  refine Eq.trans (b := val_main_v116 (F := Ideal) x0 x1 x2 x3 x4 x5 x6 x7 x8 x9 (ix3 b s e) * Ideal.rsqrt (Ideal.div
    (∑ k : Fin 256, val_main_v116 (F := Ideal) x0 x1 x2 x3 x4 x5 x6 x7 x8 x9 (ix3 b s ⟨e.val / 256 * 256 + k.val, by omega⟩) * val_main_v116 (F := Ideal) x0 x1 x2 x3 x4 x5 x6 x7 x8 x9 (ix3 b s ⟨e.val / 256 * 256 + k.val, by omega⟩))
    (Ideal.ofBits .f32 1132462080#32) + Ideal.ofBits .f32 897988541#32) * x10 (ix1 e)) ?_ ?_
  · pointwise [val_main_v133, val_main_v132, val_main_v131, val_main_v130, val_main_v129, val_main_v128, val_main_v127, val_main_v126, val_main_v125, val_main_v124, val_main_v123, val_main_v122, val_main_v121, val_main_v120, val_main_v119, val_main_v118, val_main_v117, val_main_cst_5, val_main_cst_6, val_main_cst_7]
  · show _ = out (uA x0 x3 x5 x6 b) (dA x2 x7 b) (aA x8) (HA x4 b) (fun s e => x1 (ix3 b s e)) (fun h => x9 (ix1 h)) (fun e => x10 (ix1 e)) s e
    unfold out
    rw [gated_at]
    have hk : ∀ k : Fin 256, (⟨e.val / 256 * 256 + k.val, by omega⟩ : Fin 512) = half e k := fun k => Fin.ext (by show e.val / 256 * 256 + k.val = 256 * (e.val / 256) + k.val; omega)
    simp only [hk, gated_at]

theorem v134_eq : val_main_v134 (F := Ideal) x0 x2 x3 x4 x5 x6 x7 x8 = stArr x0 x2 x3 x4 x5 x6 x7 x8 := by
  funext i
  obtain ⟨b, e, n, rfl⟩ : ∃ (b : Fin 16) (e : Fin 512) (n : Fin 128), i = ix3 b e n := ⟨i 0, i 1, i 2, by funext a; fin_cases a <;> rfl⟩
  refine Eq.trans (b := val_main_v96 (F := Ideal) x0 x2 x3 x4 x5 x6 x7 x8 (ix5 b ⟨e.val / 64 / 4, by omega⟩ ⟨e.val / 64 % 4, by omega⟩ ⟨e.val % 64, by omega⟩ n)) ?_ ?_
  · pointwise [val_main_v134, val_main_v108]
  · rw [state_at, col_eq]
    rfl

end Cert.Reference8Ideal.SsdSample
-- ==== Proof.SsdSamplePoint.lean ====
module

public import proofs.«01_k».proof.Proof.SsdSampleArr

@[expose] public section

/-!
# The sample rows' state-space kernel: what a grid point writes
-/

noncomputable section

namespace Cert.Kernel8Ideal.SsdSample

open Cert.Kernel8Ideal Cert.Kernel8Ideal.Gen Idealize.ShloMosaic Idealize.ShloMosaic.TcCoe Idealize.SL.Sem
open Idealize.ShloMosaic.Pointwise
open Cert.Soft (Re)
open Cert.Ssd

set_option maxRecDepth 16384

theorem ld_gain (x : Vec Ideal S1x512 .f32) {o : ℕ} (ho : o + 256 ≤ 512)
    (i : ∀ a, (![0, o] : Fin 2 → ℕ) a + (![1, 256] : Fin 2 → ℕ) a ≤ S1x512.size a) (k : Fin 256) :
    (View.ld x (Rect.unit (s := S1x512) ![0, o] ![1, 256] i) : S1x256.Idx → EReal) (ix2 0 k) = x (ix2 0 ⟨o + k.val, by omega⟩) := by
  refine congrArg x (funext fun a => Fin.ext ?_)
  fin_cases a
  · show 0 + 1 * 0 = 0; omega
  · show o + 1 * k.val = o + k.val; omega

theorem ld_state (x : Vec Ideal S1x512x128 .f32) {o : ℕ} (ho : o + 128 ≤ 512)
    (i : ∀ a, (![0, o, 0] : Fin 3 → ℕ) a + (![1, 128, 128] : Fin 3 → ℕ) a ≤ S1x512x128.size a) (k n : Fin 128) :
    (View.ld x (Rect.unit (s := S1x512x128) ![0, o, 0] ![1, 128, 128] i) : S1x128x128.Idx → EReal) (ix3 0 k n) = x (ix3 0 ⟨o + k.val, by omega⟩ n) := by
  refine congrArg x (funext fun a => Fin.ext ?_)
  fin_cases a
  · show 0 + 1 * 0 = 0; omega
  · show o + 1 * k.val = o + k.val; omega
  · show 0 + 1 * n.val = n.val; omega

variable (m : (ℓ : Loc nD τ sig) → Buf (Elt Ideal) ℓ) (c : Dev nD) (t : Fin cfg0.N)

/-- The convolved columns of a batch entry. -/
abbrev uM (b : Fin 16) := uA (m ((c : Thread nD τ).loc main_arg0)) (m ((c : Thread nD τ).loc main_arg3)) (m ((c : Thread nD τ).loc main_arg5)) (m ((c : Thread nD τ).loc main_arg6)) b
/-- The steps of a batch entry. -/
abbrev dM (b : Fin 16) := dA (m ((c : Thread nD τ).loc main_arg2)) (m ((c : Thread nD τ).loc main_arg7)) b
/-- The rates. -/
abbrev aM := aA (m ((c : Thread nD τ).loc main_arg8))
/-- The state before a batch entry. -/
abbrev HM (b : Fin 16) := HA (m ((c : Thread nD τ).loc main_arg4)) b
/-- The gates of a batch entry. -/
abbrev zM (b : Fin 16) : Fin 16 → Fin 512 → EReal := fun s e => (m ((c : Thread nD τ).loc main_arg1) : FVec Ideal S16x16x512 .f32) (ix3 b s e)
/-- The skips. -/
abbrev kM : Fin 8 → EReal := fun h => (m ((c : Thread nD τ).loc main_arg9) : FVec Ideal S8 .f32) (ix1 h)
/-- The gains. -/
abbrev gM : Fin 512 → EReal := fun e => (m ((c : Thread nD τ).loc main_arg10) : FVec Ideal S512 .f32) (ix1 e)

/-- The convolved columns of a grid point. -/
abbrev UB : FVec Ideal S16x1024 .f32 := uOf (iblk m c 0 t) (iblk m c 3 t) (iblk m c 5 t) (iblk m c 6 t)
/-- The steps of a grid point. -/
abbrev DB : FVec Ideal S16x128 .f32 := k0_pay19 (iblk m c 2 t) (iblk m c 7 t)
/-- The rates of a grid point. -/
abbrev NB : FVec Ideal S1x128 .f32 := k0_pay12 (iblk m c 8 t)

theorem backB_at (k : ℕ) (h3 : k ≤ 3) (r : Fin 16) (e : Fin 1024) : backB (iblk m c 0 t) (iblk m c 3 t) k r e
    = back (m ((c : Thread nD τ).loc main_arg0)) (m ((c : Thread nD τ).loc main_arg3)) (bt t) k r e := by
  unfold backB back
  by_cases h : r.val < k
  · rw [dif_pos h, dif_pos h, ← blk3 m c t]
    exact congrArg (fun i : Fin 8 => iblk m c 3 t (ix3 0 i e)) (Fin.ext (by show (r.val + 8 - k) % 8 = 5 + (r.val + 3 - k) % 3; omega))
  · rw [dif_neg h, dif_neg h, blk0]

theorem UB_at (r : Fin 16) (e : Fin 1024) : UB m c t (ix2 r e) = uM m c (bt t) r e := by
  refine (uOf_at _ _ _ _ r e).trans ?_
  show _ = uA _ _ _ _ _ _ _
  unfold uA
  rw [backB_at m c t 1 (by decide), backB_at m c t 2 (by decide), backB_at m c t 3 (by decide), blk5, blk5, blk5, blk5, blk0, blk6]

theorem DB_at (r : Fin 16) (h : Fin 8) : DB m c t (ix2 r (lane h)) = dM m c (bt t) r h := by
  refine (dt_at _ _ r (lane h)).trans ?_
  rw [blk2, blk7]; rfl

theorem NB_at (h : Fin 8) : NB m c t (ix2 0 (lane h)) = aM m c h := by
  refine (an_at _ (lane h)).trans ?_
  rw [blk8]; rfl

/-- The state as the kernel stores it first. -/
abbrev LB : List (View.Piece (Elt Ideal) S2x128x256 .f32) :=
  L4 (k0_pay8 (View.ld (iblk m c 4 t) (Rect.unit ![0, 0, 0] ![1, 128, 128] inb_S1x512x128_S1x128x128_0_0_0)))
    (k0_pay9 (View.ld (iblk m c 4 t) (Rect.unit ![0, 128, 0] ![1, 128, 128] inb_S1x512x128_S1x128x128_0_128_0)))
    (k0_pay10 (View.ld (iblk m c 4 t) (Rect.unit ![0, 256, 0] ![1, 128, 128] inb_S1x512x128_S1x128x128_0_256_0)))
    (k0_pay11 (View.ld (iblk m c 4 t) (Rect.unit ![0, 384, 0] ![1, 128, 128] inb_S1x512x128_S1x128x128_0_384_0)))

/-- The state's first half. -/
abbrev H0B : Vec Ideal S1x128x256 .f32 :=
  (View.whole cc0_scratch1).readCov (LB m c t) (Rect.unit (s := S2x128x256) ![0, 0, 0] ![1, 128, 256] inb_S2x128x256_S1x128x256_0_0_0).toLoadRect

/-- The outgoing state's first half. -/
abbrev S0B : FVec Ideal S1x128x256 .f32 :=
  k0_pay42 (k0_pay32 (k0_pay23 (UB m c t)) (k0_pay26 k0_pay6 (DB m c t)) (k0_pay27 k0_pay5 k0_pay6 (NB m c t) (DB m c t)))
    (k0_pay33 (k0_pay27 k0_pay5 k0_pay6 (NB m c t) (DB m c t))) (k0_pay34 (k0_pay20 (UB m c t))) (k0_pay37 (H0B m c t))

/-- The state's second half. -/
abbrev H1B : Vec Ideal S1x128x256 .f32 :=
  (View.whole cc0_scratch1).readCov (⟨Rect.unit ![0, 0, 0] ![1, 128, 256] inb_S2x128x256_S1x128x256_0_0_0, S0B m c t⟩ :: LB m c t)
    (Rect.unit (s := S2x128x256) ![1, 0, 0] ![1, 128, 256] inb_S2x128x256_S1x128x256_1_0_0).toLoadRect

/-- The outgoing state's second half. -/
abbrev S1B : FVec Ideal S1x128x256 .f32 :=
  k0_pay53 (k0_pay32 (k0_pay23 (UB m c t)) (k0_pay26 k0_pay6 (DB m c t)) (k0_pay27 k0_pay5 k0_pay6 (NB m c t) (DB m c t)))
    (k0_pay33 (k0_pay27 k0_pay5 k0_pay6 (NB m c t) (DB m c t))) (k0_pay43 (k0_pay20 (UB m c t))) (k0_pay46 (H1B m c t))

/-- A table over columns, split in halves. -/
abbrev halves (R : Fin 512 → Fin 128 → EReal) : Fin 2 → Fin 128 → Fin 256 → EReal := fun g n k => R ⟨256 * g.val + k.val, by omega⟩ n

theorem LB_read (g : Fin 2) (i : ∀ a, (![g.val, 0, 0] : Fin 3 → ℕ) a + (![1, 128, 256] : Fin 3 → ℕ) a ≤ S2x128x256.size a) (n : Fin 128) (k : Fin 256) :
    ((View.whole cc0_scratch1).readCov (LB m c t) (Rect.unit (s := S2x128x256) ![g.val, 0, 0] ![1, 128, 256] i).toLoadRect : S1x128x256.Idx → EReal) (ix3 0 n k)
      = halves (HM m c (bt t)) g n k := by
  refine read4 _ _ _ _ (halves (HM m c (bt t))) (fun n k => ?_) (fun n k => ?_) (fun n k => ?_) (fun n k => ?_) g i n k
  · rw [pay8_at, ld_state _ (by decide), blk4]
    exact congrArg (fun e : Fin 512 => HM m c (bt t) e n) (Fin.ext (by show 0 + k.val = 256 * 0 + (0 + k.val); omega))
  · rw [pay9_at, ld_state _ (by decide), blk4]
    exact congrArg (fun e : Fin 512 => HM m c (bt t) e n) (Fin.ext (by show 128 + k.val = 256 * 0 + (128 + k.val); omega))
  · rw [pay10_at, ld_state _ (by decide), blk4]
    exact congrArg (fun e : Fin 512 => HM m c (bt t) e n) (Fin.ext (by show 256 + k.val = 256 * 1 + (0 + k.val); omega))
  · rw [pay11_at, ld_state _ (by decide), blk4]
    exact congrArg (fun e : Fin 512 => HM m c (bt t) e n) (Fin.ext (by show 384 + k.val = 256 * 1 + (128 + k.val); omega))

section Real

variable (h2 : ∀ i, Below ((m ((c : Thread nD τ).loc main_arg2) : FVec Ideal S16x16x8 .f32) i))
  (h7 : ∀ i, Below ((m ((c : Thread nD τ).loc main_arg7) : FVec Ideal S8 .f32) i))

include h2 h7 in
theorem holds : Holds (k0_pay20 (UB m c t)) (k0_pay23 (UB m c t)) (k0_pay26 k0_pay6 (DB m c t)) (k0_pay27 k0_pay5 k0_pay6 (NB m c t) (DB m c t))
    (k0_pay22 (iblk m c 1 t)) (k0_pay24 k0_pay5 (NB m c t) (DB m c t)) (k0_pay25 k0_pay5 (NB m c t) (DB m c t)) (H0B m c t) (H1B m c t) (iblk m c 9 t)
    (uM m c (bt t)) (dM m c (bt t)) (aM m c) (HM m c (bt t)) (zM m c (bt t)) (kM m c) := by
  have hd : ∀ r h, dM m c (bt t) r h ≠ ⊤ := dA_ne_top _ _ h2 h7 (bt t)
  have hre : ∀ r h, dM m c (bt t) r h * aM m c h ≠ ⊤ := ld_ne_top _ _ _ h2 h7 (bt t)
  have hD := DB_at m c t
  have hN := NB_at m c t
  have hup : ∀ (r : Fin 128) (e : Fin 1024), k0_pay20 (UB m c t) (ix2 r e) = if h : r.val < 16 then uM m c (bt t) ⟨r.val, h⟩ e else 0 := by
    intro r e
    rw [up_at]
    simp only [UB_at]
  refine ⟨hup, fun r e => ?_, dte_at _ _ hD hd, cse_at _ _ _ _ hD hN hre, fun l e => ?_, cs_at _ _ _ _ hD hN hre, cst_at _ _ _ _ hD hN hre, fun n k => ?_, fun n k => ?_, fun e => blk9 m c t e⟩
  · rw [xs_at]; exact hup r (cx e)
  · rw [zp_at]
    exact (dif_pos l.isLt).trans (blk1 m c t l e)
  · refine (LB_read m c t 0 inb_S2x128x256_S1x128x256_0_0_0 n k).trans ?_
    exact congrArg (fun e : Fin 512 => HM m c (bt t) e n) (Fin.ext (by show 256 * 0 + k.val = k.val; omega))
  · refine (read5 (View.whole cc0_scratch1) _ _ (halves (HM m c (bt t)) 1) inb_S2x128x256_S1x128x256_0_0_0 inb_S2x128x256_S1x128x256_1_0_0 (by decide)
      (LB_read m c t 1 inb_S2x128x256_S1x128x256_1_0_0) n k).trans ?_
    exact congrArg (fun e : Fin 512 => HM m c (bt t) e n) (Fin.ext (by show 256 * 1 + k.val = 256 + k.val; omega))

include h2 h7 in
theorem point11 (r : Fin 16) (e : Fin 512) : ((outsAt0 m c t).1 : S1x16x512.Idx → EReal) (ix3 0 r e)
    = out (uM m c (bt t)) (dM m c (bt t)) (aM m c) (HM m c (bt t)) (zM m c (bt t)) (kM m c) (gM m c) r e := by
  refine Eq.trans ?_ (rms_at (gn := gM m c) (holds m c t h2 h7)
    (View.ld (iblk m c 10 t) (Rect.unit ![0, 0] ![1, 256] inb_S1x512_S1x256_0_0)) (View.ld (iblk m c 10 t) (Rect.unit ![0, 256] ![1, 256] inb_S1x512_S1x256_0_256)) r e ?_ ?_)
  · unfold outsAt0
    frame_out
    rfl
  · intro k
    rw [ld_gain _ (by decide), blk10]
    exact congrArg (gM m c) (Fin.ext (by show 0 + k.val = k.val; omega))
  · intro k
    rw [ld_gain _ (by decide), blk10]

include h2 h7 in
theorem point12 (e : Fin 512) (n : Fin 128) : ((outsAt0 m c t).2 : S1x512x128.Idx → EReal) (ix3 0 e n)
    = hf (uM m c (bt t)) (dM m c (bt t)) (aM m c) (HM m c (bt t)) e n := by
  have hh := holds m c t h2 h7
  have hs0 : ∀ (n : Fin 128) (k : Fin 256), S0B m c t (ix3 0 n k) = halves (hf (uM m c (bt t)) (dM m c (bt t)) (aM m c) (HM m c (bt t))) 0 n k := fun n k =>
    (st0_at hh n k).trans (congrArg (fun e : Fin 512 => hf (uM m c (bt t)) (dM m c (bt t)) (aM m c) (HM m c (bt t)) e n) (Fin.ext (by show k.val = 256 * 0 + k.val; omega)))
  have hs1 : ∀ (n : Fin 128) (k : Fin 256), S1B m c t (ix3 0 n k) = halves (hf (uM m c (bt t)) (dM m c (bt t)) (aM m c) (HM m c (bt t))) 1 n k := fun n k =>
    (st1_at hh n k).trans (congrArg (fun e : Fin 512 => hf (uM m c (bt t)) (dM m c (bt t)) (aM m c) (HM m c (bt t)) e n) (Fin.ext (by show 256 + k.val = 256 * 1 + k.val; omega)))
  have hq := fun (g : Fin 2) (o : ℕ) (ho : o + 128 ≤ 256) => read6 (halves (hf (uM m c (bt t)) (dM m c (bt t)) (aM m c) (HM m c (bt t)))) (S0B m c t) (S1B m c t) (LB m c t) hs0 hs1 g ho
  unfold outsAt0
  frame_out
  refine (rows_at _ _ _ _ (hf (uM m c (bt t)) (dM m c (bt t)) (aM m c) (HM m c (bt t))) (fun k n => ?_) (fun k n => ?_) (fun k n => ?_) (fun k n => ?_) (ix3 0 e n))
  · exact (pay59_at _ n k).trans ((hq 0 0 (by decide) inb_S2x128x256_S1x128x128_0_0_0 n k).trans
      (congrArg (fun e : Fin 512 => hf (uM m c (bt t)) (dM m c (bt t)) (aM m c) (HM m c (bt t)) e n) (Fin.ext (by show 256 * 0 + (0 + k.val) = 0 + k.val; omega))))
  · exact (pay60_at _ n k).trans ((hq 0 128 (by decide) inb_S2x128x256_S1x128x128_0_0_128 n k).trans
      (congrArg (fun e : Fin 512 => hf (uM m c (bt t)) (dM m c (bt t)) (aM m c) (HM m c (bt t)) e n) (Fin.ext (by show 256 * 0 + (128 + k.val) = 128 + k.val; omega))))
  · exact (pay2_at _ n k).trans ((hq 1 0 (by decide) inb_S2x128x256_S1x128x128_1_0_0 n k).trans
      (congrArg (fun e : Fin 512 => hf (uM m c (bt t)) (dM m c (bt t)) (aM m c) (HM m c (bt t)) e n) (Fin.ext (by show 256 * 1 + (0 + k.val) = 256 + k.val; omega))))
  · exact (pay3_at _ n k).trans ((hq 1 128 (by decide) inb_S2x128x256_S1x128x128_1_0_128 n k).trans
      (congrArg (fun e : Fin 512 => hf (uM m c (bt t)) (dM m c (bt t)) (aM m c) (HM m c (bt t)) e n) (Fin.ext (by show 256 * 1 + (128 + k.val) = 384 + k.val; omega))))

/-- The first result of the program's arguments. -/
abbrev outArrM := outArr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))
/-- The second result of the program's arguments. -/
abbrev stArrM := stArr (m ((c : Thread nD τ).loc main_arg0)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))

include h2 h7 in
theorem final11 : (dats m 0 c).arrAt 11 (cfgs 0).N = outArrM m c := by
  refine (dats m 0 c).arrAt_eq_of_covers 11 _ (by decide +kernel) fun t _ y => ?_
  have e : (((cfg0.win 11).blk t).view.emb y : S16x16x512.Idx) = ix3 (bt t) (y 1) (y 2) := by
    blk_ext [idx t, bt]
  rw [e, after0_11]
  have hy0 : (y 0).val < 1 := (y 0).isLt
  have ey : ((cfg0.win 11).xinj (cfg0.grid.coords t) y : S1x16x512.Idx) = ix3 0 (y 1) (y 2) := by
    blk_ext []
  refine Eq.trans ?_ (point11 m c t h2 h7 (y 1) (y 2))
  blk_simp
  exact congrArg (outsAt0 m c t).1 ey

include h2 h7 in
theorem final12 : (dats m 0 c).arrAt 12 (cfgs 0).N = stArrM m c := by
  refine (dats m 0 c).arrAt_eq_of_covers 12 _ (by decide +kernel) fun t _ y => ?_
  have e : (((cfg0.win 12).blk t).view.emb y : S16x512x128.Idx) = ix3 (bt t) (y 1) (y 2) := by
    blk_ext [idx t, bt]
  rw [e, after0_12]
  have hy0 : (y 0).val < 1 := (y 0).isLt
  have ey : ((cfg0.win 12).xinj (cfg0.grid.coords t) y : S1x512x128.Idx) = ix3 0 (y 1) (y 2) := by
    blk_ext []
  refine Eq.trans ?_ (point12 m c t h2 h7 (y 1) (y 2))
  blk_simp
  exact congrArg (outsAt0 m c t).2 ey

end Real

end Cert.Kernel8Ideal.SsdSample
-- ==== Proof.SsdSampleClaim.lean ====
module

public import proofs.«01_k».proof.Defs
public import proofs.«01_k».proof.Proof.SsdSampleRefOut
public import proofs.«01_k».proof.Proof.SsdSamplePoint
public import proofs.«01_k».proof.Proof.DaClaim
public import proofs.«01_k».proof.Proof.Gen.Pre_below8
public import proofs.«01_k».proof.Proof.Gen.Reference8Ideal.Run
public import Idealize.ShloMosaic.Lib.ReduceAll

@[expose] public section

/-!
# The sample rows' state-space layer: the value claim
-/

noncomputable section

namespace Cert.SsdSampleClaim

open Idealize.ShloMosaic Idealize.SL.Sem Idealize.ShloMosaic.StableHlo Cert.Soft

instance : Subsingleton Cert.Pre_below8.S_.Idx := ⟨fun a b => funext fun i => i.elim0⟩

/-- A comparison with infinity that holds says the number is below it. -/
theorem ne_top_of_cmp {x y : EReal} (hy : y = Ideal.ofBits .f32 0x7F800000#32)
    (h : FloatOps.cmpf (F := Ideal) (φ := .f32) .olt x y = 1#1) : Cert.Ssd.Below x := by
  subst hy
  have h' : BitVec.ofBool (decide (x < Ideal.ofBits .f32 0x7F800000#32)) = 1#1 := h
  rw [ofBits_top] at h'
  by_cases hx : x < ⊤
  · exact hx.ne
  · rw [decide_eq_false hx] at h'; exact absurd h' (by decide)

/-- Under the precondition the steps' inputs and their biases are below infinity. -/
theorem below (m : (ℓ : Loc Cert.Kernel8Ideal.nD Cert.Kernel8Ideal.τ Cert.Kernel8Ideal.sig) → Buf (Elt Ideal) ℓ)
    (h : Cert.Pre_Kernel8Ideal_below8 m) (c : Dev Cert.Kernel8Ideal.nD) :
    (∀ i, Cert.Ssd.Below ((m ((c.tc : Thread Cert.Kernel8Ideal.nD Cert.Kernel8Ideal.τ).loc Cert.Kernel8Ideal.main_arg2) : Cert.Kernel8Ideal.S16x16x8.Idx → EReal) i))
    ∧ (∀ i, Cert.Ssd.Below ((m ((c.tc : Thread Cert.Kernel8Ideal.nD Cert.Kernel8Ideal.τ).loc Cert.Kernel8Ideal.main_arg7) : Cert.Kernel8Ideal.S8.Idx → EReal) i)) := by
  have e := congrFun (h c) (fun a => a.elim0)
  unfold Cert.Pre_below8.fn at e
  obtain ⟨e0, e1⟩ := Cert.DaClaim.and_one e
  exact ⟨fun i => ne_top_of_cmp rfl (Host.reduce_andi_all _ _ _ _ _ e0 i), fun i => ne_top_of_cmp rfl (Host.reduce_andi_all _ _ _ _ _ e1 i)⟩

theorem refQuiet : Cert.quiescent_Reference8Ideal := by
  intro m g _
  hlo_run
  all_goals first
    | exact sem_eq_zero_of_no_sems (sig := Cert.Reference8Ideal.sig) (by decide) _
    | exact fun _ => ⟨trivial, trivial, trivial, trivial, trivial, trivial, trivial, trivial, trivial, trivial, trivial⟩

theorem refQuietPre : Cert.quiescent_Reference8Ideal_pre_below8 := fun m g _ => refQuiet m g trivial

theorem algebraic : Cert.algebraic_Kernel8Ideal_Reference8Ideal_pre_below8 := by
  pair_intro
  · run_from Cert.Kernel8Ideal.Value.run_blocks m g
  · run_from Cert.Reference8Ideal.Value.run m' g'
    · obtain ⟨h2, h7⟩ := below m hpre c
      have e := Cert.Reference8Ideal.Read.val_main_v133_eq (F := Ideal) (launchContents m' c)
      obtain ⟨a0, a1, a2, a3, a4, a5, a6, a7, a8, a9, a10⟩ := hagree c
      replace a0 : launchContents m' c (Proc.tc.devRef Cert.Reference8Ideal.main_arg0) = m ((c.tc : Thread Cert.Kernel8Ideal.nD Cert.Kernel8Ideal.τ).loc Cert.Kernel8Ideal.main_arg0) := a0
      replace a1 : launchContents m' c (Proc.tc.devRef Cert.Reference8Ideal.main_arg1) = m ((c.tc : Thread Cert.Kernel8Ideal.nD Cert.Kernel8Ideal.τ).loc Cert.Kernel8Ideal.main_arg1) := a1
      replace a2 : launchContents m' c (Proc.tc.devRef Cert.Reference8Ideal.main_arg2) = m ((c.tc : Thread Cert.Kernel8Ideal.nD Cert.Kernel8Ideal.τ).loc Cert.Kernel8Ideal.main_arg2) := a2
      replace a3 : launchContents m' c (Proc.tc.devRef Cert.Reference8Ideal.main_arg3) = m ((c.tc : Thread Cert.Kernel8Ideal.nD Cert.Kernel8Ideal.τ).loc Cert.Kernel8Ideal.main_arg3) := a3
      replace a4 : launchContents m' c (Proc.tc.devRef Cert.Reference8Ideal.main_arg4) = m ((c.tc : Thread Cert.Kernel8Ideal.nD Cert.Kernel8Ideal.τ).loc Cert.Kernel8Ideal.main_arg4) := a4
      replace a5 : launchContents m' c (Proc.tc.devRef Cert.Reference8Ideal.main_arg5) = m ((c.tc : Thread Cert.Kernel8Ideal.nD Cert.Kernel8Ideal.τ).loc Cert.Kernel8Ideal.main_arg5) := a5
      replace a6 : launchContents m' c (Proc.tc.devRef Cert.Reference8Ideal.main_arg6) = m ((c.tc : Thread Cert.Kernel8Ideal.nD Cert.Kernel8Ideal.τ).loc Cert.Kernel8Ideal.main_arg6) := a6
      replace a7 : launchContents m' c (Proc.tc.devRef Cert.Reference8Ideal.main_arg7) = m ((c.tc : Thread Cert.Kernel8Ideal.nD Cert.Kernel8Ideal.τ).loc Cert.Kernel8Ideal.main_arg7) := a7
      replace a8 : launchContents m' c (Proc.tc.devRef Cert.Reference8Ideal.main_arg8) = m ((c.tc : Thread Cert.Kernel8Ideal.nD Cert.Kernel8Ideal.τ).loc Cert.Kernel8Ideal.main_arg8) := a8
      replace a9 : launchContents m' c (Proc.tc.devRef Cert.Reference8Ideal.main_arg9) = m ((c.tc : Thread Cert.Kernel8Ideal.nD Cert.Kernel8Ideal.τ).loc Cert.Kernel8Ideal.main_arg9) := a9
      replace a10 : launchContents m' c (Proc.tc.devRef Cert.Reference8Ideal.main_arg10) = m ((c.tc : Thread Cert.Kernel8Ideal.nD Cert.Kernel8Ideal.τ).loc Cert.Kernel8Ideal.main_arg10) := a10
      rw [a0, a1, a2, a3, a4, a5, a6, a7, a8, a9, a10] at e
      exact e.trans ((Cert.Reference8Ideal.SsdSample.v133_eq _ _ _ _ _ _ _ _ _ _ _).trans (Cert.Kernel8Ideal.SsdSample.final11 m c h2 h7).symm)
    · obtain ⟨h2, h7⟩ := below m hpre c
      have e := Cert.Reference8Ideal.Read.val_main_v134_eq (F := Ideal) (launchContents m' c)
      obtain ⟨a0, a1, a2, a3, a4, a5, a6, a7, a8, a9, a10⟩ := hagree c
      replace a0 : launchContents m' c (Proc.tc.devRef Cert.Reference8Ideal.main_arg0) = m ((c.tc : Thread Cert.Kernel8Ideal.nD Cert.Kernel8Ideal.τ).loc Cert.Kernel8Ideal.main_arg0) := a0
      replace a2 : launchContents m' c (Proc.tc.devRef Cert.Reference8Ideal.main_arg2) = m ((c.tc : Thread Cert.Kernel8Ideal.nD Cert.Kernel8Ideal.τ).loc Cert.Kernel8Ideal.main_arg2) := a2
      replace a3 : launchContents m' c (Proc.tc.devRef Cert.Reference8Ideal.main_arg3) = m ((c.tc : Thread Cert.Kernel8Ideal.nD Cert.Kernel8Ideal.τ).loc Cert.Kernel8Ideal.main_arg3) := a3
      replace a4 : launchContents m' c (Proc.tc.devRef Cert.Reference8Ideal.main_arg4) = m ((c.tc : Thread Cert.Kernel8Ideal.nD Cert.Kernel8Ideal.τ).loc Cert.Kernel8Ideal.main_arg4) := a4
      replace a5 : launchContents m' c (Proc.tc.devRef Cert.Reference8Ideal.main_arg5) = m ((c.tc : Thread Cert.Kernel8Ideal.nD Cert.Kernel8Ideal.τ).loc Cert.Kernel8Ideal.main_arg5) := a5
      replace a6 : launchContents m' c (Proc.tc.devRef Cert.Reference8Ideal.main_arg6) = m ((c.tc : Thread Cert.Kernel8Ideal.nD Cert.Kernel8Ideal.τ).loc Cert.Kernel8Ideal.main_arg6) := a6
      replace a7 : launchContents m' c (Proc.tc.devRef Cert.Reference8Ideal.main_arg7) = m ((c.tc : Thread Cert.Kernel8Ideal.nD Cert.Kernel8Ideal.τ).loc Cert.Kernel8Ideal.main_arg7) := a7
      replace a8 : launchContents m' c (Proc.tc.devRef Cert.Reference8Ideal.main_arg8) = m ((c.tc : Thread Cert.Kernel8Ideal.nD Cert.Kernel8Ideal.τ).loc Cert.Kernel8Ideal.main_arg8) := a8
      rw [a0, a2, a3, a4, a5, a6, a7, a8] at e
      exact e.trans ((Cert.Reference8Ideal.SsdSample.v134_eq _ _ _ _ _ _ _ _).trans (Cert.Kernel8Ideal.SsdSample.final12 m c h2 h7).symm)

end Cert.SsdSampleClaim
-- ==== Proof.Bias.lean ====
module

public import proofs.«01_k».proof.Defs
public import proofs.«01_k».proof.Proof.Soft

@[expose] public section

/-!
# The bucket of a relative position, and the table row it names
-/

noncomputable section

namespace Cert.Bias

open Idealize.ShloMosaic

/-- The logarithmic bucket of a distance. -/
def large (n : BitVec 32) : BitVec 32 :=
  IntOp.minsi (IntOp.addi 8#32 (Ideal.fptosi 32 (Ideal.div (Ideal.log (Ideal.div (((IntOp.maxsi n 1#32).toInt : ℝ) : EReal) (Ideal.ofBits .f32 0x41000000#32)))
    (Ideal.ofBits .f32 0x40317218#32) * Ideal.ofBits .f32 0x41000000#32))) 15#32

/-- The bucket of a relative position. -/
def bucket (d : BitVec 32) : BitVec 32 :=
  IntOp.addi (Scalar.select (IntOp.cmpi .sgt d 0#32) 16#32 0#32)
    (Scalar.select (IntOp.cmpi .slt (IntOp.absi d) 8#32) (IntOp.absi d) (large (IntOp.absi d)))

theorem bits8 : Ideal.ofBits .f32 0x41000000#32 = ((8 : ℝ) : EReal) := by
  simp [Ideal.ofBits, Ideal.ieee]
  rw [← EReal.coe_mul]
  norm_num
theorem bitsL : Ideal.ofBits .f32 0x40317218#32 = ((11629080 / 4194304 : ℝ) : EReal) := by
  simp [Ideal.ofBits, Ideal.ieee]
  rw [← EReal.coe_mul]
  norm_num

/-- The scaled logarithm of a distance. -/
def lg (n : ℕ) : ℝ := Real.log (n / 8) * (4194304 / 11629080) * 8

theorem lg_nonneg {n : ℕ} (h : 8 ≤ n) : 0 ≤ lg n := by
  have h' : (8 : ℝ) ≤ n := by exact_mod_cast h
  have : 0 ≤ Real.log ((n : ℝ) / 8) := Real.log_nonneg (by rw [le_div_iff₀ (by norm_num)]; linarith)
  unfold lg; positivity

theorem lg_le {n : ℕ} (h : 8 ≤ n) (h2 : n ≤ 4096) : lg n ≤ 4096 := by
  have h' : (8 : ℝ) ≤ n := by exact_mod_cast h
  have h2' : (n : ℝ) ≤ 4096 := by exact_mod_cast h2
  have := Real.log_le_sub_one_of_pos (show (0 : ℝ) < (n : ℝ) / 8 by positivity)
  unfold lg; linarith

theorem lg_far {n : ℕ} (h : 128 ≤ n) : 7 ≤ lg n := by
  have h' : (128 : ℝ) ≤ n := by exact_mod_cast h
  have e : Real.log ((8 / 7) ^ 20) ≤ Real.log ((n : ℝ) / 8) := Real.log_le_log (by norm_num) (by
    rw [le_div_iff₀ (by norm_num)]
    refine le_trans ?_ h'
    norm_num)
  rw [Real.log_pow] at e
  have := Real.one_sub_inv_le_log_of_pos (show (0 : ℝ) < 8 / 7 by norm_num)
  norm_num at e this
  unfold lg; linarith

theorem large_eq {n : ℕ} (h : 8 ≤ n) (h2 : n ≤ 4096) : large (BitVec.ofNat 32 n) = BitVec.ofNat 32 (min (8 + ⌊lg n⌋₊) 15) := by
  have hn : (BitVec.ofNat 32 n).toInt = n := by
    rw [BitVec.toInt_eq_toNat_of_lt] <;> rw [BitVec.toNat_ofNat] <;> omega
  have e1 : IntOp.maxsi (BitVec.ofNat 32 n) 1#32 = BitVec.ofNat 32 n := by
    unfold IntOp.maxsi
    rw [if_pos]
    rw [BitVec.slt_iff_toInt_lt, hn]
    show (1 : Int) < n
    omega
  have hp : (0 : ℝ) < (n : ℝ) := by exact_mod_cast (by omega : 0 < n)
  have h0 := lg_nonneg h
  have h1 := lg_le h h2
  have e2 : Ideal.div (Ideal.log (Ideal.div (((IntOp.maxsi (BitVec.ofNat 32 n) 1#32).toInt : ℝ) : EReal) (Ideal.ofBits .f32 0x41000000#32)))
      (Ideal.ofBits .f32 0x40317218#32) * Ideal.ofBits .f32 0x41000000#32 = ((lg n : ℝ) : EReal) := by
    rw [e1, hn, bits8, bitsL, Ideal.div_coe (x := (((n : ℤ) : ℝ) : EReal)) (by norm_num), ← EReal.coe_mul, Ideal.log_coe, if_neg (by
      push Not
      have : (0 : ℝ) < ((n : ℤ) : ℝ) * (1 / 8) := by push_cast; positivity
      exact this), Ideal.div_coe (by norm_num), ← EReal.coe_mul, ← EReal.coe_mul]
    refine congrArg _ ?_
    unfold lg
    rw [show (((n : ℤ) : ℝ) * (1 / 8)) = (n : ℝ) / 8 by push_cast; ring]
    norm_num
  have hf : ⌊lg n⌋ = ((⌊lg n⌋₊ : ℕ) : ℤ) := (Int.natCast_floor_eq_floor h0).symm
  have hk : ⌊lg n⌋₊ ≤ 4096 := by
    have := Nat.floor_le_floor h1
    simpa using this
  unfold large
  rw [e2]
  generalize ⌊lg n⌋₊ = k at hf hk ⊢
  have e3 : Ideal.fptosi 32 ((lg n : ℝ) : EReal) = BitVec.ofNat 32 k := by
    unfold Ideal.fptosi
    rw [Ideal.toIntClamped_coe, if_pos h0, hf]
    have : max (-((2 ^ (32 - 1) : ℕ) : ℤ)) (min (((2 ^ (32 - 1) : ℕ) : ℤ) - 1) (k : ℤ)) = (k : ℤ) := by norm_num; omega
    rw [this]
    exact BitVec.ofInt_natCast ..
  rw [e3]
  have e4 : IntOp.addi 8#32 (BitVec.ofNat 32 k) = BitVec.ofNat 32 (8 + k) := by
    unfold IntOp.addi
    rw [← BitVec.ofNat_add]
  have e5 : (BitVec.ofNat 32 (8 + k)).toInt = ((8 + k : ℕ) : ℤ) := by
    rw [BitVec.toInt_eq_toNat_of_lt] <;> rw [BitVec.toNat_ofNat] <;> omega
  rw [e4]
  unfold IntOp.minsi
  by_cases hc : 8 + k < 15
  · rw [if_pos, min_eq_left (by omega)]
    rw [BitVec.slt_iff_toInt_lt, e5]
    show ((8 + k : ℕ) : ℤ) < 15
    omega
  · rw [if_neg, min_eq_right (by omega)]
    rw [BitVec.slt_iff_toInt_lt, e5]
    show ¬ ((8 + k : ℕ) : ℤ) < 15
    omega

/-- The bucket of a distance on one side. -/
def side (n : ℕ) : ℕ := if n < 8 then n else min (8 + ⌊lg n⌋₊) 15

theorem side_lt (n : ℕ) : side n < 16 := by
  unfold side; split <;> omega
theorem side_far {n : ℕ} (h : 128 ≤ n) : side n = 15 := by
  unfold side
  rw [if_neg (by omega)]
  have := Nat.le_floor (a := lg n) (n := 7) (by exact_mod_cast lg_far h)
  omega

/-- The row of the table that a relative position names. -/
def row (z : ℤ) : Fin 32 := ⟨(if 0 < z then 16 else 0) + side z.natAbs, by have := side_lt z.natAbs; split <;> omega⟩

theorem row_far {z : ℤ} (h : z ≤ -128) : row z = 15 := by
  refine Fin.ext ?_
  show (if 0 < z then 16 else 0) + side z.natAbs = 15
  rw [if_neg (by omega), side_far (by omega)]

theorem abs_eq (z : ℤ) (h : z.natAbs ≤ 4096) : IntOp.absi (BitVec.ofInt 32 z) = BitVec.ofNat 32 z.natAbs := by
  unfold IntOp.absi
  have e : (BitVec.ofInt 32 z).toInt = z := by
    rw [BitVec.toInt_ofInt]; exact Int.bmod_eq_of_le (by norm_num; omega) (by norm_num; omega)
  rw [BitVec.msb_eq_toInt, e]
  by_cases hz : z < 0
  · rw [if_pos (by simpa using hz), ← BitVec.ofInt_neg, show -z = ((z.natAbs : ℕ) : ℤ) by omega]
    exact BitVec.ofInt_natCast ..
  · rw [if_neg (by simpa using hz)]
    conv_lhs => rw [show z = ((z.natAbs : ℕ) : ℤ) by omega]
    exact BitVec.ofInt_natCast ..

theorem bucket_eq (z : ℤ) (h : z.natAbs ≤ 4096) : bucket (BitVec.ofInt 32 z) = BitVec.ofNat 32 (row z).val := by
  have e : (BitVec.ofInt 32 z).toInt = z := by
    rw [BitVec.toInt_ofInt]; exact Int.bmod_eq_of_le (by norm_num; omega) (by norm_num; omega)
  have en : (BitVec.ofNat 32 z.natAbs).toInt = z.natAbs := by
    rw [BitVec.toInt_eq_toNat_of_lt] <;> rw [BitVec.toNat_ofNat] <;> omega
  unfold bucket
  rw [abs_eq z h]
  have e1 : Scalar.select (IntOp.cmpi .sgt (BitVec.ofInt 32 z) 0#32) 16#32 0#32 = BitVec.ofNat 32 (if 0 < z then 16 else 0) := by
    have hb : IntOp.cmpi .sgt (BitVec.ofInt 32 z) 0#32 = BitVec.ofBool (decide (0 < z)) := by
      unfold IntOp.cmpi
      refine congrArg _ ?_
      rw [Bool.eq_iff_iff, decide_eq_true_iff]
      rw [BitVec.slt_iff_toInt_lt, e]
      rfl
    rw [hb]
    by_cases hz : 0 < z <;> simp [hz, Scalar.select]
  have e2 : Scalar.select (IntOp.cmpi .slt (BitVec.ofNat 32 z.natAbs) 8#32) (BitVec.ofNat 32 z.natAbs) (large (BitVec.ofNat 32 z.natAbs)) = BitVec.ofNat 32 (side z.natAbs) := by
    have hb : IntOp.cmpi .slt (BitVec.ofNat 32 z.natAbs) 8#32 = BitVec.ofBool (decide (z.natAbs < 8)) := by
      unfold IntOp.cmpi
      refine congrArg _ ?_
      rw [Bool.eq_iff_iff, decide_eq_true_iff]
      rw [BitVec.slt_iff_toInt_lt, en]
      show (z.natAbs : ℤ) < 8 ↔ _
      omega
    rw [hb]
    unfold side
    by_cases hz : z.natAbs < 8
    · simp [hz, Scalar.select]
    · rw [large_eq (by omega) h]
      simp [hz, Scalar.select]
  rw [e1, e2]
  unfold IntOp.addi
  rw [← BitVec.ofNat_add]
  rfl

/-- The value a bucket picks out of a list of values, looked up one bucket after another. -/
def pick (b : BitVec 32) (w : ℕ → EReal) : ℕ → EReal
  | 0 => Ideal.ofBits .f32 0x00000000#32
  | k + 1 => Scalar.select (IntOp.cmpi .eq b (BitVec.ofNat 32 k)) (w k) (pick b w k)

theorem pick_eq (w : ℕ → EReal) {r : ℕ} : ∀ k, r < k → k ≤ 32 → pick (BitVec.ofNat 32 r) w k = w r
  | 0, h, _ => absurd h (Nat.not_lt_zero r)
  | k + 1, h, hk => by
    have hb : IntOp.cmpi .eq (BitVec.ofNat 32 r) (BitVec.ofNat 32 k) = BitVec.ofBool (decide (r = k)) := by
      unfold IntOp.cmpi
      refine congrArg _ ?_
      rw [Bool.eq_iff_iff, decide_eq_true_iff, beq_iff_eq]
      constructor
      · intro e
        have := congrArg BitVec.toNat e
        rw [BitVec.toNat_ofNat, BitVec.toNat_ofNat] at this
        omega
      · rintro rfl; rfl
    show Scalar.select (IntOp.cmpi .eq (BitVec.ofNat 32 r) (BitVec.ofNat 32 k)) (w k) (pick (BitVec.ofNat 32 r) w k) = w r
    rw [hb]
    by_cases he : r = k
    · subst he; simp [Scalar.select]
    · rw [pick_eq w k (by omega) (by omega)]; simp [he, Scalar.select]

end Cert.Bias
-- ==== Proof.BiasSpec.lean ====
module

public import proofs.«01_k».proof.Proof.Bias

@[expose] public section

/-!
# The bias tiles, entry by entry
-/

noncomputable section

namespace Cert.Bias

open Idealize.ShloMosaic

/-- Whether a key column of a tile is seen from a query row of the tile at positions 256 to 383: its chunk is no later. -/
def near (s r k : ℕ) : Bool := decide ((128 * s + k + 48) / 64 ≤ (256 + r + 48) / 64)
/-- An entry of a prompt tile, for a head's column of the table. -/
def tileAt (w : Fin 32 → EReal) (s r k : ℕ) : EReal :=
  Scalar.select (BitVec.ofBool (near s r k)) (w (row (((128 * s + k : ℕ) : ℤ) - ((256 + r : ℕ) : ℤ)))) (Ideal.ofBits .f32 0xF149F2CA#32)
/-- An entry of the sample rows' bias, for a head's column of the table. -/
def rowAt (w : Fin 32 → EReal) (r k : ℕ) : EReal :=
  Scalar.select (BitVec.ofBool (decide (k < 2064))) (w (row ((k : ℤ) - ((2048 + r : ℕ) : ℤ)))) (Ideal.ofBits .f32 0xF149F2CA#32)

theorem sub_ofInt (x y : ℤ) : BitVec.ofInt 32 x - BitVec.ofInt 32 y = BitVec.ofInt 32 (x - y) := by
  rw [BitVec.sub_eq_add_neg, ← BitVec.ofInt_neg, ← BitVec.ofInt_add]; rfl
theorem word (a q b : ℕ) : IntOp.subi (BitVec.ofNat 32 a) (IntOp.addi (BitVec.ofNat 32 q) (BitVec.ofNat 32 b)) = BitVec.ofInt 32 ((a : ℤ) - ((q + b : ℕ) : ℤ)) := by
  unfold IntOp.subi IntOp.addi
  rw [← BitVec.ofNat_add, ← BitVec.ofInt_natCast, ← BitVec.ofInt_natCast, sub_ofInt]
theorem word' (q : ℤ) (a b : ℕ) : IntOp.subi (IntOp.addi (BitVec.ofInt 32 q) (BitVec.ofNat 32 a)) (BitVec.ofNat 32 b) = BitVec.ofInt 32 (q + a - b) := by
  unfold IntOp.subi IntOp.addi
  rw [← BitVec.ofInt_natCast, ← BitVec.ofInt_natCast, ← BitVec.ofInt_add, sub_ofInt]

/-- A bucket word is no less than zero, so the look-up does not shift it. -/
theorem wrap : ∀ k : Fin 32, Scalar.select (IntOp.cmpi .slt (BitVec.ofNat 32 k.val) 0#32) (IntOp.addi (BitVec.ofNat 32 k.val) 32#32) (BitVec.ofNat 32 k.val) = BitVec.ofNat 32 k.val := by
  decide +kernel

end Cert.Bias
-- ==== Proof.BiasRef.lean ====
module

public import Idealize.ShloMosaic.Lib.KernelVsHost
public import Idealize.ShloMosaic.Lib.Pointwise
public import proofs.«01_k».proof.Defs
public import proofs.«01_k».proof.Proof.BiasSpec
public import proofs.«01_k».proof.Proof.Gen.Reference9Ideal.Read

@[expose] public section

/-!
# The bias reference: its buckets, its chunks, and the rows it looks up
-/

noncomputable section

namespace Cert.BiasRef

open Cert.Reference9Ideal Cert.Reference9Ideal.Gen Cert.Reference9Ideal.Read Idealize.ShloMosaic Idealize.ShloMosaic.TcCoe
open Idealize.ShloMosaic.Pointwise
open Cert.Bias (bucket row bucket_eq word wrap near tileAt rowAt)

set_option maxRecDepth 16384

/-! ## The look-up -/

variable {R K : ℕ}

/-- The look-up's dimensions: a word for each row of the result, a table row of four columns. -/
abbrev gd (wf : GatherDims.WF S32x4 ⟨3, ![R, K, 1]⟩ ⟨3, ![R, K, 4]⟩ [2] [0] [] [0] [] 2 ![1, 4]) : GatherDims S32x4 ⟨3, ![R, K, 1]⟩ ⟨3, ![R, K, 4]⟩ :=
  ⟨[2], [0], [], [], [0], 2, ![1, 4], wf⟩

theorem clamp : ∀ k : Fin 32, min (BitVec.ofNat 32 k.val).toInt.toNat 31 = k.val := by decide +kernel

/-- The row a word names, every column. -/
theorem lookup (wf) (T : FVec Ideal S32x4 .f32) (b : IVec ⟨3, ![R, K, 1]⟩ 32) (i : Fin R) (j : Fin K) (h : Fin 4) (k : Fin 32)
    (hk : b (ix3 i j 0) = BitVec.ofNat 32 k.val) : Host.gather (gd wf) T b (ix3 i j h) = T (ix2 k h) := by
  have e : b ((gd wf).siIdx (ix3 i j h) ⟨0, Nat.one_pos⟩) = BitVec.ofNat 32 k.val := by
    rw [← hk]
    refine congrArg b (funext fun x => ?_)
    fin_cases x <;> rfl
  have s0 : (gd wf).start (ix3 i j h) b 0 = k.val := by
    refine Eq.trans (b := min (b ((gd wf).siIdx (ix3 i j h) ⟨0, Nat.one_pos⟩)).toInt.toNat 31) (dif_pos (List.mem_singleton.2 rfl)) ?_
    rw [e]
    exact clamp k
  have s1 : (gd wf).start (ix3 i j h) b 1 = 0 := dif_neg (show (1 : Fin 2) ∉ [(0 : Fin 2)] by decide)
  have o0 : (gd wf).offCoord (ix3 i j h) 0 = 0 :=
    GatherDims.offCoord_eq_zero _ _ _ (fun h => ((GatherDims.mem_sKept _ _).1 h).1 (List.mem_singleton.2 rfl))
  have o1 : (gd wf).offCoord (ix3 i j h) 1 = h.val := rfl
  have n (a : Fin 2) : (gd wf).batchCoord (ix3 i j h) a = 0 := dif_neg List.not_mem_nil
  unfold Host.gather
  refine congrArg T (funext fun a => Fin.ext ?_)
  show (gd wf).start (ix3 i j h) b a + (gd wf).batchCoord (ix3 i j h) a + (gd wf).offCoord (ix3 i j h) a = (ix2 k h a).val
  rw [n]
  match a with
  | 0 => exact congrArg₂ (fun x y => x + 0 + y) s0 o0
  | 1 => exact (congrArg₂ (fun x y => x + 0 + y) s1 o1).trans (Nat.zero_add _)

/-! ## The chunks -/

theorem qchunk : ∀ r : Fin 128, val_main_v46 (F := Ideal) (ix1 r) = IntOp.subi (BitVec.ofNat 32 ((256 + r.val + 48) / 64)) 1#32 := by decide +kernel
theorem kchunk : ∀ p : Fin 640, val_main_v52 (F := Ideal) (ix1 p) = IntOp.subi (BitVec.ofNat 32 ((p.val + 48) / 64)) 1#32 := by decide +kernel
theorem qchunkS : ∀ r : Fin 16, val_main_v104 (F := Ideal) (ix1 r) = 32#32 := by decide +kernel
theorem kchunkS : ∀ p : Fin 2064, val_main_v105 (F := Ideal) (ix1 p) = BitVec.ofNat 32 (p.val / 64) := by decide +kernel
theorem leS : ∀ a : Fin 33, IntOp.cmpi .sle (BitVec.ofNat 32 a.val) 32#32 = 1#1 := by decide +kernel
theorem leP : ∀ a b : Fin 16, IntOp.cmpi .sle (IntOp.subi (BitVec.ofNat 32 a.val) 1#32) (IntOp.subi (BitVec.ofNat 32 b.val) 1#32) = BitVec.ofBool (decide (a.val ≤ b.val)) := by decide +kernel

/-! ## The buckets -/

theorem bucketP (r : Fin 128) (p : Fin 640) : val_main_v32 (F := Ideal) (ix2 r p) = bucket (IntOp.subi (BitVec.ofNat 32 p.val) (IntOp.addi 256#32 (BitVec.ofNat 32 r.val))) := rfl
theorem bucketS (r : Fin 16) (p : Fin 2064) : val_main_v95 (F := Ideal) (ix2 r p) = bucket (IntOp.subi (BitVec.ofNat 32 p.val) (IntOp.addi 2048#32 (BitVec.ofNat 32 r.val))) := rfl

/-! ## The entries -/

theorem idxP (r : Fin 128) (p : Fin 640) : val_main_v38 (F := Ideal) (ix3 r p 0) = BitVec.ofNat 32 (row ((p.val : ℤ) - ((256 + r.val : ℕ) : ℤ))).val := by
  have e : val_main_v32 (F := Ideal) (ix2 r p) = BitVec.ofNat 32 (row ((p.val : ℤ) - ((256 + r.val : ℕ) : ℤ))).val :=
    (bucketP r p).trans ((congrArg bucket (word p.val 256 r.val)).trans (bucket_eq _ (by omega)))
  refine Eq.trans ?_ (wrap _)
  rw [← e]
  rfl
theorem idxS (r : Fin 16) (p : Fin 2064) : val_main_v101 (F := Ideal) (ix3 r p 0) = BitVec.ofNat 32 (row ((p.val : ℤ) - ((2048 + r.val : ℕ) : ℤ))).val := by
  have e : val_main_v95 (F := Ideal) (ix2 r p) = BitVec.ofNat 32 (row ((p.val : ℤ) - ((2048 + r.val : ℕ) : ℤ))).val :=
    (bucketS r p).trans ((congrArg bucket (word p.val 2048 r.val)).trans (bucket_eq _ (by omega)))
  refine Eq.trans ?_ (wrap _)
  rw [← e]
  rfl

variable (T : FVec Ideal S32x4 .f32)

theorem biasP (h : Fin 4) (r : Fin 128) (p : Fin 640) :
    val_main_v40 (F := Ideal) T (ix3 h r p) = T (ix2 (row ((p.val : ℤ) - ((256 + r.val : ℕ) : ℤ))) h) := by
  rw [val_main_v40_apply]
  refine (congrArg _ (show idx_main_v40 (ix3 h r p) = ix3 r p h by funext a; fin_cases a <;> rfl)).trans ?_
  exact lookup _ T (val_main_v38 (F := Ideal)) r p h _ (idxP r p)
theorem biasS (h : Fin 4) (r : Fin 16) (p : Fin 2064) :
    val_main_v103 (F := Ideal) T (ix3 h r p) = T (ix2 (row ((p.val : ℤ) - ((2048 + r.val : ℕ) : ℤ))) h) := by
  rw [val_main_v103_apply]
  refine (congrArg _ (show idx_main_v103 (ix3 h r p) = ix3 r p h by funext a; fin_cases a <;> rfl)).trans ?_
  exact lookup _ T (val_main_v101 (F := Ideal)) r p h _ (idxS r p)

theorem maskP (r : Fin 128) (p : Fin 640) : val_main_v57 (F := Ideal) (ix2 r p) = BitVec.ofBool (decide ((p.val + 48) / 64 ≤ (256 + r.val + 48) / 64)) := by
  have e : val_main_v57 (F := Ideal) (ix2 r p) = IntOp.cmpi .sle (val_main_v52 (F := Ideal) (ix1 p)) (val_main_v46 (F := Ideal) (ix1 r)) := rfl
  rw [e, qchunk, kchunk]
  exact leP ⟨(p.val + 48) / 64, by omega⟩ ⟨(256 + r.val + 48) / 64, by omega⟩
theorem maskS (r : Fin 16) (p : Fin 2064) : val_main_v110 (F := Ideal) (ix2 r p) = 1#1 := by
  have e : val_main_v110 (F := Ideal) (ix2 r p) = IntOp.cmpi .sle (val_main_v105 (F := Ideal) (ix1 p)) (val_main_v104 (F := Ideal) (ix1 r)) := rfl
  rw [e, qchunkS, kchunkS]
  exact leS ⟨p.val / 64, by omega⟩

theorem seenP (h : Fin 4) (r : Fin 128) (p : Fin 640) :
    val_main_v59 (F := Ideal) T (ix4 0 h r p) = Scalar.select (BitVec.ofBool (decide ((p.val + 48) / 64 ≤ (256 + r.val + 48) / 64)))
      (T (ix2 (row ((p.val : ℤ) - ((256 + r.val : ℕ) : ℤ))) h)) (Ideal.ofBits .f32 0xF149F2CA#32) := by
  rw [val_main_v59_apply, val_main_call6_v1_apply, val_main_v58_apply]
  refine congr (congrArg₂ (fun a x => Scalar.select a x) ?_ ?_) rfl
  · exact (congrArg _ (show idx_main_call6_v1 (ix4 0 h r p) = ix2 r p by funext a; fin_cases a <;> rfl)).trans (maskP r p)
  · exact (congrArg _ (show idx_main_v58 (ix4 0 h r p) = ix3 h r p by funext a; fin_cases a <;> rfl)).trans (biasP T h r p)
theorem seenS (h : Fin 4) (r : Fin 16) (p : Fin 2064) :
    val_main_v112 (F := Ideal) T (ix4 0 h r p) = T (ix2 (row ((p.val : ℤ) - ((2048 + r.val : ℕ) : ℤ))) h) := by
  rw [val_main_v112_apply, val_main_call11_v1_apply, val_main_v111_apply]
  refine (if_pos ?_).trans ?_
  · exact (congrArg _ (show idx_main_call11_v1 (ix4 0 h r p) = ix2 r p by funext a; fin_cases a <;> rfl)).trans (maskS r p)
  · exact (congrArg _ (show idx_main_v111 (ix4 0 h r p) = ix3 h r p by funext a; fin_cases a <;> rfl)).trans (biasS T h r p)

/-- The reference's prompt tiles. -/
theorem prompt (h : Fin 4) (s : Fin 5) (r k : Fin 128) : val_main_v62 (F := Ideal) T (ix4 h s r k) = tileAt (fun j => T (ix2 j h)) s.val r.val k.val := by
  rw [val_main_v62_apply, show idx_main_v62 (ix4 h s r k) = ix4 h r s k by funext a; fin_cases a <;> rfl, val_main_v61_apply]
  have e : idx_main_v61 (ix4 h r s k) = ix3 h r (⟨128 * s.val + k.val, by omega⟩ : Fin 640) := by
    funext a
    refine Fin.ext ?_
    fin_cases a
    · show (((h.val * 128 + r.val) * 5 + s.val) * 128 + k.val) / 81920 = h.val; omega
    · show (((h.val * 128 + r.val) * 5 + s.val) * 128 + k.val) / 640 % 128 = r.val; omega
    · show (((h.val * 128 + r.val) * 5 + s.val) * 128 + k.val) % 640 = 128 * s.val + k.val; omega
  rw [e, val_main_v60_apply]
  have e2 (p : Fin 640) : idx_main_v60 (ix3 h r p) = ix4 0 h r p := by
    funext a
    refine Fin.ext ?_
    fin_cases a
    · rfl
    · show ((h.val * 128 + r.val) * 640 + p.val) / 81920 % 4 = h.val; omega
    · show ((h.val * 128 + r.val) * 640 + p.val) / 640 % 128 = r.val; omega
    · show ((h.val * 128 + r.val) * 640 + p.val) % 640 = p.val; omega
  rw [e2, seenP]
  rfl
theorem inner (h : Fin 4) (r : Fin 16) (p : Fin 2064) : val_main_v113 (F := Ideal) T (ix3 h r p) = T (ix2 (row ((p.val : ℤ) - ((2048 + r.val : ℕ) : ℤ))) h) := by
  rw [val_main_v113_apply]
  have e2 : idx_main_v113 (ix3 h r p) = ix4 0 h r p := by
    funext a
    refine Fin.ext ?_
    fin_cases a
    · rfl
    · show ((h.val * 16 + r.val) * 2064 + p.val) / 33024 % 4 = h.val; omega
    · show ((h.val * 16 + r.val) * 2064 + p.val) / 2064 % 16 = r.val; omega
    · show ((h.val * 16 + r.val) * 2064 + p.val) % 2064 = p.val; omega
  rw [e2, seenS]
theorem padIn (x : FVec Ideal S4x16x2064 .f32) (v : FVec Ideal S_ .f32) (hp) (hu) (h : Fin 4) (r : Fin 16) (k : Fin 2176) (hk : k.val < 2064) :
    pad (α := EReal) S4x16x2176 ![0, 0, 0] ![0, 0, 112] ![0, 0, 0] x v hp hu (ix3 h r k) = x (ix3 h r ⟨k.val, hk⟩) := by
  unfold pad
  refine (dif_pos ?_).trans (congrArg x (funext fun a => Fin.ext ?_))
  · intro a
    fin_cases a
    · show 0 ≤ h.val ∧ (h.val - 0) % (0 + 1) = 0 ∧ (h.val - 0) / (0 + 1) < 4; omega
    · show 0 ≤ r.val ∧ (r.val - 0) % (0 + 1) = 0 ∧ (r.val - 0) / (0 + 1) < 16; omega
    · show 0 ≤ k.val ∧ (k.val - 0) % (0 + 1) = 0 ∧ (k.val - 0) / (0 + 1) < 2064; omega
  · fin_cases a
    · show (h.val - 0) / (0 + 1) = h.val; omega
    · show (r.val - 0) / (0 + 1) = r.val; omega
    · show (k.val - 0) / (0 + 1) = k.val; omega
theorem padOut (x : FVec Ideal S4x16x2064 .f32) (v : FVec Ideal S_ .f32) (hp) (hu) (h : Fin 4) (r : Fin 16) (k : Fin 2176) (hk : ¬k.val < 2064) :
    pad (α := EReal) S4x16x2176 ![0, 0, 0] ![0, 0, 112] ![0, 0, 0] x v hp hu (ix3 h r k) = v (Shape.Idx.first hu) := by
  unfold pad
  refine dif_neg fun hin => hk ?_
  have h2 : (k.val - 0) / (0 + 1) < 2064 := (hin 2).2.2
  omega
/-- The reference's sample rows, filled past the last key. -/
theorem sample (h : Fin 4) (r : Fin 16) (k : Fin 2176) : val_main_v114 (F := Ideal) T (ix3 h r k) = rowAt (fun j => T (ix2 j h)) r.val k.val := by
  unfold rowAt
  by_cases hk : k.val < 2064
  · rw [decide_eq_true hk]
    refine Eq.trans ?_ (if_pos rfl).symm
    exact (padIn (val_main_v113 (F := Ideal) T) (val_main_cst_36 (F := Ideal)) _ _ h r k hk).trans (inner T h r ⟨k.val, hk⟩)
  · rw [decide_eq_false hk]
    refine Eq.trans ?_ (if_neg (by decide)).symm
    exact padOut (val_main_v113 (F := Ideal) T) (val_main_cst_36 (F := Ideal)) _ _ h r k hk

end Cert.BiasRef
-- ==== Proof.BiasLoad.lean ====
module

public import Idealize.ShloMosaic.Lib.KernelVsHost
public import Idealize.ShloMosaic.Lib.Pointwise
public import Idealize.ShloMosaic.Lib.Pipeline.ValueKit
public import Idealize.ShloMosaic.Lib.Pipeline.ReadBack
public import proofs.«01_k».proof.Defs
public import proofs.«01_k».proof.Proof.Bias
public import proofs.«01_k».proof.Proof.Gen.Kernel9Ideal.Value

@[expose] public section

/-!
# The bias kernel: its loads
-/

noncomputable section

namespace Cert.Kernel9Ideal.Bias

open Cert.Kernel9Ideal Cert.Kernel9Ideal.Gen Idealize.ShloMosaic Idealize.ShloMosaic.TcCoe Idealize.SL.Sem
open Idealize.ShloMosaic.Pointwise
open Cert.Bias (bucket pick row)

set_option maxRecDepth 16384

/-! ## Thirty-two selections -/

theorem pick32 (b : BitVec 32) (w : ℕ → EReal) (v0 v1 v2 v3 v4 v5 v6 v7 v8 v9 v10 v11 v12 v13 v14 v15 v16 v17 v18 v19 v20 v21 v22 v23 v24 v25 v26 v27 v28 v29 v30 v31 : EReal)
    (h0 : v0 = w 0)
    (h1 : v1 = w 1)
    (h2 : v2 = w 2)
    (h3 : v3 = w 3)
    (h4 : v4 = w 4)
    (h5 : v5 = w 5)
    (h6 : v6 = w 6)
    (h7 : v7 = w 7)
    (h8 : v8 = w 8)
    (h9 : v9 = w 9)
    (h10 : v10 = w 10)
    (h11 : v11 = w 11)
    (h12 : v12 = w 12)
    (h13 : v13 = w 13)
    (h14 : v14 = w 14)
    (h15 : v15 = w 15)
    (h16 : v16 = w 16)
    (h17 : v17 = w 17)
    (h18 : v18 = w 18)
    (h19 : v19 = w 19)
    (h20 : v20 = w 20)
    (h21 : v21 = w 21)
    (h22 : v22 = w 22)
    (h23 : v23 = w 23)
    (h24 : v24 = w 24)
    (h25 : v25 = w 25)
    (h26 : v26 = w 26)
    (h27 : v27 = w 27)
    (h28 : v28 = w 28)
    (h29 : v29 = w 29)
    (h30 : v30 = w 30)
    (h31 : v31 = w 31) :
    Scalar.select (IntOp.cmpi .eq b 31#32) v31 (Scalar.select (IntOp.cmpi .eq b 30#32) v30 (Scalar.select (IntOp.cmpi .eq b 29#32) v29 (Scalar.select (IntOp.cmpi .eq b 28#32) v28 (Scalar.select (IntOp.cmpi .eq b 27#32) v27 (Scalar.select (IntOp.cmpi .eq b 26#32) v26 (Scalar.select (IntOp.cmpi .eq b 25#32) v25 (Scalar.select (IntOp.cmpi .eq b 24#32) v24 (Scalar.select (IntOp.cmpi .eq b 23#32) v23 (Scalar.select (IntOp.cmpi .eq b 22#32) v22 (Scalar.select (IntOp.cmpi .eq b 21#32) v21 (Scalar.select (IntOp.cmpi .eq b 20#32) v20 (Scalar.select (IntOp.cmpi .eq b 19#32) v19 (Scalar.select (IntOp.cmpi .eq b 18#32) v18 (Scalar.select (IntOp.cmpi .eq b 17#32) v17 (Scalar.select (IntOp.cmpi .eq b 16#32) v16 (Scalar.select (IntOp.cmpi .eq b 15#32) v15 (Scalar.select (IntOp.cmpi .eq b 14#32) v14 (Scalar.select (IntOp.cmpi .eq b 13#32) v13 (Scalar.select (IntOp.cmpi .eq b 12#32) v12 (Scalar.select (IntOp.cmpi .eq b 11#32) v11 (Scalar.select (IntOp.cmpi .eq b 10#32) v10 (Scalar.select (IntOp.cmpi .eq b 9#32) v9 (Scalar.select (IntOp.cmpi .eq b 8#32) v8 (Scalar.select (IntOp.cmpi .eq b 7#32) v7 (Scalar.select (IntOp.cmpi .eq b 6#32) v6 (Scalar.select (IntOp.cmpi .eq b 5#32) v5 (Scalar.select (IntOp.cmpi .eq b 4#32) v4 (Scalar.select (IntOp.cmpi .eq b 3#32) v3 (Scalar.select (IntOp.cmpi .eq b 2#32) v2 (Scalar.select (IntOp.cmpi .eq b 1#32) v1 (Scalar.select (IntOp.cmpi .eq b 0#32) v0 (Ideal.ofBits .f32 0x00000000#32)))))))))))))))))))))))))))))))) = pick b w 32 := by
  subst h0 h1 h2 h3 h4 h5 h6 h7 h8 h9 h10 h11 h12 h13 h14 h15 h16 h17 h18 h19 h20 h21 h22 h23 h24 h25 h26 h27 h28 h29 h30 h31
  rfl

/-! ## The offsets of the table's reads -/

theorem off1 : ∀ t : Fin cfg0.N, k0_off1 (grid0.coords t) = ![0, t.val] := (by decide +kernel : ∀ t : Fin grid0.N, _)
theorem off2 : ∀ t : Fin cfg0.N, k0_off2 (grid0.coords t) = ![1, t.val] := (by decide +kernel : ∀ t : Fin grid0.N, _)
theorem off3 : ∀ t : Fin cfg0.N, k0_off3 (grid0.coords t) = ![2, t.val] := (by decide +kernel : ∀ t : Fin grid0.N, _)
theorem off4 : ∀ t : Fin cfg0.N, k0_off4 (grid0.coords t) = ![3, t.val] := (by decide +kernel : ∀ t : Fin grid0.N, _)
theorem off5 : ∀ t : Fin cfg0.N, k0_off5 (grid0.coords t) = ![4, t.val] := (by decide +kernel : ∀ t : Fin grid0.N, _)
theorem off6 : ∀ t : Fin cfg0.N, k0_off6 (grid0.coords t) = ![5, t.val] := (by decide +kernel : ∀ t : Fin grid0.N, _)
theorem off7 : ∀ t : Fin cfg0.N, k0_off7 (grid0.coords t) = ![6, t.val] := (by decide +kernel : ∀ t : Fin grid0.N, _)
theorem off8 : ∀ t : Fin cfg0.N, k0_off8 (grid0.coords t) = ![7, t.val] := (by decide +kernel : ∀ t : Fin grid0.N, _)
theorem off9 : ∀ t : Fin cfg0.N, k0_off9 (grid0.coords t) = ![8, t.val] := (by decide +kernel : ∀ t : Fin grid0.N, _)
theorem off10 : ∀ t : Fin cfg0.N, k0_off10 (grid0.coords t) = ![9, t.val] := (by decide +kernel : ∀ t : Fin grid0.N, _)
theorem off11 : ∀ t : Fin cfg0.N, k0_off11 (grid0.coords t) = ![10, t.val] := (by decide +kernel : ∀ t : Fin grid0.N, _)
theorem off12 : ∀ t : Fin cfg0.N, k0_off12 (grid0.coords t) = ![11, t.val] := (by decide +kernel : ∀ t : Fin grid0.N, _)
theorem off13 : ∀ t : Fin cfg0.N, k0_off13 (grid0.coords t) = ![12, t.val] := (by decide +kernel : ∀ t : Fin grid0.N, _)
theorem off14 : ∀ t : Fin cfg0.N, k0_off14 (grid0.coords t) = ![13, t.val] := (by decide +kernel : ∀ t : Fin grid0.N, _)
theorem off15 : ∀ t : Fin cfg0.N, k0_off15 (grid0.coords t) = ![14, t.val] := (by decide +kernel : ∀ t : Fin grid0.N, _)
theorem off16 : ∀ t : Fin cfg0.N, k0_off16 (grid0.coords t) = ![15, t.val] := (by decide +kernel : ∀ t : Fin grid0.N, _)
theorem off17 : ∀ t : Fin cfg0.N, k0_off17 (grid0.coords t) = ![16, t.val] := (by decide +kernel : ∀ t : Fin grid0.N, _)
theorem off18 : ∀ t : Fin cfg0.N, k0_off18 (grid0.coords t) = ![17, t.val] := (by decide +kernel : ∀ t : Fin grid0.N, _)
theorem off19 : ∀ t : Fin cfg0.N, k0_off19 (grid0.coords t) = ![18, t.val] := (by decide +kernel : ∀ t : Fin grid0.N, _)
theorem off20 : ∀ t : Fin cfg0.N, k0_off20 (grid0.coords t) = ![19, t.val] := (by decide +kernel : ∀ t : Fin grid0.N, _)
theorem off21 : ∀ t : Fin cfg0.N, k0_off21 (grid0.coords t) = ![20, t.val] := (by decide +kernel : ∀ t : Fin grid0.N, _)
theorem off22 : ∀ t : Fin cfg0.N, k0_off22 (grid0.coords t) = ![21, t.val] := (by decide +kernel : ∀ t : Fin grid0.N, _)
theorem off23 : ∀ t : Fin cfg0.N, k0_off23 (grid0.coords t) = ![22, t.val] := (by decide +kernel : ∀ t : Fin grid0.N, _)
theorem off24 : ∀ t : Fin cfg0.N, k0_off24 (grid0.coords t) = ![23, t.val] := (by decide +kernel : ∀ t : Fin grid0.N, _)
theorem off25 : ∀ t : Fin cfg0.N, k0_off25 (grid0.coords t) = ![24, t.val] := (by decide +kernel : ∀ t : Fin grid0.N, _)
theorem off26 : ∀ t : Fin cfg0.N, k0_off26 (grid0.coords t) = ![25, t.val] := (by decide +kernel : ∀ t : Fin grid0.N, _)
theorem off27 : ∀ t : Fin cfg0.N, k0_off27 (grid0.coords t) = ![26, t.val] := (by decide +kernel : ∀ t : Fin grid0.N, _)
theorem off28 : ∀ t : Fin cfg0.N, k0_off28 (grid0.coords t) = ![27, t.val] := (by decide +kernel : ∀ t : Fin grid0.N, _)
theorem off29 : ∀ t : Fin cfg0.N, k0_off29 (grid0.coords t) = ![28, t.val] := (by decide +kernel : ∀ t : Fin grid0.N, _)
theorem off30 : ∀ t : Fin cfg0.N, k0_off30 (grid0.coords t) = ![29, t.val] := (by decide +kernel : ∀ t : Fin grid0.N, _)
theorem off31 : ∀ t : Fin cfg0.N, k0_off31 (grid0.coords t) = ![30, t.val] := (by decide +kernel : ∀ t : Fin grid0.N, _)
theorem off32 : ∀ t : Fin cfg0.N, k0_off32 (grid0.coords t) = ![31, t.val] := (by decide +kernel : ∀ t : Fin grid0.N, _)

/-! ## The blocks -/

theorem idx : ∀ t : Fin cfg0.N, win0_0.index t = ![0, 0] ∧ win0_1.index t = ![0, 0, 0] ∧ win0_2.index t = ![0, 0]
    ∧ win0_3.index t = ![t.val, 0, 0, 0] ∧ win0_4.index t = ![t.val, 0, 0] :=
  (by decide +kernel : ∀ t : Fin grid0.N, _)

variable (m : (ℓ : Loc nD τ sig) → Buf (Elt Ideal) ℓ) (c : Dev nD) (t : Fin cfg0.N)

/-- The head a step computes. -/
abbrev hd : Fin 4 := ⟨t.val, t.isLt⟩
/-- The table's column of a head. -/
def col (T : FVec Ideal S32x4 .f32) (h : Fin 4) (k : ℕ) : EReal := if hk : k < 32 then T (ix2 ⟨k, hk⟩ h) else 0

theorem blk0 (k : Fin 32) (h : Fin 4) : (iblk m c 0 t : S32x4.Idx → EReal) (ix2 k h) = m ⟨c, main_arg0⟩ (ix2 k h) := by
  blk_ext [iblk, V, idx t]
theorem blk1 (s : Fin 4) (r k : Fin 128) : (iblk m c 1 t : S4x128x128.Idx → BitVec 32) (ix3 s r k) = V m c main_v120 (ix3 s r k) := by
  show V m c main_v120 (((cfg0.win 1).blk t).view.emb _) = _
  have e : (((cfg0.win 1).blk t).view.emb (ix3 s r k : S4x128x128.Idx) : S4x128x128.Idx) = ix3 s r k := by blk_ext [idx t]
  rw [e]
theorem blk2 (r : Fin 16) (k : Fin 2176) : (iblk m c 2 t : S16x2176.Idx → BitVec 32) (ix2 r k) = V m c main_v153 (ix2 r k) := by
  show V m c main_v153 (((cfg0.win 2).blk t).view.emb _) = _
  have e : (((cfg0.win 2).blk t).view.emb (ix2 r k : S16x2176.Idx) : S16x2176.Idx) = ix2 r k := by blk_ext [idx t]
  rw [e]

theorem ldT {o : Fin 2 → ℕ} {inb : ∀ a, o a + ![1, 1] a ≤ S32x4.size a} {p : 0 < (Shape.mk 2 ![1, 1]).numel} (k : ℕ) (hk : k < 32)
    (e : o = ![k, t.val]) :
    View.ld (iblk m c 0 t : S32x4.Idx → EReal) (Rect.unit (s := S32x4) o ![1, 1] inb) (Shape.Idx.first p) = col (m ⟨c, main_arg0⟩) (hd t) k := by
  subst e
  unfold col
  rw [dif_pos hk, ← blk0 m c t]
  refine congrArg (iblk m c 0 t : S32x4.Idx → EReal) (funext fun a => Fin.ext ?_)
  fin_cases a <;> rfl

end Cert.Kernel9Ideal.Bias
-- ==== Proof.BiasBuckets.lean ====
module

public import Idealize.ShloMosaic.Lib.KernelVsHost
public import Idealize.ShloMosaic.Lib.Pointwise
public import Idealize.ShloMosaic.Lib.Pipeline.ValueKit
public import Idealize.ShloMosaic.Lib.Pipeline.ReadBack
public import Idealize.ShloMosaic.Lib.StableHlo.Run
public import proofs.«01_k».proof.Defs
public import proofs.«01_k».proof.Proof.Bias
public import proofs.«01_k».proof.Proof.Gen.Kernel9Ideal.Value

@[expose] public section

/-!
# The bias kernel: its bucket arrays
-/

noncomputable section

namespace Cert.Kernel9Ideal.Bias

open Cert.Kernel9Ideal Cert.Kernel9Ideal.Gen Idealize.ShloMosaic Idealize.ShloMosaic.TcCoe Idealize.SL.Sem
open Idealize.ShloMosaic.Pointwise Idealize.ShloMosaic.StableHlo
open Cert.Bias (bucket pick row)

set_option maxRecDepth 100000

variable (m : (ℓ : Loc nD τ sig) → Buf (Elt Ideal) ℓ) (c : Dev nD)

set_option maxHeartbeats 4000000 in
/-- The sample rows' buckets. -/
theorem bs_eq : V m c main_v153 = fun i : S16x2176.Idx => bucket (IntOp.subi (BitVec.ofNat 32 (i 1).val) (IntOp.addi 2048#32 (BitVec.ofNat 32 (i 0).val))) := by
  simp only [V, List.flatten_cons, List.flatten_nil, after_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    TRef.binary, TRef.nullary, TRef.ternary, TRef.unary, TRef.toBuf, TRef.ofBuf, cast_eq]
  after_results_simp
  rfl

/-- The prompt's buckets, a tile's distance from the query tile at a time. -/
def bp : Fin 4 → Fin 128 → Fin 128 → BitVec 32 := ![fun _ _ => bucket 4294967040#32,
  fun r k => bucket (IntOp.subi (IntOp.addi 4294967168#32 (BitVec.ofNat 32 k.val)) (BitVec.ofNat 32 r.val)),
  fun r k => bucket (IntOp.subi (IntOp.addi 0#32 (BitVec.ofNat 32 k.val)) (BitVec.ofNat 32 r.val)),
  fun r k => bucket (IntOp.subi (IntOp.addi 128#32 (BitVec.ofNat 32 k.val)) (BitVec.ofNat 32 r.val))]

theorem cat4 (x0 x1 x2 x3 : S1x128x128.Idx → BitVec 32) (hc) (s : Fin 4) (r k : Fin 128) :
    concatenate S4x128x128 0 [⟨S1x128x128, x0⟩, ⟨S1x128x128, x1⟩, ⟨S1x128x128, x2⟩, ⟨S1x128x128, x3⟩] hc (ix3 s r k) = (![x0, x1, x2, x3] s) (ix3 0 r k) := by
  fin_cases s
  · exact congrArg x0 (funext fun b => by fin_cases b <;> rfl)
  · exact congrArg x1 (funext fun b => by fin_cases b <;> rfl)
  · exact congrArg x2 (funext fun b => by fin_cases b <;> rfl)
  · exact congrArg x3 (funext fun b => by fin_cases b <;> rfl)

set_option maxHeartbeats 4000000 in
theorem bp_at (s : Fin 4) (r k : Fin 128) : V m c main_v120 (ix3 s r k) = bp s r k := by
  simp only [V, List.flatten_cons, List.flatten_nil, after_append, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20,
    TRef.binary, TRef.nullary, TRef.ternary, TRef.unary, TRef.toBuf, TRef.ofBuf, cast_eq]
  after_results_simp
  refine (cat4 _ _ _ _ _ s r k).trans ?_
  fin_cases s <;> dsimp only [Matrix.cons_val] <;> after_results_simp <;> rfl

end Cert.Kernel9Ideal.Bias
-- ==== Proof.BiasMask.lean ====
module

public import Idealize.ShloMosaic.Lib.KernelVsHost
public import Idealize.ShloMosaic.Lib.Pointwise
public import Idealize.ShloMosaic.Lib.Pipeline.ValueKit
public import Idealize.ShloMosaic.Lib.Pipeline.ReadBack
public import proofs.«01_k».proof.Defs
public import proofs.«01_k».proof.Proof.Bias
public import proofs.«01_k».proof.Proof.Gen.Kernel9Ideal.Value

@[expose] public section

/-!
# The bias kernel: its masks
-/

noncomputable section

namespace Cert.Kernel9Ideal.Bias

open Cert.Kernel9Ideal Cert.Kernel9Ideal.Gen Idealize.ShloMosaic Idealize.ShloMosaic.TcCoe Idealize.SL.Sem
open Idealize.ShloMosaic.Pointwise
open Cert.Bias (bucket pick row)

set_option maxRecDepth 16384

/-- The chunk of a position in a tile, one more than the kernel counts it. -/
theorem qc_at : ∀ r : Fin 128, IntOp.shrsi .vector (IntOp.subi (BitVec.ofNat 32 r.val) 16#32) 6#32 = IntOp.subi (BitVec.ofNat 32 ((r.val + 48) / 64)) 1#32 := by decide +kernel
theorem pay2_at (r k : Fin 128) : k0_pay2 (ix2 r k) = IntOp.subi (BitVec.ofNat 32 ((r.val + 48) / 64)) 1#32 := by
  refine Eq.trans ?_ (qc_at r)
  pointwise [k0_pay2]
theorem pay3_at (r k : Fin 128) : k0_pay3 (ix2 r k) = IntOp.subi (BitVec.ofNat 32 ((k.val + 48) / 64)) 1#32 := by
  refine Eq.trans ?_ (qc_at k)
  pointwise [k0_pay3]

theorem see : ∀ (s : Fin 5) (a b : Fin 3),
    IntOp.cmpi .sle (IntOp.subi (IntOp.addi (IntOp.subi (BitVec.ofNat 32 (2 * s.val)) 4#32) (IntOp.subi (BitVec.ofNat 32 a.val) 1#32)) (IntOp.subi (BitVec.ofNat 32 b.val) 1#32)) 0#32
      = BitVec.ofBool (decide (2 * s.val + a.val ≤ 4 + b.val)) := by decide +kernel
/-- Whether a key column is seen from a query row of the tile at positions 256 to 383. -/
def sees (s : Fin 5) (r k : Fin 128) : Bool := decide ((128 * s.val + k.val + 48) / 64 ≤ (256 + r.val + 48) / 64)
theorem see_at (s : Fin 5) (d : BitVec 32) (hd : d = IntOp.subi (BitVec.ofNat 32 (2 * s.val)) 4#32) (r k : Fin 128) :
    IntOp.cmpi .sle (IntOp.subi (IntOp.addi d (k0_pay3 (ix2 r k))) (k0_pay2 (ix2 r k))) 0#32 = BitVec.ofBool (sees s r k) := by
  rw [pay2_at, pay3_at, hd]
  have h := see s ⟨(k.val + 48) / 64, by omega⟩ ⟨(r.val + 48) / 64, by omega⟩
  refine h.trans (congrArg BitVec.ofBool (decide_eq_decide.mpr ?_))
  show 2 * s.val + (k.val + 48) / 64 ≤ 4 + (r.val + 48) / 64 ↔ _
  omega
theorem near_at : ∀ (r : Fin 16) (k : Fin 2176), IntOp.andi (IntOp.cmpi .sle (IntOp.shrsi .vector (BitVec.ofNat 32 k.val) 6#32) (IntOp.shrsi .vector (IntOp.addi (BitVec.ofNat 32 r.val) 2048#32) 6#32))
    (IntOp.cmpi .slt (BitVec.ofNat 32 k.val) 2064#32) = BitVec.ofBool (decide (k.val < 2064)) := by decide +kernel
theorem pay49_at (r : Fin 16) (k : Fin 2176) : k0_pay49 (iota .tc S16x2176 32 [0] iota_S16x2176_d0_w32) (ix2 r k) = BitVec.ofBool (decide (k.val < 2064)) := by
  refine Eq.trans ?_ (near_at r k)
  pointwise [k0_pay49]

end Cert.Kernel9Ideal.Bias
-- ==== Proof.BiasPoint.lean ====
module

public import Idealize.ShloMosaic.Lib.KernelVsHost
public import Idealize.ShloMosaic.Lib.Pointwise
public import Idealize.ShloMosaic.Lib.Pipeline.ValueKit
public import Idealize.ShloMosaic.Lib.Pipeline.ReadBack
public import proofs.«01_k».proof.Defs
public import proofs.«01_k».proof.Proof.Bias
public import proofs.«01_k».proof.Proof.BiasLoad
public import proofs.«01_k».proof.Proof.BiasBuckets
public import proofs.«01_k».proof.Proof.BiasMask

@[expose] public section

/-!
# The bias kernel: the arrays it writes
-/

noncomputable section

namespace Cert.Kernel9Ideal.Bias

open Cert.Kernel9Ideal Cert.Kernel9Ideal.Gen Idealize.ShloMosaic Idealize.ShloMosaic.TcCoe Idealize.SL.Sem
open Idealize.ShloMosaic.Pointwise
open Cert.Bias (bucket pick row)

set_option maxRecDepth 16384

/-- The fill of an unseen key. -/
abbrev far : EReal := Ideal.ofBits .f32 0xF149F2CA#32

theorem castOut (x : FVec Ideal S128x128 .f32) (r k : Fin 128) : shapeCast S1x1x128x128 x shapeCasts_S128x128_S1x1x128x128 (ix4 0 0 r k) = x (ix2 r k) := by
  pointwise []
theorem castIn (x : IVec S1x128x128 32) (r k : Fin 128) : shapeCast S128x128 x shapeCasts_S1x128x128_S128x128 (ix2 r k) = x (ix3 0 r k) := by
  pointwise []
theorem pay1_at (a : IVec S16x2176 1) (x : FVec Ideal S16x2176 .f32) (r : Fin 16) (k : Fin 2176) : k0_pay1 a x (ix3 0 r k) = Scalar.select (a (ix2 r k)) (x (ix2 r k)) far := by
  pointwise [k0_pay1]
theorem pay13_at (b w : IVec S128x128 32) (x : FVec Ideal S128x128 .f32) (x27 x28 x29 x30 x31 : EReal) (r k : Fin 128) :
    k0_pay13 b x w x27 x28 x29 x30 x31 (ix4 0 0 r k) = Scalar.select (IntOp.cmpi .eq (b (ix2 r k)) 31#32) x31 (Scalar.select (IntOp.cmpi .eq (b (ix2 r k)) 30#32) x30 (Scalar.select (IntOp.cmpi .eq (b (ix2 r k)) 29#32) x29
      (Scalar.select (IntOp.cmpi .eq (b (ix2 r k)) 28#32) x28 (Scalar.select (IntOp.cmpi .eq (b (ix2 r k)) (w (ix2 r k))) x27 (x (ix2 r k)))))) := by
  pointwise [k0_pay13]
theorem pay28_at (q u b : IVec S128x128 32) (x : FVec Ideal S128x128 .f32) (a : IVec S128x128 1) (x30 : FVec Ideal S128x128 .f32) (x31 : EReal) (r k : Fin 128) :
    k0_pay28 q u b x a x30 x31 (ix4 0 0 r k) = Scalar.select (IntOp.cmpi .sle (IntOp.subi (IntOp.addi 4294967294#32 (u (ix2 r k))) (q (ix2 r k))) 0#32)
      (Scalar.select (IntOp.cmpi .eq (b (ix2 r k)) 31#32) x31 (Scalar.select (a (ix2 r k)) (x30 (ix2 r k)) (x (ix2 r k)))) far := by
  pointwise [k0_pay28]
theorem pay38_at (q u b : IVec S128x128 32) (x : FVec Ideal S128x128 .f32) (a : IVec S128x128 1) (x25 x26 x27 x28 x29 x30 x31 : EReal) (r k : Fin 128) :
    k0_pay39 (k0_pay38 q u b x a x25 x26 x27 x28 x29 x30 x31) (ix4 0 0 r k) = Scalar.select (IntOp.cmpi .sle (IntOp.subi (IntOp.addi 0#32 (u (ix2 r k))) (q (ix2 r k))) 0#32)
      (Scalar.select (IntOp.cmpi .eq (b (ix2 r k)) 31#32) x31 (Scalar.select (IntOp.cmpi .eq (b (ix2 r k)) 30#32) x30 (Scalar.select (IntOp.cmpi .eq (b (ix2 r k)) 29#32) x29
      (Scalar.select (IntOp.cmpi .eq (b (ix2 r k)) 28#32) x28 (Scalar.select (IntOp.cmpi .eq (b (ix2 r k)) 27#32) x27 (Scalar.select (IntOp.cmpi .eq (b (ix2 r k)) 26#32) x26
      (Scalar.select (a (ix2 r k)) x25 (x (ix2 r k))))))))) far := by
  pointwise [k0_pay39, k0_pay38]
theorem pay47_at (q u b : IVec S128x128 32) (x : FVec Ideal S128x128 .f32) (w : BitVec 32) (x28 x29 x30 x31 : EReal) (r k : Fin 128) :
    k0_pay47 q u b x w x28 x29 x30 x31 (ix4 0 0 r k) = Scalar.select (IntOp.cmpi .sle (IntOp.subi (IntOp.addi 2#32 (u (ix2 r k))) (q (ix2 r k))) 0#32)
      (Scalar.select (IntOp.cmpi .eq (b (ix2 r k)) 31#32) x31 (Scalar.select (IntOp.cmpi .eq (b (ix2 r k)) 30#32) x30 (Scalar.select (IntOp.cmpi .eq (b (ix2 r k)) 29#32) x29
      (Scalar.select (IntOp.cmpi .eq (b (ix2 r k)) w) x28 (x (ix2 r k)))))) far := by
  pointwise [k0_pay47]

/-! ## The five tiles a step writes -/

section Tiles

variable (B0 B1 B2 B3 B4 : FVec Ideal S1x1x128x128 .f32)

/-- The five stores of the first result. -/
abbrev P5 : List (View.Piece (Elt Ideal) S1x5x128x128 .f32) :=
  [⟨Rect.unit ![0, 4, 0, 0] ![1, 1, 128, 128] inb_S1x5x128x128_S1x1x128x128_0_4_0_0, B4⟩,
    ⟨Rect.unit ![0, 3, 0, 0] ![1, 1, 128, 128] inb_S1x5x128x128_S1x1x128x128_0_3_0_0, B3⟩,
    ⟨Rect.unit ![0, 2, 0, 0] ![1, 1, 128, 128] inb_S1x5x128x128_S1x1x128x128_0_2_0_0, B2⟩,
    ⟨Rect.unit ![0, 1, 0, 0] ![1, 1, 128, 128] inb_S1x5x128x128_S1x1x128x128_0_1_0_0, B1⟩,
    ⟨Rect.unit ![0, 0, 0, 0] ![1, 1, 128, 128] inb_S1x5x128x128_S1x1x128x128_0_0_0_0, B0⟩]

theorem P5_cover (y : S1x5x128x128.Idx) : ∃ p ∈ P5 B0 B1 B2 B3 B4, y ∈ p.1.set :=
  View.cover_of_tiledBy (P5 B0 B1 B2 B3 B4) ![1, 1, 128, 128] (by sl_kernel_rfl) y

/-- Five tiles, as an array. -/
abbrev tilesFn (R : Fin 5 → Fin 128 → Fin 128 → EReal) : S1x5x128x128.Idx → Elt Ideal .f32 := fun y => R (y 1) (y 2) (y 3)

theorem tile_piece (A : FVec Ideal S1x1x128x128 .f32) (R : Fin 5 → Fin 128 → Fin 128 → EReal) (s : Fin 5) (h : ∀ r k : Fin 128, A (ix4 0 0 r k) = R s r k)
    (i : ∀ a, (![0, s.val, 0, 0] : Fin 4 → ℕ) a + (![1, 1, 128, 128] : Fin 4 → ℕ) a ≤ S1x5x128x128.size a) (x : S1x1x128x128.Idx) :
    A x = tilesFn R ((Rect.unit (s := S1x5x128x128) ![0, s.val, 0, 0] ![1, 1, 128, 128] i).emb x) := by
  have e0 : x 0 = (0 : Fin 1) := Subsingleton.elim (α := Fin 1) _ _
  have e1 : x 1 = (0 : Fin 1) := Subsingleton.elim (α := Fin 1) _ _
  have ex : x = ix4 0 0 (x 2) (x 3) := (eq_ix4 x).trans (congrArg₂ (fun a b : Fin 1 => (ix4 a b (x 2) (x 3) : S1x1x128x128.Idx)) e0 e1)
  refine (congrArg A ex).trans ((h _ _).trans ?_)
  have i1 : (x 1).val = 0 := congrArg Fin.val e1
  refine congr (congrArg₂ R (Fin.ext ?_) (Fin.ext ?_)) (Fin.ext ?_)
  · show s.val = s.val + 1 * (x 1).val; omega
  · show (x 2).val = 0 + 1 * (x 2).val; omega
  · show (x 3).val = 0 + 1 * (x 3).val; omega

theorem tiles_at (R : Fin 5 → Fin 128 → Fin 128 → EReal) (h0 : ∀ r k : Fin 128, B0 (ix4 0 0 r k) = R 0 r k) (h1 : ∀ r k : Fin 128, B1 (ix4 0 0 r k) = R 1 r k)
    (h2 : ∀ r k : Fin 128, B2 (ix4 0 0 r k) = R 2 r k) (h3 : ∀ r k : Fin 128, B3 (ix4 0 0 r k) = R 3 r k) (h4 : ∀ r k : Fin 128, B4 (ix4 0 0 r k) = R 4 r k)
    (y : S1x5x128x128.Idx) : View.canon (P5 B0 B1 B2 B3 B4) y = R (y 1) (y 2) (y 3) :=
  View.canon_append_of_piecesOf (tilesFn R) [] (P5 B0 B1 B2 B3 B4)
    ⟨tile_piece B4 R 4 h4 inb_S1x5x128x128_S1x1x128x128_0_4_0_0, tile_piece B3 R 3 h3 inb_S1x5x128x128_S1x1x128x128_0_3_0_0,
      tile_piece B2 R 2 h2 inb_S1x5x128x128_S1x1x128x128_0_2_0_0, tile_piece B1 R 1 h1 inb_S1x5x128x128_S1x1x128x128_0_1_0_0,
      tile_piece B0 R 0 h0 inb_S1x5x128x128_S1x1x128x128_0_0_0_0, trivial⟩ _
    (P5_cover B0 B1 B2 B3 B4 _)

end Tiles

variable (m : (ℓ : Loc nD τ sig) → Buf (Elt Ideal) ℓ) (c : Dev nD) (t : Fin cfg0.N)

theorem ldP (s : Fin 4) (r k : Fin 128) (i) :
    (View.ld (iblk m c 1 t : S4x128x128.Idx → BitVec 32) (Rect.unit (s := S4x128x128) ![s.val, 0, 0] ![1, 128, 128] i) (ix3 0 r k) : BitVec 32) = bp s r k := by
  rw [← bp_at m c, ← blk1 m c t]
  refine congrArg (iblk m c 1 t : S4x128x128.Idx → BitVec 32) (funext fun a => Fin.ext ?_)
  fin_cases a
  · show s.val + 1 * 0 = s.val; omega
  · show 0 + 1 * r.val = r.val; omega
  · show 0 + 1 * k.val = k.val; omega

/-- A tile's entry: the table's row picked where the key is seen. -/
def tile (T : FVec Ideal S32x4 .f32) (h : Fin 4) (s : Fin 5) (r k : Fin 128) : EReal :=
  ![pick (bp 0 r k) (col T h) 32,
    Scalar.select (IntOp.cmpi .sle (IntOp.subi (IntOp.addi 4294967294#32 (k0_pay3 (ix2 r k))) (k0_pay2 (ix2 r k))) 0#32) (pick (bp 1 r k) (col T h) 32) far,
    Scalar.select (IntOp.cmpi .sle (IntOp.subi (IntOp.addi 0#32 (k0_pay3 (ix2 r k))) (k0_pay2 (ix2 r k))) 0#32) (pick (bp 2 r k) (col T h) 32) far,
    Scalar.select (IntOp.cmpi .sle (IntOp.subi (IntOp.addi 2#32 (k0_pay3 (ix2 r k))) (k0_pay2 (ix2 r k))) 0#32) (pick (bp 3 r k) (col T h) 32) far,
    far] s

set_option maxHeartbeats 40000000 in
theorem tiles (y : S1x5x128x128.Idx) : ((outsAt0 m c t).1 : S1x5x128x128.Idx → EReal) y = tile (m ⟨c, main_arg0⟩) (hd t) (y 1) (y 2) (y 3) := by
  unfold outsAt0
  frame_out
  refine tiles_at _ _ _ _ _ (tile (m ⟨c, main_arg0⟩) (hd t)) (fun r k => ?_) (fun r k => ?_) (fun r k => ?_) (fun r k => ?_) (fun r k => castOut (broadcast S128x128 far) r k) y
  · refine (pay13_at _ _ _ _ _ _ _ _ r k).trans ?_
    refine Eq.trans (pick32 _ (col (m ⟨c, main_arg0⟩) (hd t)) _ _ _ _ _ _ _ _ _ _ _ _ _ _ _ _ _ _ _ _ _ _ _ _ _ _ _ _ _ _ _ _
      (ldT m c t 0 (by decide) (off1 t))
      (ldT m c t 1 (by decide) (off2 t))
      (ldT m c t 2 (by decide) (off3 t))
      (ldT m c t 3 (by decide) (off4 t))
      (ldT m c t 4 (by decide) (off5 t))
      (ldT m c t 5 (by decide) (off6 t))
      (ldT m c t 6 (by decide) (off7 t))
      (ldT m c t 7 (by decide) (off8 t))
      (ldT m c t 8 (by decide) (off9 t))
      (ldT m c t 9 (by decide) (off10 t))
      (ldT m c t 10 (by decide) (off11 t))
      (ldT m c t 11 (by decide) (off12 t))
      (ldT m c t 12 (by decide) (off13 t))
      (ldT m c t 13 (by decide) (off14 t))
      (ldT m c t 14 (by decide) (off15 t))
      (ldT m c t 15 (by decide) (off16 t))
      (ldT m c t 16 (by decide) (off17 t))
      (ldT m c t 17 (by decide) (off18 t))
      (ldT m c t 18 (by decide) (off19 t))
      (ldT m c t 19 (by decide) (off20 t))
      (ldT m c t 20 (by decide) (off21 t))
      (ldT m c t 21 (by decide) (off22 t))
      (ldT m c t 22 (by decide) (off23 t))
      (ldT m c t 23 (by decide) (off24 t))
      (ldT m c t 24 (by decide) (off25 t))
      (ldT m c t 25 (by decide) (off26 t))
      (ldT m c t 26 (by decide) (off27 t))
      (ldT m c t 27 (by decide) (off28 t))
      (ldT m c t 28 (by decide) (off29 t))
      (ldT m c t 29 (by decide) (off30 t))
      (ldT m c t 30 (by decide) (off31 t))
      (ldT m c t 31 (by decide) (off32 t))) ?_
    exact congrArg (fun b => pick b _ 32) ((castIn _ r k).trans (ldP m c t 0 r k _))
  · refine (pay28_at _ _ _ _ _ _ _ r k).trans ?_
    refine congrArg (fun x => Scalar.select (IntOp.cmpi .sle (IntOp.subi (IntOp.addi _ (k0_pay3 (ix2 r k))) (k0_pay2 (ix2 r k))) 0#32) x far) ?_
    refine Eq.trans (pick32 _ (col (m ⟨c, main_arg0⟩) (hd t)) _ _ _ _ _ _ _ _ _ _ _ _ _ _ _ _ _ _ _ _ _ _ _ _ _ _ _ _ _ _ _ _
      (ldT m c t 0 (by decide) (off1 t))
      (ldT m c t 1 (by decide) (off2 t))
      (ldT m c t 2 (by decide) (off3 t))
      (ldT m c t 3 (by decide) (off4 t))
      (ldT m c t 4 (by decide) (off5 t))
      (ldT m c t 5 (by decide) (off6 t))
      (ldT m c t 6 (by decide) (off7 t))
      (ldT m c t 7 (by decide) (off8 t))
      (ldT m c t 8 (by decide) (off9 t))
      (ldT m c t 9 (by decide) (off10 t))
      (ldT m c t 10 (by decide) (off11 t))
      (ldT m c t 11 (by decide) (off12 t))
      (ldT m c t 12 (by decide) (off13 t))
      (ldT m c t 13 (by decide) (off14 t))
      (ldT m c t 14 (by decide) (off15 t))
      (ldT m c t 15 (by decide) (off16 t))
      (ldT m c t 16 (by decide) (off17 t))
      (ldT m c t 17 (by decide) (off18 t))
      (ldT m c t 18 (by decide) (off19 t))
      (ldT m c t 19 (by decide) (off20 t))
      (ldT m c t 20 (by decide) (off21 t))
      (ldT m c t 21 (by decide) (off22 t))
      (ldT m c t 22 (by decide) (off23 t))
      (ldT m c t 23 (by decide) (off24 t))
      (ldT m c t 24 (by decide) (off25 t))
      (ldT m c t 25 (by decide) (off26 t))
      (ldT m c t 26 (by decide) (off27 t))
      (ldT m c t 27 (by decide) (off28 t))
      (ldT m c t 28 (by decide) (off29 t))
      (ldT m c t 29 (by decide) (off30 t))
      (ldT m c t 30 (by decide) (off31 t))
      (ldT m c t 31 (by decide) (off32 t))) ?_
    exact congrArg (fun b => pick b _ 32) ((castIn _ r k).trans (ldP m c t 1 r k _))
  · refine (pay38_at _ _ _ _ _ _ _ _ _ _ _ _ r k).trans ?_
    refine congrArg (fun x => Scalar.select (IntOp.cmpi .sle (IntOp.subi (IntOp.addi _ (k0_pay3 (ix2 r k))) (k0_pay2 (ix2 r k))) 0#32) x far) ?_
    refine Eq.trans (pick32 _ (col (m ⟨c, main_arg0⟩) (hd t)) _ _ _ _ _ _ _ _ _ _ _ _ _ _ _ _ _ _ _ _ _ _ _ _ _ _ _ _ _ _ _ _
      (ldT m c t 0 (by decide) (off1 t))
      (ldT m c t 1 (by decide) (off2 t))
      (ldT m c t 2 (by decide) (off3 t))
      (ldT m c t 3 (by decide) (off4 t))
      (ldT m c t 4 (by decide) (off5 t))
      (ldT m c t 5 (by decide) (off6 t))
      (ldT m c t 6 (by decide) (off7 t))
      (ldT m c t 7 (by decide) (off8 t))
      (ldT m c t 8 (by decide) (off9 t))
      (ldT m c t 9 (by decide) (off10 t))
      (ldT m c t 10 (by decide) (off11 t))
      (ldT m c t 11 (by decide) (off12 t))
      (ldT m c t 12 (by decide) (off13 t))
      (ldT m c t 13 (by decide) (off14 t))
      (ldT m c t 14 (by decide) (off15 t))
      (ldT m c t 15 (by decide) (off16 t))
      (ldT m c t 16 (by decide) (off17 t))
      (ldT m c t 17 (by decide) (off18 t))
      (ldT m c t 18 (by decide) (off19 t))
      (ldT m c t 19 (by decide) (off20 t))
      (ldT m c t 20 (by decide) (off21 t))
      (ldT m c t 21 (by decide) (off22 t))
      (ldT m c t 22 (by decide) (off23 t))
      (ldT m c t 23 (by decide) (off24 t))
      (ldT m c t 24 (by decide) (off25 t))
      (ldT m c t 25 (by decide) (off26 t))
      (ldT m c t 26 (by decide) (off27 t))
      (ldT m c t 27 (by decide) (off28 t))
      (ldT m c t 28 (by decide) (off29 t))
      (ldT m c t 29 (by decide) (off30 t))
      (ldT m c t 30 (by decide) (off31 t))
      (ldT m c t 31 (by decide) (off32 t))) ?_
    exact congrArg (fun b => pick b _ 32) ((castIn _ r k).trans (ldP m c t 2 r k _))
  · refine (pay47_at _ _ _ _ _ _ _ _ _ r k).trans ?_
    refine congrArg (fun x => Scalar.select (IntOp.cmpi .sle (IntOp.subi (IntOp.addi _ (k0_pay3 (ix2 r k))) (k0_pay2 (ix2 r k))) 0#32) x far) ?_
    refine Eq.trans (pick32 _ (col (m ⟨c, main_arg0⟩) (hd t)) _ _ _ _ _ _ _ _ _ _ _ _ _ _ _ _ _ _ _ _ _ _ _ _ _ _ _ _ _ _ _ _
      (ldT m c t 0 (by decide) (off1 t))
      (ldT m c t 1 (by decide) (off2 t))
      (ldT m c t 2 (by decide) (off3 t))
      (ldT m c t 3 (by decide) (off4 t))
      (ldT m c t 4 (by decide) (off5 t))
      (ldT m c t 5 (by decide) (off6 t))
      (ldT m c t 6 (by decide) (off7 t))
      (ldT m c t 7 (by decide) (off8 t))
      (ldT m c t 8 (by decide) (off9 t))
      (ldT m c t 9 (by decide) (off10 t))
      (ldT m c t 10 (by decide) (off11 t))
      (ldT m c t 11 (by decide) (off12 t))
      (ldT m c t 12 (by decide) (off13 t))
      (ldT m c t 13 (by decide) (off14 t))
      (ldT m c t 14 (by decide) (off15 t))
      (ldT m c t 15 (by decide) (off16 t))
      (ldT m c t 16 (by decide) (off17 t))
      (ldT m c t 17 (by decide) (off18 t))
      (ldT m c t 18 (by decide) (off19 t))
      (ldT m c t 19 (by decide) (off20 t))
      (ldT m c t 20 (by decide) (off21 t))
      (ldT m c t 21 (by decide) (off22 t))
      (ldT m c t 22 (by decide) (off23 t))
      (ldT m c t 23 (by decide) (off24 t))
      (ldT m c t 24 (by decide) (off25 t))
      (ldT m c t 25 (by decide) (off26 t))
      (ldT m c t 26 (by decide) (off27 t))
      (ldT m c t 27 (by decide) (off28 t))
      (ldT m c t 28 (by decide) (off29 t))
      (ldT m c t 29 (by decide) (off30 t))
      (ldT m c t 30 (by decide) (off31 t))
      (ldT m c t 31 (by decide) (off32 t))) ?_
    exact congrArg (fun b => pick b _ 32) ((castIn _ r k).trans (ldP m c t 3 r k _))
set_option maxHeartbeats 40000000 in
theorem rows (r : Fin 16) (k : Fin 2176) : ((outsAt0 m c t).2 : S1x16x2176.Idx → EReal) (ix3 0 r k)
    = Scalar.select (BitVec.ofBool (decide (k.val < 2064))) (pick (V m c main_v153 (ix2 r k)) (col (m ⟨c, main_arg0⟩) (hd t)) 32) far := by
  unfold outsAt0
  frame_out
  refine (pay1_at _ _ r k).trans ?_
  refine congrArg₂ (fun a x => Scalar.select a x far) (pay49_at r k) ?_
  refine Eq.trans (pick32 _ (col (m ⟨c, main_arg0⟩) (hd t)) _ _ _ _ _ _ _ _ _ _ _ _ _ _ _ _ _ _ _ _ _ _ _ _ _ _ _ _ _ _ _ _
      (ldT m c t 0 (by decide) (off1 t))
      (ldT m c t 1 (by decide) (off2 t))
      (ldT m c t 2 (by decide) (off3 t))
      (ldT m c t 3 (by decide) (off4 t))
      (ldT m c t 4 (by decide) (off5 t))
      (ldT m c t 5 (by decide) (off6 t))
      (ldT m c t 6 (by decide) (off7 t))
      (ldT m c t 7 (by decide) (off8 t))
      (ldT m c t 8 (by decide) (off9 t))
      (ldT m c t 9 (by decide) (off10 t))
      (ldT m c t 10 (by decide) (off11 t))
      (ldT m c t 11 (by decide) (off12 t))
      (ldT m c t 12 (by decide) (off13 t))
      (ldT m c t 13 (by decide) (off14 t))
      (ldT m c t 14 (by decide) (off15 t))
      (ldT m c t 15 (by decide) (off16 t))
      (ldT m c t 16 (by decide) (off17 t))
      (ldT m c t 17 (by decide) (off18 t))
      (ldT m c t 18 (by decide) (off19 t))
      (ldT m c t 19 (by decide) (off20 t))
      (ldT m c t 20 (by decide) (off21 t))
      (ldT m c t 21 (by decide) (off22 t))
      (ldT m c t 22 (by decide) (off23 t))
      (ldT m c t 23 (by decide) (off24 t))
      (ldT m c t 24 (by decide) (off25 t))
      (ldT m c t 25 (by decide) (off26 t))
      (ldT m c t 26 (by decide) (off27 t))
      (ldT m c t 27 (by decide) (off28 t))
      (ldT m c t 28 (by decide) (off29 t))
      (ldT m c t 29 (by decide) (off30 t))
      (ldT m c t 30 (by decide) (off31 t))
      (ldT m c t 31 (by decide) (off32 t))) ?_
  exact congrArg (fun b => pick b _ 32) (Eq.trans (by pointwise [k0_pay50]) (blk2 m c t r k))

end Cert.Kernel9Ideal.Bias
-- ==== Proof.BiasFinal.lean ====
module

public import proofs.«01_k».proof.Proof.BiasSpec
public import proofs.«01_k».proof.Proof.BiasPoint

@[expose] public section

/-!
# The bias kernel: its two results
-/

noncomputable section

namespace Cert.Kernel9Ideal.Bias

open Cert.Kernel9Ideal Cert.Kernel9Ideal.Gen Idealize.ShloMosaic Idealize.ShloMosaic.TcCoe Idealize.SL.Sem
open Idealize.ShloMosaic.Pointwise
open Cert.Bias (bucket pick row row_far bucket_eq pick_eq word word' near tileAt rowAt)

set_option maxRecDepth 16384

/-! ## The row picked -/

theorem pick_row (T : FVec Ideal S32x4 .f32) (h : Fin 4) (z : ℤ) (b : BitVec 32) (hb : b = bucket (BitVec.ofInt 32 z)) (hz : z.natAbs ≤ 4096) :
    pick b (col T h) 32 = T (ix2 (row z) h) := by
  rw [hb, bucket_eq z hz, pick_eq (col T h) 32 (row z).isLt (le_refl _)]
  exact dif_pos (row z).isLt

theorem mid_eq (T : FVec Ideal S32x4 .f32) (h : Fin 4) (s : Fin 5) (r k : Fin 128) (d b : BitVec 32) (hd : d = IntOp.subi (BitVec.ofNat 32 (2 * s.val)) 4#32)
    (hb : b = bucket (BitVec.ofInt 32 (((128 * s.val + k.val : ℕ) : ℤ) - ((256 + r.val : ℕ) : ℤ)))) :
    Scalar.select (IntOp.cmpi .sle (IntOp.subi (IntOp.addi d (k0_pay3 (ix2 r k))) (k0_pay2 (ix2 r k))) 0#32) (pick b (col T h) 32) far
      = tileAt (fun j => T (ix2 j h)) s.val r.val k.val := by
  rw [see_at s d hd, pick_row T h _ b hb (by omega)]
  rfl

theorem first_eq (T : FVec Ideal S32x4 .f32) (h : Fin 4) (r k : Fin 128) : pick (bucket 4294967040#32) (col T h) 32 = tileAt (fun j => T (ix2 j h)) 0 r.val k.val := by
  have e : near 0 r.val k.val = true := decide_eq_true (by omega)
  have f : row (-256) = row (((128 * 0 + k.val : ℕ) : ℤ) - ((256 + r.val : ℕ) : ℤ)) := (row_far (by decide)).trans (row_far (by omega)).symm
  unfold tileAt
  rw [e, pick_row T h (-256) _ (congrArg bucket (by decide : (4294967040#32 : BitVec 32) = BitVec.ofInt 32 (-256))) (by decide), f]
  exact (if_pos rfl).symm

theorem last_eq (w : Fin 32 → EReal) (r k : Fin 128) : far = tileAt w 4 r.val k.val := by
  have e : near 4 r.val k.val = false := decide_eq_false (by omega)
  unfold tileAt
  rw [e]
  exact (if_neg (by decide)).symm

theorem bucket_1 (r k : Fin 128) : bucket (IntOp.subi (IntOp.addi 4294967168#32 (BitVec.ofNat 32 k.val)) (BitVec.ofNat 32 r.val)) = bucket (BitVec.ofInt 32 (((128 * 1 + k.val : ℕ) : ℤ) - ((256 + r.val : ℕ) : ℤ))) := by
  refine congrArg bucket ?_
  have e := word' (-128) k.val r.val
  rw [show BitVec.ofInt 32 (-128) = 4294967168#32 from by decide] at e
  rw [e]
  exact congrArg _ (by omega)

theorem bucket_2 (r k : Fin 128) : bucket (IntOp.subi (IntOp.addi 0#32 (BitVec.ofNat 32 k.val)) (BitVec.ofNat 32 r.val)) = bucket (BitVec.ofInt 32 (((128 * 2 + k.val : ℕ) : ℤ) - ((256 + r.val : ℕ) : ℤ))) := by
  refine congrArg bucket ?_
  have e := word' 0 k.val r.val
  rw [show BitVec.ofInt 32 0 = 0#32 from by decide] at e
  rw [e]
  exact congrArg _ (by omega)

theorem bucket_3 (r k : Fin 128) : bucket (IntOp.subi (IntOp.addi 128#32 (BitVec.ofNat 32 k.val)) (BitVec.ofNat 32 r.val)) = bucket (BitVec.ofInt 32 (((128 * 3 + k.val : ℕ) : ℤ) - ((256 + r.val : ℕ) : ℤ))) := by
  refine congrArg bucket ?_
  have e := word' 128 k.val r.val
  rw [show BitVec.ofInt 32 128 = 128#32 from by decide] at e
  rw [e]
  exact congrArg _ (by omega)

theorem tile_eq (T : FVec Ideal S32x4 .f32) (h : Fin 4) (s : Fin 5) (r k : Fin 128) : tile T h s r k = tileAt (fun j => T (ix2 j h)) s.val r.val k.val := by
  match s with
  | 0 => exact first_eq T h r k
  | 1 => exact mid_eq T h 1 r k 4294967294#32 (bucket (IntOp.subi (IntOp.addi 4294967168#32 (BitVec.ofNat 32 k.val)) (BitVec.ofNat 32 r.val))) (by decide) (bucket_1 r k)
  | 2 => exact mid_eq T h 2 r k 0#32 (bucket (IntOp.subi (IntOp.addi 0#32 (BitVec.ofNat 32 k.val)) (BitVec.ofNat 32 r.val))) (by decide) (bucket_2 r k)
  | 3 => exact mid_eq T h 3 r k 2#32 (bucket (IntOp.subi (IntOp.addi 128#32 (BitVec.ofNat 32 k.val)) (BitVec.ofNat 32 r.val))) (by decide) (bucket_3 r k)
  | 4 => exact last_eq _ r k

/-! ## The arrays -/

variable (m : (ℓ : Loc nD τ sig) → Buf (Elt Ideal) ℓ) (c : Dev nD)

/-- The prompt's tiles. -/
def tilesArr : FVec Ideal S4x5x128x128 .f32 := fun i => tileAt (fun j => (m ⟨c, main_arg0⟩ : FVec Ideal S32x4 .f32) (ix2 j (i 0))) (i 1).val (i 2).val (i 3).val
/-- The sample rows. -/
def rowsArr : FVec Ideal S4x16x2176 .f32 := fun i => rowAt (fun j => (m ⟨c, main_arg0⟩ : FVec Ideal S32x4 .f32) (ix2 j (i 0))) (i 1).val (i 2).val

theorem rows_eq (t : Fin cfg0.N) (r : Fin 16) (k : Fin 2176) : ((outsAt0 m c t).2 : S1x16x2176.Idx → EReal) (ix3 0 r k)
    = rowAt (fun j => (m ⟨c, main_arg0⟩ : FVec Ideal S32x4 .f32) (ix2 j (hd t))) r.val k.val := by
  rw [rows m c t r k, pick_row (m ⟨c, main_arg0⟩) (hd t) ((k.val : ℤ) - ((2048 + r.val : ℕ) : ℤ)) (V m c main_v153 (ix2 r k))
    ((congrFun (bs_eq m c) (ix2 r k)).trans (congrArg bucket (word k.val 2048 r.val))) (by omega)]
  rfl

theorem final3 : (dats m 0 c).arrAt 3 (cfgs 0).N = tilesArr m c := by
  refine (dats m 0 c).arrAt_eq_of_covers 3 _ (by decide +kernel) fun t _ y => ?_
  have e : (((cfg0.win 3).blk t).view.emb y : S4x5x128x128.Idx) = ix4 (hd t) (y 1) (y 2) (y 3) := by blk_ext [idx t]
  rw [e, after0_3]
  have hy0 : (y 0).val < 1 := (y 0).isLt
  have ey : ((cfg0.win 3).xinj (cfg0.grid.coords t) y : S1x5x128x128.Idx) = ix4 0 (y 1) (y 2) (y 3) := by blk_ext []
  refine Eq.trans ?_ ((tiles m c t (ix4 0 (y 1) (y 2) (y 3))).trans (tile_eq (m ⟨c, main_arg0⟩) (hd t) (y 1) (y 2) (y 3)))
  blk_simp
  exact congrArg (outsAt0 m c t).1 ey

theorem final4 : (dats m 0 c).arrAt 4 (cfgs 0).N = rowsArr m c := by
  refine (dats m 0 c).arrAt_eq_of_covers 4 _ (by decide +kernel) fun t _ y => ?_
  have e : (((cfg0.win 4).blk t).view.emb y : S4x16x2176.Idx) = ix3 (hd t) (y 1) (y 2) := by blk_ext [idx t]
  rw [e, after0_4]
  have hy0 : (y 0).val < 1 := (y 0).isLt
  have ey : ((cfg0.win 4).xinj (cfg0.grid.coords t) y : S1x16x2176.Idx) = ix3 0 (y 1) (y 2) := by blk_ext []
  refine Eq.trans ?_ (rows_eq m c t (y 1) (y 2))
  blk_simp
  exact congrArg (outsAt0 m c t).2 ey

end Cert.Kernel9Ideal.Bias
-- ==== Proof.BiasClaim.lean ====
module

public import proofs.«01_k».proof.Defs
public import proofs.«01_k».proof.Proof.BiasRef
public import proofs.«01_k».proof.Proof.BiasFinal
public import proofs.«01_k».proof.Proof.Gen.Kernel9Ideal.Value
public import proofs.«01_k».proof.Proof.Gen.Reference9Ideal.Run

@[expose] public section

/-!
# The relative bias: the value claim
-/

noncomputable section

namespace Cert.BiasClaim

open Idealize.ShloMosaic Idealize.SL.Sem Idealize.ShloMosaic.StableHlo
open Idealize.ShloMosaic.Pointwise

theorem refQuiet : Cert.quiescent_Reference9Ideal := by
  intro m g _
  hlo_run
  all_goals first
    | exact sem_eq_zero_of_no_sems (sig := Cert.Reference9Ideal.sig) (by decide) _
    | exact fun _ => trivial

theorem tiles_eq (m : (ℓ : Loc Cert.Kernel9Ideal.nD Cert.Kernel9Ideal.τ Cert.Kernel9Ideal.sig) → Buf (Elt Ideal) ℓ) (c : Dev Cert.Kernel9Ideal.nD) :
    Cert.Reference9Ideal.Read.val_main_v62 (F := Ideal) (m ((c.tc : Thread Cert.Kernel9Ideal.nD Cert.Kernel9Ideal.τ).loc Cert.Kernel9Ideal.main_arg0))
      = Cert.Kernel9Ideal.Bias.tilesArr m c := by
  funext i
  rw [eq_ix4 i]
  exact Cert.BiasRef.prompt _ _ _ _ _

theorem rows_eq (m : (ℓ : Loc Cert.Kernel9Ideal.nD Cert.Kernel9Ideal.τ Cert.Kernel9Ideal.sig) → Buf (Elt Ideal) ℓ) (c : Dev Cert.Kernel9Ideal.nD) :
    Cert.Reference9Ideal.Read.val_main_v114 (F := Ideal) (m ((c.tc : Thread Cert.Kernel9Ideal.nD Cert.Kernel9Ideal.τ).loc Cert.Kernel9Ideal.main_arg0))
      = Cert.Kernel9Ideal.Bias.rowsArr m c := by
  funext i
  rw [eq_ix3 i]
  exact Cert.BiasRef.sample _ _ _ _

set_option maxHeartbeats 4000000 in
theorem algebraic : Cert.algebraic_Kernel9Ideal_Reference9Ideal := by
  pair_intro
  · run_from Cert.Kernel9Ideal.Value.run_blocks m g
  · run_from Cert.Reference9Ideal.Value.run m' g'
    · have e := Cert.Reference9Ideal.Read.val_main_v62_eq (F := Ideal) (launchContents m' c)
      have a0 : launchContents m' c (Proc.tc.devRef Cert.Reference9Ideal.main_arg0) = m ((c.tc : Thread Cert.Kernel9Ideal.nD Cert.Kernel9Ideal.τ).loc Cert.Kernel9Ideal.main_arg0) := hagree c
      rw [a0] at e
      exact e.trans ((tiles_eq m c).trans (Cert.Kernel9Ideal.Bias.final3 m c).symm)
    · have e := Cert.Reference9Ideal.Read.val_main_v114_eq (F := Ideal) (launchContents m' c)
      have a0 : launchContents m' c (Proc.tc.devRef Cert.Reference9Ideal.main_arg0) = m ((c.tc : Thread Cert.Kernel9Ideal.nD Cert.Kernel9Ideal.τ).loc Cert.Kernel9Ideal.main_arg0) := hagree c
      rw [a0] at e
      exact e.trans ((rows_eq m c).trans (Cert.Kernel9Ideal.Bias.final4 m c).symm)

end Cert.BiasClaim
-- ==== Proof.InProj.lean ====
module

public import proofs.«01_k».proof.Defs
public import proofs.«01_k».proof.Proof.Gen.Kernel2Ideal.Value
public import proofs.«01_k».proof.Proof.Gen.Reference2Ideal.Read
public import Idealize.ShloMosaic.Lib.KernelVsHost
public import Idealize.ShloMosaic.Lib.Pointwise
public import Idealize.ShloMosaic.Lib.Pipeline.ValueKit

@[expose] public section

/-!
# The input projection: every array the kernel writes is the reference's
-/

noncomputable section

namespace Cert.Kernel2Ideal.InProj

open Cert.Kernel2Ideal Cert.Kernel2Ideal.Gen Idealize.ShloMosaic Idealize.ShloMosaic.TcCoe Idealize.SL.Sem
open Idealize.ShloMosaic.Pointwise Cert.Reference2Ideal.Read

set_option maxRecDepth 16384

/-! ## The body's values -/

section Body

variable (x0 : Vec Ideal S512x1024 .f32) (x1 : Vec Ideal S1x1024 .f32) (x2 : Vec Ideal S1024x4736 .bf16)

/-- A row of the normalised block against a column of the block of weights. -/
def dot (r : Fin 512) (j : Fin 4736) : EReal := ∑ k : Fin 1024, k0_pay7 x0 x1 (ix2 r k) * x2 (ix2 k j)

theorem pay12_eq : k0_pay12 x0 x1 x2 = k0_pay7 x0 x1 := by
  unfold k0_pay12
  rw [View.ld_unit_lit _ _ (by decide), View.ld_unit_lit _ _ (by decide)]

theorem out3_at (r : Fin 512) (j : Fin 512) : out0_3 x0 x1 x2 (ix2 r j) = dot x0 x1 x2 r ⟨0 + j.val, by omega⟩ := by
  frame_out
  pointwise [k0_pay8, dot]

theorem out4_at (r : Fin 512) (j : Fin 512) : out0_4 x0 x1 x2 (ix2 r j) = dot x0 x1 x2 r ⟨512 + j.val, by omega⟩ := by
  frame_out
  pointwise [k0_pay9, dot]

theorem out5_at (r : Fin 512) (j : Fin 512) : out0_5 x0 x1 x2 (ix2 r j) = dot x0 x1 x2 r ⟨1024 + j.val, by omega⟩ := by
  frame_out
  pointwise [k0_pay10, dot]

theorem out6_at (r : Fin 512) (j : Fin 512) : out0_6 x0 x1 x2 (ix2 r j) = dot x0 x1 x2 r ⟨1536 + j.val, by omega⟩ := by
  frame_out
  rw [pay12_eq]
  pointwise [k0_pay1, k0_pay11, dot]

theorem out7_at (r : Fin 512) (j : Fin 1024) : out0_7 x0 x1 x2 (ix2 r j) = dot x0 x1 x2 r ⟨2048 + j.val, by omega⟩ := by
  frame_out
  rw [pay12_eq]
  pointwise [k0_pay2, dot]

theorem out8_at (r : Fin 512) (j : Fin 512) : out0_8 x0 x1 x2 (ix2 r j) = dot x0 x1 x2 r ⟨3072 + j.val, by omega⟩ := by
  frame_out
  rw [pay12_eq]
  pointwise [k0_pay3, dot]

theorem out9_at (r : Fin 512) (j : Fin 512) : out0_9 x0 x1 x2 (ix2 r j) = dot x0 x1 x2 r ⟨3584 + j.val, by omega⟩ := by
  frame_out
  rw [pay12_eq]
  pointwise [k0_pay4, dot]

theorem out10_at (r : Fin 512) (j : Fin 512) : out0_10 x0 x1 x2 (ix2 r j) = dot x0 x1 x2 r ⟨4096 + j.val, by omega⟩ := by
  frame_out
  rw [pay12_eq]
  pointwise [k0_pay5, dot]

theorem out11_at (r : Fin 512) (j : Fin 128) : out0_11 x0 x1 x2 (ix2 r j) = dot x0 x1 x2 r ⟨4608 + j.val, by omega⟩ := by
  frame_out
  rw [pay12_eq]
  pointwise [k0_pay6, dot]

end Body

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

theorem V6 : V m c main_v6 = shapeCast S66048x1024 (m ((c : Thread nD τ).loc main_arg0) : FVec Ideal S32x2064x1024 .f32)
    shapeCasts_S32x2064x1024_S66048x1024 := rfl
theorem V7 : V m c main_v7 = shapeCast S1x1024 (m ((c : Thread nD τ).loc main_arg1) : FVec Ideal S1024 .f32)
    shapeCasts_S1024_S1x1024 := rfl

theorem V5 : V m c main_v5 = (truncf .bf16 (concatenate S1024x4736 1 [
    ⟨S1024x3072, extractStridedSlice S1024x3072 ![0, 0] (m ((c : Thread nD τ).loc main_arg2) : FVec Ideal S1024x4616 .f32) slices_S1024x4616_S1024x3072_0_0⟩,
    ⟨S1024x1536, extractStridedSlice S1024x1536 ![0, 3080] (m ((c : Thread nD τ).loc main_arg2) : FVec Ideal S1024x4616 .f32) slices_S1024x4616_S1024x1536_0_3080⟩,
    ⟨S1024x128, pad S1024x128 ![0, 0] ![0, 120] ![0, 0]
      (extractStridedSlice S1024x8 ![0, 3072] (m ((c : Thread nD τ).loc main_arg2) : FVec Ideal S1024x4616 .f32) slices_S1024x4616_S1024x8_0_3072)
      (sitofp .f32 (constantI S_ 32 0#32)) pads_S1024x8_S1024x128_000_01200 h_S_⟩]
    concatenates_S1024x3072_S1024x1536_S1024x128_S1024x4736_d1) bitsLt_bf16_f32 : FVec Ideal S1024x4736 .bf16) := rfl

variable (t : Fin cfg0.N)

theorem lt_row (r : Fin 512) : 512 * t.val + r.val < 66048 := by
  have : t.val < 129 := t.isLt
  omega

/-- The row of the flattened input that row `r` of block `t` holds. -/
def row (r : Fin 512) : Fin 66048 := ⟨512 * t.val + r.val, lt_row t r⟩

theorem blk0 (r : Fin 512) (k : Fin 1024) : iblk m c 0 t (ix2 r k)
    = m ((c : Thread nD τ).loc main_arg0) (ix3 ⟨(row t r).val / 2064, by omega⟩ ⟨(row t r).val % 2064, by omega⟩ k) := by
  show V m c main_v6 (((cfg0.win 0).blk t).view.emb _) = _
  have e : ((cfg0.win 0).blk t).view.emb (ix2 r k) = ix2 (row t r) k := by blk_ext [idx t, row]
  rw [V6, e]
  refine shapeCast_apply _ _ _ _ ?_
  show (S32x2064x1024.rowMajor _).val = _
  rw [Shape.rowMajor_val_three, Shape.rowMajor_val_two]
  show ((row t r).val / 2064 * 2064 + (row t r).val % 2064) * 1024 + k.val = (row t r).val * 1024 + k.val
  omega

theorem blk1 (k : Fin 1024) : iblk m c 1 t (ix2 0 k) = m ((c : Thread nD τ).loc main_arg1) (ix1 k) := by
  show V m c main_v7 (((cfg0.win 1).blk t).view.emb _) = _
  have e : ((cfg0.win 1).blk t).view.emb (ix2 0 k) = ix2 0 k := by blk_ext [idx t]
  rw [V7, e]
  refine shapeCast_apply _ _ _ _ ?_
  show (S1024.rowMajor _).val = _
  rw [Shape.rowMajor_val_one, Shape.rowMajor_val_two]
  show k.val = 0 * 1024 + k.val
  omega

/-- The block of weights is the whole reordered matrix. -/
theorem blk2 (k : Fin 1024) (j : Fin 4736) : iblk m c 2 t (ix2 k j) = V m c main_v5 (ix2 k j) := by
  show V m c main_v5 (((cfg0.win 2).blk t).view.emb _) = _
  have e : ((cfg0.win 2).blk t).view.emb (ix2 k j) = ix2 k j := by blk_ext [idx t]
  rw [e]

section Weights

variable (y0 : FVec Ideal S1024x3072 .f32) (y1 : FVec Ideal S1024x1536 .f32) (y2 : FVec Ideal S1024x128 .f32)

theorem cat_low (k : Fin 1024) (j : Fin 3072) : concatenate S1024x4736 1 [⟨S1024x3072, y0⟩, ⟨S1024x1536, y1⟩, ⟨S1024x128, y2⟩]
    concatenates_S1024x3072_S1024x1536_S1024x128_S1024x4736_d1 (ix2 k ⟨j.val, by omega⟩) = y0 (ix2 k j) := by
  refine concatenate_apply_piece (t := S1024x4736) 1 [⟨S1024x3072, y0⟩, ⟨S1024x1536, y1⟩, ⟨S1024x128, y2⟩]
    concatenates_S1024x3072_S1024x1536_S1024x128_S1024x4736_d1 (ix2 k ⟨j.val, by omega⟩) 0 (by show 0 < 3; omega) _ y0 rfl rfl 0 rfl
    (ix2 k j) ?_ ?_
  · intro b hb
    fin_cases b
    · rfl
    · exact absurd rfl hb
  · show 0 + j.val = j.val
    omega

theorem cat_mid (k : Fin 1024) (j : Fin 1536) : concatenate S1024x4736 1 [⟨S1024x3072, y0⟩, ⟨S1024x1536, y1⟩, ⟨S1024x128, y2⟩]
    concatenates_S1024x3072_S1024x1536_S1024x128_S1024x4736_d1 (ix2 k ⟨3072 + j.val, by omega⟩) = y1 (ix2 k j) := by
  refine concatenate_apply_piece (t := S1024x4736) 1 [⟨S1024x3072, y0⟩, ⟨S1024x1536, y1⟩, ⟨S1024x128, y2⟩]
    concatenates_S1024x3072_S1024x1536_S1024x128_S1024x4736_d1 (ix2 k ⟨3072 + j.val, by omega⟩) 1 (by show 1 < 3; omega) _ y1 rfl rfl 3072 rfl
    (ix2 k j) ?_ ?_
  · intro b hb
    fin_cases b
    · rfl
    · exact absurd rfl hb
  · show 3072 + j.val = 3072 + j.val
    omega

theorem cat_high (k : Fin 1024) (j : Fin 128) : concatenate S1024x4736 1 [⟨S1024x3072, y0⟩, ⟨S1024x1536, y1⟩, ⟨S1024x128, y2⟩]
    concatenates_S1024x3072_S1024x1536_S1024x128_S1024x4736_d1 (ix2 k ⟨4608 + j.val, by omega⟩) = y2 (ix2 k j) := by
  refine concatenate_apply_piece (t := S1024x4736) 1 [⟨S1024x3072, y0⟩, ⟨S1024x1536, y1⟩, ⟨S1024x128, y2⟩]
    concatenates_S1024x3072_S1024x1536_S1024x128_S1024x4736_d1 (ix2 k ⟨4608 + j.val, by omega⟩) 2 (by show 2 < 3; omega) _ y2 rfl rfl 4608 rfl
    (ix2 k j) ?_ ?_
  · intro b hb
    fin_cases b
    · rfl
    · exact absurd rfl hb
  · show 4608 + j.val = 4608 + j.val
    omega

end Weights

theorem w_low (k : Fin 1024) (j : Fin 3072) : V m c main_v5 (ix2 k ⟨j.val, by omega⟩)
    = m ((c : Thread nD τ).loc main_arg2) (ix2 k ⟨j.val, by omega⟩) := by
  rw [V5]
  refine (cat_low _ _ _ k j).trans ?_
  pointwise

theorem w_mid (k : Fin 1024) (j : Fin 1536) : V m c main_v5 (ix2 k ⟨3072 + j.val, by omega⟩)
    = m ((c : Thread nD τ).loc main_arg2) (ix2 k ⟨3080 + j.val, by omega⟩) := by
  rw [V5]
  refine (cat_mid _ _ _ k j).trans ?_
  pointwise

theorem zero_of_int : (FloatOps.sitofp .f32 (0#32) : Ideal .f32) = (0 : EReal) := by
  show (((0#32 : BitVec 32).toInt : ℝ) : EReal) = 0
  simp

theorem w_high (k : Fin 1024) (j : Fin 128) : V m c main_v5 (ix2 k ⟨4608 + j.val, by omega⟩)
    = if h : j.val < 8 then m ((c : Thread nD τ).loc main_arg2) (ix2 k ⟨3072 + j.val, by omega⟩) else (0 : EReal) := by
  rw [V5]
  refine (cat_high _ _ _ k j).trans ?_
  by_cases h : j.val < 8
  · rw [dif_pos h]
    refine (pad_apply_of_inside _ _ _ _ _ _ _ _ (ix2 k ⟨j.val, h⟩) ?_).trans ?_
    · intro a; fin_cases a
      · show k.val = 0 + k.val * (0 + 1); omega
      · show j.val = 0 + j.val * (0 + 1); omega
    · pointwise
  · rw [dif_neg h]
    refine (pad_apply_of_not_inside _ _ _ _ _ _ _ _ (1 : Fin 2) ?_).trans ?_
    · rintro ⟨-, -, h3⟩
      exact h (by have h4 : (j.val - 0) / (0 + 1) < 8 := h3; omega)
    · exact zero_of_int

/-! ## The arrays -/

/-- The body's normalised rows are the reference's. -/
theorem norm_at (r : Fin 512) (k : Fin 1024) : k0_pay7 (iblk m c 0 t) (iblk m c 1 t) (ix2 r k)
    = val_main_v12 (F := Ideal) (m ((c : Thread nD τ).loc main_arg0)) (m ((c : Thread nD τ).loc main_arg1))
      (ix3 ⟨(row t r).val / 2064, by omega⟩ ⟨(row t r).val % 2064, by omega⟩ k) := by
  pointwise [k0_pay7, val_main_v0, val_main_v1, val_main_cst, val_main_v2, val_main_v3, val_main_cst_0, val_main_v4, val_main_v5, val_main_cst_1, val_main_v6, val_main_v7, val_main_v8, val_main_v9, val_main_v10, val_main_v11, val_main_v12]
  simp only [blk0, blk1]

/-- The reference's product at a row of the flattened result. -/
def proj (i : Fin 66048) (j : Fin 4616) : EReal :=
  val_main_v13 (F := Ideal) (m ((c : Thread nD τ).loc main_arg0)) (m ((c : Thread nD τ).loc main_arg1))
    (m ((c : Thread nD τ).loc main_arg2)) (ix3 ⟨i.val / 2064, by omega⟩ ⟨i.val % 2064, by omega⟩ j)

theorem proj_sum (i : Fin 66048) (j : Fin 4616) : proj m c i j = ∑ k : Fin 1024,
    val_main_v12 (F := Ideal) (m ((c : Thread nD τ).loc main_arg0)) (m ((c : Thread nD τ).loc main_arg1))
      (ix3 ⟨i.val / 2064, by omega⟩ ⟨i.val % 2064, by omega⟩ k) * m ((c : Thread nD τ).loc main_arg2) (ix2 k j) := by
  unfold proj
  rw [val_main_v13_apply]
  refine Finset.sum_congr rfl fun k _ => ?_
  congr 2 <;> (funext a; fin_cases a <;> rfl)

theorem dot_low (r : Fin 512) (j : Fin 3072) : dot (iblk m c 0 t) (iblk m c 1 t) (iblk m c 2 t) r ⟨j.val, by omega⟩
    = proj m c (row t r) ⟨j.val, by omega⟩ := by
  rw [proj_sum]
  unfold dot
  refine Finset.sum_congr rfl fun k _ => ?_
  rw [norm_at, blk2, w_low]

theorem dot_mid (r : Fin 512) (j : Fin 1536) : dot (iblk m c 0 t) (iblk m c 1 t) (iblk m c 2 t) r ⟨3072 + j.val, by omega⟩
    = proj m c (row t r) ⟨3080 + j.val, by omega⟩ := by
  rw [proj_sum]
  unfold dot
  refine Finset.sum_congr rfl fun k _ => ?_
  rw [norm_at, blk2, w_mid]

theorem dot_high (r : Fin 512) (j : Fin 128) : dot (iblk m c 0 t) (iblk m c 1 t) (iblk m c 2 t) r ⟨4608 + j.val, by omega⟩
    = if h : j.val < 8 then proj m c (row t r) ⟨3072 + j.val, by omega⟩ else 0 := by
  unfold dot
  by_cases h : j.val < 8
  · rw [dif_pos h, proj_sum]
    refine Finset.sum_congr rfl fun k _ => ?_
    rw [norm_at, blk2, w_high, dif_pos h]
  · rw [dif_neg h]
    refine Finset.sum_eq_zero fun k _ => ?_
    rw [blk2, w_high, dif_neg h]
    exact mul_zero (M₀ := EReal) _

theorem ref3 (i : Fin 66048) (j : Fin 512) : val_main_v24 (F := Ideal) (m ((c : Thread nD τ).loc main_arg0)) (m ((c : Thread nD τ).loc main_arg1)) (m ((c : Thread nD τ).loc main_arg2)) (ix2 i j)
    = proj m c i ⟨0 + j.val, by omega⟩ := by
  show val_main_v23 (F := Ideal) (m ((c : Thread nD τ).loc main_arg0)) (m ((c : Thread nD τ).loc main_arg1)) (m ((c : Thread nD τ).loc main_arg2)) (ix2 i j) = _
  rw [val_main_v23_apply, val_main_v14_apply]
  unfold proj
  congr 1
  funext a
  apply Fin.ext
  fin_cases a
  · show (i.val * 512 + j.val) / 1056768 = i.val / 2064
    omega
  · show (i.val * 512 + j.val) / 512 % 2064 = i.val % 2064
    omega
  · show (i.val * 512 + j.val) % 512 = 0 + j.val
    omega

theorem ref4 (i : Fin 66048) (j : Fin 512) : val_main_v25 (F := Ideal) (m ((c : Thread nD τ).loc main_arg0)) (m ((c : Thread nD τ).loc main_arg1)) (m ((c : Thread nD τ).loc main_arg2)) (ix2 i j)
    = proj m c i ⟨512 + j.val, by omega⟩ := by
  rw [val_main_v25_apply, val_main_v15_apply]
  unfold proj
  congr 1
  funext a
  apply Fin.ext
  fin_cases a
  · show (i.val * 512 + j.val) / 1056768 = i.val / 2064
    omega
  · show (i.val * 512 + j.val) / 512 % 2064 = i.val % 2064
    omega
  · show 512 + (i.val * 512 + j.val) % 512 = 512 + j.val
    omega

theorem ref5 (i : Fin 66048) (j : Fin 512) : val_main_v26 (F := Ideal) (m ((c : Thread nD τ).loc main_arg0)) (m ((c : Thread nD τ).loc main_arg1)) (m ((c : Thread nD τ).loc main_arg2)) (ix2 i j)
    = proj m c i ⟨1024 + j.val, by omega⟩ := by
  rw [val_main_v26_apply, val_main_v16_apply]
  unfold proj
  congr 1
  funext a
  apply Fin.ext
  fin_cases a
  · show (i.val * 512 + j.val) / 1056768 = i.val / 2064
    omega
  · show (i.val * 512 + j.val) / 512 % 2064 = i.val % 2064
    omega
  · show 1024 + (i.val * 512 + j.val) % 512 = 1024 + j.val
    omega

theorem ref6 (i : Fin 66048) (j : Fin 512) : val_main_v27 (F := Ideal) (m ((c : Thread nD τ).loc main_arg0)) (m ((c : Thread nD τ).loc main_arg1)) (m ((c : Thread nD τ).loc main_arg2)) (ix2 i j)
    = proj m c i ⟨1536 + j.val, by omega⟩ := by
  rw [val_main_v27_apply, val_main_v17_apply]
  unfold proj
  congr 1
  funext a
  apply Fin.ext
  fin_cases a
  · show (i.val * 512 + j.val) / 1056768 = i.val / 2064
    omega
  · show (i.val * 512 + j.val) / 512 % 2064 = i.val % 2064
    omega
  · show 1536 + (i.val * 512 + j.val) % 512 = 1536 + j.val
    omega

theorem ref7 (i : Fin 66048) (j : Fin 1024) : val_main_v28 (F := Ideal) (m ((c : Thread nD τ).loc main_arg0)) (m ((c : Thread nD τ).loc main_arg1)) (m ((c : Thread nD τ).loc main_arg2)) (ix2 i j)
    = proj m c i ⟨2048 + j.val, by omega⟩ := by
  rw [val_main_v28_apply, val_main_v18_apply]
  unfold proj
  congr 1
  funext a
  apply Fin.ext
  fin_cases a
  · show (i.val * 1024 + j.val) / 2113536 = i.val / 2064
    omega
  · show (i.val * 1024 + j.val) / 1024 % 2064 = i.val % 2064
    omega
  · show 2048 + (i.val * 1024 + j.val) % 1024 = 2048 + j.val
    omega

theorem ref8 (i : Fin 66048) (j : Fin 512) : val_main_v30 (F := Ideal) (m ((c : Thread nD τ).loc main_arg0)) (m ((c : Thread nD τ).loc main_arg1)) (m ((c : Thread nD τ).loc main_arg2)) (ix2 i j)
    = proj m c i ⟨3080 + j.val, by omega⟩ := by
  show val_main_v29 (F := Ideal) (m ((c : Thread nD τ).loc main_arg0)) (m ((c : Thread nD τ).loc main_arg1)) (m ((c : Thread nD τ).loc main_arg2)) (ix2 i j) = _
  rw [val_main_v29_apply, val_main_v20_apply]
  unfold proj
  congr 1
  funext a
  apply Fin.ext
  fin_cases a
  · show (i.val * 512 + j.val) / 1056768 = i.val / 2064
    omega
  · show (i.val * 512 + j.val) / 512 % 2064 = i.val % 2064
    omega
  · show 3080 + (i.val * 512 + j.val) % 512 = 3080 + j.val
    omega

theorem ref9 (i : Fin 66048) (j : Fin 512) : val_main_v31 (F := Ideal) (m ((c : Thread nD τ).loc main_arg0)) (m ((c : Thread nD τ).loc main_arg1)) (m ((c : Thread nD τ).loc main_arg2)) (ix2 i j)
    = proj m c i ⟨3592 + j.val, by omega⟩ := by
  rw [val_main_v31_apply, val_main_v21_apply]
  unfold proj
  congr 1
  funext a
  apply Fin.ext
  fin_cases a
  · show (i.val * 512 + j.val) / 1056768 = i.val / 2064
    omega
  · show (i.val * 512 + j.val) / 512 % 2064 = i.val % 2064
    omega
  · show 3592 + (i.val * 512 + j.val) % 512 = 3592 + j.val
    omega

theorem ref10 (i : Fin 66048) (j : Fin 512) : val_main_v32 (F := Ideal) (m ((c : Thread nD τ).loc main_arg0)) (m ((c : Thread nD τ).loc main_arg1)) (m ((c : Thread nD τ).loc main_arg2)) (ix2 i j)
    = proj m c i ⟨4104 + j.val, by omega⟩ := by
  rw [val_main_v32_apply, val_main_v22_apply]
  unfold proj
  congr 1
  funext a
  apply Fin.ext
  fin_cases a
  · show (i.val * 512 + j.val) / 1056768 = i.val / 2064
    omega
  · show (i.val * 512 + j.val) / 512 % 2064 = i.val % 2064
    omega
  · show 4104 + (i.val * 512 + j.val) % 512 = 4104 + j.val
    omega

theorem ref11 (i : Fin 66048) (j : Fin 128) : val_main_v34 (F := Ideal) (m ((c : Thread nD τ).loc main_arg0)) (m ((c : Thread nD τ).loc main_arg1)) (m ((c : Thread nD τ).loc main_arg2)) (ix2 i j)
    = if h : j.val < 8 then proj m c i ⟨3072 + j.val, by omega⟩ else 0 := by
  by_cases h : j.val < 8
  · rw [dif_pos h]
    refine (pad_apply_of_inside _ _ _ _ _ _ _ _ (ix2 i ⟨j.val, h⟩) ?_).trans ?_
    · intro a; fin_cases a
      · show i.val = 0 + i.val * (0 + 1); omega
      · show j.val = 0 + j.val * (0 + 1); omega
    rw [val_main_v33_apply, val_main_v19_apply]
    unfold proj
    congr 1
    funext a
    apply Fin.ext
    fin_cases a
    · show (i.val * 8 + j.val) / 16512 = i.val / 2064
      omega
    · show (i.val * 8 + j.val) / 8 % 2064 = i.val % 2064
      omega
    · show 3072 + (i.val * 8 + j.val) % 8 = 3072 + j.val
      omega
  · rw [dif_neg h]
    refine (pad_apply_of_not_inside _ _ _ _ _ _ _ _ (1 : Fin 2) ?_).trans ?_
    · rintro ⟨-, -, h3⟩
      exact h (by have h4 : (j.val - 0) / (0 + 1) < 8 := h3; omega)
    · exact zero_of_int

theorem point3 (r : Fin 512) (j : Fin 512) : out0_3 (iblk m c 0 t) (iblk m c 1 t) (iblk m c 2 t) (ix2 r j)
    = val_main_v24 (F := Ideal) (m ((c : Thread nD τ).loc main_arg0)) (m ((c : Thread nD τ).loc main_arg1)) (m ((c : Thread nD τ).loc main_arg2)) (ix2 (row t r) j) :=
  (out3_at (iblk m c 0 t) (iblk m c 1 t) (iblk m c 2 t) r j).trans <|
  (dot_low m c t r ⟨0 + j.val, by omega⟩).trans (ref3 m c (row t r) j).symm

theorem final3 : (dats m 0 c).arrAt 3 cfg0.N = val_main_v24 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have e : (((cfg0.win 3).blk t).view.emb y : (⟨2, ![66048, 512]⟩ : Shape).Idx) = ix2 (row t (y 0)) (y 1) := by
    blk_ext [idx t, row]
  have ey : ((cfg0.win 3).xinj (cfg0.grid.coords t) y : (⟨2, ![512, 512]⟩ : Shape).Idx) = ix2 (y 0) (y 1) := by
    blk_ext []
  rw [e, after0_3]
  refine Eq.trans ?_ (point3 m c t (y 0) (y 1))
  blk_simp
  exact congrArg (out0_3 (F := Ideal) _ _ _) ey

theorem point4 (r : Fin 512) (j : Fin 512) : out0_4 (iblk m c 0 t) (iblk m c 1 t) (iblk m c 2 t) (ix2 r j)
    = val_main_v25 (F := Ideal) (m ((c : Thread nD τ).loc main_arg0)) (m ((c : Thread nD τ).loc main_arg1)) (m ((c : Thread nD τ).loc main_arg2)) (ix2 (row t r) j) :=
  (out4_at (iblk m c 0 t) (iblk m c 1 t) (iblk m c 2 t) r j).trans <|
  (dot_low m c t r ⟨512 + j.val, by omega⟩).trans (ref4 m c (row t r) j).symm

theorem final4 : (dats m 0 c).arrAt 4 cfg0.N = val_main_v25 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have e : (((cfg0.win 4).blk t).view.emb y : (⟨2, ![66048, 512]⟩ : Shape).Idx) = ix2 (row t (y 0)) (y 1) := by
    blk_ext [idx t, row]
  have ey : ((cfg0.win 4).xinj (cfg0.grid.coords t) y : (⟨2, ![512, 512]⟩ : Shape).Idx) = ix2 (y 0) (y 1) := by
    blk_ext []
  rw [e, after0_4]
  refine Eq.trans ?_ (point4 m c t (y 0) (y 1))
  blk_simp
  exact congrArg (out0_4 (F := Ideal) _ _ _) ey

theorem point5 (r : Fin 512) (j : Fin 512) : out0_5 (iblk m c 0 t) (iblk m c 1 t) (iblk m c 2 t) (ix2 r j)
    = val_main_v26 (F := Ideal) (m ((c : Thread nD τ).loc main_arg0)) (m ((c : Thread nD τ).loc main_arg1)) (m ((c : Thread nD τ).loc main_arg2)) (ix2 (row t r) j) :=
  (out5_at (iblk m c 0 t) (iblk m c 1 t) (iblk m c 2 t) r j).trans <|
  (dot_low m c t r ⟨1024 + j.val, by omega⟩).trans (ref5 m c (row t r) j).symm

theorem final5 : (dats m 0 c).arrAt 5 cfg0.N = val_main_v26 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  have e : (((cfg0.win 5).blk t).view.emb y : (⟨2, ![66048, 512]⟩ : Shape).Idx) = ix2 (row t (y 0)) (y 1) := by
    blk_ext [idx t, row]
  have ey : ((cfg0.win 5).xinj (cfg0.grid.coords t) y : (⟨2, ![512, 512]⟩ : Shape).Idx) = ix2 (y 0) (y 1) := by
    blk_ext []
  rw [e, after0_5]
  refine Eq.trans ?_ (point5 m c t (y 0) (y 1))
  blk_simp
  exact congrArg (out0_5 (F := Ideal) _ _ _) ey

theorem point6 (r : Fin 512) (j : Fin 512) : out0_6 (iblk m c 0 t) (iblk m c 1 t) (iblk m c 2 t) (ix2 r j)
    = val_main_v27 (F := Ideal) (m ((c : Thread nD τ).loc main_arg0)) (m ((c : Thread nD τ).loc main_arg1)) (m ((c : Thread nD τ).loc main_arg2)) (ix2 (row t r) j) :=
  (out6_at (iblk m c 0 t) (iblk m c 1 t) (iblk m c 2 t) r j).trans <|
  (dot_low m c t r ⟨1536 + j.val, by omega⟩).trans (ref6 m c (row t r) j).symm

theorem final6 : (dats m 0 c).arrAt 6 cfg0.N = val_main_v27 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  have e : (((cfg0.win 6).blk t).view.emb y : (⟨2, ![66048, 512]⟩ : Shape).Idx) = ix2 (row t (y 0)) (y 1) := by
    blk_ext [idx t, row]
  have ey : ((cfg0.win 6).xinj (cfg0.grid.coords t) y : (⟨2, ![512, 512]⟩ : Shape).Idx) = ix2 (y 0) (y 1) := by
    blk_ext []
  rw [e, after0_6]
  refine Eq.trans ?_ (point6 m c t (y 0) (y 1))
  blk_simp
  exact congrArg (out0_6 (F := Ideal) _ _ _) ey

theorem point7 (r : Fin 512) (j : Fin 1024) : out0_7 (iblk m c 0 t) (iblk m c 1 t) (iblk m c 2 t) (ix2 r j)
    = val_main_v28 (F := Ideal) (m ((c : Thread nD τ).loc main_arg0)) (m ((c : Thread nD τ).loc main_arg1)) (m ((c : Thread nD τ).loc main_arg2)) (ix2 (row t r) j) :=
  (out7_at (iblk m c 0 t) (iblk m c 1 t) (iblk m c 2 t) r j).trans <|
  (dot_low m c t r ⟨2048 + j.val, by omega⟩).trans (ref7 m c (row t r) j).symm

theorem final7 : (dats m 0 c).arrAt 7 cfg0.N = val_main_v28 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  have e : (((cfg0.win 7).blk t).view.emb y : (⟨2, ![66048, 1024]⟩ : Shape).Idx) = ix2 (row t (y 0)) (y 1) := by
    blk_ext [idx t, row]
  have ey : ((cfg0.win 7).xinj (cfg0.grid.coords t) y : (⟨2, ![512, 1024]⟩ : Shape).Idx) = ix2 (y 0) (y 1) := by
    blk_ext []
  rw [e, after0_7]
  refine Eq.trans ?_ (point7 m c t (y 0) (y 1))
  blk_simp
  exact congrArg (out0_7 (F := Ideal) _ _ _) ey

theorem dot_eq (r : Fin 512) {j j' : Fin 4736} (h : j.val = j'.val) : dot (iblk m c 0 t) (iblk m c 1 t) (iblk m c 2 t) r j
    = dot (iblk m c 0 t) (iblk m c 1 t) (iblk m c 2 t) r j' := congrArg _ (Fin.ext h)

theorem proj_eq (i : Fin 66048) {j j' : Fin 4616} (h : j.val = j'.val) : proj m c i j = proj m c i j' := congrArg _ (Fin.ext h)

theorem point8 (r : Fin 512) (j : Fin 512) : out0_8 (iblk m c 0 t) (iblk m c 1 t) (iblk m c 2 t) (ix2 r j)
    = val_main_v30 (F := Ideal) (m ((c : Thread nD τ).loc main_arg0)) (m ((c : Thread nD τ).loc main_arg1)) (m ((c : Thread nD τ).loc main_arg2)) (ix2 (row t r) j) :=
  (out8_at (iblk m c 0 t) (iblk m c 1 t) (iblk m c 2 t) r j).trans <|
  (dot_eq m c t r (j' := ⟨3072 + (0 + j.val), by omega⟩) (by show 3072 + j.val = 3072 + (0 + j.val); omega)).trans
    ((dot_mid m c t r ⟨0 + j.val, by omega⟩).trans ((proj_eq m c _ (by show 3080 + (0 + j.val) = 3080 + j.val; omega)).trans
      (ref8 m c (row t r) j).symm))

theorem final8 : (dats m 0 c).arrAt 8 cfg0.N = val_main_v30 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  have e : (((cfg0.win 8).blk t).view.emb y : (⟨2, ![66048, 512]⟩ : Shape).Idx) = ix2 (row t (y 0)) (y 1) := by
    blk_ext [idx t, row]
  have ey : ((cfg0.win 8).xinj (cfg0.grid.coords t) y : (⟨2, ![512, 512]⟩ : Shape).Idx) = ix2 (y 0) (y 1) := by
    blk_ext []
  rw [e, after0_8]
  refine Eq.trans ?_ (point8 m c t (y 0) (y 1))
  blk_simp
  exact congrArg (out0_8 (F := Ideal) _ _ _) ey

theorem point9 (r : Fin 512) (j : Fin 512) : out0_9 (iblk m c 0 t) (iblk m c 1 t) (iblk m c 2 t) (ix2 r j)
    = val_main_v31 (F := Ideal) (m ((c : Thread nD τ).loc main_arg0)) (m ((c : Thread nD τ).loc main_arg1)) (m ((c : Thread nD τ).loc main_arg2)) (ix2 (row t r) j) :=
  (out9_at (iblk m c 0 t) (iblk m c 1 t) (iblk m c 2 t) r j).trans <|
  (dot_eq m c t r (j' := ⟨3072 + (512 + j.val), by omega⟩) (by show 3584 + j.val = 3072 + (512 + j.val); omega)).trans
    ((dot_mid m c t r ⟨512 + j.val, by omega⟩).trans ((proj_eq m c _ (by show 3080 + (512 + j.val) = 3592 + j.val; omega)).trans
      (ref9 m c (row t r) j).symm))

theorem final9 : (dats m 0 c).arrAt 9 cfg0.N = val_main_v31 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  have e : (((cfg0.win 9).blk t).view.emb y : (⟨2, ![66048, 512]⟩ : Shape).Idx) = ix2 (row t (y 0)) (y 1) := by
    blk_ext [idx t, row]
  have ey : ((cfg0.win 9).xinj (cfg0.grid.coords t) y : (⟨2, ![512, 512]⟩ : Shape).Idx) = ix2 (y 0) (y 1) := by
    blk_ext []
  rw [e, after0_9]
  refine Eq.trans ?_ (point9 m c t (y 0) (y 1))
  blk_simp
  exact congrArg (out0_9 (F := Ideal) _ _ _) ey

theorem point10 (r : Fin 512) (j : Fin 512) : out0_10 (iblk m c 0 t) (iblk m c 1 t) (iblk m c 2 t) (ix2 r j)
    = val_main_v32 (F := Ideal) (m ((c : Thread nD τ).loc main_arg0)) (m ((c : Thread nD τ).loc main_arg1)) (m ((c : Thread nD τ).loc main_arg2)) (ix2 (row t r) j) :=
  (out10_at (iblk m c 0 t) (iblk m c 1 t) (iblk m c 2 t) r j).trans <|
  (dot_eq m c t r (j' := ⟨3072 + (1024 + j.val), by omega⟩) (by show 4096 + j.val = 3072 + (1024 + j.val); omega)).trans
    ((dot_mid m c t r ⟨1024 + j.val, by omega⟩).trans ((proj_eq m c _ (by show 3080 + (1024 + j.val) = 4104 + j.val; omega)).trans
      (ref10 m c (row t r) j).symm))

theorem final10 : (dats m 0 c).arrAt 10 cfg0.N = val_main_v32 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  have e : (((cfg0.win 10).blk t).view.emb y : (⟨2, ![66048, 512]⟩ : Shape).Idx) = ix2 (row t (y 0)) (y 1) := by
    blk_ext [idx t, row]
  have ey : ((cfg0.win 10).xinj (cfg0.grid.coords t) y : (⟨2, ![512, 512]⟩ : Shape).Idx) = ix2 (y 0) (y 1) := by
    blk_ext []
  rw [e, after0_10]
  refine Eq.trans ?_ (point10 m c t (y 0) (y 1))
  blk_simp
  exact congrArg (out0_10 (F := Ideal) _ _ _) ey

theorem point11 (r : Fin 512) (j : Fin 128) : out0_11 (iblk m c 0 t) (iblk m c 1 t) (iblk m c 2 t) (ix2 r j)
    = val_main_v34 (F := Ideal) (m ((c : Thread nD τ).loc main_arg0)) (m ((c : Thread nD τ).loc main_arg1)) (m ((c : Thread nD τ).loc main_arg2)) (ix2 (row t r) j) :=
  (out11_at (iblk m c 0 t) (iblk m c 1 t) (iblk m c 2 t) r j).trans <|
  (dot_high m c t r j).trans (ref11 m c (row t r) j).symm

theorem final11 : (dats m 0 c).arrAt 11 cfg0.N = val_main_v34 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  have e : (((cfg0.win 11).blk t).view.emb y : (⟨2, ![66048, 128]⟩ : Shape).Idx) = ix2 (row t (y 0)) (y 1) := by
    blk_ext [idx t, row]
  have ey : ((cfg0.win 11).xinj (cfg0.grid.coords t) y : (⟨2, ![512, 128]⟩ : Shape).Idx) = ix2 (y 0) (y 1) := by
    blk_ext []
  rw [e, after0_11]
  refine Eq.trans ?_ (point11 m c t (y 0) (y 1))
  blk_simp
  exact congrArg (out0_11 (F := Ideal) _ _ _) ey

end Cert.Kernel2Ideal.InProj

namespace Cert.InProjClaim

open Idealize.ShloMosaic Idealize.SL.Sem

theorem refQuiet : Cert.quiescent_Reference2Ideal := by
  intro m g _
  hlo_run
  all_goals first
    | exact sem_eq_zero_of_no_sems (sig := Cert.Reference2Ideal.sig) (by decide) _
    | exact fun _ => ⟨trivial, trivial, trivial⟩

theorem algebraic : Cert.algebraic_Kernel2Ideal_Reference2Ideal := by
  pair_intro
  · run_from Cert.Kernel2Ideal.Value.run_blocks m g
  · run_from Cert.Reference2Ideal.Value.run m' g'
    · rw [Cert.Kernel2Ideal.InProj.final3 m c]
      exact Cert.Reference2Ideal.Read.val_main_v24_eq _ _ _
    · rw [Cert.Kernel2Ideal.InProj.final4 m c]
      exact Cert.Reference2Ideal.Read.val_main_v25_eq _ _ _
    · rw [Cert.Kernel2Ideal.InProj.final5 m c]
      exact Cert.Reference2Ideal.Read.val_main_v26_eq _ _ _
    · rw [Cert.Kernel2Ideal.InProj.final6 m c]
      exact Cert.Reference2Ideal.Read.val_main_v27_eq _ _ _
    · rw [Cert.Kernel2Ideal.InProj.final7 m c]
      exact Cert.Reference2Ideal.Read.val_main_v28_eq _ _ _
    · rw [Cert.Kernel2Ideal.InProj.final8 m c]
      exact Cert.Reference2Ideal.Read.val_main_v30_eq _ _ _
    · rw [Cert.Kernel2Ideal.InProj.final9 m c]
      exact Cert.Reference2Ideal.Read.val_main_v31_eq _ _ _
    · rw [Cert.Kernel2Ideal.InProj.final10 m c]
      exact Cert.Reference2Ideal.Read.val_main_v32_eq _ _ _
    · rw [Cert.Kernel2Ideal.InProj.final11 m c]
      exact Cert.Reference2Ideal.Read.val_main_v34_eq _ _ _

end Cert.InProjClaim
-- ==== Proof.OutFfn.lean ====
module

public import proofs.«01_k».proof.Defs
public import proofs.«01_k».proof.Proof.Gen.Kernel3Ideal.Value
public import Idealize.ShloMosaic.Lib.KernelVsHost
public import Idealize.ShloMosaic.Lib.Pointwise
public import Idealize.ShloMosaic.Lib.Pipeline.ValueKit
public import Idealize.ShloMosaic.Lib.Pipeline.ReadBack

@[expose] public section

/-!
# The output projection and feed-forward kernel: the values one grid point writes
-/

noncomputable section

namespace Cert.Kernel3Ideal.OutFfn

open Cert.Kernel3Ideal Cert.Kernel3Ideal.Gen Idealize.ShloMosaic Idealize.ShloMosaic.TcCoe Idealize.SL.Sem
open Idealize.ShloMosaic.Pointwise

set_option maxRecDepth 16384

/-! ## One chunk of 256 columns -/

section Chunk

variable (h2 : FVec Ideal S688x1024 .bf16) (xg xu : Vec Ideal S1024x256 .bf16) (hc : Vec Ideal S1x8x256 .f32)
  (w2 b w1 w0 : Vec Ideal S1x256 .f32)

/-- Row numbers of a group of eight rows. -/
abbrev rowNo : IVec S8x256 32 := iota .tc S8x256 32 [0] iota_S8x256_d0_w32

/-- The gated columns of a chunk. -/
abbrev chunk : FVec Ideal S688x256 .bf16 :=
  k0_pay21 (k0_pay16 h2 xu) (k0_pay20 rowNo (k0_pay15 h2 xg) (k0_pay17 hc) (k0_pay18 w2) b w1 w0)

theorem chunk0 (xr : FVec Ideal S688x1024 .f32) (gn : FVec Ideal S1x1024 .f32) (ms : FVec Ideal S688x1 .f32) :
    k0_pay14 (k0_pay8 xr gn ms xu) (k0_pay9 hc) (k0_pay10 xr gn ms xg hc w2 b w1) (k0_pay11 xr gn ms xg) k0_pay12 w0
      = chunk (k0_pay6 xr gn ms) xg xu hc w2 b w1 w0 := rfl
theorem chunk2 : k0_pay30 (k0_pay23 h2 xu) (k0_pay25 h2 rowNo xg hc w2 b w1) (k0_pay26 h2 xg) (k0_pay27 rowNo) (k0_pay28 hc) w0
    = chunk h2 xg xu hc w2 b w1 w0 := rfl
theorem chunk3 : k0_pay37 (k0_pay36 rowNo (k0_pay31 h2 xg) (k0_pay32 h2 xu) (k0_pay33 hc) (k0_pay34 h2 xg w2) b w1 w0)
    = chunk h2 xg xu hc w2 b w1 w0 := rfl
theorem chunk4 : k0_pay45 (k0_pay39 h2 xu) (k0_pay41 h2 rowNo xg hc w2 b w1) (k0_pay42 h2 xg) (k0_pay43 h2 rowNo xg hc) w0
    = chunk h2 xg xu hc w2 b w1 w0 := rfl
theorem chunk5 : k0_pay52 (k0_pay51 rowNo (k0_pay46 h2 xg) (k0_pay47 h2 xu) (k0_pay48 hc) (k0_pay49 h2 xg w2) b w1 w0)
    = chunk h2 xg xu hc w2 b w1 w0 := rfl
theorem chunk6 : k0_pay59 (k0_pay54 h2 xu) (k0_pay56 h2 rowNo xg hc w2 b w1) (k0_pay57 h2 rowNo xg hc) w0
    = chunk h2 xg xu hc w2 b w1 w0 := rfl
theorem chunk7 : k0_pay67 (k0_pay66 rowNo (k0_pay60 h2 xg) (k0_pay61 h2 xu) (k0_pay62 hc) (k0_pay63 h2 xg w2) (k0_pay64 b) w1 w0)
    = chunk h2 xg xu hc w2 b w1 w0 := rfl
theorem chunk8 : k0_pay74 (k0_pay69 h2 xu) (k0_pay71 h2 rowNo xg hc w2 b w1) (k0_pay72 h2 rowNo xg hc) w0
    = chunk h2 xg xu hc w2 b w1 w0 := rfl
theorem chunk9 : k0_pay80 rowNo (k0_pay75 h2 xg) (k0_pay76 h2 xu) (k0_pay77 hc) (k0_pay78 h2 xg w2 b) 1#32 w1 w0
    = chunk h2 xg xu hc w2 b w1 w0 := rfl
theorem chunk10 : k0_pay88 (k0_pay82 h2 xu) (k0_pay84 h2 rowNo xg hc w2 b w1) (k0_pay85 h2 rowNo xg hc) (k0_pay86 w0)
    = chunk h2 xg xu hc w2 b w1 w0 := rfl

/-- A column of the chunk `k` rows back: of the rows before the block for the first `k` rows. -/
def back (G : Fin 688 → EReal) (H : Fin 8 → EReal) (k : Fin 8) (r : Fin 688) : EReal :=
  if h : r.val < k.val then H ⟨8 - k.val + r.val, by omega⟩ else G ⟨r.val - k.val, by omega⟩

/-- Three taps, the bias, the gate and the factor. -/
def gate (c u : EReal) : EReal := c * Ideal.div 1 (1 + Ideal.exp (0 - c)) * u

/-- Three taps of a column and the bias. -/
def taps (G : Fin 688 → EReal) (H : Fin 8 → EReal) (w2 b w1 w0 : EReal) (r : Fin 688) : EReal :=
  w2 * G r + b + w1 * back G H 1 r + w0 * back G H 2 r

/-- A column of the projections. -/
def proj (w : Vec Ideal S1024x256 .bf16) (j : Fin 256) (r : Fin 688) : EReal := ∑ k : Fin 1024, h2 (ix2 r k) * w (ix2 k j)

theorem slt1 : ∀ r : Fin 8, IntOp.cmpi CmpIPredicate.slt (BitVec.ofNat 32 r.val) 1#32 = if r.val < 1 then 1#1 else 0#1 := by decide
theorem slt2 : ∀ r : Fin 8, IntOp.cmpi CmpIPredicate.slt (BitVec.ofNat 32 r.val) 2#32 = if r.val < 2 then 1#1 else 0#1 := by decide

theorem back1 (G : Fin 688 → EReal) (H : Fin 8 → EReal) (r : Fin 688) (p1 p2 p3) :
    (if _h : r.val < 8 then
      Scalar.select (IntOp.cmpi CmpIPredicate.slt (BitVec.ofNat 32 r.val) 1#32) (H ⟨(r.val + 8 - 1) % 8, p1⟩) (G ⟨(r.val + 688 - 1) % 688, p2⟩)
    else G ⟨(8 + (r.val - 8) + 688 - 1) % 688, p3⟩) = back G H 1 r := by
  unfold back
  have hr : r.val < 688 := r.isLt
  have hk : (1 : Fin 8).val = 1 := rfl
  by_cases h : r.val < 8
  · rw [dif_pos h, slt1 ⟨r.val, h⟩]
    by_cases h1 : r.val < 1
    · rw [if_pos h1, dif_pos (by omega)]
      exact congrArg H (Fin.ext (by show (r.val + 8 - 1) % 8 = 8 - 1 + r.val; omega))
    · rw [if_neg h1, dif_neg (by omega)]
      exact congrArg G (Fin.ext (by show (r.val + 688 - 1) % 688 = r.val - 1; omega))
  · rw [dif_neg h, dif_neg (by omega)]
    exact congrArg G (Fin.ext (by show (8 + (r.val - 8) + 688 - 1) % 688 = r.val - 1; omega))

theorem back2 (G : Fin 688 → EReal) (H : Fin 8 → EReal) (r : Fin 688) (p1 p2 p3) :
    (if _h : r.val < 8 then
      Scalar.select (IntOp.cmpi CmpIPredicate.slt (BitVec.ofNat 32 r.val) 2#32) (H ⟨(r.val + 8 - 2) % 8, p1⟩) (G ⟨(r.val + 688 - 2) % 688, p2⟩)
    else G ⟨(8 + (r.val - 8) + 688 - 2) % 688, p3⟩) = back G H 2 r := by
  unfold back
  have hr : r.val < 688 := r.isLt
  have hk : (2 : Fin 8).val = 2 := rfl
  by_cases h : r.val < 8
  · rw [dif_pos h, slt2 ⟨r.val, h⟩]
    by_cases h1 : r.val < 2
    · rw [if_pos h1, dif_pos (by omega)]
      exact congrArg H (Fin.ext (by show (r.val + 8 - 2) % 8 = 8 - 2 + r.val; omega))
    · rw [if_neg h1, dif_neg (by omega)]
      exact congrArg G (Fin.ext (by show (r.val + 688 - 2) % 688 = r.val - 2; omega))
  · rw [dif_neg h, dif_neg (by omega)]
    exact congrArg G (Fin.ext (by show (8 + (r.val - 8) + 688 - 2) % 688 = r.val - 2; omega))

theorem chunk_at (r : Fin 688) (j : Fin 256) : chunk h2 xg xu hc w2 b w1 w0 (ix2 r j)
    = gate (taps (proj h2 xg j) (fun i => hc (ix3 0 i j)) (w2 (ix2 0 j)) (b (ix2 0 j)) (w1 (ix2 0 j)) (w0 (ix2 0 j)) r)
      (proj h2 xu j r) := by
  pointwise [chunk, k0_pay21, k0_pay16, k0_pay20, k0_pay15, k0_pay17, k0_pay18]
  have e1 := back1 (proj h2 xg j) (fun i => hc (ix3 0 i j)) r
  have e2 := back2 (proj h2 xg j) (fun i => hc (ix3 0 i j)) r
  unfold proj at e1 e2
  unfold gate taps proj
  rw [← e1 (Nat.mod_lt _ (by decide)) (Nat.mod_lt _ (by decide)) (Nat.mod_lt _ (by decide)),
    ← e2 (Nat.mod_lt _ (by decide)) (Nat.mod_lt _ (by decide)) (Nat.mod_lt _ (by decide))]

end Chunk

/-! ## The eleven chunks together -/

section Columns

/-- Column `j` of the chunk that begins at column `o`. -/
def col (o : Nat) (ho : o + 256 ≤ 2816) (j : Fin 256) : Fin 2816 := ⟨o + j.val, by omega⟩

/-- A table of entries, as an array. -/
abbrev colFn (T : Fin 688 → Fin 2816 → EReal) : S688x2816.Idx → Elt Ideal .bf16 := fun y => T (y 0) (y 1)
/-- A table of entries, as an array. -/
abbrev lastFn (T : Fin 8 → Fin 2816 → EReal) : S1x8x2816.Idx → Elt Ideal .f32 := fun y => T (y 1) (y 2)

/-- The eleven stores of gated columns. -/
abbrev cols (A0 A1 A2 A3 A4 A5 A6 A7 A8 A9 A10 : FVec Ideal S688x256 .bf16) : List (View.Piece (Elt Ideal) S688x2816 .bf16) :=
  [⟨Rect.unit ![0, 2560] ![688, 256] inb_S688x2816_S688x256_0_2560, A10⟩,
    ⟨Rect.unit ![0, 2304] ![688, 256] inb_S688x2816_S688x256_0_2304, A9⟩,
    ⟨Rect.unit ![0, 2048] ![688, 256] inb_S688x2816_S688x256_0_2048, A8⟩,
    ⟨Rect.unit ![0, 1792] ![688, 256] inb_S688x2816_S688x256_0_1792, A7⟩,
    ⟨Rect.unit ![0, 1536] ![688, 256] inb_S688x2816_S688x256_0_1536, A6⟩,
    ⟨Rect.unit ![0, 1280] ![688, 256] inb_S688x2816_S688x256_0_1280, A5⟩,
    ⟨Rect.unit ![0, 1024] ![688, 256] inb_S688x2816_S688x256_0_1024, A4⟩,
    ⟨Rect.unit ![0, 768] ![688, 256] inb_S688x2816_S688x256_0_768, A3⟩,
    ⟨Rect.unit ![0, 512] ![688, 256] inb_S688x2816_S688x256_0_512, A2⟩,
    ⟨Rect.unit ![0, 256] ![688, 256] inb_S688x2816_S688x256_0_256, A1⟩,
    ⟨Rect.unit ![0, 0] ![688, 256] inb_S688x2816_S688x256_0_0, A0⟩]

/-- The eleven stores of last rows. -/
abbrev lasts (B0 B1 B2 B3 B4 B5 B6 B7 B8 B9 B10 : FVec Ideal S1x8x256 .f32) : List (View.Piece (Elt Ideal) S1x8x2816 .f32) :=
  [⟨Rect.unit ![0, 0, 2560] ![1, 8, 256] inb_S1x8x2816_S1x8x256_0_0_2560, B10⟩,
    ⟨Rect.unit ![0, 0, 2304] ![1, 8, 256] inb_S1x8x2816_S1x8x256_0_0_2304, B9⟩,
    ⟨Rect.unit ![0, 0, 2048] ![1, 8, 256] inb_S1x8x2816_S1x8x256_0_0_2048, B8⟩,
    ⟨Rect.unit ![0, 0, 1792] ![1, 8, 256] inb_S1x8x2816_S1x8x256_0_0_1792, B7⟩,
    ⟨Rect.unit ![0, 0, 1536] ![1, 8, 256] inb_S1x8x2816_S1x8x256_0_0_1536, B6⟩,
    ⟨Rect.unit ![0, 0, 1280] ![1, 8, 256] inb_S1x8x2816_S1x8x256_0_0_1280, B5⟩,
    ⟨Rect.unit ![0, 0, 1024] ![1, 8, 256] inb_S1x8x2816_S1x8x256_0_0_1024, B4⟩,
    ⟨Rect.unit ![0, 0, 768] ![1, 8, 256] inb_S1x8x2816_S1x8x256_0_0_768, B3⟩,
    ⟨Rect.unit ![0, 0, 512] ![1, 8, 256] inb_S1x8x2816_S1x8x256_0_0_512, B2⟩,
    ⟨Rect.unit ![0, 0, 256] ![1, 8, 256] inb_S1x8x2816_S1x8x256_0_0_256, B1⟩,
    ⟨Rect.unit ![0, 0, 0] ![1, 8, 256] inb_S1x8x2816_S1x8x256_0_0_0, B0⟩]

theorem piece_at {o : Nat} {ho : o + 256 ≤ 2816} (A : FVec Ideal S688x256 .bf16) (T : Fin 688 → Fin 2816 → EReal)
    (h : ∀ r j, A (ix2 r j) = T r (col o ho j))
    (i : ∀ a, (![0, o] : Fin 2 → Nat) a + (![688, 256] : Fin 2 → Nat) a ≤ S688x2816.size a) (x : S688x256.Idx) :
    A x = (colFn T) ((Rect.unit (s := S688x2816) ![0, o] ![688, 256] i).emb x) := by
  refine (congrArg A (eq_ix2 x)).trans ((h _ _).trans ?_)
  refine congrArg₂ T (Fin.ext ?_) (Fin.ext ?_)
  · show (x 0).val = 0 + 1 * (x 0).val; omega
  · show o + (x 1).val = o + 1 * (x 1).val; omega

theorem last_piece_at {o : Nat} {ho : o + 256 ≤ 2816} (B : FVec Ideal S1x8x256 .f32) (T : Fin 8 → Fin 2816 → EReal)
    (h : ∀ i j, B (ix3 0 i j) = T i (col o ho j))
    (i : ∀ a, (![0, 0, o] : Fin 3 → Nat) a + (![1, 8, 256] : Fin 3 → Nat) a ≤ S1x8x2816.size a) (x : S1x8x256.Idx) :
    B x = (lastFn T) ((Rect.unit (s := S1x8x2816) ![0, 0, o] ![1, 8, 256] i).emb x) := by
  have e0 : x 0 = (0 : Fin 1) := Subsingleton.elim (α := Fin 1) _ _
  have ex : x = ix3 0 (x 1) (x 2) := (eq_ix3 x).trans (congrArg (fun a : Fin 1 => (ix3 a (x 1) (x 2) : S1x8x256.Idx)) e0)
  refine (congrArg B ex).trans ((h _ _).trans ?_)
  refine congrArg₂ T (Fin.ext ?_) (Fin.ext ?_)
  · show (x 1).val = 0 + 1 * (x 1).val; omega
  · show o + (x 2).val = o + 1 * (x 2).val; omega

theorem cols_cover (A0 A1 A2 A3 A4 A5 A6 A7 A8 A9 A10 : FVec Ideal S688x256 .bf16) (y : S688x2816.Idx) : ∃ p ∈ cols A0 A1 A2 A3 A4 A5 A6 A7 A8 A9 A10, y ∈ p.1.set :=
  View.cover_of_tiledBy (cols A0 A1 A2 A3 A4 A5 A6 A7 A8 A9 A10) ![688, 256] (by sl_kernel_rfl) y

theorem lasts_cover (B0 B1 B2 B3 B4 B5 B6 B7 B8 B9 B10 : FVec Ideal S1x8x256 .f32) (y : S1x8x2816.Idx) : ∃ p ∈ lasts B0 B1 B2 B3 B4 B5 B6 B7 B8 B9 B10, y ∈ p.1.set :=
  View.cover_of_tiledBy (lasts B0 B1 B2 B3 B4 B5 B6 B7 B8 B9 B10) ![1, 8, 256] (by sl_kernel_rfl) y

theorem cols_at (A0 A1 A2 A3 A4 A5 A6 A7 A8 A9 A10 : FVec Ideal S688x256 .bf16) (T : Fin 688 → Fin 2816 → EReal)
    (h0 : ∀ r j, A0 (ix2 r j) = T r (col 0 (by decide) j)) (h1 : ∀ r j, A1 (ix2 r j) = T r (col 256 (by decide) j)) (h2 : ∀ r j, A2 (ix2 r j) = T r (col 512 (by decide) j)) (h3 : ∀ r j, A3 (ix2 r j) = T r (col 768 (by decide) j)) (h4 : ∀ r j, A4 (ix2 r j) = T r (col 1024 (by decide) j)) (h5 : ∀ r j, A5 (ix2 r j) = T r (col 1280 (by decide) j)) (h6 : ∀ r j, A6 (ix2 r j) = T r (col 1536 (by decide) j)) (h7 : ∀ r j, A7 (ix2 r j) = T r (col 1792 (by decide) j)) (h8 : ∀ r j, A8 (ix2 r j) = T r (col 2048 (by decide) j)) (h9 : ∀ r j, A9 (ix2 r j) = T r (col 2304 (by decide) j)) (h10 : ∀ r j, A10 (ix2 r j) = T r (col 2560 (by decide) j))
    (i : ∀ a, (![0, 0] : Fin 2 → Nat) a + (![688, 2816] : Fin 2 → Nat) a ≤ S688x2816.size a) (r : Fin 688) (j : Fin 2816) :
    ((View.whole cc0_scratch0).readCov (cols A0 A1 A2 A3 A4 A5 A6 A7 A8 A9 A10) (Rect.unit (s := S688x2816) ![0, 0] ![688, 2816] i).toLoadRect : S688x2816.Idx → EReal) (ix2 r j)
      = T r j := by
  rw [View.readCov_eq_canon_ld _ _ _ (cols_cover A0 A1 A2 A3 A4 A5 A6 A7 A8 A9 A10), View.ld_unit_zero (by funext a; fin_cases a <;> rfl)]
  exact View.canon_append_of_piecesOf (colFn T) [] (cols A0 A1 A2 A3 A4 A5 A6 A7 A8 A9 A10)
    ⟨piece_at A10 T h10 inb_S688x2816_S688x256_0_2560, piece_at A9 T h9 inb_S688x2816_S688x256_0_2304, piece_at A8 T h8 inb_S688x2816_S688x256_0_2048, piece_at A7 T h7 inb_S688x2816_S688x256_0_1792, piece_at A6 T h6 inb_S688x2816_S688x256_0_1536, piece_at A5 T h5 inb_S688x2816_S688x256_0_1280, piece_at A4 T h4 inb_S688x2816_S688x256_0_1024, piece_at A3 T h3 inb_S688x2816_S688x256_0_768, piece_at A2 T h2 inb_S688x2816_S688x256_0_512, piece_at A1 T h1 inb_S688x2816_S688x256_0_256, piece_at A0 T h0 inb_S688x2816_S688x256_0_0, trivial⟩ _ (cols_cover A0 A1 A2 A3 A4 A5 A6 A7 A8 A9 A10 _)

theorem lasts_at (L : List (View.Piece (Elt Ideal) S1x8x2816 .f32)) (B0 B1 B2 B3 B4 B5 B6 B7 B8 B9 B10 : FVec Ideal S1x8x256 .f32) (T : Fin 8 → Fin 2816 → EReal)
    (h0 : ∀ i j, B0 (ix3 0 i j) = T i (col 0 (by decide) j)) (h1 : ∀ i j, B1 (ix3 0 i j) = T i (col 256 (by decide) j)) (h2 : ∀ i j, B2 (ix3 0 i j) = T i (col 512 (by decide) j)) (h3 : ∀ i j, B3 (ix3 0 i j) = T i (col 768 (by decide) j)) (h4 : ∀ i j, B4 (ix3 0 i j) = T i (col 1024 (by decide) j)) (h5 : ∀ i j, B5 (ix3 0 i j) = T i (col 1280 (by decide) j)) (h6 : ∀ i j, B6 (ix3 0 i j) = T i (col 1536 (by decide) j)) (h7 : ∀ i j, B7 (ix3 0 i j) = T i (col 1792 (by decide) j)) (h8 : ∀ i j, B8 (ix3 0 i j) = T i (col 2048 (by decide) j)) (h9 : ∀ i j, B9 (ix3 0 i j) = T i (col 2304 (by decide) j)) (h10 : ∀ i j, B10 (ix3 0 i j) = T i (col 2560 (by decide) j))
    (y : S1x8x2816.Idx) :
    View.canon (lasts B0 B1 B2 B3 B4 B5 B6 B7 B8 B9 B10 ++ L) y = T (y 1) (y 2) :=
  View.canon_append_of_piecesOf (lastFn T) L (lasts B0 B1 B2 B3 B4 B5 B6 B7 B8 B9 B10)
    ⟨last_piece_at B10 T h10 inb_S1x8x2816_S1x8x256_0_0_2560, last_piece_at B9 T h9 inb_S1x8x2816_S1x8x256_0_0_2304, last_piece_at B8 T h8 inb_S1x8x2816_S1x8x256_0_0_2048, last_piece_at B7 T h7 inb_S1x8x2816_S1x8x256_0_0_1792, last_piece_at B6 T h6 inb_S1x8x2816_S1x8x256_0_0_1536, last_piece_at B5 T h5 inb_S1x8x2816_S1x8x256_0_0_1280, last_piece_at B4 T h4 inb_S1x8x2816_S1x8x256_0_0_1024, last_piece_at B3 T h3 inb_S1x8x2816_S1x8x256_0_0_768, last_piece_at B2 T h2 inb_S1x8x2816_S1x8x256_0_0_512, last_piece_at B1 T h1 inb_S1x8x2816_S1x8x256_0_0_256, last_piece_at B0 T h0 inb_S1x8x2816_S1x8x256_0_0_0, trivial⟩ _ (lasts_cover B0 B1 B2 B3 B4 B5 B6 B7 B8 B9 B10 _)

end Columns

/-! ## The block of a grid point -/

section Block

variable (h2 : FVec Ideal S688x1024 .bf16) (x6 x7 : Vec Ideal S1024x2816 .bf16) (x9 : Vec Ideal S3x2816 .f32)
  (x10 : Vec Ideal S1x2816 .f32) (H : Vec Ideal S1x8x2816 .f32)

/-- A column of the projections. -/
def gcol (w : Vec Ideal S1024x2816 .bf16) (j : Fin 2816) (r : Fin 688) : EReal := ∑ k : Fin 1024, h2 (ix2 r k) * w (ix2 k j)

/-- The gated entry of row `r`, column `j`. -/
def act (r : Fin 688) (j : Fin 2816) : EReal :=
  gate (taps (gcol h2 x6 j) (fun i => H (ix3 0 i j)) (x9 (ix2 2 j)) (x10 (ix2 0 j)) (x9 (ix2 1 j)) (x9 (ix2 0 j)) r) (gcol h2 x7 j r)

theorem chunk_col (o : Nat) (ho : o + 256 ≤ 2816) {xg xu : Vec Ideal S1024x256 .bf16} {hc : Vec Ideal S1x8x256 .f32}
    {w2 b w1 w0 : Vec Ideal S1x256 .f32} (hg : ∀ k j, xg (ix2 k j) = x6 (ix2 k (col o ho j))) (hu : ∀ k j, xu (ix2 k j) = x7 (ix2 k (col o ho j)))
    (hh : ∀ i j, hc (ix3 0 i j) = H (ix3 0 i (col o ho j))) (e2 : ∀ j, w2 (ix2 0 j) = x9 (ix2 2 (col o ho j)))
    (eb : ∀ j, b (ix2 0 j) = x10 (ix2 0 (col o ho j))) (e1 : ∀ j, w1 (ix2 0 j) = x9 (ix2 1 (col o ho j)))
    (e0 : ∀ j, w0 (ix2 0 j) = x9 (ix2 0 (col o ho j))) (r : Fin 688) (j : Fin 256) :
    chunk h2 xg xu hc w2 b w1 w0 (ix2 r j) = act h2 x6 x7 x9 x10 H r (col o ho j) := by
  rw [chunk_at]
  unfold act proj gcol
  simp only [hg, hu, hh, e2, eb, e1, e0]

theorem last_col (o : Nat) (ho : o + 256 ≤ 2816) {xg : Vec Ideal S1024x256 .bf16} (hg : ∀ k j, xg (ix2 k j) = x6 (ix2 k (col o ho j)))
    (i : Fin 8) (j : Fin 256) : k0_pay19 (k0_pay15 h2 xg) (ix3 0 i j) = gcol h2 x6 (col o ho j) ⟨680 + i.val, by omega⟩ := by
  pointwise [k0_pay19, k0_pay15]
  unfold gcol
  simp only [hg]

theorem ld_w (x : Vec Ideal S1024x2816 .bf16) {o : Nat} (ho : o + 256 ≤ 2816)
    (i : ∀ a, (![0, o] : Fin 2 → Nat) a + (![1024, 256] : Fin 2 → Nat) a ≤ S1024x2816.size a) (k : Fin 1024) (j : Fin 256) :
    (View.ld x (Rect.unit (s := S1024x2816) ![0, o] ![1024, 256] i) : S1024x256.Idx → EReal) (ix2 k j) = x (ix2 k (col o ho j)) := by
  refine congrArg x (funext fun a => Fin.ext ?_)
  fin_cases a
  · show 0 + 1 * k.val = k.val; omega
  · show o + 1 * j.val = o + j.val; omega

theorem ld_t (x : Vec Ideal S3x2816 .f32) (q : Fin 3) {o : Nat} (ho : o + 256 ≤ 2816)
    (i : ∀ a, (![q.val, o] : Fin 2 → Nat) a + (![1, 256] : Fin 2 → Nat) a ≤ S3x2816.size a) (j : Fin 256) :
    (View.ld x (Rect.unit (s := S3x2816) ![q.val, o] ![1, 256] i) : S1x256.Idx → EReal) (ix2 0 j) = x (ix2 q (col o ho j)) := by
  refine congrArg x (funext fun a => Fin.ext ?_)
  fin_cases a
  · show q.val + 1 * 0 = q.val; omega
  · show o + 1 * j.val = o + j.val; omega

theorem ld_b (x : Vec Ideal S1x2816 .f32) {o : Nat} (ho : o + 256 ≤ 2816)
    (i : ∀ a, (![0, o] : Fin 2 → Nat) a + (![1, 256] : Fin 2 → Nat) a ≤ S1x2816.size a) (j : Fin 256) :
    (View.ld x (Rect.unit (s := S1x2816) ![0, o] ![1, 256] i) : S1x256.Idx → EReal) (ix2 0 j) = x (ix2 0 (col o ho j)) := by
  refine congrArg x (funext fun a => Fin.ext ?_)
  fin_cases a
  · rfl
  · show o + 1 * j.val = o + j.val; omega

theorem ld_h (x : Vec Ideal S1x8x2816 .f32) {o : Nat} (ho : o + 256 ≤ 2816)
    (i : ∀ a, (![0, 0, o] : Fin 3 → Nat) a + (![1, 8, 256] : Fin 3 → Nat) a ≤ S1x8x2816.size a) (q : Fin 8) (j : Fin 256) :
    (View.ld x (Rect.unit (s := S1x8x2816) ![0, 0, o] ![1, 8, 256] i) : S1x8x256.Idx → EReal) (ix3 0 q j) = x (ix3 0 q (col o ho j)) := by
  refine congrArg x (funext fun a => Fin.ext ?_)
  fin_cases a
  · rfl
  · show 0 + 1 * q.val = q.val; omega
  · show o + 1 * j.val = o + j.val; omega

theorem out_at (xr : FVec Ideal S688x1024 .f32) (P : Vec Ideal S688x2816 .bf16) (x8 : Vec Ideal S2816x1024 .bf16)
    (T : Fin 688 → Fin 2816 → EReal) (hP : ∀ r j, P (ix2 r j) = T r j) (r : Fin 688) (e : Fin 1024) :
    k0_pay1 (k0_pay89 xr P x8) (ix3 0 r e) = xr (ix2 r e) + ∑ j : Fin 2816, T r j * x8 (ix2 j e) := by
  pointwise [k0_pay1, k0_pay89]
  simp only [hP]

end Block

theorem hist0 {κ sp} (v : View sig κ sp S1x8x2816 .f32) {o : ℕ} (ho : o + 256 ≤ 2816) (Z : Vec Ideal S1x8x2816 .f32)
    (i : ∀ a, (![0, 0, o] : Fin 3 → ℕ) a + (S1x8x256).size a ≤ S1x8x2816.size a) (q : Fin 8) (j : Fin 256) :
    (v.readCov [⟨Rect.unit (s := S1x8x2816) ![0, 0, 0] S1x8x2816.size inb_S1x8x2816_S1x8x2816_0_0_0, Z⟩]
      (Rect.unit (s := S1x8x2816) ![0, 0, o] S1x8x256.size i).toLoadRect : S1x8x256.Idx → EReal) (ix3 0 q j) = Z (ix3 0 q (col o ho j)) :=
  (congrFun (View.readCov_fill v inb_S1x8x2816_S1x8x2816_0_0_0 Z [] (Rect.unit (s := S1x8x2816) ![0, 0, o] S1x8x256.size i) (by decide)) (ix3 0 q j)).trans
    (ld_h Z ho i q j)

theorem hist_skip {κ sp} (v : View sig κ sp S1x8x2816 .f32) {o' o : ℕ}
    (i' : ∀ a, (![0, 0, o'] : Fin 3 → ℕ) a + (S1x8x256).size a ≤ S1x8x2816.size a)
    (i : ∀ a, (![0, 0, o] : Fin 3 → ℕ) a + (S1x8x256).size a ≤ S1x8x2816.size a)
    (B : Vec Ideal S1x8x256 .f32) (L : List (Idealize.ShloMosaic.View.Piece (Elt Ideal) S1x8x2816 .f32)) (R : Fin 8 → Fin 256 → EReal) (d : o' + 256 ≤ o)
    (h : ∀ (q : Fin 8) (j : Fin 256), (v.readCov L (Rect.unit (s := S1x8x2816) ![0, 0, o] S1x8x256.size i).toLoadRect : S1x8x256.Idx → EReal) (ix3 0 q j) = R q j)
    (q : Fin 8) (j : Fin 256) :
    (v.readCov (⟨Rect.unit (s := S1x8x2816) ![0, 0, o'] S1x8x256.size i', B⟩ :: L)
      (Rect.unit (s := S1x8x2816) ![0, 0, o] S1x8x256.size i).toLoadRect : S1x8x256.Idx → EReal) (ix3 0 q j) = R q j :=
  (congrFun (View.readCov_cons_of_disjoint v ⟨Rect.unit (s := S1x8x2816) ![0, 0, o'] S1x8x256.size i', B⟩ L
    (Rect.unit (s := S1x8x2816) ![0, 0, o] S1x8x256.size i).toLoadRect (Rect.unit_disjoint (inb := i') (inb' := i) 2 (Or.inl d))) (ix3 0 q j)).trans (h q j)

section Point

variable (m : (ℓ : Loc nD τ sig) → Buf (Elt Ideal) ℓ) (c : Dev nD) (t : Fin cfg0.N)

/-- The residual rows of a grid point. -/
abbrev xrOf : FVec Ideal S688x1024 .f32 := k0_pay3 (iblk m c 0 t) (iblk m c 1 t)
  (View.ld (iblk m c 4 t) (Rect.unit (s := S1536x1024) ![0, 0] ![512, 1024] inb_S1536x1024_S512x1024_0_0)) (iblk m c 2 t)
  (View.ld (iblk m c 4 t) (Rect.unit (s := S1536x1024) ![512, 0] ![512, 1024] inb_S1536x1024_S512x1024_512_0)) (iblk m c 3 t)
  (View.ld (iblk m c 4 t) (Rect.unit (s := S1536x1024) ![1024, 0] ![512, 1024] inb_S1536x1024_S512x1024_1024_0))
/-- Their mean squares. -/
abbrev msOf : FVec Ideal S688x1 .f32 := k0_pay5 (iblk m c 0 t) (iblk m c 1 t)
  (View.ld (iblk m c 4 t) (Rect.unit (s := S1536x1024) ![0, 0] ![512, 1024] inb_S1536x1024_S512x1024_0_0)) (iblk m c 2 t)
  (View.ld (iblk m c 4 t) (Rect.unit (s := S1536x1024) ![512, 0] ![512, 1024] inb_S1536x1024_S512x1024_512_0)) (iblk m c 3 t)
  (View.ld (iblk m c 4 t) (Rect.unit (s := S1536x1024) ![1024, 0] ![512, 1024] inb_S1536x1024_S512x1024_1024_0))
/-- The normalised rows. -/
abbrev h2Of : FVec Ideal S688x1024 .bf16 := k0_pay6 (xrOf m c t) (k0_pay4 (iblk m c 5 t)) (msOf m c t)

/-- The rows a grid point leaves for the next. -/
theorem last_A (h0 : t.val % 3 = 0) (i : Fin 8) (j : Fin 2816) : ((outsAt0 m c t.val t.isLt).2 : S1x8x2816.Idx → EReal) (ix3 0 i j)
    = gcol (h2Of m c t) (iblk m c 6 t) j ⟨680 + i.val, by omega⟩ := by
  rw [outsAt0_A m c t h0]
  frame_out
  exact lasts_at [_] _ _ _ _ _ _ _ _ _ _ _ (fun i j => gcol (h2Of m c t) (iblk m c 6 t) j ⟨680 + i.val, by omega⟩)
    (last_col (h2Of m c t) (iblk m c 6 t) 0 (by decide) (ld_w (iblk m c 6 t) _ inb_S1024x2816_S1024x256_0_0))
    (last_col (h2Of m c t) (iblk m c 6 t) 256 (by decide) (ld_w (iblk m c 6 t) _ inb_S1024x2816_S1024x256_0_256))
    (last_col (h2Of m c t) (iblk m c 6 t) 512 (by decide) (ld_w (iblk m c 6 t) _ inb_S1024x2816_S1024x256_0_512))
    (last_col (h2Of m c t) (iblk m c 6 t) 768 (by decide) (ld_w (iblk m c 6 t) _ inb_S1024x2816_S1024x256_0_768))
    (last_col (h2Of m c t) (iblk m c 6 t) 1024 (by decide) (ld_w (iblk m c 6 t) _ inb_S1024x2816_S1024x256_0_1024))
    (last_col (h2Of m c t) (iblk m c 6 t) 1280 (by decide) (ld_w (iblk m c 6 t) _ inb_S1024x2816_S1024x256_0_1280))
    (last_col (h2Of m c t) (iblk m c 6 t) 1536 (by decide) (ld_w (iblk m c 6 t) _ inb_S1024x2816_S1024x256_0_1536))
    (last_col (h2Of m c t) (iblk m c 6 t) 1792 (by decide) (ld_w (iblk m c 6 t) _ inb_S1024x2816_S1024x256_0_1792))
    (last_col (h2Of m c t) (iblk m c 6 t) 2048 (by decide) (ld_w (iblk m c 6 t) _ inb_S1024x2816_S1024x256_0_2048))
    (last_col (h2Of m c t) (iblk m c 6 t) 2304 (by decide) (ld_w (iblk m c 6 t) _ inb_S1024x2816_S1024x256_0_2304))
    (last_col (h2Of m c t) (iblk m c 6 t) 2560 (by decide) (ld_w (iblk m c 6 t) _ inb_S1024x2816_S1024x256_0_2560)) (ix3 0 i j)

theorem last_B (h0 : ¬ t.val % 3 = 0) (i : Fin 8) (j : Fin 2816) : ((outsAt0 m c t.val t.isLt).2 : S1x8x2816.Idx → EReal) (ix3 0 i j)
    = gcol (h2Of m c t) (iblk m c 6 t) j ⟨680 + i.val, by omega⟩ := by
  rw [outsAt0_B m c t h0]
  frame_out
  exact lasts_at [] _ _ _ _ _ _ _ _ _ _ _ (fun i j => gcol (h2Of m c t) (iblk m c 6 t) j ⟨680 + i.val, by omega⟩)
    (last_col (h2Of m c t) (iblk m c 6 t) 0 (by decide) (ld_w (iblk m c 6 t) _ inb_S1024x2816_S1024x256_0_0))
    (last_col (h2Of m c t) (iblk m c 6 t) 256 (by decide) (ld_w (iblk m c 6 t) _ inb_S1024x2816_S1024x256_0_256))
    (last_col (h2Of m c t) (iblk m c 6 t) 512 (by decide) (ld_w (iblk m c 6 t) _ inb_S1024x2816_S1024x256_0_512))
    (last_col (h2Of m c t) (iblk m c 6 t) 768 (by decide) (ld_w (iblk m c 6 t) _ inb_S1024x2816_S1024x256_0_768))
    (last_col (h2Of m c t) (iblk m c 6 t) 1024 (by decide) (ld_w (iblk m c 6 t) _ inb_S1024x2816_S1024x256_0_1024))
    (last_col (h2Of m c t) (iblk m c 6 t) 1280 (by decide) (ld_w (iblk m c 6 t) _ inb_S1024x2816_S1024x256_0_1280))
    (last_col (h2Of m c t) (iblk m c 6 t) 1536 (by decide) (ld_w (iblk m c 6 t) _ inb_S1024x2816_S1024x256_0_1536))
    (last_col (h2Of m c t) (iblk m c 6 t) 1792 (by decide) (ld_w (iblk m c 6 t) _ inb_S1024x2816_S1024x256_0_1792))
    (last_col (h2Of m c t) (iblk m c 6 t) 2048 (by decide) (ld_w (iblk m c 6 t) _ inb_S1024x2816_S1024x256_0_2048))
    (last_col (h2Of m c t) (iblk m c 6 t) 2304 (by decide) (ld_w (iblk m c 6 t) _ inb_S1024x2816_S1024x256_0_2304))
    (last_col (h2Of m c t) (iblk m c 6 t) 2560 (by decide) (ld_w (iblk m c 6 t) _ inb_S1024x2816_S1024x256_0_2560)) (ix3 0 i j)

theorem out_B (h0 : ¬ t.val % 3 = 0) (r : Fin 688) (e : Fin 1024) : ((outsAt0 m c t.val t.isLt).1 : S1x688x1024.Idx → EReal) (ix3 0 r e)
    = xrOf m c t (ix2 r e) + ∑ j : Fin 2816, act (h2Of m c t) (iblk m c 6 t) (iblk m c 7 t) (iblk m c 9 t) (iblk m c 10 t)
        ((outsAt0 m c (t.val - 1) (by have := t.isLt; omega)).2) r j * (show Vec Ideal S2816x1024 .bf16 from iblk m c 8 t) (ix2 j e) := by
  rw [outsAt0_B m c t h0]
  frame_out
  exact out_at _ _ _ _ (cols_at _ _ _ _ _ _ _ _ _ _ _ (act (h2Of m c t) (iblk m c 6 t) (iblk m c 7 t) (iblk m c 9 t) (iblk m c 10 t)
        ((outsAt0 m c (t.val - 1) (by have := t.isLt; omega)).2))
    (fun r j => (congrFun (chunk0 _ _ _ _ _ _ _ (xrOf m c t) (k0_pay4 (iblk m c 5 t)) (msOf m c t)) _).trans (chunk_col (h2Of m c t) (iblk m c 6 t) (iblk m c 7 t) (iblk m c 9 t) (iblk m c 10 t) _ 0 (by decide) (ld_w (iblk m c 6 t) _ inb_S1024x2816_S1024x256_0_0) (ld_w (iblk m c 7 t) _ inb_S1024x2816_S1024x256_0_0) (ld_h _ _ inb_S1x8x2816_S1x8x256_0_0_0) (ld_t (iblk m c 9 t) 2 _ inb_S3x2816_S1x256_2_0) (ld_b (iblk m c 10 t) _ inb_S1x2816_S1x256_0_0) (ld_t (iblk m c 9 t) 1 _ inb_S3x2816_S1x256_1_0) (ld_t (iblk m c 9 t) 0 _ inb_S3x2816_S1x256_0_0) r j))
    (fun r j => chunk_col (h2Of m c t) (iblk m c 6 t) (iblk m c 7 t) (iblk m c 9 t) (iblk m c 10 t) _ 256 (by decide) (ld_w (iblk m c 6 t) _ inb_S1024x2816_S1024x256_0_256) (ld_w (iblk m c 7 t) _ inb_S1024x2816_S1024x256_0_256) (ld_h _ _ inb_S1x8x2816_S1x8x256_0_0_256) (ld_t (iblk m c 9 t) 2 _ inb_S3x2816_S1x256_2_256) (ld_b (iblk m c 10 t) _ inb_S1x2816_S1x256_0_256) (ld_t (iblk m c 9 t) 1 _ inb_S3x2816_S1x256_1_256) (ld_t (iblk m c 9 t) 0 _ inb_S3x2816_S1x256_0_256) r j)
    (fun r j => (congrFun (chunk2 (h2Of m c t) _ _ _ _ _ _ _) _).trans (chunk_col (h2Of m c t) (iblk m c 6 t) (iblk m c 7 t) (iblk m c 9 t) (iblk m c 10 t) _ 512 (by decide) (ld_w (iblk m c 6 t) _ inb_S1024x2816_S1024x256_0_512) (ld_w (iblk m c 7 t) _ inb_S1024x2816_S1024x256_0_512) (ld_h _ _ inb_S1x8x2816_S1x8x256_0_0_512) (ld_t (iblk m c 9 t) 2 _ inb_S3x2816_S1x256_2_512) (ld_b (iblk m c 10 t) _ inb_S1x2816_S1x256_0_512) (ld_t (iblk m c 9 t) 1 _ inb_S3x2816_S1x256_1_512) (ld_t (iblk m c 9 t) 0 _ inb_S3x2816_S1x256_0_512) r j))
    (fun r j => (congrFun (chunk3 (h2Of m c t) _ _ _ _ _ _ _) _).trans (chunk_col (h2Of m c t) (iblk m c 6 t) (iblk m c 7 t) (iblk m c 9 t) (iblk m c 10 t) _ 768 (by decide) (ld_w (iblk m c 6 t) _ inb_S1024x2816_S1024x256_0_768) (ld_w (iblk m c 7 t) _ inb_S1024x2816_S1024x256_0_768) (ld_h _ _ inb_S1x8x2816_S1x8x256_0_0_768) (ld_t (iblk m c 9 t) 2 _ inb_S3x2816_S1x256_2_768) (ld_b (iblk m c 10 t) _ inb_S1x2816_S1x256_0_768) (ld_t (iblk m c 9 t) 1 _ inb_S3x2816_S1x256_1_768) (ld_t (iblk m c 9 t) 0 _ inb_S3x2816_S1x256_0_768) r j))
    (fun r j => (congrFun (chunk4 (h2Of m c t) _ _ _ _ _ _ _) _).trans (chunk_col (h2Of m c t) (iblk m c 6 t) (iblk m c 7 t) (iblk m c 9 t) (iblk m c 10 t) _ 1024 (by decide) (ld_w (iblk m c 6 t) _ inb_S1024x2816_S1024x256_0_1024) (ld_w (iblk m c 7 t) _ inb_S1024x2816_S1024x256_0_1024) (ld_h _ _ inb_S1x8x2816_S1x8x256_0_0_1024) (ld_t (iblk m c 9 t) 2 _ inb_S3x2816_S1x256_2_1024) (ld_b (iblk m c 10 t) _ inb_S1x2816_S1x256_0_1024) (ld_t (iblk m c 9 t) 1 _ inb_S3x2816_S1x256_1_1024) (ld_t (iblk m c 9 t) 0 _ inb_S3x2816_S1x256_0_1024) r j))
    (fun r j => (congrFun (chunk5 (h2Of m c t) _ _ _ _ _ _ _) _).trans (chunk_col (h2Of m c t) (iblk m c 6 t) (iblk m c 7 t) (iblk m c 9 t) (iblk m c 10 t) _ 1280 (by decide) (ld_w (iblk m c 6 t) _ inb_S1024x2816_S1024x256_0_1280) (ld_w (iblk m c 7 t) _ inb_S1024x2816_S1024x256_0_1280) (ld_h _ _ inb_S1x8x2816_S1x8x256_0_0_1280) (ld_t (iblk m c 9 t) 2 _ inb_S3x2816_S1x256_2_1280) (ld_b (iblk m c 10 t) _ inb_S1x2816_S1x256_0_1280) (ld_t (iblk m c 9 t) 1 _ inb_S3x2816_S1x256_1_1280) (ld_t (iblk m c 9 t) 0 _ inb_S3x2816_S1x256_0_1280) r j))
    (fun r j => (congrFun (chunk6 (h2Of m c t) _ _ _ _ _ _ _) _).trans (chunk_col (h2Of m c t) (iblk m c 6 t) (iblk m c 7 t) (iblk m c 9 t) (iblk m c 10 t) _ 1536 (by decide) (ld_w (iblk m c 6 t) _ inb_S1024x2816_S1024x256_0_1536) (ld_w (iblk m c 7 t) _ inb_S1024x2816_S1024x256_0_1536) (ld_h _ _ inb_S1x8x2816_S1x8x256_0_0_1536) (ld_t (iblk m c 9 t) 2 _ inb_S3x2816_S1x256_2_1536) (ld_b (iblk m c 10 t) _ inb_S1x2816_S1x256_0_1536) (ld_t (iblk m c 9 t) 1 _ inb_S3x2816_S1x256_1_1536) (ld_t (iblk m c 9 t) 0 _ inb_S3x2816_S1x256_0_1536) r j))
    (fun r j => (congrFun (chunk7 (h2Of m c t) _ _ _ _ _ _ _) _).trans (chunk_col (h2Of m c t) (iblk m c 6 t) (iblk m c 7 t) (iblk m c 9 t) (iblk m c 10 t) _ 1792 (by decide) (ld_w (iblk m c 6 t) _ inb_S1024x2816_S1024x256_0_1792) (ld_w (iblk m c 7 t) _ inb_S1024x2816_S1024x256_0_1792) (ld_h _ _ inb_S1x8x2816_S1x8x256_0_0_1792) (ld_t (iblk m c 9 t) 2 _ inb_S3x2816_S1x256_2_1792) (ld_b (iblk m c 10 t) _ inb_S1x2816_S1x256_0_1792) (ld_t (iblk m c 9 t) 1 _ inb_S3x2816_S1x256_1_1792) (ld_t (iblk m c 9 t) 0 _ inb_S3x2816_S1x256_0_1792) r j))
    (fun r j => (congrFun (chunk8 (h2Of m c t) _ _ _ _ _ _ _) _).trans (chunk_col (h2Of m c t) (iblk m c 6 t) (iblk m c 7 t) (iblk m c 9 t) (iblk m c 10 t) _ 2048 (by decide) (ld_w (iblk m c 6 t) _ inb_S1024x2816_S1024x256_0_2048) (ld_w (iblk m c 7 t) _ inb_S1024x2816_S1024x256_0_2048) (ld_h _ _ inb_S1x8x2816_S1x8x256_0_0_2048) (ld_t (iblk m c 9 t) 2 _ inb_S3x2816_S1x256_2_2048) (ld_b (iblk m c 10 t) _ inb_S1x2816_S1x256_0_2048) (ld_t (iblk m c 9 t) 1 _ inb_S3x2816_S1x256_1_2048) (ld_t (iblk m c 9 t) 0 _ inb_S3x2816_S1x256_0_2048) r j))
    (fun r j => (congrFun (chunk9 (h2Of m c t) _ _ _ _ _ _ _) _).trans (chunk_col (h2Of m c t) (iblk m c 6 t) (iblk m c 7 t) (iblk m c 9 t) (iblk m c 10 t) _ 2304 (by decide) (ld_w (iblk m c 6 t) _ inb_S1024x2816_S1024x256_0_2304) (ld_w (iblk m c 7 t) _ inb_S1024x2816_S1024x256_0_2304) (ld_h _ _ inb_S1x8x2816_S1x8x256_0_0_2304) (ld_t (iblk m c 9 t) 2 _ inb_S3x2816_S1x256_2_2304) (ld_b (iblk m c 10 t) _ inb_S1x2816_S1x256_0_2304) (ld_t (iblk m c 9 t) 1 _ inb_S3x2816_S1x256_1_2304) (ld_t (iblk m c 9 t) 0 _ inb_S3x2816_S1x256_0_2304) r j))
    (fun r j => (congrFun (chunk10 (h2Of m c t) _ _ _ _ _ _ _) _).trans (chunk_col (h2Of m c t) (iblk m c 6 t) (iblk m c 7 t) (iblk m c 9 t) (iblk m c 10 t) _ 2560 (by decide) (ld_w (iblk m c 6 t) _ inb_S1024x2816_S1024x256_0_2560) (ld_w (iblk m c 7 t) _ inb_S1024x2816_S1024x256_0_2560) (ld_h _ _ inb_S1x8x2816_S1x8x256_0_0_2560) (ld_t (iblk m c 9 t) 2 _ inb_S3x2816_S1x256_2_2560) (ld_b (iblk m c 10 t) _ inb_S1x2816_S1x256_0_2560) (ld_t (iblk m c 9 t) 1 _ inb_S3x2816_S1x256_1_2560) (ld_t (iblk m c 9 t) 0 _ inb_S3x2816_S1x256_0_2560) r j)) _) r e

theorem out_A (h0 : t.val % 3 = 0) (r : Fin 688) (e : Fin 1024) : ((outsAt0 m c t.val t.isLt).1 : S1x688x1024.Idx → EReal) (ix3 0 r e)
    = xrOf m c t (ix2 r e) + ∑ j : Fin 2816, act (h2Of m c t) (iblk m c 6 t) (iblk m c 7 t) (iblk m c 9 t) (iblk m c 10 t)
        (k0_pay2 (iblk m c 11 t)) r j * (show Vec Ideal S2816x1024 .bf16 from iblk m c 8 t) (ix2 j e) := by
  rw [outsAt0_A m c t h0]
  frame_out
  exact out_at _ _ _ _ (cols_at _ _ _ _ _ _ _ _ _ _ _ (act (h2Of m c t) (iblk m c 6 t) (iblk m c 7 t) (iblk m c 9 t) (iblk m c 10 t)
        (k0_pay2 (iblk m c 11 t)))
    (fun r j => (congrFun (chunk0 _ _ _ _ _ _ _ (xrOf m c t) (k0_pay4 (iblk m c 5 t)) (msOf m c t)) _).trans (chunk_col (h2Of m c t) (iblk m c 6 t) (iblk m c 7 t) (iblk m c 9 t) (iblk m c 10 t) _ 0 (by decide) (ld_w (iblk m c 6 t) _ inb_S1024x2816_S1024x256_0_0) (ld_w (iblk m c 7 t) _ inb_S1024x2816_S1024x256_0_0) (hist0 _ (by decide) (k0_pay2 (iblk m c 11 t)) inb_S1x8x2816_S1x8x256_0_0_0) (ld_t (iblk m c 9 t) 2 _ inb_S3x2816_S1x256_2_0) (ld_b (iblk m c 10 t) _ inb_S1x2816_S1x256_0_0) (ld_t (iblk m c 9 t) 1 _ inb_S3x2816_S1x256_1_0) (ld_t (iblk m c 9 t) 0 _ inb_S3x2816_S1x256_0_0) r j))
    (fun r j => chunk_col (h2Of m c t) (iblk m c 6 t) (iblk m c 7 t) (iblk m c 9 t) (iblk m c 10 t) _ 256 (by decide) (ld_w (iblk m c 6 t) _ inb_S1024x2816_S1024x256_0_256) (ld_w (iblk m c 7 t) _ inb_S1024x2816_S1024x256_0_256) (hist_skip _ inb_S1x8x2816_S1x8x256_0_0_0 inb_S1x8x2816_S1x8x256_0_0_256 _ _ _ (by decide) (hist0 _ (by decide) (k0_pay2 (iblk m c 11 t)) inb_S1x8x2816_S1x8x256_0_0_256)) (ld_t (iblk m c 9 t) 2 _ inb_S3x2816_S1x256_2_256) (ld_b (iblk m c 10 t) _ inb_S1x2816_S1x256_0_256) (ld_t (iblk m c 9 t) 1 _ inb_S3x2816_S1x256_1_256) (ld_t (iblk m c 9 t) 0 _ inb_S3x2816_S1x256_0_256) r j)
    (fun r j => (congrFun (chunk2 (h2Of m c t) _ _ _ _ _ _ _) _).trans (chunk_col (h2Of m c t) (iblk m c 6 t) (iblk m c 7 t) (iblk m c 9 t) (iblk m c 10 t) _ 512 (by decide) (ld_w (iblk m c 6 t) _ inb_S1024x2816_S1024x256_0_512) (ld_w (iblk m c 7 t) _ inb_S1024x2816_S1024x256_0_512) (hist_skip _ inb_S1x8x2816_S1x8x256_0_0_256 inb_S1x8x2816_S1x8x256_0_0_512 _ _ _ (by decide) (hist_skip _ inb_S1x8x2816_S1x8x256_0_0_0 inb_S1x8x2816_S1x8x256_0_0_512 _ _ _ (by decide) (hist0 _ (by decide) (k0_pay2 (iblk m c 11 t)) inb_S1x8x2816_S1x8x256_0_0_512))) (ld_t (iblk m c 9 t) 2 _ inb_S3x2816_S1x256_2_512) (ld_b (iblk m c 10 t) _ inb_S1x2816_S1x256_0_512) (ld_t (iblk m c 9 t) 1 _ inb_S3x2816_S1x256_1_512) (ld_t (iblk m c 9 t) 0 _ inb_S3x2816_S1x256_0_512) r j))
    (fun r j => (congrFun (chunk3 (h2Of m c t) _ _ _ _ _ _ _) _).trans (chunk_col (h2Of m c t) (iblk m c 6 t) (iblk m c 7 t) (iblk m c 9 t) (iblk m c 10 t) _ 768 (by decide) (ld_w (iblk m c 6 t) _ inb_S1024x2816_S1024x256_0_768) (ld_w (iblk m c 7 t) _ inb_S1024x2816_S1024x256_0_768) (hist_skip _ inb_S1x8x2816_S1x8x256_0_0_512 inb_S1x8x2816_S1x8x256_0_0_768 _ _ _ (by decide) (hist_skip _ inb_S1x8x2816_S1x8x256_0_0_256 inb_S1x8x2816_S1x8x256_0_0_768 _ _ _ (by decide) (hist_skip _ inb_S1x8x2816_S1x8x256_0_0_0 inb_S1x8x2816_S1x8x256_0_0_768 _ _ _ (by decide) (hist0 _ (by decide) (k0_pay2 (iblk m c 11 t)) inb_S1x8x2816_S1x8x256_0_0_768)))) (ld_t (iblk m c 9 t) 2 _ inb_S3x2816_S1x256_2_768) (ld_b (iblk m c 10 t) _ inb_S1x2816_S1x256_0_768) (ld_t (iblk m c 9 t) 1 _ inb_S3x2816_S1x256_1_768) (ld_t (iblk m c 9 t) 0 _ inb_S3x2816_S1x256_0_768) r j))
    (fun r j => (congrFun (chunk4 (h2Of m c t) _ _ _ _ _ _ _) _).trans (chunk_col (h2Of m c t) (iblk m c 6 t) (iblk m c 7 t) (iblk m c 9 t) (iblk m c 10 t) _ 1024 (by decide) (ld_w (iblk m c 6 t) _ inb_S1024x2816_S1024x256_0_1024) (ld_w (iblk m c 7 t) _ inb_S1024x2816_S1024x256_0_1024) (hist_skip _ inb_S1x8x2816_S1x8x256_0_0_768 inb_S1x8x2816_S1x8x256_0_0_1024 _ _ _ (by decide) (hist_skip _ inb_S1x8x2816_S1x8x256_0_0_512 inb_S1x8x2816_S1x8x256_0_0_1024 _ _ _ (by decide) (hist_skip _ inb_S1x8x2816_S1x8x256_0_0_256 inb_S1x8x2816_S1x8x256_0_0_1024 _ _ _ (by decide) (hist_skip _ inb_S1x8x2816_S1x8x256_0_0_0 inb_S1x8x2816_S1x8x256_0_0_1024 _ _ _ (by decide) (hist0 _ (by decide) (k0_pay2 (iblk m c 11 t)) inb_S1x8x2816_S1x8x256_0_0_1024))))) (ld_t (iblk m c 9 t) 2 _ inb_S3x2816_S1x256_2_1024) (ld_b (iblk m c 10 t) _ inb_S1x2816_S1x256_0_1024) (ld_t (iblk m c 9 t) 1 _ inb_S3x2816_S1x256_1_1024) (ld_t (iblk m c 9 t) 0 _ inb_S3x2816_S1x256_0_1024) r j))
    (fun r j => (congrFun (chunk5 (h2Of m c t) _ _ _ _ _ _ _) _).trans (chunk_col (h2Of m c t) (iblk m c 6 t) (iblk m c 7 t) (iblk m c 9 t) (iblk m c 10 t) _ 1280 (by decide) (ld_w (iblk m c 6 t) _ inb_S1024x2816_S1024x256_0_1280) (ld_w (iblk m c 7 t) _ inb_S1024x2816_S1024x256_0_1280) (hist_skip _ inb_S1x8x2816_S1x8x256_0_0_1024 inb_S1x8x2816_S1x8x256_0_0_1280 _ _ _ (by decide) (hist_skip _ inb_S1x8x2816_S1x8x256_0_0_768 inb_S1x8x2816_S1x8x256_0_0_1280 _ _ _ (by decide) (hist_skip _ inb_S1x8x2816_S1x8x256_0_0_512 inb_S1x8x2816_S1x8x256_0_0_1280 _ _ _ (by decide) (hist_skip _ inb_S1x8x2816_S1x8x256_0_0_256 inb_S1x8x2816_S1x8x256_0_0_1280 _ _ _ (by decide) (hist_skip _ inb_S1x8x2816_S1x8x256_0_0_0 inb_S1x8x2816_S1x8x256_0_0_1280 _ _ _ (by decide) (hist0 _ (by decide) (k0_pay2 (iblk m c 11 t)) inb_S1x8x2816_S1x8x256_0_0_1280)))))) (ld_t (iblk m c 9 t) 2 _ inb_S3x2816_S1x256_2_1280) (ld_b (iblk m c 10 t) _ inb_S1x2816_S1x256_0_1280) (ld_t (iblk m c 9 t) 1 _ inb_S3x2816_S1x256_1_1280) (ld_t (iblk m c 9 t) 0 _ inb_S3x2816_S1x256_0_1280) r j))
    (fun r j => (congrFun (chunk6 (h2Of m c t) _ _ _ _ _ _ _) _).trans (chunk_col (h2Of m c t) (iblk m c 6 t) (iblk m c 7 t) (iblk m c 9 t) (iblk m c 10 t) _ 1536 (by decide) (ld_w (iblk m c 6 t) _ inb_S1024x2816_S1024x256_0_1536) (ld_w (iblk m c 7 t) _ inb_S1024x2816_S1024x256_0_1536) (hist_skip _ inb_S1x8x2816_S1x8x256_0_0_1280 inb_S1x8x2816_S1x8x256_0_0_1536 _ _ _ (by decide) (hist_skip _ inb_S1x8x2816_S1x8x256_0_0_1024 inb_S1x8x2816_S1x8x256_0_0_1536 _ _ _ (by decide) (hist_skip _ inb_S1x8x2816_S1x8x256_0_0_768 inb_S1x8x2816_S1x8x256_0_0_1536 _ _ _ (by decide) (hist_skip _ inb_S1x8x2816_S1x8x256_0_0_512 inb_S1x8x2816_S1x8x256_0_0_1536 _ _ _ (by decide) (hist_skip _ inb_S1x8x2816_S1x8x256_0_0_256 inb_S1x8x2816_S1x8x256_0_0_1536 _ _ _ (by decide) (hist_skip _ inb_S1x8x2816_S1x8x256_0_0_0 inb_S1x8x2816_S1x8x256_0_0_1536 _ _ _ (by decide) (hist0 _ (by decide) (k0_pay2 (iblk m c 11 t)) inb_S1x8x2816_S1x8x256_0_0_1536))))))) (ld_t (iblk m c 9 t) 2 _ inb_S3x2816_S1x256_2_1536) (ld_b (iblk m c 10 t) _ inb_S1x2816_S1x256_0_1536) (ld_t (iblk m c 9 t) 1 _ inb_S3x2816_S1x256_1_1536) (ld_t (iblk m c 9 t) 0 _ inb_S3x2816_S1x256_0_1536) r j))
    (fun r j => (congrFun (chunk7 (h2Of m c t) _ _ _ _ _ _ _) _).trans (chunk_col (h2Of m c t) (iblk m c 6 t) (iblk m c 7 t) (iblk m c 9 t) (iblk m c 10 t) _ 1792 (by decide) (ld_w (iblk m c 6 t) _ inb_S1024x2816_S1024x256_0_1792) (ld_w (iblk m c 7 t) _ inb_S1024x2816_S1024x256_0_1792) (hist_skip _ inb_S1x8x2816_S1x8x256_0_0_1536 inb_S1x8x2816_S1x8x256_0_0_1792 _ _ _ (by decide) (hist_skip _ inb_S1x8x2816_S1x8x256_0_0_1280 inb_S1x8x2816_S1x8x256_0_0_1792 _ _ _ (by decide) (hist_skip _ inb_S1x8x2816_S1x8x256_0_0_1024 inb_S1x8x2816_S1x8x256_0_0_1792 _ _ _ (by decide) (hist_skip _ inb_S1x8x2816_S1x8x256_0_0_768 inb_S1x8x2816_S1x8x256_0_0_1792 _ _ _ (by decide) (hist_skip _ inb_S1x8x2816_S1x8x256_0_0_512 inb_S1x8x2816_S1x8x256_0_0_1792 _ _ _ (by decide) (hist_skip _ inb_S1x8x2816_S1x8x256_0_0_256 inb_S1x8x2816_S1x8x256_0_0_1792 _ _ _ (by decide) (hist_skip _ inb_S1x8x2816_S1x8x256_0_0_0 inb_S1x8x2816_S1x8x256_0_0_1792 _ _ _ (by decide) (hist0 _ (by decide) (k0_pay2 (iblk m c 11 t)) inb_S1x8x2816_S1x8x256_0_0_1792)))))))) (ld_t (iblk m c 9 t) 2 _ inb_S3x2816_S1x256_2_1792) (ld_b (iblk m c 10 t) _ inb_S1x2816_S1x256_0_1792) (ld_t (iblk m c 9 t) 1 _ inb_S3x2816_S1x256_1_1792) (ld_t (iblk m c 9 t) 0 _ inb_S3x2816_S1x256_0_1792) r j))
    (fun r j => (congrFun (chunk8 (h2Of m c t) _ _ _ _ _ _ _) _).trans (chunk_col (h2Of m c t) (iblk m c 6 t) (iblk m c 7 t) (iblk m c 9 t) (iblk m c 10 t) _ 2048 (by decide) (ld_w (iblk m c 6 t) _ inb_S1024x2816_S1024x256_0_2048) (ld_w (iblk m c 7 t) _ inb_S1024x2816_S1024x256_0_2048) (hist_skip _ inb_S1x8x2816_S1x8x256_0_0_1792 inb_S1x8x2816_S1x8x256_0_0_2048 _ _ _ (by decide) (hist_skip _ inb_S1x8x2816_S1x8x256_0_0_1536 inb_S1x8x2816_S1x8x256_0_0_2048 _ _ _ (by decide) (hist_skip _ inb_S1x8x2816_S1x8x256_0_0_1280 inb_S1x8x2816_S1x8x256_0_0_2048 _ _ _ (by decide) (hist_skip _ inb_S1x8x2816_S1x8x256_0_0_1024 inb_S1x8x2816_S1x8x256_0_0_2048 _ _ _ (by decide) (hist_skip _ inb_S1x8x2816_S1x8x256_0_0_768 inb_S1x8x2816_S1x8x256_0_0_2048 _ _ _ (by decide) (hist_skip _ inb_S1x8x2816_S1x8x256_0_0_512 inb_S1x8x2816_S1x8x256_0_0_2048 _ _ _ (by decide) (hist_skip _ inb_S1x8x2816_S1x8x256_0_0_256 inb_S1x8x2816_S1x8x256_0_0_2048 _ _ _ (by decide) (hist_skip _ inb_S1x8x2816_S1x8x256_0_0_0 inb_S1x8x2816_S1x8x256_0_0_2048 _ _ _ (by decide) (hist0 _ (by decide) (k0_pay2 (iblk m c 11 t)) inb_S1x8x2816_S1x8x256_0_0_2048))))))))) (ld_t (iblk m c 9 t) 2 _ inb_S3x2816_S1x256_2_2048) (ld_b (iblk m c 10 t) _ inb_S1x2816_S1x256_0_2048) (ld_t (iblk m c 9 t) 1 _ inb_S3x2816_S1x256_1_2048) (ld_t (iblk m c 9 t) 0 _ inb_S3x2816_S1x256_0_2048) r j))
    (fun r j => (congrFun (chunk9 (h2Of m c t) _ _ _ _ _ _ _) _).trans (chunk_col (h2Of m c t) (iblk m c 6 t) (iblk m c 7 t) (iblk m c 9 t) (iblk m c 10 t) _ 2304 (by decide) (ld_w (iblk m c 6 t) _ inb_S1024x2816_S1024x256_0_2304) (ld_w (iblk m c 7 t) _ inb_S1024x2816_S1024x256_0_2304) (hist_skip _ inb_S1x8x2816_S1x8x256_0_0_2048 inb_S1x8x2816_S1x8x256_0_0_2304 _ _ _ (by decide) (hist_skip _ inb_S1x8x2816_S1x8x256_0_0_1792 inb_S1x8x2816_S1x8x256_0_0_2304 _ _ _ (by decide) (hist_skip _ inb_S1x8x2816_S1x8x256_0_0_1536 inb_S1x8x2816_S1x8x256_0_0_2304 _ _ _ (by decide) (hist_skip _ inb_S1x8x2816_S1x8x256_0_0_1280 inb_S1x8x2816_S1x8x256_0_0_2304 _ _ _ (by decide) (hist_skip _ inb_S1x8x2816_S1x8x256_0_0_1024 inb_S1x8x2816_S1x8x256_0_0_2304 _ _ _ (by decide) (hist_skip _ inb_S1x8x2816_S1x8x256_0_0_768 inb_S1x8x2816_S1x8x256_0_0_2304 _ _ _ (by decide) (hist_skip _ inb_S1x8x2816_S1x8x256_0_0_512 inb_S1x8x2816_S1x8x256_0_0_2304 _ _ _ (by decide) (hist_skip _ inb_S1x8x2816_S1x8x256_0_0_256 inb_S1x8x2816_S1x8x256_0_0_2304 _ _ _ (by decide) (hist_skip _ inb_S1x8x2816_S1x8x256_0_0_0 inb_S1x8x2816_S1x8x256_0_0_2304 _ _ _ (by decide) (hist0 _ (by decide) (k0_pay2 (iblk m c 11 t)) inb_S1x8x2816_S1x8x256_0_0_2304)))))))))) (ld_t (iblk m c 9 t) 2 _ inb_S3x2816_S1x256_2_2304) (ld_b (iblk m c 10 t) _ inb_S1x2816_S1x256_0_2304) (ld_t (iblk m c 9 t) 1 _ inb_S3x2816_S1x256_1_2304) (ld_t (iblk m c 9 t) 0 _ inb_S3x2816_S1x256_0_2304) r j))
    (fun r j => (congrFun (chunk10 (h2Of m c t) _ _ _ _ _ _ _) _).trans (chunk_col (h2Of m c t) (iblk m c 6 t) (iblk m c 7 t) (iblk m c 9 t) (iblk m c 10 t) _ 2560 (by decide) (ld_w (iblk m c 6 t) _ inb_S1024x2816_S1024x256_0_2560) (ld_w (iblk m c 7 t) _ inb_S1024x2816_S1024x256_0_2560) (hist_skip _ inb_S1x8x2816_S1x8x256_0_0_2304 inb_S1x8x2816_S1x8x256_0_0_2560 _ _ _ (by decide) (hist_skip _ inb_S1x8x2816_S1x8x256_0_0_2048 inb_S1x8x2816_S1x8x256_0_0_2560 _ _ _ (by decide) (hist_skip _ inb_S1x8x2816_S1x8x256_0_0_1792 inb_S1x8x2816_S1x8x256_0_0_2560 _ _ _ (by decide) (hist_skip _ inb_S1x8x2816_S1x8x256_0_0_1536 inb_S1x8x2816_S1x8x256_0_0_2560 _ _ _ (by decide) (hist_skip _ inb_S1x8x2816_S1x8x256_0_0_1280 inb_S1x8x2816_S1x8x256_0_0_2560 _ _ _ (by decide) (hist_skip _ inb_S1x8x2816_S1x8x256_0_0_1024 inb_S1x8x2816_S1x8x256_0_0_2560 _ _ _ (by decide) (hist_skip _ inb_S1x8x2816_S1x8x256_0_0_768 inb_S1x8x2816_S1x8x256_0_0_2560 _ _ _ (by decide) (hist_skip _ inb_S1x8x2816_S1x8x256_0_0_512 inb_S1x8x2816_S1x8x256_0_0_2560 _ _ _ (by decide) (hist_skip _ inb_S1x8x2816_S1x8x256_0_0_256 inb_S1x8x2816_S1x8x256_0_0_2560 _ _ _ (by decide) (hist_skip _ inb_S1x8x2816_S1x8x256_0_0_0 inb_S1x8x2816_S1x8x256_0_0_2560 _ _ _ (by decide) (hist0 _ (by decide) (k0_pay2 (iblk m c 11 t)) inb_S1x8x2816_S1x8x256_0_0_2560))))))))))) (ld_t (iblk m c 9 t) 2 _ inb_S3x2816_S1x256_2_2560) (ld_b (iblk m c 10 t) _ inb_S1x2816_S1x256_0_2560) (ld_t (iblk m c 9 t) 1 _ inb_S3x2816_S1x256_1_2560) (ld_t (iblk m c 9 t) 0 _ inb_S3x2816_S1x256_0_2560) r j)) _) r e

end Point

end Cert.Kernel3Ideal.OutFfn
-- ==== Proof.OutFfnArr.lean ====
module

public import proofs.«01_k».proof.Proof.OutFfn

@[expose] public section

/-!
# The output projection and gated unit: the arrays the kernel writes
-/

noncomputable section

namespace Cert.Kernel3Ideal.OutFfn

open Cert.Kernel3Ideal Cert.Kernel3Ideal.Gen Idealize.ShloMosaic Idealize.ShloMosaic.TcCoe Idealize.SL.Sem
open Idealize.ShloMosaic.Pointwise

set_option maxRecDepth 16384

/-! ## The arrays, index by index -/

section Spec

variable (A0 : FVec Ideal S32x2064x1024 .f32) (A1 A2 A3 : FVec Ideal S32x2064x512 .bf16) (A4 : FVec Ideal S1536x1024 .f32)
  (A5 : FVec Ideal S1024 .f32) (A6 A7 : FVec Ideal S1024x2816 .f32) (A8 : FVec Ideal S2816x1024 .f32) (A9 : FVec Ideal S3x2816 .f32)
  (A10 : FVec Ideal S2816 .f32)

/-- The residual stream after the three branches are projected and added. -/
def resid (b : Fin 32) (s : Fin 2064) (e : Fin 1024) : EReal :=
  A0 (ix3 b s e) + ∑ k : Fin 512, A1 (ix3 b s k) * A4 (ix2 ⟨0 + k.val, by omega⟩ e)
    + ∑ k : Fin 512, A2 (ix3 b s k) * A4 (ix2 ⟨512 + k.val, by omega⟩ e)
    + ∑ k : Fin 512, A3 (ix3 b s k) * A4 (ix2 ⟨1024 + k.val, by omega⟩ e)

/-- Its rows, each divided by its root mean square and scaled by the gains. -/
def normed (b : Fin 32) (s : Fin 2064) (k : Fin 1024) : EReal :=
  resid A0 A1 A2 A3 A4 b s k
    * Ideal.rsqrt (Ideal.div (∑ e : Fin 1024, resid A0 A1 A2 A3 A4 b s e * resid A0 A1 A2 A3 A4 b s e) (Ideal.ofBits .f32 1149239296#32)
      + Ideal.ofBits .f32 897988541#32) * A5 (ix1 k)

/-- Column `j` of the normalised rows times a matrix. -/
def projCol (W : FVec Ideal S1024x2816 .f32) (b : Fin 32) (j : Fin 2816) (s : Fin 2064) : EReal :=
  ∑ k : Fin 1024, normed A0 A1 A2 A3 A4 A5 b s k * W (ix2 k j)

/-- The first product `k` rows earlier, zero before the first row. -/
def shift (b : Fin 32) (j : Fin 2816) (k : ℕ) (s : Fin 2064) : EReal :=
  if s.val < k then 0 else projCol A0 A1 A2 A3 A4 A5 A6 b j ⟨s.val - k, by omega⟩

/-- The gated entry. -/
def gated (b : Fin 32) (s : Fin 2064) (j : Fin 2816) : EReal :=
  gate (A9 (ix2 2 j) * projCol A0 A1 A2 A3 A4 A5 A6 b j s + A10 (ix1 j) + A9 (ix2 1 j) * shift A0 A1 A2 A3 A4 A5 A6 b j 1 s
    + A9 (ix2 0 j) * shift A0 A1 A2 A3 A4 A5 A6 b j 2 s) (projCol A0 A1 A2 A3 A4 A5 A7 b j s)

/-- The first result. -/
def outArr : FVec Ideal S32x2064x1024 .f32 := fun i =>
  resid A0 A1 A2 A3 A4 (i 0) (i 1) (i 2)
    + ∑ j : Fin 2816, gated A0 A1 A2 A3 A4 A5 A6 A7 A9 A10 (i 0) (i 1) j * A8 (ix2 j (i 2))

/-- The second result: the first product's last eight rows. -/
def lastArr : FVec Ideal S32x8x2816 .f32 := fun i =>
  projCol A0 A1 A2 A3 A4 A5 A6 (i 0) (i 2) ⟨2056 + (i 1).val, by have : (i 1).val < 8 := (i 1).isLt; omega⟩

end Spec

/-! ## The blocks of a grid point -/

variable (m : (ℓ : Loc nD τ sig) → Buf (Elt Ideal) ℓ) (c : Dev nD)

theorem idx : ∀ t : Fin cfg0.N, win0_0.index t = ![t.val / 3, t.val % 3, 0] ∧ win0_1.index t = ![t.val / 3, t.val % 3, 0]
    ∧ win0_2.index t = ![t.val / 3, t.val % 3, 0] ∧ win0_3.index t = ![t.val / 3, t.val % 3, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val / 3, 0, 0]
    ∧ win0_12.index t = ![t.val / 3, t.val % 3, 0] ∧ win0_13.index t = ![t.val / 3, 0, 0] :=
  (by decide +kernel : ∀ t : Fin grid0.N, _)

theorem V1 : V m c main_v1 = (truncf .bf16 (m ((c : Thread nD τ).loc main_arg4) : FVec Ideal S1536x1024 .f32) bitsLt_bf16_f32 : FVec Ideal S1536x1024 .bf16) := rfl
theorem V3 : V m c main_v3 = (truncf .bf16 (m ((c : Thread nD τ).loc main_arg6) : FVec Ideal S1024x2816 .f32) bitsLt_bf16_f32 : FVec Ideal S1024x2816 .bf16) := rfl
theorem V4 : V m c main_v4 = (truncf .bf16 (m ((c : Thread nD τ).loc main_arg7) : FVec Ideal S1024x2816 .f32) bitsLt_bf16_f32 : FVec Ideal S1024x2816 .bf16) := rfl
theorem V5 : V m c main_v5 = (truncf .bf16 (m ((c : Thread nD τ).loc main_arg8) : FVec Ideal S2816x1024 .f32) bitsLt_bf16_f32 : FVec Ideal S2816x1024 .bf16) := rfl
theorem V2 : V m c main_v2 = shapeCast S1x1024 (m ((c : Thread nD τ).loc main_arg5) : FVec Ideal S1024 .f32) shapeCasts_S1024_S1x1024 := rfl
theorem V6 : V m c main_v6 = shapeCast S1x2816 (m ((c : Thread nD τ).loc main_arg10) : FVec Ideal S2816 .f32) shapeCasts_S2816_S1x2816 := rfl
theorem V0 : V m c main_v0 = (broadcastInDim S32x8x2816 ![] bcast_S_S32x8x2816 (constant (F := Ideal) S_ .f32 0#32) : FVec Ideal S32x8x2816 .f32) := rfl

variable (t : Fin cfg0.N)

/-- The batch entry of a grid point. -/
def bt : Fin 32 := ⟨t.val / 3, by have : t.val < 96 := t.isLt; omega⟩
/-- The row of the array that row `r` of a grid point's block holds. -/
def rw' (r : Fin 688) : Fin 2064 := ⟨t.val % 3 * 688 + r.val, by omega⟩

theorem blk0 (r : Fin 688) (k : Fin 1024) : iblk m c 0 t (ix3 0 r k) = m ((c : Thread nD τ).loc main_arg0) (ix3 (bt t) (rw' t r) k) := by
  blk_ext [iblk, V, idx t, bt, rw']
theorem blk1 (r : Fin 688) (k : Fin 512) : iblk m c 1 t (ix3 0 r k) = m ((c : Thread nD τ).loc main_arg1) (ix3 (bt t) (rw' t r) k) := by
  blk_ext [iblk, V, idx t, bt, rw']
theorem blk2 (r : Fin 688) (k : Fin 512) : iblk m c 2 t (ix3 0 r k) = m ((c : Thread nD τ).loc main_arg2) (ix3 (bt t) (rw' t r) k) := by
  blk_ext [iblk, V, idx t, bt, rw']
theorem blk3 (r : Fin 688) (k : Fin 512) : iblk m c 3 t (ix3 0 r k) = m ((c : Thread nD τ).loc main_arg3) (ix3 (bt t) (rw' t r) k) := by
  blk_ext [iblk, V, idx t, bt, rw']

theorem blk4 (k : Fin 1536) (e : Fin 1024) : iblk m c 4 t (ix2 k e) = m ((c : Thread nD τ).loc main_arg4) (ix2 k e) := by
  show V m c main_v1 (((cfg0.win 4).blk t).view.emb _) = _
  have e : ((cfg0.win 4).blk t).view.emb (ix2 k e) = ix2 k e := by blk_ext [idx t]
  rw [V1, e]
  rfl
theorem blk5 (k : Fin 1024) : iblk m c 5 t (ix2 0 k) = m ((c : Thread nD τ).loc main_arg5) (ix1 k) := by
  show V m c main_v2 (((cfg0.win 5).blk t).view.emb _) = _
  have e : ((cfg0.win 5).blk t).view.emb (ix2 0 k) = ix2 0 k := by blk_ext [idx t]
  rw [V2, e]
  refine shapeCast_apply _ _ _ _ ?_
  show (S1024.rowMajor _).val = _
  rw [Shape.rowMajor_val_one, Shape.rowMajor_val_two]
  show k.val = 0 * 1024 + k.val
  omega
theorem blk6 (k : Fin 1024) (j : Fin 2816) : iblk m c 6 t (ix2 k j) = m ((c : Thread nD τ).loc main_arg6) (ix2 k j) := by
  show V m c main_v3 (((cfg0.win 6).blk t).view.emb _) = _
  have e : ((cfg0.win 6).blk t).view.emb (ix2 k j) = ix2 k j := by blk_ext [idx t]
  rw [V3, e]
  rfl
theorem blk7 (k : Fin 1024) (j : Fin 2816) : iblk m c 7 t (ix2 k j) = m ((c : Thread nD τ).loc main_arg7) (ix2 k j) := by
  show V m c main_v4 (((cfg0.win 7).blk t).view.emb _) = _
  have e : ((cfg0.win 7).blk t).view.emb (ix2 k j) = ix2 k j := by blk_ext [idx t]
  rw [V4, e]
  rfl
theorem blk8 (j : Fin 2816) (e : Fin 1024) : iblk m c 8 t (ix2 j e) = m ((c : Thread nD τ).loc main_arg8) (ix2 j e) := by
  show V m c main_v5 (((cfg0.win 8).blk t).view.emb _) = _
  have e : ((cfg0.win 8).blk t).view.emb (ix2 j e) = ix2 j e := by blk_ext [idx t]
  rw [V5, e]
  rfl
theorem blk9 (i : Fin 3) (j : Fin 2816) : iblk m c 9 t (ix2 i j) = m ((c : Thread nD τ).loc main_arg9) (ix2 i j) := by
  blk_ext [iblk, V, idx t]
theorem blk10 (j : Fin 2816) : iblk m c 10 t (ix2 0 j) = m ((c : Thread nD τ).loc main_arg10) (ix1 j) := by
  show V m c main_v6 (((cfg0.win 10).blk t).view.emb _) = _
  have e : ((cfg0.win 10).blk t).view.emb (ix2 0 j) = ix2 0 j := by blk_ext [idx t]
  rw [V6, e]
  refine shapeCast_apply _ _ _ _ ?_
  show (S2816.rowMajor _).val = _
  rw [Shape.rowMajor_val_one, Shape.rowMajor_val_two]
  show j.val = 0 * 2816 + j.val
  omega
theorem blk11 (i : Fin 8) (j : Fin 2816) : iblk m c 11 t (ix3 0 i j) = (0 : EReal) := by
  show V m c main_v0 (((cfg0.win 11).blk t).view.emb _) = _
  have e : ((cfg0.win 11).blk t).view.emb (ix3 0 i j) = ix3 (bt t) i j := by blk_ext [idx t, bt]
  rw [V0, e]
  pointwise

theorem hist_zero (i : Fin 8) (j : Fin 2816) : k0_pay2 (iblk m c 11 t) (ix3 0 i j) = (0 : EReal) := by
  refine Eq.trans ?_ (blk11 m c t i j)
  pointwise [k0_pay2]

theorem ld_out (x : Vec Ideal S1536x1024 .bf16) {o : ℕ} (ho : o + 512 ≤ 1536)
    (i : ∀ a, (![o, 0] : Fin 2 → ℕ) a + (![512, 1024] : Fin 2 → ℕ) a ≤ S1536x1024.size a) (k : Fin 512) (e : Fin 1024) :
    (View.ld x (Rect.unit (s := S1536x1024) ![o, 0] ![512, 1024] i) : S512x1024.Idx → EReal) (ix2 k e) = x (ix2 ⟨o + k.val, by omega⟩ e) := by
  refine congrArg x (funext fun a => Fin.ext ?_)
  fin_cases a
  · show o + 1 * k.val = o + k.val; omega
  · show 0 + 1 * e.val = e.val; omega

section Rows

variable (x0 : Vec Ideal S1x688x1024 .f32) (x1 x2 x3 : Vec Ideal S1x688x512 .bf16) (w0 w1 w2 : Vec Ideal S512x1024 .bf16)
  (xr : FVec Ideal S688x1024 .f32) (g : Vec Ideal S1x1024 .f32) (ms : FVec Ideal S688x1 .f32)

theorem pay3_at (r : Fin 688) (e : Fin 1024) : k0_pay3 x0 x1 w0 x2 w1 x3 w2 (ix2 r e)
    = x0 (ix3 0 r e) + ∑ k : Fin 512, x1 (ix3 0 r k) * w0 (ix2 k e) + ∑ k : Fin 512, x2 (ix3 0 r k) * w1 (ix2 k e)
      + ∑ k : Fin 512, x3 (ix3 0 r k) * w2 (ix2 k e) := by
  pointwise [k0_pay3]

theorem pay5_at (r : Fin 688) : k0_pay5 x0 x1 w0 x2 w1 x3 w2 (ix2 r 0)
    = Ideal.div (∑ e : Fin 1024, k0_pay3 x0 x1 w0 x2 w1 x3 w2 (ix2 r e) * k0_pay3 x0 x1 w0 x2 w1 x3 w2 (ix2 r e))
      (Ideal.ofBits .f32 1149239296#32) := by
  pointwise [k0_pay5]

theorem pay6_at (r : Fin 688) (k : Fin 1024) : k0_pay6 xr (k0_pay4 g) ms (ix2 r k)
    = xr (ix2 r k) * Ideal.rsqrt (ms (ix2 r 0) + Ideal.ofBits .f32 897988541#32) * g (ix2 0 k) := by
  pointwise [k0_pay6, k0_pay4]

end Rows

/-- The residual stream of the program's arguments. -/
abbrev residM := resid (m ((c : Thread nD τ).loc main_arg0)) (m ((c : Thread nD τ).loc main_arg1)) (m ((c : Thread nD τ).loc main_arg2))
  (m ((c : Thread nD τ).loc main_arg3)) (m ((c : Thread nD τ).loc main_arg4))
/-- The normalised rows of the program's arguments. -/
abbrev normedM := normed (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
/-- The two products of the program's arguments. -/
abbrev projColM := projCol (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem xr_at (r : Fin 688) (e : Fin 1024) : xrOf m c t (ix2 r e) = residM m c (bt t) (rw' t r) e := by
  refine (pay3_at _ _ _ _ _ _ _ r e).trans ?_
  show _ = resid _ _ _ _ _ _ _ _
  unfold resid
  simp only [ld_out (iblk m c 4 t) (o := 0) (by decide), ld_out (iblk m c 4 t) (o := 512) (by decide), ld_out (iblk m c 4 t) (o := 1024) (by decide), blk0, blk1, blk2, blk3, blk4]

theorem h2_at (r : Fin 688) (k : Fin 1024) : h2Of m c t (ix2 r k) = normedM m c (bt t) (rw' t r) k := by
  refine (pay6_at _ _ _ r k).trans ?_
  refine congr (congrArg _ (congr (congrArg _ (xr_at m c t r k)) (congrArg (fun z => Ideal.rsqrt (z + _)) ((pay5_at _ _ _ _ _ _ _ r).trans ?_)))) (blk5 m c t k)
  refine congrArg (fun z => Ideal.div z _) (Finset.sum_congr rfl fun e _ => ?_)
  exact congrArg (fun z : EReal => z * z) (xr_at m c t r e)

theorem g_at (j : Fin 2816) (r : Fin 688) : gcol (h2Of m c t) (iblk m c 6 t) j r = projColM m c (m ((c : Thread nD τ).loc main_arg6)) (bt t) j (rw' t r) := by
  show gcol _ _ _ _ = projCol _ _ _ _ _ _ _ _ _ _
  unfold gcol projCol
  exact Finset.sum_congr rfl fun k _ => congrArg₂ (fun a b : EReal => a * b) (h2_at m c t r k) (blk6 m c t k j)

theorem u_at (j : Fin 2816) (r : Fin 688) : gcol (h2Of m c t) (iblk m c 7 t) j r = projColM m c (m ((c : Thread nD τ).loc main_arg7)) (bt t) j (rw' t r) := by
  show gcol _ _ _ _ = projCol _ _ _ _ _ _ _ _ _ _
  unfold gcol projCol
  exact Finset.sum_congr rfl fun k _ => congrArg₂ (fun a b : EReal => a * b) (h2_at m c t r k) (blk7 m c t k j)

theorem last_at (i : Fin 8) (j : Fin 2816) : ((outsAt0 m c t.val t.isLt).2 : S1x8x2816.Idx → EReal) (ix3 0 i j)
    = projColM m c (m ((c : Thread nD τ).loc main_arg6)) (bt t) j (rw' t ⟨680 + i.val, by omega⟩) := by
  by_cases h0 : t.val % 3 = 0
  · exact (last_A m c t h0 i j).trans (g_at m c t j _)
  · exact (last_B m c t h0 i j).trans (g_at m c t j _)

/-- The eight rows before a block: zero before the first row. -/
def HistOk (H : Vec Ideal S1x8x2816 .f32) : Prop := ∀ (i : Fin 8) (j : Fin 2816) , H (ix3 0 i j)
  = if h : t.val % 3 = 0 then 0 else projColM m c (m ((c : Thread nD τ).loc main_arg6)) (bt t) j ⟨t.val % 3 * 688 - 8 + i.val, by omega⟩

theorem hist_A (h0 : t.val % 3 = 0) : HistOk m c t (k0_pay2 (iblk m c 11 t)) := fun i j => by
  rw [dif_pos h0, hist_zero]

theorem hist_B (h0 : ¬ t.val % 3 = 0) : HistOk m c t (outsAt0 m c (t.val - 1) (by have := t.isLt; omega)).2 := fun i j => by
  rw [dif_neg h0]
  refine (last_at m c ⟨t.val - 1, by have := t.isLt; omega⟩ i j).trans ?_
  refine congr (congrArg (fun b => projColM m c _ b j) (Fin.ext ?_)) (Fin.ext ?_)
  · show (t.val - 1) / 3 = t.val / 3; omega
  · show (t.val - 1) % 3 * 688 + (680 + i.val) = t.val % 3 * 688 - 8 + i.val; omega

/-- The first product of the program's arguments some rows earlier. -/
abbrev shiftM := shift (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem back_at (H : Vec Ideal S1x8x2816 .f32) (hH : HistOk m c t H) (j : Fin 2816) (k : Fin 8) (r : Fin 688) :
    back (gcol (h2Of m c t) (iblk m c 6 t) j) (fun i => H (ix3 0 i j)) k r = shiftM m c (bt t) j k.val (rw' t r) := by
  show _ = shift _ _ _ _ _ _ _ _ _ _ _
  unfold back shift
  by_cases hr : r.val < k.val
  · rw [dif_pos hr]
    refine (hH _ j).trans ?_
    by_cases h0 : t.val % 3 = 0
    · rw [dif_pos h0, if_pos (by show t.val % 3 * 688 + r.val < k.val; omega)]
    · rw [dif_neg h0, if_neg (by show ¬ t.val % 3 * 688 + r.val < k.val; omega)]
      refine congrArg (projColM m c _ (bt t) j) (Fin.ext ?_)
      show t.val % 3 * 688 - 8 + (8 - k.val + r.val) = t.val % 3 * 688 + r.val - k.val
      omega
  · rw [dif_neg hr, if_neg (by show ¬ t.val % 3 * 688 + r.val < k.val; omega), g_at]
    refine congrArg (projColM m c _ (bt t) j) (Fin.ext ?_)
    show t.val % 3 * 688 + (r.val - k.val) = t.val % 3 * 688 + r.val - k.val
    omega

theorem act_at (H : Vec Ideal S1x8x2816 .f32) (hH : HistOk m c t H) (j : Fin 2816) (r : Fin 688) :
    act (h2Of m c t) (iblk m c 6 t) (iblk m c 7 t) (iblk m c 9 t) (iblk m c 10 t) H r j
      = gated (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg9))
        (m ((c : Thread nD τ).loc main_arg10)) (bt t) (rw' t r) j := by
  unfold act gated taps
  rw [back_at m c t H hH, back_at m c t H hH, g_at, u_at, blk9, blk9, blk9, blk10]
  rfl

/-- The first result of the program's arguments. -/
abbrev outArrM := outArr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))
/-- The second result of the program's arguments. -/
abbrev lastArrM := lastArr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))

theorem point12 (r : Fin 688) (e : Fin 1024) : ((outsAt0 m c t.val t.isLt).1 : S1x688x1024.Idx → EReal) (ix3 0 r e)
    = outArrM m c (ix3 (bt t) (rw' t r) e) := by
  have h : ∀ H : Vec Ideal S1x8x2816 .f32, HistOk m c t H → (xrOf m c t (ix2 r e) : EReal) + ∑ j : Fin 2816, act (h2Of m c t) (iblk m c 6 t) (iblk m c 7 t) (iblk m c 9 t) (iblk m c 10 t)
        H r j * (show Vec Ideal S2816x1024 .bf16 from iblk m c 8 t) (ix2 j e) = outArrM m c (ix3 (bt t) (rw' t r) e) := fun H hH =>
    congrArg₂ (fun a b : EReal => a + b) (xr_at m c t r e) (Finset.sum_congr rfl fun j _ =>
      congrArg₂ (fun a b : EReal => a * b) (act_at m c t H hH j r) (blk8 m c t j e))
  by_cases h0 : t.val % 3 = 0
  · exact (out_A m c t h0 r e).trans (h _ (hist_A m c t h0))
  · exact (out_B m c t h0 r e).trans (h _ (hist_B m c t h0))

theorem final12 : (dats m 0 c).arrAt 12 (cfgs 0).N = outArrM m c := by
  refine (dats m 0 c).arrAt_eq_of_covers 12 _ (by decide +kernel) fun t _ y => ?_
  have e : (((cfg0.win 12).blk t).view.emb y : S32x2064x1024.Idx) = ix3 (bt t) (rw' t (y 1)) (y 2) := by
    blk_ext [idx t, bt, rw']
  rw [e, after0_12]
  have hy0 : (y 0).val < 1 := (y 0).isLt
  have ey : ((cfg0.win 12).xinj (cfg0.grid.coords t) y : S1x688x1024.Idx) = ix3 0 (y 1) (y 2) := by
    blk_ext []
  refine Eq.trans ?_ (point12 m c t (y 1) (y 2))
  blk_simp
  exact congrArg (outsAt0 m c t.val t.isLt).1 ey

theorem final13 : (dats m 0 c).arrAt 13 (cfgs 0).N = lastArrM m c := by
  refine (dats m 0 c).arrAt_eq_of_covers 13 _ (by decide +kernel) fun t hf y => ?_
  have h2 : t.val % 3 = 2 := (flush0_13 t).mp hf
  have e : (((cfg0.win 13).blk t).view.emb y : S32x8x2816.Idx) = ix3 (bt t) (y 1) (y 2) := by
    blk_ext [idx t, bt]
  rw [e, after0_13]
  have hy0 : (y 0).val < 1 := (y 0).isLt
  have ey : ((cfg0.win 13).xinj (cfg0.grid.coords t) y : S1x8x2816.Idx) = ix3 0 (y 1) (y 2) := by
    blk_ext []
  refine Eq.trans ?_ ((last_at m c t (y 1) (y 2)).trans ?_)
  · blk_simp
    exact congrArg (outsAt0 m c t.val t.isLt).2 ey
  · refine congrArg (projColM m c _ (bt t) (y 2)) (Fin.ext ?_)
    show t.val % 3 * 688 + (680 + (y 1).val) = 2056 + (y 1).val
    omega

end Cert.Kernel3Ideal.OutFfn
-- ==== Proof.OutFfnRef.lean ====
module

public import proofs.«01_k».proof.Defs
public import proofs.«01_k».proof.Proof.OutFfnArr
public import proofs.«01_k».proof.Proof.Gen.Reference3Ideal.Read
public import Idealize.ShloMosaic.Lib.KernelVsHost
public import Idealize.ShloMosaic.Lib.Pointwise
public import Idealize.ShloMosaic.Lib.Pipeline.ValueKit

@[expose] public section

/-!
# The output projection and gated unit: the arrays the reference writes
-/

noncomputable section

namespace Cert.Reference3Ideal.OutFfn

open Cert.Reference3Ideal Cert.Reference3Ideal.Gen Idealize.ShloMosaic Idealize.ShloMosaic.TcCoe Idealize.SL.Sem
open Idealize.ShloMosaic.Pointwise Cert.Reference3Ideal.Read
open Cert.Kernel3Ideal.OutFfn (resid normed projCol shift gate gated outArr lastArr)

set_option maxRecDepth 16384

variable (A0 : FVec Ideal S32x2064x1024 .f32) (A1 A2 A3 : FVec Ideal S32x2064x512 .bf16) (A4 : FVec Ideal S1536x1024 .f32)
  (A5 : FVec Ideal S1024 .f32) (A6 A7 : FVec Ideal S1024x2816 .f32) (A8 : FVec Ideal S2816x1024 .f32) (A9 : FVec Ideal S3x2816 .f32)
  (A10 : FVec Ideal S2816 .f32)

theorem sum_three (f : Fin 1536 → EReal) : ∑ x : Fin 1536, f x = ∑ k : Fin 512, f ⟨0 + k.val, by omega⟩
    + ∑ k : Fin 512, f ⟨512 + k.val, by omega⟩ + ∑ k : Fin 512, f ⟨1024 + k.val, by omega⟩ := by
  show (∑ x : Fin (512 + 512 + 512), f x) = _
  rw [Fin.sum_univ_add, Fin.sum_univ_add]
  refine congrArg₂ (fun a b : EReal => a + b) (congrArg₂ (fun a b : EReal => a + b) ?_ ?_) ?_
  all_goals refine Finset.sum_congr rfl fun k _ => congrArg f (Fin.ext ?_)
  · show k.val = 0 + k.val; omega
  · rfl
  · rfl

theorem cat0 (b : Fin 32) (s : Fin 2064) (k : Fin 512) : val_main_v3 (F := Ideal) A1 A2 A3 (ix3 b s ⟨0 + k.val, by omega⟩) = A1 (ix3 b s k) := by
  refine (concatenate_apply_piece (t := S32x2064x1536) 2 [⟨S32x2064x512, val_main_v0 (F := Ideal) A1⟩, ⟨S32x2064x512, val_main_v1 (F := Ideal) A2⟩, ⟨S32x2064x512, val_main_v2 (F := Ideal) A3⟩]
    concatenates_S32x2064x512_S32x2064x512_S32x2064x512_S32x2064x1536_d2 (ix3 b s ⟨0 + k.val, by omega⟩) 0 (by show 0 < 3; omega) _
    (val_main_v0 (F := Ideal) A1) rfl rfl 0 rfl (ix3 b s k) ?_ ?_).trans rfl
  · intro a ha
    fin_cases a
    · rfl
    · rfl
    · exact absurd rfl ha
  · rfl

theorem cat1 (b : Fin 32) (s : Fin 2064) (k : Fin 512) : val_main_v3 (F := Ideal) A1 A2 A3 (ix3 b s ⟨512 + k.val, by omega⟩) = A2 (ix3 b s k) := by
  refine (concatenate_apply_piece (t := S32x2064x1536) 2 [⟨S32x2064x512, val_main_v0 (F := Ideal) A1⟩, ⟨S32x2064x512, val_main_v1 (F := Ideal) A2⟩, ⟨S32x2064x512, val_main_v2 (F := Ideal) A3⟩]
    concatenates_S32x2064x512_S32x2064x512_S32x2064x512_S32x2064x1536_d2 (ix3 b s ⟨512 + k.val, by omega⟩) 1 (by show 1 < 3; omega) _
    (val_main_v1 (F := Ideal) A2) rfl rfl 512 rfl (ix3 b s k) ?_ ?_).trans rfl
  · intro a ha
    fin_cases a
    · rfl
    · rfl
    · exact absurd rfl ha
  · rfl

theorem cat2 (b : Fin 32) (s : Fin 2064) (k : Fin 512) : val_main_v3 (F := Ideal) A1 A2 A3 (ix3 b s ⟨1024 + k.val, by omega⟩) = A3 (ix3 b s k) := by
  refine (concatenate_apply_piece (t := S32x2064x1536) 2 [⟨S32x2064x512, val_main_v0 (F := Ideal) A1⟩, ⟨S32x2064x512, val_main_v1 (F := Ideal) A2⟩, ⟨S32x2064x512, val_main_v2 (F := Ideal) A3⟩]
    concatenates_S32x2064x512_S32x2064x512_S32x2064x512_S32x2064x1536_d2 (ix3 b s ⟨1024 + k.val, by omega⟩) 2 (by show 2 < 3; omega) _
    (val_main_v2 (F := Ideal) A3) rfl rfl 1024 rfl (ix3 b s k) ?_ ?_).trans rfl
  · intro a ha
    fin_cases a
    · rfl
    · rfl
    · exact absurd rfl ha
  · rfl

theorem resid_at (b : Fin 32) (s : Fin 2064) (e : Fin 1024) : val_main_v5 (F := Ideal) A0 A1 A2 A3 A4 (ix3 b s e) = resid A0 A1 A2 A3 A4 b s e := by
  pointwise [val_main_v5, val_main_v4]
  rw [sum_three]
  simp only [cat0, cat1, cat2]
  unfold resid
  rw [add_assoc, add_assoc, add_assoc]

theorem normed_at (b : Fin 32) (s : Fin 2064) (k : Fin 1024) : val_main_v18 (F := Ideal) A0 A1 A2 A3 A4 A5 (ix3 b s k) = normed A0 A1 A2 A3 A4 A5 b s k := by
  pointwise [val_main_v18, val_main_v15, val_main_v6, val_main_cst, val_main_v7, val_main_v8, val_main_cst_0, val_main_v9, val_main_v10, val_main_cst_1, val_main_v11, val_main_v12, val_main_v13, val_main_v14, val_main_v16, val_main_v17]
  simp only [resid_at]
  rfl

theorem g_at (b : Fin 32) (s : Fin 2064) (j : Fin 2816) : val_main_v19 (F := Ideal) A0 A1 A2 A3 A4 A5 A6 (ix3 b s j) = projCol A0 A1 A2 A3 A4 A5 A6 b j s := by
  pointwise [val_main_v19]
  simp only [normed_at]
  rfl

theorem u_at (b : Fin 32) (s : Fin 2064) (j : Fin 2816) : val_main_v20 (F := Ideal) A0 A1 A2 A3 A4 A5 A7 (ix3 b s j) = projCol A0 A1 A2 A3 A4 A5 A7 b j s := by
  pointwise [val_main_v20]
  simp only [normed_at]
  rfl

theorem zero_of_int : (FloatOps.sitofp .f32 (0#32) : Ideal .f32) = (0 : EReal) := by
  show (((0#32 : BitVec 32).toInt : ℝ) : EReal) = 0
  simp

/-- The padded product at row `i` is the product two rows earlier. -/
theorem padded_at (b : Fin 32) (i : Fin 2066) (j : Fin 2816) (s : Fin 2064) (k : ℕ) (h : i.val + k = s.val + 2) :
    val_main_v21 (F := Ideal) A0 A1 A2 A3 A4 A5 A6 (ix3 b i j) = shift A0 A1 A2 A3 A4 A5 A6 b j k s := by
  pointwise [val_main_v21, val_main_call0_v0, val_main_c]
  unfold shift
  by_cases hk : s.val < k
  · rw [dif_neg (by omega), if_pos hk, zero_of_int]
  · rw [dif_pos (by omega), if_neg hk, g_at]
    refine congrArg (projCol _ _ _ _ _ _ _ b j) (Fin.ext ?_)
    show i.val - 2 = s.val - k
    omega

theorem shift_zero (b : Fin 32) (j : Fin 2816) (s : Fin 2064) : shift A0 A1 A2 A3 A4 A5 A6 b j 0 s = projCol A0 A1 A2 A3 A4 A5 A6 b j s := if_neg (by omega)

theorem reorder (x2 x1 x0 w0 w1 w2 d : EReal) : x2 * w0 + x1 * w1 + x0 * w2 + d = w2 * x0 + d + w1 * x1 + w0 * x2 := by
  rw [mul_comm x2, mul_comm x1, mul_comm x0]
  generalize w0 * x2 = p
  generalize w1 * x1 = q
  generalize w2 * x0 = r
  ac_rfl

theorem gated_at (b : Fin 32) (s : Fin 2064) (j : Fin 2816) : val_main_v48 (F := Ideal) A0 A1 A2 A3 A4 A5 A6 A7 A9 A10 (ix3 b s j)
    = gated A0 A1 A2 A3 A4 A5 A6 A7 A9 A10 b s j := by
  have hc : val_main_v46 (F := Ideal) A0 A1 A2 A3 A4 A5 A6 A9 A10 (ix3 b s j)
      = A9 (ix2 2 j) * projCol A0 A1 A2 A3 A4 A5 A6 b j s + A10 (ix1 j) + A9 (ix2 1 j) * shift A0 A1 A2 A3 A4 A5 A6 b j 1 s
        + A9 (ix2 0 j) * shift A0 A1 A2 A3 A4 A5 A6 b j 2 s := by
    pointwise [val_main_v22, val_main_v23, val_main_v24, val_main_v25, val_main_v26, val_main_v27, val_main_cst_2, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
    rw [padded_at _ _ _ _ _ _ _ b _ j s 2 rfl, padded_at _ _ _ _ _ _ _ b _ j s 1 (by show 1 + s.val + 1 = s.val + 2; omega),
      padded_at _ _ _ _ _ _ _ b _ j s 0 (by show 2 + s.val + 0 = s.val + 2; omega), shift_zero]
    exact reorder _ _ _ _ _ _ _
  pointwise [val_main_v48, val_main_v47, val_main_call1_v0, val_main_call1_v1, val_main_call1_cst, val_main_call1_v2, val_main_call1_v3, val_main_call1_cst_0, val_main_call1_v4, val_main_call1_v5]
  rw [hc, u_at]
  unfold gated gate
  rw [zero_sub]

theorem out_eq : val_main_v50 (F := Ideal) A0 A1 A2 A3 A4 A5 A6 A7 A8 A9 A10 = outArr A0 A1 A2 A3 A4 A5 A6 A7 A8 A9 A10 := by
  funext i
  obtain ⟨b, s, e, rfl⟩ : ∃ b s e, i = ix3 b s e := ⟨i 0, i 1, i 2, by funext a; fin_cases a <;> rfl⟩
  pointwise [val_main_v50, val_main_v49]
  simp only [resid_at, gated_at]
  rfl

theorem last_eq : val_main_v51 (F := Ideal) A0 A1 A2 A3 A4 A5 A6 = lastArr A0 A1 A2 A3 A4 A5 A6 := by
  funext i
  obtain ⟨b, s, e, rfl⟩ : ∃ b s e, i = ix3 b s e := ⟨i 0, i 1, i 2, by funext a; fin_cases a <;> rfl⟩
  pointwise [val_main_v51]
  refine (padded_at _ _ _ _ _ _ _ b _ e ⟨2056 + s.val, by omega⟩ 0 (by show 2058 + s.val + 0 = 2056 + s.val + 2; omega)).trans ?_
  exact shift_zero _ _ _ _ _ _ _ _ _ _

end Cert.Reference3Ideal.OutFfn

namespace Cert.OutFfnClaim

open Idealize.ShloMosaic Idealize.SL.Sem

theorem refQuiet : Cert.quiescent_Reference3Ideal := by
  intro m g _
  hlo_run
  all_goals first
    | exact sem_eq_zero_of_no_sems (sig := Cert.Reference3Ideal.sig) (by decide) _
    | exact fun _ => ⟨trivial, trivial, trivial, trivial, trivial, trivial, trivial, trivial, trivial, trivial, trivial⟩

theorem algebraic : Cert.algebraic_Kernel3Ideal_Reference3Ideal := by
  pair_intro
  · run_from Cert.Kernel3Ideal.Value.run_blocks m g
  · run_from Cert.Reference3Ideal.Value.run m' g'
    · have e := Cert.Reference3Ideal.Read.val_main_v50_eq (F := Ideal) m' c
      obtain ⟨a0, a1, a2, a3, a4, a5, a6, a7, a8, a9, a10⟩ := hagree c
      rw [a0, a1, a2, a3, a4, a5, a6, a7, a8, a9, a10] at e
      refine e.trans (Eq.trans ?_ (Cert.Kernel3Ideal.OutFfn.final12 m c).symm)
      exact Cert.Reference3Ideal.OutFfn.out_eq _ _ _ _ _ _ _ _ _ _ _
    · obtain ⟨a0, a1, a2, a3, a4, a5, a6, a7, a8, a9, a10⟩ := hagree c
      refine (Cert.Reference3Ideal.Read.val_main_v51_eq (F := Ideal) _ _ _ _ _ _ _).trans (Eq.trans ?_ (Cert.Kernel3Ideal.OutFfn.final13 m c).symm)
      rw [a1, a2, a3]
      exact Cert.Reference3Ideal.OutFfn.last_eq _ _ _ _ _ _ _

end Cert.OutFfnClaim
-- ==== Proof.Norm.lean ====
module

public import proofs.«01_k».proof.Defs
public import proofs.«01_k».proof.Proof.Gen.Kernel4Ideal.Value
public import proofs.«01_k».proof.Proof.Gen.Reference4Ideal.Read
public import Idealize.ShloMosaic.Lib.Pointwise
public import Idealize.ShloMosaic.Lib.Pipeline.ValueKit

@[expose] public section

/-!
# The final norm: the kernel's array is the reference's
-/

noncomputable section

namespace Cert.Kernel4Ideal.Norm

open Cert.Kernel4Ideal Cert.Kernel4Ideal.Gen Idealize.ShloMosaic Idealize.ShloMosaic.TcCoe Idealize.SL.Sem
open Idealize.ShloMosaic.Pointwise Cert.Reference4Ideal.Read

set_option maxRecDepth 16384

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel : ∀ t : Fin grid0.N, _)

theorem point (c : Dev nD) (t : Fin cfg0.N) (y) : out0_2 (iblk m c 0 t) (iblk m c 1 t) y
    = val_main_v13 (F := Ideal) (m ((c : Thread nD τ).loc main_arg0)) (m ((c : Thread nD τ).loc main_arg1)) (((cfg0.win 2).blk t).view.emb y) := by
  frame_out
  pointwise [k0_pay1, val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  blk_point [iblk, V, idx t]

theorem final (c : Dev nD) : (dats m 0 c).arrAt 2 cfg0.N
    = val_main_v13 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel4Ideal.Norm

namespace Cert.NormClaim

open Idealize.ShloMosaic Idealize.SL.Sem

theorem algebraic : Cert.algebraic_Kernel4Ideal_Reference4Ideal := by
  pair_intro
  · run_from Cert.Kernel4Ideal.Value.run_blocks m g
  · run_from Cert.Reference4Ideal.Value.run m' g'
    rw [Cert.Kernel4Ideal.Norm.final m c]
    exact Cert.Reference4Ideal.Read.val_main_v13_eq _ _

theorem refQuiet : Cert.quiescent_Reference4Ideal := by
  intro m g _
  hlo_run
  all_goals first
    | exact sem_eq_zero_of_no_sems (sig := Cert.Reference4Ideal.sig) (by decide) _
    | exact fun _ => ⟨trivial, trivial⟩

end Cert.NormClaim
-- ==== Proof.InProjSample.lean ====
module

public import proofs.«01_k».proof.Defs
public import proofs.«01_k».proof.Proof.Gen.Kernel5Ideal.Value
public import proofs.«01_k».proof.Proof.Gen.Reference5Ideal.Read
public import Idealize.ShloMosaic.Lib.KernelVsHost
public import Idealize.ShloMosaic.Lib.Pointwise
public import Idealize.ShloMosaic.Lib.Pipeline.ValueKit

@[expose] public section

/-!
# The input projection of the sample rows: every array the kernel writes is the reference's
-/

noncomputable section

namespace Cert.Kernel5Ideal.InProjSample

open Cert.Kernel5Ideal Cert.Kernel5Ideal.Gen Idealize.ShloMosaic Idealize.ShloMosaic.TcCoe Idealize.SL.Sem
open Idealize.ShloMosaic.Pointwise Cert.Reference5Ideal.Read

set_option maxRecDepth 16384

/-! ## The body's values -/

section Body

variable (x0 : Vec Ideal S256x1024 .f32) (x1 : Vec Ideal S1x1024 .f32) (x2 : Vec Ideal S1024x4736 .bf16)

/-- A row of the normalised block against a column of the block of weights. -/
def dot (r : Fin 256) (j : Fin 4736) : EReal := ∑ k : Fin 1024, k0_pay7 x0 x1 (ix2 r k) * x2 (ix2 k j)

theorem pay12_eq : k0_pay12 x0 x1 x2 = k0_pay7 x0 x1 := by
  unfold k0_pay12
  rw [View.ld_unit_lit _ _ (by decide), View.ld_unit_lit _ _ (by decide)]

theorem out3_at (r : Fin 256) (j : Fin 512) : out0_3 x0 x1 x2 (ix2 r j) = dot x0 x1 x2 r ⟨0 + j.val, by omega⟩ := by
  frame_out
  pointwise [k0_pay8, dot]

theorem out4_at (r : Fin 256) (j : Fin 512) : out0_4 x0 x1 x2 (ix2 r j) = dot x0 x1 x2 r ⟨512 + j.val, by omega⟩ := by
  frame_out
  pointwise [k0_pay9, dot]

theorem out5_at (r : Fin 256) (j : Fin 512) : out0_5 x0 x1 x2 (ix2 r j) = dot x0 x1 x2 r ⟨1024 + j.val, by omega⟩ := by
  frame_out
  pointwise [k0_pay10, dot]

theorem out6_at (r : Fin 256) (j : Fin 512) : out0_6 x0 x1 x2 (ix2 r j) = dot x0 x1 x2 r ⟨1536 + j.val, by omega⟩ := by
  frame_out
  rw [pay12_eq]
  pointwise [k0_pay1, k0_pay11, dot]

theorem out7_at (r : Fin 256) (j : Fin 1024) : out0_7 x0 x1 x2 (ix2 r j) = dot x0 x1 x2 r ⟨2048 + j.val, by omega⟩ := by
  frame_out
  rw [pay12_eq]
  pointwise [k0_pay2, dot]

theorem out8_at (r : Fin 256) (j : Fin 512) : out0_8 x0 x1 x2 (ix2 r j) = dot x0 x1 x2 r ⟨3072 + j.val, by omega⟩ := by
  frame_out
  rw [pay12_eq]
  pointwise [k0_pay3, dot]

theorem out9_at (r : Fin 256) (j : Fin 512) : out0_9 x0 x1 x2 (ix2 r j) = dot x0 x1 x2 r ⟨3584 + j.val, by omega⟩ := by
  frame_out
  rw [pay12_eq]
  pointwise [k0_pay4, dot]

theorem out10_at (r : Fin 256) (j : Fin 512) : out0_10 x0 x1 x2 (ix2 r j) = dot x0 x1 x2 r ⟨4096 + j.val, by omega⟩ := by
  frame_out
  rw [pay12_eq]
  pointwise [k0_pay5, dot]

theorem out11_at (r : Fin 256) (j : Fin 128) : out0_11 x0 x1 x2 (ix2 r j) = dot x0 x1 x2 r ⟨4608 + j.val, by omega⟩ := by
  frame_out
  rw [pay12_eq]
  pointwise [k0_pay6, dot]

end Body

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

theorem V6 : V m c main_v6 = shapeCast S256x1024 (m ((c : Thread nD τ).loc main_arg0) : FVec Ideal S16x16x1024 .f32)
    shapeCasts_S16x16x1024_S256x1024 := rfl
theorem V7 : V m c main_v7 = shapeCast S1x1024 (m ((c : Thread nD τ).loc main_arg1) : FVec Ideal S1024 .f32)
    shapeCasts_S1024_S1x1024 := rfl

theorem V5 : V m c main_v5 = (truncf .bf16 (concatenate S1024x4736 1 [
    ⟨S1024x3072, extractStridedSlice S1024x3072 ![0, 0] (m ((c : Thread nD τ).loc main_arg2) : FVec Ideal S1024x4616 .f32) slices_S1024x4616_S1024x3072_0_0⟩,
    ⟨S1024x1536, extractStridedSlice S1024x1536 ![0, 3080] (m ((c : Thread nD τ).loc main_arg2) : FVec Ideal S1024x4616 .f32) slices_S1024x4616_S1024x1536_0_3080⟩,
    ⟨S1024x128, pad S1024x128 ![0, 0] ![0, 120] ![0, 0]
      (extractStridedSlice S1024x8 ![0, 3072] (m ((c : Thread nD τ).loc main_arg2) : FVec Ideal S1024x4616 .f32) slices_S1024x4616_S1024x8_0_3072)
      (sitofp .f32 (constantI S_ 32 0#32)) pads_S1024x8_S1024x128_000_01200 h_S_⟩]
    concatenates_S1024x3072_S1024x1536_S1024x128_S1024x4736_d1) bitsLt_bf16_f32 : FVec Ideal S1024x4736 .bf16) := rfl

variable (t : Fin cfg0.N)

theorem lt_row (r : Fin 256) : 256 * t.val + r.val < 256 := by
  have : t.val < 1 := t.isLt
  omega

/-- The row of the flattened input that row `r` of block `t` holds. -/
def row (r : Fin 256) : Fin 256 := ⟨256 * t.val + r.val, lt_row t r⟩

theorem blk0 (r : Fin 256) (k : Fin 1024) : iblk m c 0 t (ix2 r k)
    = m ((c : Thread nD τ).loc main_arg0) (ix3 ⟨(row t r).val / 16, by omega⟩ ⟨(row t r).val % 16, by omega⟩ k) := by
  show V m c main_v6 (((cfg0.win 0).blk t).view.emb _) = _
  have e : ((cfg0.win 0).blk t).view.emb (ix2 r k) = ix2 (row t r) k := by blk_ext [idx t, row]
  rw [V6, e]
  refine shapeCast_apply _ _ _ _ ?_
  show (S16x16x1024.rowMajor _).val = _
  rw [Shape.rowMajor_val_three, Shape.rowMajor_val_two]
  show ((row t r).val / 16 * 16 + (row t r).val % 16) * 1024 + k.val = (row t r).val * 1024 + k.val
  omega

theorem blk1 (k : Fin 1024) : iblk m c 1 t (ix2 0 k) = m ((c : Thread nD τ).loc main_arg1) (ix1 k) := by
  show V m c main_v7 (((cfg0.win 1).blk t).view.emb _) = _
  have e : ((cfg0.win 1).blk t).view.emb (ix2 0 k) = ix2 0 k := by blk_ext [idx t]
  rw [V7, e]
  refine shapeCast_apply _ _ _ _ ?_
  show (S1024.rowMajor _).val = _
  rw [Shape.rowMajor_val_one, Shape.rowMajor_val_two]
  show k.val = 0 * 1024 + k.val
  omega

/-- The block of weights is the whole reordered matrix. -/
theorem blk2 (k : Fin 1024) (j : Fin 4736) : iblk m c 2 t (ix2 k j) = V m c main_v5 (ix2 k j) := by
  show V m c main_v5 (((cfg0.win 2).blk t).view.emb _) = _
  have e : ((cfg0.win 2).blk t).view.emb (ix2 k j) = ix2 k j := by blk_ext [idx t]
  rw [e]

section Weights

variable (y0 : FVec Ideal S1024x3072 .f32) (y1 : FVec Ideal S1024x1536 .f32) (y2 : FVec Ideal S1024x128 .f32)

theorem cat_low (k : Fin 1024) (j : Fin 3072) : concatenate S1024x4736 1 [⟨S1024x3072, y0⟩, ⟨S1024x1536, y1⟩, ⟨S1024x128, y2⟩]
    concatenates_S1024x3072_S1024x1536_S1024x128_S1024x4736_d1 (ix2 k ⟨j.val, by omega⟩) = y0 (ix2 k j) := by
  refine concatenate_apply_piece (t := S1024x4736) 1 [⟨S1024x3072, y0⟩, ⟨S1024x1536, y1⟩, ⟨S1024x128, y2⟩]
    concatenates_S1024x3072_S1024x1536_S1024x128_S1024x4736_d1 (ix2 k ⟨j.val, by omega⟩) 0 (by show 0 < 3; omega) _ y0 rfl rfl 0 rfl
    (ix2 k j) ?_ ?_
  · intro b hb
    fin_cases b
    · rfl
    · exact absurd rfl hb
  · show 0 + j.val = j.val
    omega

theorem cat_mid (k : Fin 1024) (j : Fin 1536) : concatenate S1024x4736 1 [⟨S1024x3072, y0⟩, ⟨S1024x1536, y1⟩, ⟨S1024x128, y2⟩]
    concatenates_S1024x3072_S1024x1536_S1024x128_S1024x4736_d1 (ix2 k ⟨3072 + j.val, by omega⟩) = y1 (ix2 k j) := by
  refine concatenate_apply_piece (t := S1024x4736) 1 [⟨S1024x3072, y0⟩, ⟨S1024x1536, y1⟩, ⟨S1024x128, y2⟩]
    concatenates_S1024x3072_S1024x1536_S1024x128_S1024x4736_d1 (ix2 k ⟨3072 + j.val, by omega⟩) 1 (by show 1 < 3; omega) _ y1 rfl rfl 3072 rfl
    (ix2 k j) ?_ ?_
  · intro b hb
    fin_cases b
    · rfl
    · exact absurd rfl hb
  · show 3072 + j.val = 3072 + j.val
    omega

theorem cat_high (k : Fin 1024) (j : Fin 128) : concatenate S1024x4736 1 [⟨S1024x3072, y0⟩, ⟨S1024x1536, y1⟩, ⟨S1024x128, y2⟩]
    concatenates_S1024x3072_S1024x1536_S1024x128_S1024x4736_d1 (ix2 k ⟨4608 + j.val, by omega⟩) = y2 (ix2 k j) := by
  refine concatenate_apply_piece (t := S1024x4736) 1 [⟨S1024x3072, y0⟩, ⟨S1024x1536, y1⟩, ⟨S1024x128, y2⟩]
    concatenates_S1024x3072_S1024x1536_S1024x128_S1024x4736_d1 (ix2 k ⟨4608 + j.val, by omega⟩) 2 (by show 2 < 3; omega) _ y2 rfl rfl 4608 rfl
    (ix2 k j) ?_ ?_
  · intro b hb
    fin_cases b
    · rfl
    · exact absurd rfl hb
  · show 4608 + j.val = 4608 + j.val
    omega

end Weights

theorem w_low (k : Fin 1024) (j : Fin 3072) : V m c main_v5 (ix2 k ⟨j.val, by omega⟩)
    = m ((c : Thread nD τ).loc main_arg2) (ix2 k ⟨j.val, by omega⟩) := by
  rw [V5]
  refine (cat_low _ _ _ k j).trans ?_
  pointwise

theorem w_mid (k : Fin 1024) (j : Fin 1536) : V m c main_v5 (ix2 k ⟨3072 + j.val, by omega⟩)
    = m ((c : Thread nD τ).loc main_arg2) (ix2 k ⟨3080 + j.val, by omega⟩) := by
  rw [V5]
  refine (cat_mid _ _ _ k j).trans ?_
  pointwise

theorem zero_of_int : (FloatOps.sitofp .f32 (0#32) : Ideal .f32) = (0 : EReal) := by
  show (((0#32 : BitVec 32).toInt : ℝ) : EReal) = 0
  simp

theorem w_high (k : Fin 1024) (j : Fin 128) : V m c main_v5 (ix2 k ⟨4608 + j.val, by omega⟩)
    = if h : j.val < 8 then m ((c : Thread nD τ).loc main_arg2) (ix2 k ⟨3072 + j.val, by omega⟩) else (0 : EReal) := by
  rw [V5]
  refine (cat_high _ _ _ k j).trans ?_
  by_cases h : j.val < 8
  · rw [dif_pos h]
    refine (pad_apply_of_inside _ _ _ _ _ _ _ _ (ix2 k ⟨j.val, h⟩) ?_).trans ?_
    · intro a; fin_cases a
      · show k.val = 0 + k.val * (0 + 1); omega
      · show j.val = 0 + j.val * (0 + 1); omega
    · pointwise
  · rw [dif_neg h]
    refine (pad_apply_of_not_inside _ _ _ _ _ _ _ _ (1 : Fin 2) ?_).trans ?_
    · rintro ⟨-, -, h3⟩
      exact h (by have h4 : (j.val - 0) / (0 + 1) < 8 := h3; omega)
    · exact zero_of_int

/-! ## The arrays -/

/-- The body's normalised rows are the reference's. -/
theorem norm_at (r : Fin 256) (k : Fin 1024) : k0_pay7 (iblk m c 0 t) (iblk m c 1 t) (ix2 r k)
    = val_main_v12 (F := Ideal) (m ((c : Thread nD τ).loc main_arg0)) (m ((c : Thread nD τ).loc main_arg1))
      (ix3 ⟨(row t r).val / 16, by omega⟩ ⟨(row t r).val % 16, by omega⟩ k) := by
  pointwise [k0_pay7, val_main_v0, val_main_v1, val_main_cst, val_main_v2, val_main_v3, val_main_cst_0, val_main_v4, val_main_v5, val_main_cst_1, val_main_v6, val_main_v7, val_main_v8, val_main_v9, val_main_v10, val_main_v11, val_main_v12]
  simp only [blk0, blk1]

/-- The reference's product at a row of the flattened result. -/
def proj (i : Fin 256) (j : Fin 4616) : EReal :=
  val_main_v13 (F := Ideal) (m ((c : Thread nD τ).loc main_arg0)) (m ((c : Thread nD τ).loc main_arg1))
    (m ((c : Thread nD τ).loc main_arg2)) (ix3 ⟨i.val / 16, by omega⟩ ⟨i.val % 16, by omega⟩ j)

theorem proj_sum (i : Fin 256) (j : Fin 4616) : proj m c i j = ∑ k : Fin 1024,
    val_main_v12 (F := Ideal) (m ((c : Thread nD τ).loc main_arg0)) (m ((c : Thread nD τ).loc main_arg1))
      (ix3 ⟨i.val / 16, by omega⟩ ⟨i.val % 16, by omega⟩ k) * m ((c : Thread nD τ).loc main_arg2) (ix2 k j) := by
  unfold proj
  rw [val_main_v13_apply]
  refine Finset.sum_congr rfl fun k _ => ?_
  congr 2 <;> (funext a; fin_cases a <;> rfl)

theorem dot_low (r : Fin 256) (j : Fin 3072) : dot (iblk m c 0 t) (iblk m c 1 t) (iblk m c 2 t) r ⟨j.val, by omega⟩
    = proj m c (row t r) ⟨j.val, by omega⟩ := by
  rw [proj_sum]
  unfold dot
  refine Finset.sum_congr rfl fun k _ => ?_
  rw [norm_at, blk2, w_low]

theorem dot_mid (r : Fin 256) (j : Fin 1536) : dot (iblk m c 0 t) (iblk m c 1 t) (iblk m c 2 t) r ⟨3072 + j.val, by omega⟩
    = proj m c (row t r) ⟨3080 + j.val, by omega⟩ := by
  rw [proj_sum]
  unfold dot
  refine Finset.sum_congr rfl fun k _ => ?_
  rw [norm_at, blk2, w_mid]

theorem dot_high (r : Fin 256) (j : Fin 128) : dot (iblk m c 0 t) (iblk m c 1 t) (iblk m c 2 t) r ⟨4608 + j.val, by omega⟩
    = if h : j.val < 8 then proj m c (row t r) ⟨3072 + j.val, by omega⟩ else 0 := by
  unfold dot
  by_cases h : j.val < 8
  · rw [dif_pos h, proj_sum]
    refine Finset.sum_congr rfl fun k _ => ?_
    rw [norm_at, blk2, w_high, dif_pos h]
  · rw [dif_neg h]
    refine Finset.sum_eq_zero fun k _ => ?_
    rw [blk2, w_high, dif_neg h]
    exact mul_zero (M₀ := EReal) _

theorem ref3 (i : Fin 256) (j : Fin 512) : val_main_v24 (F := Ideal) (m ((c : Thread nD τ).loc main_arg0)) (m ((c : Thread nD τ).loc main_arg1)) (m ((c : Thread nD τ).loc main_arg2)) (ix2 i j)
    = proj m c i ⟨0 + j.val, by omega⟩ := by
  show val_main_v23 (F := Ideal) (m ((c : Thread nD τ).loc main_arg0)) (m ((c : Thread nD τ).loc main_arg1)) (m ((c : Thread nD τ).loc main_arg2)) (ix2 i j) = _
  rw [val_main_v23_apply, val_main_v14_apply]
  unfold proj
  congr 1
  funext a
  apply Fin.ext
  fin_cases a
  · show (i.val * 512 + j.val) / 8192 = i.val / 16
    omega
  · show (i.val * 512 + j.val) / 512 % 16 = i.val % 16
    omega
  · show (i.val * 512 + j.val) % 512 = 0 + j.val
    omega

theorem ref4 (i : Fin 256) (j : Fin 512) : val_main_v25 (F := Ideal) (m ((c : Thread nD τ).loc main_arg0)) (m ((c : Thread nD τ).loc main_arg1)) (m ((c : Thread nD τ).loc main_arg2)) (ix2 i j)
    = proj m c i ⟨512 + j.val, by omega⟩ := by
  rw [val_main_v25_apply, val_main_v15_apply]
  unfold proj
  congr 1
  funext a
  apply Fin.ext
  fin_cases a
  · show (i.val * 512 + j.val) / 8192 = i.val / 16
    omega
  · show (i.val * 512 + j.val) / 512 % 16 = i.val % 16
    omega
  · show 512 + (i.val * 512 + j.val) % 512 = 512 + j.val
    omega

theorem ref5 (i : Fin 256) (j : Fin 512) : val_main_v26 (F := Ideal) (m ((c : Thread nD τ).loc main_arg0)) (m ((c : Thread nD τ).loc main_arg1)) (m ((c : Thread nD τ).loc main_arg2)) (ix2 i j)
    = proj m c i ⟨1024 + j.val, by omega⟩ := by
  rw [val_main_v26_apply, val_main_v16_apply]
  unfold proj
  congr 1
  funext a
  apply Fin.ext
  fin_cases a
  · show (i.val * 512 + j.val) / 8192 = i.val / 16
    omega
  · show (i.val * 512 + j.val) / 512 % 16 = i.val % 16
    omega
  · show 1024 + (i.val * 512 + j.val) % 512 = 1024 + j.val
    omega

theorem ref6 (i : Fin 256) (j : Fin 512) : val_main_v27 (F := Ideal) (m ((c : Thread nD τ).loc main_arg0)) (m ((c : Thread nD τ).loc main_arg1)) (m ((c : Thread nD τ).loc main_arg2)) (ix2 i j)
    = proj m c i ⟨1536 + j.val, by omega⟩ := by
  rw [val_main_v27_apply, val_main_v17_apply]
  unfold proj
  congr 1
  funext a
  apply Fin.ext
  fin_cases a
  · show (i.val * 512 + j.val) / 8192 = i.val / 16
    omega
  · show (i.val * 512 + j.val) / 512 % 16 = i.val % 16
    omega
  · show 1536 + (i.val * 512 + j.val) % 512 = 1536 + j.val
    omega

theorem ref7 (i : Fin 256) (j : Fin 1024) : val_main_v28 (F := Ideal) (m ((c : Thread nD τ).loc main_arg0)) (m ((c : Thread nD τ).loc main_arg1)) (m ((c : Thread nD τ).loc main_arg2)) (ix2 i j)
    = proj m c i ⟨2048 + j.val, by omega⟩ := by
  rw [val_main_v28_apply, val_main_v18_apply]
  unfold proj
  congr 1
  funext a
  apply Fin.ext
  fin_cases a
  · show (i.val * 1024 + j.val) / 16384 = i.val / 16
    omega
  · show (i.val * 1024 + j.val) / 1024 % 16 = i.val % 16
    omega
  · show 2048 + (i.val * 1024 + j.val) % 1024 = 2048 + j.val
    omega

theorem ref8 (i : Fin 256) (j : Fin 512) : val_main_v30 (F := Ideal) (m ((c : Thread nD τ).loc main_arg0)) (m ((c : Thread nD τ).loc main_arg1)) (m ((c : Thread nD τ).loc main_arg2)) (ix2 i j)
    = proj m c i ⟨3080 + j.val, by omega⟩ := by
  show val_main_v29 (F := Ideal) (m ((c : Thread nD τ).loc main_arg0)) (m ((c : Thread nD τ).loc main_arg1)) (m ((c : Thread nD τ).loc main_arg2)) (ix2 i j) = _
  rw [val_main_v29_apply, val_main_v20_apply]
  unfold proj
  congr 1
  funext a
  apply Fin.ext
  fin_cases a
  · show (i.val * 512 + j.val) / 8192 = i.val / 16
    omega
  · show (i.val * 512 + j.val) / 512 % 16 = i.val % 16
    omega
  · show 3080 + (i.val * 512 + j.val) % 512 = 3080 + j.val
    omega

theorem ref9 (i : Fin 256) (j : Fin 512) : val_main_v31 (F := Ideal) (m ((c : Thread nD τ).loc main_arg0)) (m ((c : Thread nD τ).loc main_arg1)) (m ((c : Thread nD τ).loc main_arg2)) (ix2 i j)
    = proj m c i ⟨3592 + j.val, by omega⟩ := by
  rw [val_main_v31_apply, val_main_v21_apply]
  unfold proj
  congr 1
  funext a
  apply Fin.ext
  fin_cases a
  · show (i.val * 512 + j.val) / 8192 = i.val / 16
    omega
  · show (i.val * 512 + j.val) / 512 % 16 = i.val % 16
    omega
  · show 3592 + (i.val * 512 + j.val) % 512 = 3592 + j.val
    omega

theorem ref10 (i : Fin 256) (j : Fin 512) : val_main_v32 (F := Ideal) (m ((c : Thread nD τ).loc main_arg0)) (m ((c : Thread nD τ).loc main_arg1)) (m ((c : Thread nD τ).loc main_arg2)) (ix2 i j)
    = proj m c i ⟨4104 + j.val, by omega⟩ := by
  rw [val_main_v32_apply, val_main_v22_apply]
  unfold proj
  congr 1
  funext a
  apply Fin.ext
  fin_cases a
  · show (i.val * 512 + j.val) / 8192 = i.val / 16
    omega
  · show (i.val * 512 + j.val) / 512 % 16 = i.val % 16
    omega
  · show 4104 + (i.val * 512 + j.val) % 512 = 4104 + j.val
    omega

theorem ref11 (i : Fin 256) (j : Fin 128) : val_main_v34 (F := Ideal) (m ((c : Thread nD τ).loc main_arg0)) (m ((c : Thread nD τ).loc main_arg1)) (m ((c : Thread nD τ).loc main_arg2)) (ix2 i j)
    = if h : j.val < 8 then proj m c i ⟨3072 + j.val, by omega⟩ else 0 := by
  by_cases h : j.val < 8
  · rw [dif_pos h]
    refine (pad_apply_of_inside _ _ _ _ _ _ _ _ (ix2 i ⟨j.val, h⟩) ?_).trans ?_
    · intro a; fin_cases a
      · show i.val = 0 + i.val * (0 + 1); omega
      · show j.val = 0 + j.val * (0 + 1); omega
    rw [val_main_v33_apply, val_main_v19_apply]
    unfold proj
    congr 1
    funext a
    apply Fin.ext
    fin_cases a
    · show (i.val * 8 + j.val) / 128 = i.val / 16
      omega
    · show (i.val * 8 + j.val) / 8 % 16 = i.val % 16
      omega
    · show 3072 + (i.val * 8 + j.val) % 8 = 3072 + j.val
      omega
  · rw [dif_neg h]
    refine (pad_apply_of_not_inside _ _ _ _ _ _ _ _ (1 : Fin 2) ?_).trans ?_
    · rintro ⟨-, -, h3⟩
      exact h (by have h4 : (j.val - 0) / (0 + 1) < 8 := h3; omega)
    · exact zero_of_int

theorem point3 (r : Fin 256) (j : Fin 512) : out0_3 (iblk m c 0 t) (iblk m c 1 t) (iblk m c 2 t) (ix2 r j)
    = val_main_v24 (F := Ideal) (m ((c : Thread nD τ).loc main_arg0)) (m ((c : Thread nD τ).loc main_arg1)) (m ((c : Thread nD τ).loc main_arg2)) (ix2 (row t r) j) :=
  (out3_at (iblk m c 0 t) (iblk m c 1 t) (iblk m c 2 t) r j).trans <|
  (dot_low m c t r ⟨0 + j.val, by omega⟩).trans (ref3 m c (row t r) j).symm

theorem final3 : (dats m 0 c).arrAt 3 cfg0.N = val_main_v24 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have e : (((cfg0.win 3).blk t).view.emb y : (⟨2, ![256, 512]⟩ : Shape).Idx) = ix2 (row t (y 0)) (y 1) := by
    blk_ext [idx t, row]
  have ey : ((cfg0.win 3).xinj (cfg0.grid.coords t) y : (⟨2, ![256, 512]⟩ : Shape).Idx) = ix2 (y 0) (y 1) := by
    blk_ext []
  rw [e, after0_3]
  refine Eq.trans ?_ (point3 m c t (y 0) (y 1))
  blk_simp
  exact congrArg (out0_3 (F := Ideal) _ _ _) ey

theorem point4 (r : Fin 256) (j : Fin 512) : out0_4 (iblk m c 0 t) (iblk m c 1 t) (iblk m c 2 t) (ix2 r j)
    = val_main_v25 (F := Ideal) (m ((c : Thread nD τ).loc main_arg0)) (m ((c : Thread nD τ).loc main_arg1)) (m ((c : Thread nD τ).loc main_arg2)) (ix2 (row t r) j) :=
  (out4_at (iblk m c 0 t) (iblk m c 1 t) (iblk m c 2 t) r j).trans <|
  (dot_low m c t r ⟨512 + j.val, by omega⟩).trans (ref4 m c (row t r) j).symm

theorem final4 : (dats m 0 c).arrAt 4 cfg0.N = val_main_v25 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have e : (((cfg0.win 4).blk t).view.emb y : (⟨2, ![256, 512]⟩ : Shape).Idx) = ix2 (row t (y 0)) (y 1) := by
    blk_ext [idx t, row]
  have ey : ((cfg0.win 4).xinj (cfg0.grid.coords t) y : (⟨2, ![256, 512]⟩ : Shape).Idx) = ix2 (y 0) (y 1) := by
    blk_ext []
  rw [e, after0_4]
  refine Eq.trans ?_ (point4 m c t (y 0) (y 1))
  blk_simp
  exact congrArg (out0_4 (F := Ideal) _ _ _) ey

theorem point5 (r : Fin 256) (j : Fin 512) : out0_5 (iblk m c 0 t) (iblk m c 1 t) (iblk m c 2 t) (ix2 r j)
    = val_main_v26 (F := Ideal) (m ((c : Thread nD τ).loc main_arg0)) (m ((c : Thread nD τ).loc main_arg1)) (m ((c : Thread nD τ).loc main_arg2)) (ix2 (row t r) j) :=
  (out5_at (iblk m c 0 t) (iblk m c 1 t) (iblk m c 2 t) r j).trans <|
  (dot_low m c t r ⟨1024 + j.val, by omega⟩).trans (ref5 m c (row t r) j).symm

theorem final5 : (dats m 0 c).arrAt 5 cfg0.N = val_main_v26 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  have e : (((cfg0.win 5).blk t).view.emb y : (⟨2, ![256, 512]⟩ : Shape).Idx) = ix2 (row t (y 0)) (y 1) := by
    blk_ext [idx t, row]
  have ey : ((cfg0.win 5).xinj (cfg0.grid.coords t) y : (⟨2, ![256, 512]⟩ : Shape).Idx) = ix2 (y 0) (y 1) := by
    blk_ext []
  rw [e, after0_5]
  refine Eq.trans ?_ (point5 m c t (y 0) (y 1))
  blk_simp
  exact congrArg (out0_5 (F := Ideal) _ _ _) ey

theorem point6 (r : Fin 256) (j : Fin 512) : out0_6 (iblk m c 0 t) (iblk m c 1 t) (iblk m c 2 t) (ix2 r j)
    = val_main_v27 (F := Ideal) (m ((c : Thread nD τ).loc main_arg0)) (m ((c : Thread nD τ).loc main_arg1)) (m ((c : Thread nD τ).loc main_arg2)) (ix2 (row t r) j) :=
  (out6_at (iblk m c 0 t) (iblk m c 1 t) (iblk m c 2 t) r j).trans <|
  (dot_low m c t r ⟨1536 + j.val, by omega⟩).trans (ref6 m c (row t r) j).symm

theorem final6 : (dats m 0 c).arrAt 6 cfg0.N = val_main_v27 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  have e : (((cfg0.win 6).blk t).view.emb y : (⟨2, ![256, 512]⟩ : Shape).Idx) = ix2 (row t (y 0)) (y 1) := by
    blk_ext [idx t, row]
  have ey : ((cfg0.win 6).xinj (cfg0.grid.coords t) y : (⟨2, ![256, 512]⟩ : Shape).Idx) = ix2 (y 0) (y 1) := by
    blk_ext []
  rw [e, after0_6]
  refine Eq.trans ?_ (point6 m c t (y 0) (y 1))
  blk_simp
  exact congrArg (out0_6 (F := Ideal) _ _ _) ey

theorem point7 (r : Fin 256) (j : Fin 1024) : out0_7 (iblk m c 0 t) (iblk m c 1 t) (iblk m c 2 t) (ix2 r j)
    = val_main_v28 (F := Ideal) (m ((c : Thread nD τ).loc main_arg0)) (m ((c : Thread nD τ).loc main_arg1)) (m ((c : Thread nD τ).loc main_arg2)) (ix2 (row t r) j) :=
  (out7_at (iblk m c 0 t) (iblk m c 1 t) (iblk m c 2 t) r j).trans <|
  (dot_low m c t r ⟨2048 + j.val, by omega⟩).trans (ref7 m c (row t r) j).symm

theorem final7 : (dats m 0 c).arrAt 7 cfg0.N = val_main_v28 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  have e : (((cfg0.win 7).blk t).view.emb y : (⟨2, ![256, 1024]⟩ : Shape).Idx) = ix2 (row t (y 0)) (y 1) := by
    blk_ext [idx t, row]
  have ey : ((cfg0.win 7).xinj (cfg0.grid.coords t) y : (⟨2, ![256, 1024]⟩ : Shape).Idx) = ix2 (y 0) (y 1) := by
    blk_ext []
  rw [e, after0_7]
  refine Eq.trans ?_ (point7 m c t (y 0) (y 1))
  blk_simp
  exact congrArg (out0_7 (F := Ideal) _ _ _) ey

theorem dot_eq (r : Fin 256) {j j' : Fin 4736} (h : j.val = j'.val) : dot (iblk m c 0 t) (iblk m c 1 t) (iblk m c 2 t) r j
    = dot (iblk m c 0 t) (iblk m c 1 t) (iblk m c 2 t) r j' := congrArg _ (Fin.ext h)

theorem proj_eq (i : Fin 256) {j j' : Fin 4616} (h : j.val = j'.val) : proj m c i j = proj m c i j' := congrArg _ (Fin.ext h)

theorem point8 (r : Fin 256) (j : Fin 512) : out0_8 (iblk m c 0 t) (iblk m c 1 t) (iblk m c 2 t) (ix2 r j)
    = val_main_v30 (F := Ideal) (m ((c : Thread nD τ).loc main_arg0)) (m ((c : Thread nD τ).loc main_arg1)) (m ((c : Thread nD τ).loc main_arg2)) (ix2 (row t r) j) :=
  (out8_at (iblk m c 0 t) (iblk m c 1 t) (iblk m c 2 t) r j).trans <|
  (dot_eq m c t r (j' := ⟨3072 + (0 + j.val), by omega⟩) (by show 3072 + j.val = 3072 + (0 + j.val); omega)).trans
    ((dot_mid m c t r ⟨0 + j.val, by omega⟩).trans ((proj_eq m c _ (by show 3080 + (0 + j.val) = 3080 + j.val; omega)).trans
      (ref8 m c (row t r) j).symm))

theorem final8 : (dats m 0 c).arrAt 8 cfg0.N = val_main_v30 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  have e : (((cfg0.win 8).blk t).view.emb y : (⟨2, ![256, 512]⟩ : Shape).Idx) = ix2 (row t (y 0)) (y 1) := by
    blk_ext [idx t, row]
  have ey : ((cfg0.win 8).xinj (cfg0.grid.coords t) y : (⟨2, ![256, 512]⟩ : Shape).Idx) = ix2 (y 0) (y 1) := by
    blk_ext []
  rw [e, after0_8]
  refine Eq.trans ?_ (point8 m c t (y 0) (y 1))
  blk_simp
  exact congrArg (out0_8 (F := Ideal) _ _ _) ey

theorem point9 (r : Fin 256) (j : Fin 512) : out0_9 (iblk m c 0 t) (iblk m c 1 t) (iblk m c 2 t) (ix2 r j)
    = val_main_v31 (F := Ideal) (m ((c : Thread nD τ).loc main_arg0)) (m ((c : Thread nD τ).loc main_arg1)) (m ((c : Thread nD τ).loc main_arg2)) (ix2 (row t r) j) :=
  (out9_at (iblk m c 0 t) (iblk m c 1 t) (iblk m c 2 t) r j).trans <|
  (dot_eq m c t r (j' := ⟨3072 + (512 + j.val), by omega⟩) (by show 3584 + j.val = 3072 + (512 + j.val); omega)).trans
    ((dot_mid m c t r ⟨512 + j.val, by omega⟩).trans ((proj_eq m c _ (by show 3080 + (512 + j.val) = 3592 + j.val; omega)).trans
      (ref9 m c (row t r) j).symm))

theorem final9 : (dats m 0 c).arrAt 9 cfg0.N = val_main_v31 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  have e : (((cfg0.win 9).blk t).view.emb y : (⟨2, ![256, 512]⟩ : Shape).Idx) = ix2 (row t (y 0)) (y 1) := by
    blk_ext [idx t, row]
  have ey : ((cfg0.win 9).xinj (cfg0.grid.coords t) y : (⟨2, ![256, 512]⟩ : Shape).Idx) = ix2 (y 0) (y 1) := by
    blk_ext []
  rw [e, after0_9]
  refine Eq.trans ?_ (point9 m c t (y 0) (y 1))
  blk_simp
  exact congrArg (out0_9 (F := Ideal) _ _ _) ey

theorem point10 (r : Fin 256) (j : Fin 512) : out0_10 (iblk m c 0 t) (iblk m c 1 t) (iblk m c 2 t) (ix2 r j)
    = val_main_v32 (F := Ideal) (m ((c : Thread nD τ).loc main_arg0)) (m ((c : Thread nD τ).loc main_arg1)) (m ((c : Thread nD τ).loc main_arg2)) (ix2 (row t r) j) :=
  (out10_at (iblk m c 0 t) (iblk m c 1 t) (iblk m c 2 t) r j).trans <|
  (dot_eq m c t r (j' := ⟨3072 + (1024 + j.val), by omega⟩) (by show 4096 + j.val = 3072 + (1024 + j.val); omega)).trans
    ((dot_mid m c t r ⟨1024 + j.val, by omega⟩).trans ((proj_eq m c _ (by show 3080 + (1024 + j.val) = 4104 + j.val; omega)).trans
      (ref10 m c (row t r) j).symm))

theorem final10 : (dats m 0 c).arrAt 10 cfg0.N = val_main_v32 (F := Ideal) (m ((c : Thread nD τ).loc main_arg0)) (m ((c : Thread nD τ).loc main_arg1)) (m ((c : Thread nD τ).loc main_arg2)) := by
  refine (dats m 0 c).arrAt_eq_of_covers 10 _ (by decide +kernel) fun t _ y => ?_
  have e : (((cfg0.win 10).blk t).view.emb y : (⟨2, ![256, 512]⟩ : Shape).Idx) = ix2 (row t (y 0)) (y 1) := by
    blk_ext [idx t, row]
  have ey : ((cfg0.win 10).xinj (cfg0.grid.coords t) y : (⟨2, ![256, 512]⟩ : Shape).Idx) = ix2 (y 0) (y 1) := by
    blk_ext []
  rw [e, after0_10]
  refine Eq.trans ?_ (point10 m c t (y 0) (y 1))
  blk_simp
  exact congrArg (out0_10 (F := Ideal) _ _ _) ey

theorem point11 (r : Fin 256) (j : Fin 128) : out0_11 (iblk m c 0 t) (iblk m c 1 t) (iblk m c 2 t) (ix2 r j)
    = val_main_v34 (F := Ideal) (m ((c : Thread nD τ).loc main_arg0)) (m ((c : Thread nD τ).loc main_arg1)) (m ((c : Thread nD τ).loc main_arg2)) (ix2 (row t r) j) :=
  (out11_at (iblk m c 0 t) (iblk m c 1 t) (iblk m c 2 t) r j).trans <|
  (dot_high m c t r j).trans (ref11 m c (row t r) j).symm

theorem final11 : (dats m 0 c).arrAt 11 cfg0.N = val_main_v34 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  have e : (((cfg0.win 11).blk t).view.emb y : (⟨2, ![256, 128]⟩ : Shape).Idx) = ix2 (row t (y 0)) (y 1) := by
    blk_ext [idx t, row]
  have ey : ((cfg0.win 11).xinj (cfg0.grid.coords t) y : (⟨2, ![256, 128]⟩ : Shape).Idx) = ix2 (y 0) (y 1) := by
    blk_ext []
  rw [e, after0_11]
  refine Eq.trans ?_ (point11 m c t (y 0) (y 1))
  blk_simp
  exact congrArg (out0_11 (F := Ideal) _ _ _) ey

end Cert.Kernel5Ideal.InProjSample

namespace Cert.InProjSampleClaim

open Idealize.ShloMosaic Idealize.SL.Sem

theorem refQuiet : Cert.quiescent_Reference5Ideal := by
  intro m g _
  hlo_run
  all_goals first
    | exact sem_eq_zero_of_no_sems (sig := Cert.Reference5Ideal.sig) (by decide) _
    | exact fun _ => ⟨trivial, trivial, trivial⟩

theorem algebraic : Cert.algebraic_Kernel5Ideal_Reference5Ideal := by
  pair_intro
  · run_from Cert.Kernel5Ideal.Value.run_blocks m g
  · run_from Cert.Reference5Ideal.Value.run m' g'
    · rw [Cert.Kernel5Ideal.InProjSample.final3 m c]
      exact Cert.Reference5Ideal.Read.val_main_v24_eq _ _ _
    · rw [Cert.Kernel5Ideal.InProjSample.final4 m c]
      exact Cert.Reference5Ideal.Read.val_main_v25_eq _ _ _
    · rw [Cert.Kernel5Ideal.InProjSample.final5 m c]
      exact Cert.Reference5Ideal.Read.val_main_v26_eq _ _ _
    · rw [Cert.Kernel5Ideal.InProjSample.final6 m c]
      exact Cert.Reference5Ideal.Read.val_main_v27_eq _ _ _
    · rw [Cert.Kernel5Ideal.InProjSample.final7 m c]
      exact Cert.Reference5Ideal.Read.val_main_v28_eq _ _ _
    · rw [Cert.Kernel5Ideal.InProjSample.final8 m c]
      exact Cert.Reference5Ideal.Read.val_main_v30_eq _ _ _
    · rw [Cert.Kernel5Ideal.InProjSample.final9 m c]
      exact Cert.Reference5Ideal.Read.val_main_v31_eq _ _ _
    · rw [Cert.Kernel5Ideal.InProjSample.final10 m c]
      exact Cert.Reference5Ideal.Read.val_main_v32_eq _ _ _
    · rw [Cert.Kernel5Ideal.InProjSample.final11 m c]
      exact Cert.Reference5Ideal.Read.val_main_v34_eq _ _ _

end Cert.InProjSampleClaim
-- ==== Proof.OutFfnSample.lean ====
module

public import proofs.«01_k».proof.Defs
public import proofs.«01_k».proof.Proof.Gen.Kernel6Ideal.Value
public import Idealize.ShloMosaic.Lib.KernelVsHost
public import Idealize.ShloMosaic.Lib.Pointwise
public import Idealize.ShloMosaic.Lib.Pipeline.ValueKit
public import Idealize.ShloMosaic.Lib.Pipeline.ReadBack

@[expose] public section

/-!
# The sample rows' output projection and feed-forward kernel: the values one grid point writes
-/

noncomputable section

namespace Cert.Kernel6Ideal.OutFfnSample

open Cert.Kernel6Ideal Cert.Kernel6Ideal.Gen Idealize.ShloMosaic Idealize.ShloMosaic.TcCoe Idealize.SL.Sem
open Idealize.ShloMosaic.Pointwise

set_option maxRecDepth 16384

/-! ## One chunk of 256 columns -/

section Chunk

variable (h2 : FVec Ideal S16x1024 .bf16) (xg xu : Vec Ideal S1024x256 .bf16) (hc : Vec Ideal S1x8x256 .f32)
  (w2 b w1 w0 : Vec Ideal S1x256 .f32)

/-- Row numbers of a group of eight rows. -/
abbrev rowNo : IVec S8x256 32 := iota .tc S8x256 32 [0] iota_S8x256_d0_w32

/-- The gated columns of a chunk. -/
abbrev chunk : FVec Ideal S16x256 .bf16 :=
  k0_pay21 (k0_pay16 h2 xu) (k0_pay20 rowNo (k0_pay15 h2 xg) (k0_pay17 hc) (k0_pay18 w2) b w1 w0)

theorem chunk0 (xr : FVec Ideal S16x1024 .f32) (gn : FVec Ideal S1x1024 .f32) (ms : FVec Ideal S16x1 .f32) :
    k0_pay14 (k0_pay8 xr gn ms xu) (k0_pay9 hc) (k0_pay10 xr gn ms xg hc w2 b w1) (k0_pay11 xr gn ms xg) k0_pay12 w0
      = chunk (k0_pay6 xr gn ms) xg xu hc w2 b w1 w0 := rfl
theorem chunk2 : k0_pay30 (k0_pay23 h2 xu) (k0_pay25 h2 rowNo xg hc w2 b w1) (k0_pay26 h2 xg) (k0_pay27 rowNo) (k0_pay28 hc) w0
    = chunk h2 xg xu hc w2 b w1 w0 := rfl
theorem chunk3 : k0_pay37 (k0_pay36 rowNo (k0_pay31 h2 xg) (k0_pay32 h2 xu) (k0_pay33 hc) (k0_pay34 h2 xg w2) b w1 w0)
    = chunk h2 xg xu hc w2 b w1 w0 := rfl
theorem chunk4 : k0_pay45 (k0_pay39 h2 xu) (k0_pay41 h2 rowNo xg hc w2 b w1) (k0_pay42 h2 xg) (k0_pay43 h2 rowNo xg hc) w0
    = chunk h2 xg xu hc w2 b w1 w0 := rfl
theorem chunk5 : k0_pay52 (k0_pay51 rowNo (k0_pay46 h2 xg) (k0_pay47 h2 xu) (k0_pay48 hc) (k0_pay49 h2 xg w2) b w1 w0)
    = chunk h2 xg xu hc w2 b w1 w0 := rfl
theorem chunk6 : k0_pay59 (k0_pay54 h2 xu) (k0_pay56 h2 rowNo xg hc w2 b w1) (k0_pay57 h2 rowNo xg hc) w0
    = chunk h2 xg xu hc w2 b w1 w0 := rfl
theorem chunk7 : k0_pay67 (k0_pay66 rowNo (k0_pay60 h2 xg) (k0_pay61 h2 xu) (k0_pay62 hc) (k0_pay63 h2 xg w2) (k0_pay64 b) w1 w0)
    = chunk h2 xg xu hc w2 b w1 w0 := rfl
theorem chunk8 : k0_pay74 (k0_pay69 h2 xu) (k0_pay71 h2 rowNo xg hc w2 b w1) (k0_pay72 h2 rowNo xg hc) w0
    = chunk h2 xg xu hc w2 b w1 w0 := rfl
theorem chunk9 : k0_pay80 rowNo (k0_pay75 h2 xg) (k0_pay76 h2 xu) (k0_pay77 hc) (k0_pay78 h2 xg w2 b) 1#32 w1 w0
    = chunk h2 xg xu hc w2 b w1 w0 := rfl
theorem chunk10 : k0_pay88 (k0_pay82 h2 xu) (k0_pay84 h2 rowNo xg hc w2 b w1) (k0_pay85 h2 rowNo xg hc) (k0_pay86 w0)
    = chunk h2 xg xu hc w2 b w1 w0 := rfl

/-- A column of the chunk `k` rows back: of the rows before the block for the first `k` rows. -/
def back (G : Fin 16 → EReal) (H : Fin 8 → EReal) (k : Fin 8) (r : Fin 16) : EReal :=
  if h : r.val < k.val then H ⟨8 - k.val + r.val, by omega⟩ else G ⟨r.val - k.val, by omega⟩

/-- Three taps, the bias, the gate and the factor. -/
def gate (c u : EReal) : EReal := c * Ideal.div 1 (1 + Ideal.exp (0 - c)) * u

/-- Three taps of a column and the bias. -/
def taps (G : Fin 16 → EReal) (H : Fin 8 → EReal) (w2 b w1 w0 : EReal) (r : Fin 16) : EReal :=
  w2 * G r + b + w1 * back G H 1 r + w0 * back G H 2 r

/-- A column of the projections. -/
def proj (w : Vec Ideal S1024x256 .bf16) (j : Fin 256) (r : Fin 16) : EReal := ∑ k : Fin 1024, h2 (ix2 r k) * w (ix2 k j)

theorem slt1 : ∀ r : Fin 8, IntOp.cmpi CmpIPredicate.slt (BitVec.ofNat 32 r.val) 1#32 = if r.val < 1 then 1#1 else 0#1 := by decide
theorem slt2 : ∀ r : Fin 8, IntOp.cmpi CmpIPredicate.slt (BitVec.ofNat 32 r.val) 2#32 = if r.val < 2 then 1#1 else 0#1 := by decide

theorem back1 (G : Fin 16 → EReal) (H : Fin 8 → EReal) (r : Fin 16) (p1 p2 p3) :
    (if _h : r.val < 8 then
      Scalar.select (IntOp.cmpi CmpIPredicate.slt (BitVec.ofNat 32 r.val) 1#32) (H ⟨(r.val + 8 - 1) % 8, p1⟩) (G ⟨(r.val + 16 - 1) % 16, p2⟩)
    else G ⟨(8 + (r.val - 8) + 16 - 1) % 16, p3⟩) = back G H 1 r := by
  unfold back
  have hr : r.val < 16 := r.isLt
  have hk : (1 : Fin 8).val = 1 := rfl
  by_cases h : r.val < 8
  · rw [dif_pos h, slt1 ⟨r.val, h⟩]
    by_cases h1 : r.val < 1
    · rw [if_pos h1, dif_pos (by omega)]
      exact congrArg H (Fin.ext (by show (r.val + 8 - 1) % 8 = 8 - 1 + r.val; omega))
    · rw [if_neg h1, dif_neg (by omega)]
      exact congrArg G (Fin.ext (by show (r.val + 16 - 1) % 16 = r.val - 1; omega))
  · rw [dif_neg h, dif_neg (by omega)]
    exact congrArg G (Fin.ext (by show (8 + (r.val - 8) + 16 - 1) % 16 = r.val - 1; omega))

theorem back2 (G : Fin 16 → EReal) (H : Fin 8 → EReal) (r : Fin 16) (p1 p2 p3) :
    (if _h : r.val < 8 then
      Scalar.select (IntOp.cmpi CmpIPredicate.slt (BitVec.ofNat 32 r.val) 2#32) (H ⟨(r.val + 8 - 2) % 8, p1⟩) (G ⟨(r.val + 16 - 2) % 16, p2⟩)
    else G ⟨(8 + (r.val - 8) + 16 - 2) % 16, p3⟩) = back G H 2 r := by
  unfold back
  have hr : r.val < 16 := r.isLt
  have hk : (2 : Fin 8).val = 2 := rfl
  by_cases h : r.val < 8
  · rw [dif_pos h, slt2 ⟨r.val, h⟩]
    by_cases h1 : r.val < 2
    · rw [if_pos h1, dif_pos (by omega)]
      exact congrArg H (Fin.ext (by show (r.val + 8 - 2) % 8 = 8 - 2 + r.val; omega))
    · rw [if_neg h1, dif_neg (by omega)]
      exact congrArg G (Fin.ext (by show (r.val + 16 - 2) % 16 = r.val - 2; omega))
  · rw [dif_neg h, dif_neg (by omega)]
    exact congrArg G (Fin.ext (by show (8 + (r.val - 8) + 16 - 2) % 16 = r.val - 2; omega))

theorem chunk_at (r : Fin 16) (j : Fin 256) : chunk h2 xg xu hc w2 b w1 w0 (ix2 r j)
    = gate (taps (proj h2 xg j) (fun i => hc (ix3 0 i j)) (w2 (ix2 0 j)) (b (ix2 0 j)) (w1 (ix2 0 j)) (w0 (ix2 0 j)) r)
      (proj h2 xu j r) := by
  pointwise [chunk, k0_pay21, k0_pay16, k0_pay20, k0_pay15, k0_pay17, k0_pay18]
  have e1 := back1 (proj h2 xg j) (fun i => hc (ix3 0 i j)) r
  have e2 := back2 (proj h2 xg j) (fun i => hc (ix3 0 i j)) r
  unfold proj at e1 e2
  unfold gate taps proj
  rw [← e1 (Nat.mod_lt _ (by decide)) (Nat.mod_lt _ (by decide)) (Nat.mod_lt _ (by decide)),
    ← e2 (Nat.mod_lt _ (by decide)) (Nat.mod_lt _ (by decide)) (Nat.mod_lt _ (by decide))]

end Chunk

/-! ## The eleven chunks together -/

section Columns

/-- Column `j` of the chunk that begins at column `o`. -/
def col (o : Nat) (ho : o + 256 ≤ 2816) (j : Fin 256) : Fin 2816 := ⟨o + j.val, by omega⟩

/-- A table of entries, as an array. -/
abbrev colFn (T : Fin 16 → Fin 2816 → EReal) : S16x2816.Idx → Elt Ideal .bf16 := fun y => T (y 0) (y 1)
/-- A table of entries, as an array. -/
abbrev lastFn (T : Fin 8 → Fin 2816 → EReal) : S1x8x2816.Idx → Elt Ideal .f32 := fun y => T (y 1) (y 2)

/-- The eleven stores of gated columns. -/
abbrev cols (A0 A1 A2 A3 A4 A5 A6 A7 A8 A9 A10 : FVec Ideal S16x256 .bf16) : List (View.Piece (Elt Ideal) S16x2816 .bf16) :=
  [⟨Rect.unit ![0, 2560] ![16, 256] inb_S16x2816_S16x256_0_2560, A10⟩,
    ⟨Rect.unit ![0, 2304] ![16, 256] inb_S16x2816_S16x256_0_2304, A9⟩,
    ⟨Rect.unit ![0, 2048] ![16, 256] inb_S16x2816_S16x256_0_2048, A8⟩,
    ⟨Rect.unit ![0, 1792] ![16, 256] inb_S16x2816_S16x256_0_1792, A7⟩,
    ⟨Rect.unit ![0, 1536] ![16, 256] inb_S16x2816_S16x256_0_1536, A6⟩,
    ⟨Rect.unit ![0, 1280] ![16, 256] inb_S16x2816_S16x256_0_1280, A5⟩,
    ⟨Rect.unit ![0, 1024] ![16, 256] inb_S16x2816_S16x256_0_1024, A4⟩,
    ⟨Rect.unit ![0, 768] ![16, 256] inb_S16x2816_S16x256_0_768, A3⟩,
    ⟨Rect.unit ![0, 512] ![16, 256] inb_S16x2816_S16x256_0_512, A2⟩,
    ⟨Rect.unit ![0, 256] ![16, 256] inb_S16x2816_S16x256_0_256, A1⟩,
    ⟨Rect.unit ![0, 0] ![16, 256] inb_S16x2816_S16x256_0_0, A0⟩]

/-- The eleven stores of last rows. -/
abbrev lasts (B0 B1 B2 B3 B4 B5 B6 B7 B8 B9 B10 : FVec Ideal S1x8x256 .f32) : List (View.Piece (Elt Ideal) S1x8x2816 .f32) :=
  [⟨Rect.unit ![0, 0, 2560] ![1, 8, 256] inb_S1x8x2816_S1x8x256_0_0_2560, B10⟩,
    ⟨Rect.unit ![0, 0, 2304] ![1, 8, 256] inb_S1x8x2816_S1x8x256_0_0_2304, B9⟩,
    ⟨Rect.unit ![0, 0, 2048] ![1, 8, 256] inb_S1x8x2816_S1x8x256_0_0_2048, B8⟩,
    ⟨Rect.unit ![0, 0, 1792] ![1, 8, 256] inb_S1x8x2816_S1x8x256_0_0_1792, B7⟩,
    ⟨Rect.unit ![0, 0, 1536] ![1, 8, 256] inb_S1x8x2816_S1x8x256_0_0_1536, B6⟩,
    ⟨Rect.unit ![0, 0, 1280] ![1, 8, 256] inb_S1x8x2816_S1x8x256_0_0_1280, B5⟩,
    ⟨Rect.unit ![0, 0, 1024] ![1, 8, 256] inb_S1x8x2816_S1x8x256_0_0_1024, B4⟩,
    ⟨Rect.unit ![0, 0, 768] ![1, 8, 256] inb_S1x8x2816_S1x8x256_0_0_768, B3⟩,
    ⟨Rect.unit ![0, 0, 512] ![1, 8, 256] inb_S1x8x2816_S1x8x256_0_0_512, B2⟩,
    ⟨Rect.unit ![0, 0, 256] ![1, 8, 256] inb_S1x8x2816_S1x8x256_0_0_256, B1⟩,
    ⟨Rect.unit ![0, 0, 0] ![1, 8, 256] inb_S1x8x2816_S1x8x256_0_0_0, B0⟩]

theorem piece_at {o : Nat} {ho : o + 256 ≤ 2816} (A : FVec Ideal S16x256 .bf16) (T : Fin 16 → Fin 2816 → EReal)
    (h : ∀ r j, A (ix2 r j) = T r (col o ho j))
    (i : ∀ a, (![0, o] : Fin 2 → Nat) a + (![16, 256] : Fin 2 → Nat) a ≤ S16x2816.size a) (x : S16x256.Idx) :
    A x = (colFn T) ((Rect.unit (s := S16x2816) ![0, o] ![16, 256] i).emb x) := by
  refine (congrArg A (eq_ix2 x)).trans ((h _ _).trans ?_)
  refine congrArg₂ T (Fin.ext ?_) (Fin.ext ?_)
  · show (x 0).val = 0 + 1 * (x 0).val; omega
  · show o + (x 1).val = o + 1 * (x 1).val; omega

theorem last_piece_at {o : Nat} {ho : o + 256 ≤ 2816} (B : FVec Ideal S1x8x256 .f32) (T : Fin 8 → Fin 2816 → EReal)
    (h : ∀ i j, B (ix3 0 i j) = T i (col o ho j))
    (i : ∀ a, (![0, 0, o] : Fin 3 → Nat) a + (![1, 8, 256] : Fin 3 → Nat) a ≤ S1x8x2816.size a) (x : S1x8x256.Idx) :
    B x = (lastFn T) ((Rect.unit (s := S1x8x2816) ![0, 0, o] ![1, 8, 256] i).emb x) := by
  have e0 : x 0 = (0 : Fin 1) := Subsingleton.elim (α := Fin 1) _ _
  have ex : x = ix3 0 (x 1) (x 2) := (eq_ix3 x).trans (congrArg (fun a : Fin 1 => (ix3 a (x 1) (x 2) : S1x8x256.Idx)) e0)
  refine (congrArg B ex).trans ((h _ _).trans ?_)
  refine congrArg₂ T (Fin.ext ?_) (Fin.ext ?_)
  · show (x 1).val = 0 + 1 * (x 1).val; omega
  · show o + (x 2).val = o + 1 * (x 2).val; omega

theorem cols_cover (A0 A1 A2 A3 A4 A5 A6 A7 A8 A9 A10 : FVec Ideal S16x256 .bf16) (y : S16x2816.Idx) : ∃ p ∈ cols A0 A1 A2 A3 A4 A5 A6 A7 A8 A9 A10, y ∈ p.1.set :=
  View.cover_of_tiledBy (cols A0 A1 A2 A3 A4 A5 A6 A7 A8 A9 A10) ![16, 256] (by sl_kernel_rfl) y

theorem lasts_cover (B0 B1 B2 B3 B4 B5 B6 B7 B8 B9 B10 : FVec Ideal S1x8x256 .f32) (y : S1x8x2816.Idx) : ∃ p ∈ lasts B0 B1 B2 B3 B4 B5 B6 B7 B8 B9 B10, y ∈ p.1.set :=
  View.cover_of_tiledBy (lasts B0 B1 B2 B3 B4 B5 B6 B7 B8 B9 B10) ![1, 8, 256] (by sl_kernel_rfl) y

theorem cols_at (A0 A1 A2 A3 A4 A5 A6 A7 A8 A9 A10 : FVec Ideal S16x256 .bf16) (T : Fin 16 → Fin 2816 → EReal)
    (h0 : ∀ r j, A0 (ix2 r j) = T r (col 0 (by decide) j)) (h1 : ∀ r j, A1 (ix2 r j) = T r (col 256 (by decide) j)) (h2 : ∀ r j, A2 (ix2 r j) = T r (col 512 (by decide) j)) (h3 : ∀ r j, A3 (ix2 r j) = T r (col 768 (by decide) j)) (h4 : ∀ r j, A4 (ix2 r j) = T r (col 1024 (by decide) j)) (h5 : ∀ r j, A5 (ix2 r j) = T r (col 1280 (by decide) j)) (h6 : ∀ r j, A6 (ix2 r j) = T r (col 1536 (by decide) j)) (h7 : ∀ r j, A7 (ix2 r j) = T r (col 1792 (by decide) j)) (h8 : ∀ r j, A8 (ix2 r j) = T r (col 2048 (by decide) j)) (h9 : ∀ r j, A9 (ix2 r j) = T r (col 2304 (by decide) j)) (h10 : ∀ r j, A10 (ix2 r j) = T r (col 2560 (by decide) j))
    (i : ∀ a, (![0, 0] : Fin 2 → Nat) a + (![16, 2816] : Fin 2 → Nat) a ≤ S16x2816.size a) (r : Fin 16) (j : Fin 2816) :
    ((View.whole cc0_scratch0).readCov (cols A0 A1 A2 A3 A4 A5 A6 A7 A8 A9 A10) (Rect.unit (s := S16x2816) ![0, 0] ![16, 2816] i).toLoadRect : S16x2816.Idx → EReal) (ix2 r j)
      = T r j := by
  rw [View.readCov_eq_canon_ld _ _ _ (cols_cover A0 A1 A2 A3 A4 A5 A6 A7 A8 A9 A10), View.ld_unit_zero (by funext a; fin_cases a <;> rfl)]
  exact View.canon_append_of_piecesOf (colFn T) [] (cols A0 A1 A2 A3 A4 A5 A6 A7 A8 A9 A10)
    ⟨piece_at A10 T h10 inb_S16x2816_S16x256_0_2560, piece_at A9 T h9 inb_S16x2816_S16x256_0_2304, piece_at A8 T h8 inb_S16x2816_S16x256_0_2048, piece_at A7 T h7 inb_S16x2816_S16x256_0_1792, piece_at A6 T h6 inb_S16x2816_S16x256_0_1536, piece_at A5 T h5 inb_S16x2816_S16x256_0_1280, piece_at A4 T h4 inb_S16x2816_S16x256_0_1024, piece_at A3 T h3 inb_S16x2816_S16x256_0_768, piece_at A2 T h2 inb_S16x2816_S16x256_0_512, piece_at A1 T h1 inb_S16x2816_S16x256_0_256, piece_at A0 T h0 inb_S16x2816_S16x256_0_0, trivial⟩ _ (cols_cover A0 A1 A2 A3 A4 A5 A6 A7 A8 A9 A10 _)

theorem lasts_at (L : List (View.Piece (Elt Ideal) S1x8x2816 .f32)) (B0 B1 B2 B3 B4 B5 B6 B7 B8 B9 B10 : FVec Ideal S1x8x256 .f32) (T : Fin 8 → Fin 2816 → EReal)
    (h0 : ∀ i j, B0 (ix3 0 i j) = T i (col 0 (by decide) j)) (h1 : ∀ i j, B1 (ix3 0 i j) = T i (col 256 (by decide) j)) (h2 : ∀ i j, B2 (ix3 0 i j) = T i (col 512 (by decide) j)) (h3 : ∀ i j, B3 (ix3 0 i j) = T i (col 768 (by decide) j)) (h4 : ∀ i j, B4 (ix3 0 i j) = T i (col 1024 (by decide) j)) (h5 : ∀ i j, B5 (ix3 0 i j) = T i (col 1280 (by decide) j)) (h6 : ∀ i j, B6 (ix3 0 i j) = T i (col 1536 (by decide) j)) (h7 : ∀ i j, B7 (ix3 0 i j) = T i (col 1792 (by decide) j)) (h8 : ∀ i j, B8 (ix3 0 i j) = T i (col 2048 (by decide) j)) (h9 : ∀ i j, B9 (ix3 0 i j) = T i (col 2304 (by decide) j)) (h10 : ∀ i j, B10 (ix3 0 i j) = T i (col 2560 (by decide) j))
    (y : S1x8x2816.Idx) :
    View.canon (lasts B0 B1 B2 B3 B4 B5 B6 B7 B8 B9 B10 ++ L) y = T (y 1) (y 2) :=
  View.canon_append_of_piecesOf (lastFn T) L (lasts B0 B1 B2 B3 B4 B5 B6 B7 B8 B9 B10)
    ⟨last_piece_at B10 T h10 inb_S1x8x2816_S1x8x256_0_0_2560, last_piece_at B9 T h9 inb_S1x8x2816_S1x8x256_0_0_2304, last_piece_at B8 T h8 inb_S1x8x2816_S1x8x256_0_0_2048, last_piece_at B7 T h7 inb_S1x8x2816_S1x8x256_0_0_1792, last_piece_at B6 T h6 inb_S1x8x2816_S1x8x256_0_0_1536, last_piece_at B5 T h5 inb_S1x8x2816_S1x8x256_0_0_1280, last_piece_at B4 T h4 inb_S1x8x2816_S1x8x256_0_0_1024, last_piece_at B3 T h3 inb_S1x8x2816_S1x8x256_0_0_768, last_piece_at B2 T h2 inb_S1x8x2816_S1x8x256_0_0_512, last_piece_at B1 T h1 inb_S1x8x2816_S1x8x256_0_0_256, last_piece_at B0 T h0 inb_S1x8x2816_S1x8x256_0_0_0, trivial⟩ _ (lasts_cover B0 B1 B2 B3 B4 B5 B6 B7 B8 B9 B10 _)

end Columns

/-! ## The block of a grid point -/

section Block

variable (h2 : FVec Ideal S16x1024 .bf16) (x6 x7 : Vec Ideal S1024x2816 .bf16) (x9 : Vec Ideal S3x2816 .f32)
  (x10 : Vec Ideal S1x2816 .f32) (H : Vec Ideal S1x8x2816 .f32)

/-- A column of the projections. -/
def gcol (w : Vec Ideal S1024x2816 .bf16) (j : Fin 2816) (r : Fin 16) : EReal := ∑ k : Fin 1024, h2 (ix2 r k) * w (ix2 k j)

/-- The gated entry of row `r`, column `j`. -/
def act (r : Fin 16) (j : Fin 2816) : EReal :=
  gate (taps (gcol h2 x6 j) (fun i => H (ix3 0 i j)) (x9 (ix2 2 j)) (x10 (ix2 0 j)) (x9 (ix2 1 j)) (x9 (ix2 0 j)) r) (gcol h2 x7 j r)

theorem chunk_col (o : Nat) (ho : o + 256 ≤ 2816) {xg xu : Vec Ideal S1024x256 .bf16} {hc : Vec Ideal S1x8x256 .f32}
    {w2 b w1 w0 : Vec Ideal S1x256 .f32} (hg : ∀ k j, xg (ix2 k j) = x6 (ix2 k (col o ho j))) (hu : ∀ k j, xu (ix2 k j) = x7 (ix2 k (col o ho j)))
    (hh : ∀ i j, hc (ix3 0 i j) = H (ix3 0 i (col o ho j))) (e2 : ∀ j, w2 (ix2 0 j) = x9 (ix2 2 (col o ho j)))
    (eb : ∀ j, b (ix2 0 j) = x10 (ix2 0 (col o ho j))) (e1 : ∀ j, w1 (ix2 0 j) = x9 (ix2 1 (col o ho j)))
    (e0 : ∀ j, w0 (ix2 0 j) = x9 (ix2 0 (col o ho j))) (r : Fin 16) (j : Fin 256) :
    chunk h2 xg xu hc w2 b w1 w0 (ix2 r j) = act h2 x6 x7 x9 x10 H r (col o ho j) := by
  rw [chunk_at]
  unfold act proj gcol
  simp only [hg, hu, hh, e2, eb, e1, e0]

theorem last_col (o : Nat) (ho : o + 256 ≤ 2816) {xg : Vec Ideal S1024x256 .bf16} (hg : ∀ k j, xg (ix2 k j) = x6 (ix2 k (col o ho j)))
    (i : Fin 8) (j : Fin 256) : k0_pay19 (k0_pay15 h2 xg) (ix3 0 i j) = gcol h2 x6 (col o ho j) ⟨8 + i.val, by omega⟩ := by
  pointwise [k0_pay19, k0_pay15]
  unfold gcol
  simp only [hg]

theorem ld_w (x : Vec Ideal S1024x2816 .bf16) {o : Nat} (ho : o + 256 ≤ 2816)
    (i : ∀ a, (![0, o] : Fin 2 → Nat) a + (![1024, 256] : Fin 2 → Nat) a ≤ S1024x2816.size a) (k : Fin 1024) (j : Fin 256) :
    (View.ld x (Rect.unit (s := S1024x2816) ![0, o] ![1024, 256] i) : S1024x256.Idx → EReal) (ix2 k j) = x (ix2 k (col o ho j)) := by
  refine congrArg x (funext fun a => Fin.ext ?_)
  fin_cases a
  · show 0 + 1 * k.val = k.val; omega
  · show o + 1 * j.val = o + j.val; omega

theorem ld_t (x : Vec Ideal S3x2816 .f32) (q : Fin 3) {o : Nat} (ho : o + 256 ≤ 2816)
    (i : ∀ a, (![q.val, o] : Fin 2 → Nat) a + (![1, 256] : Fin 2 → Nat) a ≤ S3x2816.size a) (j : Fin 256) :
    (View.ld x (Rect.unit (s := S3x2816) ![q.val, o] ![1, 256] i) : S1x256.Idx → EReal) (ix2 0 j) = x (ix2 q (col o ho j)) := by
  refine congrArg x (funext fun a => Fin.ext ?_)
  fin_cases a
  · show q.val + 1 * 0 = q.val; omega
  · show o + 1 * j.val = o + j.val; omega

theorem ld_b (x : Vec Ideal S1x2816 .f32) {o : Nat} (ho : o + 256 ≤ 2816)
    (i : ∀ a, (![0, o] : Fin 2 → Nat) a + (![1, 256] : Fin 2 → Nat) a ≤ S1x2816.size a) (j : Fin 256) :
    (View.ld x (Rect.unit (s := S1x2816) ![0, o] ![1, 256] i) : S1x256.Idx → EReal) (ix2 0 j) = x (ix2 0 (col o ho j)) := by
  refine congrArg x (funext fun a => Fin.ext ?_)
  fin_cases a
  · rfl
  · show o + 1 * j.val = o + j.val; omega

theorem ld_h (x : Vec Ideal S1x8x2816 .f32) {o : Nat} (ho : o + 256 ≤ 2816)
    (i : ∀ a, (![0, 0, o] : Fin 3 → Nat) a + (![1, 8, 256] : Fin 3 → Nat) a ≤ S1x8x2816.size a) (q : Fin 8) (j : Fin 256) :
    (View.ld x (Rect.unit (s := S1x8x2816) ![0, 0, o] ![1, 8, 256] i) : S1x8x256.Idx → EReal) (ix3 0 q j) = x (ix3 0 q (col o ho j)) := by
  refine congrArg x (funext fun a => Fin.ext ?_)
  fin_cases a
  · rfl
  · show 0 + 1 * q.val = q.val; omega
  · show o + 1 * j.val = o + j.val; omega

theorem out_at (xr : FVec Ideal S16x1024 .f32) (P : Vec Ideal S16x2816 .bf16) (x8 : Vec Ideal S2816x1024 .bf16)
    (T : Fin 16 → Fin 2816 → EReal) (hP : ∀ r j, P (ix2 r j) = T r j) (r : Fin 16) (e : Fin 1024) :
    k0_pay1 (k0_pay89 xr P x8) (ix3 0 r e) = xr (ix2 r e) + ∑ j : Fin 2816, T r j * x8 (ix2 j e) := by
  pointwise [k0_pay1, k0_pay89]
  simp only [hP]

end Block

theorem hist0 {κ sp} (v : View sig κ sp S1x8x2816 .f32) {o : ℕ} (ho : o + 256 ≤ 2816) (Z : Vec Ideal S1x8x2816 .f32)
    (i : ∀ a, (![0, 0, o] : Fin 3 → ℕ) a + (S1x8x256).size a ≤ S1x8x2816.size a) (q : Fin 8) (j : Fin 256) :
    (v.readCov [⟨Rect.unit (s := S1x8x2816) ![0, 0, 0] S1x8x2816.size inb_S1x8x2816_S1x8x2816_0_0_0, Z⟩]
      (Rect.unit (s := S1x8x2816) ![0, 0, o] S1x8x256.size i).toLoadRect : S1x8x256.Idx → EReal) (ix3 0 q j) = Z (ix3 0 q (col o ho j)) :=
  (congrFun (View.readCov_fill v inb_S1x8x2816_S1x8x2816_0_0_0 Z [] (Rect.unit (s := S1x8x2816) ![0, 0, o] S1x8x256.size i) (by decide)) (ix3 0 q j)).trans
    (ld_h Z ho i q j)

theorem hist_skip {κ sp} (v : View sig κ sp S1x8x2816 .f32) {o' o : ℕ}
    (i' : ∀ a, (![0, 0, o'] : Fin 3 → ℕ) a + (S1x8x256).size a ≤ S1x8x2816.size a)
    (i : ∀ a, (![0, 0, o] : Fin 3 → ℕ) a + (S1x8x256).size a ≤ S1x8x2816.size a)
    (B : Vec Ideal S1x8x256 .f32) (L : List (Idealize.ShloMosaic.View.Piece (Elt Ideal) S1x8x2816 .f32)) (R : Fin 8 → Fin 256 → EReal) (d : o' + 256 ≤ o)
    (h : ∀ (q : Fin 8) (j : Fin 256), (v.readCov L (Rect.unit (s := S1x8x2816) ![0, 0, o] S1x8x256.size i).toLoadRect : S1x8x256.Idx → EReal) (ix3 0 q j) = R q j)
    (q : Fin 8) (j : Fin 256) :
    (v.readCov (⟨Rect.unit (s := S1x8x2816) ![0, 0, o'] S1x8x256.size i', B⟩ :: L)
      (Rect.unit (s := S1x8x2816) ![0, 0, o] S1x8x256.size i).toLoadRect : S1x8x256.Idx → EReal) (ix3 0 q j) = R q j :=
  (congrFun (View.readCov_cons_of_disjoint v ⟨Rect.unit (s := S1x8x2816) ![0, 0, o'] S1x8x256.size i', B⟩ L
    (Rect.unit (s := S1x8x2816) ![0, 0, o] S1x8x256.size i).toLoadRect (Rect.unit_disjoint (inb := i') (inb' := i) 2 (Or.inl d))) (ix3 0 q j)).trans (h q j)

section Point

variable (m : (ℓ : Loc nD τ sig) → Buf (Elt Ideal) ℓ) (c : Dev nD) (t : Fin cfg0.N)

/-- The residual rows of a grid point. -/
abbrev xrOf : FVec Ideal S16x1024 .f32 := k0_pay3 (iblk m c 0 t) (iblk m c 1 t)
  (View.ld (iblk m c 4 t) (Rect.unit (s := S1536x1024) ![0, 0] ![512, 1024] inb_S1536x1024_S512x1024_0_0)) (iblk m c 2 t)
  (View.ld (iblk m c 4 t) (Rect.unit (s := S1536x1024) ![512, 0] ![512, 1024] inb_S1536x1024_S512x1024_512_0)) (iblk m c 3 t)
  (View.ld (iblk m c 4 t) (Rect.unit (s := S1536x1024) ![1024, 0] ![512, 1024] inb_S1536x1024_S512x1024_1024_0))
/-- Their mean squares. -/
abbrev msOf : FVec Ideal S16x1 .f32 := k0_pay5 (iblk m c 0 t) (iblk m c 1 t)
  (View.ld (iblk m c 4 t) (Rect.unit (s := S1536x1024) ![0, 0] ![512, 1024] inb_S1536x1024_S512x1024_0_0)) (iblk m c 2 t)
  (View.ld (iblk m c 4 t) (Rect.unit (s := S1536x1024) ![512, 0] ![512, 1024] inb_S1536x1024_S512x1024_512_0)) (iblk m c 3 t)
  (View.ld (iblk m c 4 t) (Rect.unit (s := S1536x1024) ![1024, 0] ![512, 1024] inb_S1536x1024_S512x1024_1024_0))
/-- The normalised rows. -/
abbrev h2Of : FVec Ideal S16x1024 .bf16 := k0_pay6 (xrOf m c t) (k0_pay4 (iblk m c 5 t)) (msOf m c t)

/-- The last eight rows of a grid point. -/
theorem last_A (i : Fin 8) (j : Fin 2816) : ((outsAt0 m c t).2 : S1x8x2816.Idx → EReal) (ix3 0 i j)
    = gcol (h2Of m c t) (iblk m c 6 t) j ⟨8 + i.val, by omega⟩ := by
  unfold outsAt0
  frame_out
  exact lasts_at [_] _ _ _ _ _ _ _ _ _ _ _ (fun i j => gcol (h2Of m c t) (iblk m c 6 t) j ⟨8 + i.val, by omega⟩)
    (last_col (h2Of m c t) (iblk m c 6 t) 0 (by decide) (ld_w (iblk m c 6 t) _ inb_S1024x2816_S1024x256_0_0))
    (last_col (h2Of m c t) (iblk m c 6 t) 256 (by decide) (ld_w (iblk m c 6 t) _ inb_S1024x2816_S1024x256_0_256))
    (last_col (h2Of m c t) (iblk m c 6 t) 512 (by decide) (ld_w (iblk m c 6 t) _ inb_S1024x2816_S1024x256_0_512))
    (last_col (h2Of m c t) (iblk m c 6 t) 768 (by decide) (ld_w (iblk m c 6 t) _ inb_S1024x2816_S1024x256_0_768))
    (last_col (h2Of m c t) (iblk m c 6 t) 1024 (by decide) (ld_w (iblk m c 6 t) _ inb_S1024x2816_S1024x256_0_1024))
    (last_col (h2Of m c t) (iblk m c 6 t) 1280 (by decide) (ld_w (iblk m c 6 t) _ inb_S1024x2816_S1024x256_0_1280))
    (last_col (h2Of m c t) (iblk m c 6 t) 1536 (by decide) (ld_w (iblk m c 6 t) _ inb_S1024x2816_S1024x256_0_1536))
    (last_col (h2Of m c t) (iblk m c 6 t) 1792 (by decide) (ld_w (iblk m c 6 t) _ inb_S1024x2816_S1024x256_0_1792))
    (last_col (h2Of m c t) (iblk m c 6 t) 2048 (by decide) (ld_w (iblk m c 6 t) _ inb_S1024x2816_S1024x256_0_2048))
    (last_col (h2Of m c t) (iblk m c 6 t) 2304 (by decide) (ld_w (iblk m c 6 t) _ inb_S1024x2816_S1024x256_0_2304))
    (last_col (h2Of m c t) (iblk m c 6 t) 2560 (by decide) (ld_w (iblk m c 6 t) _ inb_S1024x2816_S1024x256_0_2560)) (ix3 0 i j)

theorem out_A (r : Fin 16) (e : Fin 1024) : ((outsAt0 m c t).1 : S1x16x1024.Idx → EReal) (ix3 0 r e)
    = xrOf m c t (ix2 r e) + ∑ j : Fin 2816, act (h2Of m c t) (iblk m c 6 t) (iblk m c 7 t) (iblk m c 9 t) (iblk m c 10 t)
        (k0_pay2 (iblk m c 11 t)) r j * (show Vec Ideal S2816x1024 .bf16 from iblk m c 8 t) (ix2 j e) := by
  unfold outsAt0
  frame_out
  exact out_at _ _ _ _ (cols_at _ _ _ _ _ _ _ _ _ _ _ (act (h2Of m c t) (iblk m c 6 t) (iblk m c 7 t) (iblk m c 9 t) (iblk m c 10 t)
        (k0_pay2 (iblk m c 11 t)))
    (fun r j => (congrFun (chunk0 _ _ _ _ _ _ _ (xrOf m c t) (k0_pay4 (iblk m c 5 t)) (msOf m c t)) _).trans (chunk_col (h2Of m c t) (iblk m c 6 t) (iblk m c 7 t) (iblk m c 9 t) (iblk m c 10 t) _ 0 (by decide) (ld_w (iblk m c 6 t) _ inb_S1024x2816_S1024x256_0_0) (ld_w (iblk m c 7 t) _ inb_S1024x2816_S1024x256_0_0) (hist0 _ (by decide) (k0_pay2 (iblk m c 11 t)) inb_S1x8x2816_S1x8x256_0_0_0) (ld_t (iblk m c 9 t) 2 _ inb_S3x2816_S1x256_2_0) (ld_b (iblk m c 10 t) _ inb_S1x2816_S1x256_0_0) (ld_t (iblk m c 9 t) 1 _ inb_S3x2816_S1x256_1_0) (ld_t (iblk m c 9 t) 0 _ inb_S3x2816_S1x256_0_0) r j))
    (fun r j => chunk_col (h2Of m c t) (iblk m c 6 t) (iblk m c 7 t) (iblk m c 9 t) (iblk m c 10 t) _ 256 (by decide) (ld_w (iblk m c 6 t) _ inb_S1024x2816_S1024x256_0_256) (ld_w (iblk m c 7 t) _ inb_S1024x2816_S1024x256_0_256) (hist_skip _ inb_S1x8x2816_S1x8x256_0_0_0 inb_S1x8x2816_S1x8x256_0_0_256 _ _ _ (by decide) (hist0 _ (by decide) (k0_pay2 (iblk m c 11 t)) inb_S1x8x2816_S1x8x256_0_0_256)) (ld_t (iblk m c 9 t) 2 _ inb_S3x2816_S1x256_2_256) (ld_b (iblk m c 10 t) _ inb_S1x2816_S1x256_0_256) (ld_t (iblk m c 9 t) 1 _ inb_S3x2816_S1x256_1_256) (ld_t (iblk m c 9 t) 0 _ inb_S3x2816_S1x256_0_256) r j)
    (fun r j => (congrFun (chunk2 (h2Of m c t) _ _ _ _ _ _ _) _).trans (chunk_col (h2Of m c t) (iblk m c 6 t) (iblk m c 7 t) (iblk m c 9 t) (iblk m c 10 t) _ 512 (by decide) (ld_w (iblk m c 6 t) _ inb_S1024x2816_S1024x256_0_512) (ld_w (iblk m c 7 t) _ inb_S1024x2816_S1024x256_0_512) (hist_skip _ inb_S1x8x2816_S1x8x256_0_0_256 inb_S1x8x2816_S1x8x256_0_0_512 _ _ _ (by decide) (hist_skip _ inb_S1x8x2816_S1x8x256_0_0_0 inb_S1x8x2816_S1x8x256_0_0_512 _ _ _ (by decide) (hist0 _ (by decide) (k0_pay2 (iblk m c 11 t)) inb_S1x8x2816_S1x8x256_0_0_512))) (ld_t (iblk m c 9 t) 2 _ inb_S3x2816_S1x256_2_512) (ld_b (iblk m c 10 t) _ inb_S1x2816_S1x256_0_512) (ld_t (iblk m c 9 t) 1 _ inb_S3x2816_S1x256_1_512) (ld_t (iblk m c 9 t) 0 _ inb_S3x2816_S1x256_0_512) r j))
    (fun r j => (congrFun (chunk3 (h2Of m c t) _ _ _ _ _ _ _) _).trans (chunk_col (h2Of m c t) (iblk m c 6 t) (iblk m c 7 t) (iblk m c 9 t) (iblk m c 10 t) _ 768 (by decide) (ld_w (iblk m c 6 t) _ inb_S1024x2816_S1024x256_0_768) (ld_w (iblk m c 7 t) _ inb_S1024x2816_S1024x256_0_768) (hist_skip _ inb_S1x8x2816_S1x8x256_0_0_512 inb_S1x8x2816_S1x8x256_0_0_768 _ _ _ (by decide) (hist_skip _ inb_S1x8x2816_S1x8x256_0_0_256 inb_S1x8x2816_S1x8x256_0_0_768 _ _ _ (by decide) (hist_skip _ inb_S1x8x2816_S1x8x256_0_0_0 inb_S1x8x2816_S1x8x256_0_0_768 _ _ _ (by decide) (hist0 _ (by decide) (k0_pay2 (iblk m c 11 t)) inb_S1x8x2816_S1x8x256_0_0_768)))) (ld_t (iblk m c 9 t) 2 _ inb_S3x2816_S1x256_2_768) (ld_b (iblk m c 10 t) _ inb_S1x2816_S1x256_0_768) (ld_t (iblk m c 9 t) 1 _ inb_S3x2816_S1x256_1_768) (ld_t (iblk m c 9 t) 0 _ inb_S3x2816_S1x256_0_768) r j))
    (fun r j => (congrFun (chunk4 (h2Of m c t) _ _ _ _ _ _ _) _).trans (chunk_col (h2Of m c t) (iblk m c 6 t) (iblk m c 7 t) (iblk m c 9 t) (iblk m c 10 t) _ 1024 (by decide) (ld_w (iblk m c 6 t) _ inb_S1024x2816_S1024x256_0_1024) (ld_w (iblk m c 7 t) _ inb_S1024x2816_S1024x256_0_1024) (hist_skip _ inb_S1x8x2816_S1x8x256_0_0_768 inb_S1x8x2816_S1x8x256_0_0_1024 _ _ _ (by decide) (hist_skip _ inb_S1x8x2816_S1x8x256_0_0_512 inb_S1x8x2816_S1x8x256_0_0_1024 _ _ _ (by decide) (hist_skip _ inb_S1x8x2816_S1x8x256_0_0_256 inb_S1x8x2816_S1x8x256_0_0_1024 _ _ _ (by decide) (hist_skip _ inb_S1x8x2816_S1x8x256_0_0_0 inb_S1x8x2816_S1x8x256_0_0_1024 _ _ _ (by decide) (hist0 _ (by decide) (k0_pay2 (iblk m c 11 t)) inb_S1x8x2816_S1x8x256_0_0_1024))))) (ld_t (iblk m c 9 t) 2 _ inb_S3x2816_S1x256_2_1024) (ld_b (iblk m c 10 t) _ inb_S1x2816_S1x256_0_1024) (ld_t (iblk m c 9 t) 1 _ inb_S3x2816_S1x256_1_1024) (ld_t (iblk m c 9 t) 0 _ inb_S3x2816_S1x256_0_1024) r j))
    (fun r j => (congrFun (chunk5 (h2Of m c t) _ _ _ _ _ _ _) _).trans (chunk_col (h2Of m c t) (iblk m c 6 t) (iblk m c 7 t) (iblk m c 9 t) (iblk m c 10 t) _ 1280 (by decide) (ld_w (iblk m c 6 t) _ inb_S1024x2816_S1024x256_0_1280) (ld_w (iblk m c 7 t) _ inb_S1024x2816_S1024x256_0_1280) (hist_skip _ inb_S1x8x2816_S1x8x256_0_0_1024 inb_S1x8x2816_S1x8x256_0_0_1280 _ _ _ (by decide) (hist_skip _ inb_S1x8x2816_S1x8x256_0_0_768 inb_S1x8x2816_S1x8x256_0_0_1280 _ _ _ (by decide) (hist_skip _ inb_S1x8x2816_S1x8x256_0_0_512 inb_S1x8x2816_S1x8x256_0_0_1280 _ _ _ (by decide) (hist_skip _ inb_S1x8x2816_S1x8x256_0_0_256 inb_S1x8x2816_S1x8x256_0_0_1280 _ _ _ (by decide) (hist_skip _ inb_S1x8x2816_S1x8x256_0_0_0 inb_S1x8x2816_S1x8x256_0_0_1280 _ _ _ (by decide) (hist0 _ (by decide) (k0_pay2 (iblk m c 11 t)) inb_S1x8x2816_S1x8x256_0_0_1280)))))) (ld_t (iblk m c 9 t) 2 _ inb_S3x2816_S1x256_2_1280) (ld_b (iblk m c 10 t) _ inb_S1x2816_S1x256_0_1280) (ld_t (iblk m c 9 t) 1 _ inb_S3x2816_S1x256_1_1280) (ld_t (iblk m c 9 t) 0 _ inb_S3x2816_S1x256_0_1280) r j))
    (fun r j => (congrFun (chunk6 (h2Of m c t) _ _ _ _ _ _ _) _).trans (chunk_col (h2Of m c t) (iblk m c 6 t) (iblk m c 7 t) (iblk m c 9 t) (iblk m c 10 t) _ 1536 (by decide) (ld_w (iblk m c 6 t) _ inb_S1024x2816_S1024x256_0_1536) (ld_w (iblk m c 7 t) _ inb_S1024x2816_S1024x256_0_1536) (hist_skip _ inb_S1x8x2816_S1x8x256_0_0_1280 inb_S1x8x2816_S1x8x256_0_0_1536 _ _ _ (by decide) (hist_skip _ inb_S1x8x2816_S1x8x256_0_0_1024 inb_S1x8x2816_S1x8x256_0_0_1536 _ _ _ (by decide) (hist_skip _ inb_S1x8x2816_S1x8x256_0_0_768 inb_S1x8x2816_S1x8x256_0_0_1536 _ _ _ (by decide) (hist_skip _ inb_S1x8x2816_S1x8x256_0_0_512 inb_S1x8x2816_S1x8x256_0_0_1536 _ _ _ (by decide) (hist_skip _ inb_S1x8x2816_S1x8x256_0_0_256 inb_S1x8x2816_S1x8x256_0_0_1536 _ _ _ (by decide) (hist_skip _ inb_S1x8x2816_S1x8x256_0_0_0 inb_S1x8x2816_S1x8x256_0_0_1536 _ _ _ (by decide) (hist0 _ (by decide) (k0_pay2 (iblk m c 11 t)) inb_S1x8x2816_S1x8x256_0_0_1536))))))) (ld_t (iblk m c 9 t) 2 _ inb_S3x2816_S1x256_2_1536) (ld_b (iblk m c 10 t) _ inb_S1x2816_S1x256_0_1536) (ld_t (iblk m c 9 t) 1 _ inb_S3x2816_S1x256_1_1536) (ld_t (iblk m c 9 t) 0 _ inb_S3x2816_S1x256_0_1536) r j))
    (fun r j => (congrFun (chunk7 (h2Of m c t) _ _ _ _ _ _ _) _).trans (chunk_col (h2Of m c t) (iblk m c 6 t) (iblk m c 7 t) (iblk m c 9 t) (iblk m c 10 t) _ 1792 (by decide) (ld_w (iblk m c 6 t) _ inb_S1024x2816_S1024x256_0_1792) (ld_w (iblk m c 7 t) _ inb_S1024x2816_S1024x256_0_1792) (hist_skip _ inb_S1x8x2816_S1x8x256_0_0_1536 inb_S1x8x2816_S1x8x256_0_0_1792 _ _ _ (by decide) (hist_skip _ inb_S1x8x2816_S1x8x256_0_0_1280 inb_S1x8x2816_S1x8x256_0_0_1792 _ _ _ (by decide) (hist_skip _ inb_S1x8x2816_S1x8x256_0_0_1024 inb_S1x8x2816_S1x8x256_0_0_1792 _ _ _ (by decide) (hist_skip _ inb_S1x8x2816_S1x8x256_0_0_768 inb_S1x8x2816_S1x8x256_0_0_1792 _ _ _ (by decide) (hist_skip _ inb_S1x8x2816_S1x8x256_0_0_512 inb_S1x8x2816_S1x8x256_0_0_1792 _ _ _ (by decide) (hist_skip _ inb_S1x8x2816_S1x8x256_0_0_256 inb_S1x8x2816_S1x8x256_0_0_1792 _ _ _ (by decide) (hist_skip _ inb_S1x8x2816_S1x8x256_0_0_0 inb_S1x8x2816_S1x8x256_0_0_1792 _ _ _ (by decide) (hist0 _ (by decide) (k0_pay2 (iblk m c 11 t)) inb_S1x8x2816_S1x8x256_0_0_1792)))))))) (ld_t (iblk m c 9 t) 2 _ inb_S3x2816_S1x256_2_1792) (ld_b (iblk m c 10 t) _ inb_S1x2816_S1x256_0_1792) (ld_t (iblk m c 9 t) 1 _ inb_S3x2816_S1x256_1_1792) (ld_t (iblk m c 9 t) 0 _ inb_S3x2816_S1x256_0_1792) r j))
    (fun r j => (congrFun (chunk8 (h2Of m c t) _ _ _ _ _ _ _) _).trans (chunk_col (h2Of m c t) (iblk m c 6 t) (iblk m c 7 t) (iblk m c 9 t) (iblk m c 10 t) _ 2048 (by decide) (ld_w (iblk m c 6 t) _ inb_S1024x2816_S1024x256_0_2048) (ld_w (iblk m c 7 t) _ inb_S1024x2816_S1024x256_0_2048) (hist_skip _ inb_S1x8x2816_S1x8x256_0_0_1792 inb_S1x8x2816_S1x8x256_0_0_2048 _ _ _ (by decide) (hist_skip _ inb_S1x8x2816_S1x8x256_0_0_1536 inb_S1x8x2816_S1x8x256_0_0_2048 _ _ _ (by decide) (hist_skip _ inb_S1x8x2816_S1x8x256_0_0_1280 inb_S1x8x2816_S1x8x256_0_0_2048 _ _ _ (by decide) (hist_skip _ inb_S1x8x2816_S1x8x256_0_0_1024 inb_S1x8x2816_S1x8x256_0_0_2048 _ _ _ (by decide) (hist_skip _ inb_S1x8x2816_S1x8x256_0_0_768 inb_S1x8x2816_S1x8x256_0_0_2048 _ _ _ (by decide) (hist_skip _ inb_S1x8x2816_S1x8x256_0_0_512 inb_S1x8x2816_S1x8x256_0_0_2048 _ _ _ (by decide) (hist_skip _ inb_S1x8x2816_S1x8x256_0_0_256 inb_S1x8x2816_S1x8x256_0_0_2048 _ _ _ (by decide) (hist_skip _ inb_S1x8x2816_S1x8x256_0_0_0 inb_S1x8x2816_S1x8x256_0_0_2048 _ _ _ (by decide) (hist0 _ (by decide) (k0_pay2 (iblk m c 11 t)) inb_S1x8x2816_S1x8x256_0_0_2048))))))))) (ld_t (iblk m c 9 t) 2 _ inb_S3x2816_S1x256_2_2048) (ld_b (iblk m c 10 t) _ inb_S1x2816_S1x256_0_2048) (ld_t (iblk m c 9 t) 1 _ inb_S3x2816_S1x256_1_2048) (ld_t (iblk m c 9 t) 0 _ inb_S3x2816_S1x256_0_2048) r j))
    (fun r j => (congrFun (chunk9 (h2Of m c t) _ _ _ _ _ _ _) _).trans (chunk_col (h2Of m c t) (iblk m c 6 t) (iblk m c 7 t) (iblk m c 9 t) (iblk m c 10 t) _ 2304 (by decide) (ld_w (iblk m c 6 t) _ inb_S1024x2816_S1024x256_0_2304) (ld_w (iblk m c 7 t) _ inb_S1024x2816_S1024x256_0_2304) (hist_skip _ inb_S1x8x2816_S1x8x256_0_0_2048 inb_S1x8x2816_S1x8x256_0_0_2304 _ _ _ (by decide) (hist_skip _ inb_S1x8x2816_S1x8x256_0_0_1792 inb_S1x8x2816_S1x8x256_0_0_2304 _ _ _ (by decide) (hist_skip _ inb_S1x8x2816_S1x8x256_0_0_1536 inb_S1x8x2816_S1x8x256_0_0_2304 _ _ _ (by decide) (hist_skip _ inb_S1x8x2816_S1x8x256_0_0_1280 inb_S1x8x2816_S1x8x256_0_0_2304 _ _ _ (by decide) (hist_skip _ inb_S1x8x2816_S1x8x256_0_0_1024 inb_S1x8x2816_S1x8x256_0_0_2304 _ _ _ (by decide) (hist_skip _ inb_S1x8x2816_S1x8x256_0_0_768 inb_S1x8x2816_S1x8x256_0_0_2304 _ _ _ (by decide) (hist_skip _ inb_S1x8x2816_S1x8x256_0_0_512 inb_S1x8x2816_S1x8x256_0_0_2304 _ _ _ (by decide) (hist_skip _ inb_S1x8x2816_S1x8x256_0_0_256 inb_S1x8x2816_S1x8x256_0_0_2304 _ _ _ (by decide) (hist_skip _ inb_S1x8x2816_S1x8x256_0_0_0 inb_S1x8x2816_S1x8x256_0_0_2304 _ _ _ (by decide) (hist0 _ (by decide) (k0_pay2 (iblk m c 11 t)) inb_S1x8x2816_S1x8x256_0_0_2304)))))))))) (ld_t (iblk m c 9 t) 2 _ inb_S3x2816_S1x256_2_2304) (ld_b (iblk m c 10 t) _ inb_S1x2816_S1x256_0_2304) (ld_t (iblk m c 9 t) 1 _ inb_S3x2816_S1x256_1_2304) (ld_t (iblk m c 9 t) 0 _ inb_S3x2816_S1x256_0_2304) r j))
    (fun r j => (congrFun (chunk10 (h2Of m c t) _ _ _ _ _ _ _) _).trans (chunk_col (h2Of m c t) (iblk m c 6 t) (iblk m c 7 t) (iblk m c 9 t) (iblk m c 10 t) _ 2560 (by decide) (ld_w (iblk m c 6 t) _ inb_S1024x2816_S1024x256_0_2560) (ld_w (iblk m c 7 t) _ inb_S1024x2816_S1024x256_0_2560) (hist_skip _ inb_S1x8x2816_S1x8x256_0_0_2304 inb_S1x8x2816_S1x8x256_0_0_2560 _ _ _ (by decide) (hist_skip _ inb_S1x8x2816_S1x8x256_0_0_2048 inb_S1x8x2816_S1x8x256_0_0_2560 _ _ _ (by decide) (hist_skip _ inb_S1x8x2816_S1x8x256_0_0_1792 inb_S1x8x2816_S1x8x256_0_0_2560 _ _ _ (by decide) (hist_skip _ inb_S1x8x2816_S1x8x256_0_0_1536 inb_S1x8x2816_S1x8x256_0_0_2560 _ _ _ (by decide) (hist_skip _ inb_S1x8x2816_S1x8x256_0_0_1280 inb_S1x8x2816_S1x8x256_0_0_2560 _ _ _ (by decide) (hist_skip _ inb_S1x8x2816_S1x8x256_0_0_1024 inb_S1x8x2816_S1x8x256_0_0_2560 _ _ _ (by decide) (hist_skip _ inb_S1x8x2816_S1x8x256_0_0_768 inb_S1x8x2816_S1x8x256_0_0_2560 _ _ _ (by decide) (hist_skip _ inb_S1x8x2816_S1x8x256_0_0_512 inb_S1x8x2816_S1x8x256_0_0_2560 _ _ _ (by decide) (hist_skip _ inb_S1x8x2816_S1x8x256_0_0_256 inb_S1x8x2816_S1x8x256_0_0_2560 _ _ _ (by decide) (hist_skip _ inb_S1x8x2816_S1x8x256_0_0_0 inb_S1x8x2816_S1x8x256_0_0_2560 _ _ _ (by decide) (hist0 _ (by decide) (k0_pay2 (iblk m c 11 t)) inb_S1x8x2816_S1x8x256_0_0_2560))))))))))) (ld_t (iblk m c 9 t) 2 _ inb_S3x2816_S1x256_2_2560) (ld_b (iblk m c 10 t) _ inb_S1x2816_S1x256_0_2560) (ld_t (iblk m c 9 t) 1 _ inb_S3x2816_S1x256_1_2560) (ld_t (iblk m c 9 t) 0 _ inb_S3x2816_S1x256_0_2560) r j)) _) r e

end Point

end Cert.Kernel6Ideal.OutFfnSample
-- ==== Proof.OutFfnSampleArr.lean ====
module

public import proofs.«01_k».proof.Proof.OutFfnSample

@[expose] public section

/-!
# The sample rows' output projection and gated unit: the arrays the kernel writes
-/

noncomputable section

namespace Cert.Kernel6Ideal.OutFfnSample

open Cert.Kernel6Ideal Cert.Kernel6Ideal.Gen Idealize.ShloMosaic Idealize.ShloMosaic.TcCoe Idealize.SL.Sem
open Idealize.ShloMosaic.Pointwise

set_option maxRecDepth 16384

/-! ## The arrays, index by index -/

section Spec

variable (A0 : FVec Ideal S16x16x1024 .f32) (A1 A2 A3 : FVec Ideal S16x16x512 .bf16) (A4 : FVec Ideal S1536x1024 .f32)
  (A5 : FVec Ideal S1024 .f32) (A6 A7 : FVec Ideal S1024x2816 .f32) (A8 : FVec Ideal S2816x1024 .f32) (A9 : FVec Ideal S3x2816 .f32)
  (A10 : FVec Ideal S2816 .f32)

/-- The residual stream after the three branches are projected and added. -/
def resid (b : Fin 16) (s : Fin 16) (e : Fin 1024) : EReal :=
  A0 (ix3 b s e) + ∑ k : Fin 512, A1 (ix3 b s k) * A4 (ix2 ⟨0 + k.val, by omega⟩ e)
    + ∑ k : Fin 512, A2 (ix3 b s k) * A4 (ix2 ⟨512 + k.val, by omega⟩ e)
    + ∑ k : Fin 512, A3 (ix3 b s k) * A4 (ix2 ⟨1024 + k.val, by omega⟩ e)

/-- Its rows, each divided by its root mean square and scaled by the gains. -/
def normed (b : Fin 16) (s : Fin 16) (k : Fin 1024) : EReal :=
  resid A0 A1 A2 A3 A4 b s k
    * Ideal.rsqrt (Ideal.div (∑ e : Fin 1024, resid A0 A1 A2 A3 A4 b s e * resid A0 A1 A2 A3 A4 b s e) (Ideal.ofBits .f32 1149239296#32)
      + Ideal.ofBits .f32 897988541#32) * A5 (ix1 k)

/-- Column `j` of the normalised rows times a matrix. -/
def projCol (W : FVec Ideal S1024x2816 .f32) (b : Fin 16) (j : Fin 2816) (s : Fin 16) : EReal :=
  ∑ k : Fin 1024, normed A0 A1 A2 A3 A4 A5 b s k * W (ix2 k j)

/-- The first product `k` rows earlier, a row of the state before the first row. -/
def shift (St : FVec Ideal S16x2x2816 .f32) (b : Fin 16) (j : Fin 2816) (k : ℕ) (s : Fin 16) : EReal :=
  if h : s.val < k then St (ix3 b ⟨s.val + 2 - k, by omega⟩ j) else projCol A0 A1 A2 A3 A4 A5 A6 b j ⟨s.val - k, by omega⟩

/-- The gated entry. -/
def gated (St : FVec Ideal S16x2x2816 .f32) (b : Fin 16) (s : Fin 16) (j : Fin 2816) : EReal :=
  gate (A9 (ix2 2 j) * projCol A0 A1 A2 A3 A4 A5 A6 b j s + A10 (ix1 j) + A9 (ix2 1 j) * shift A0 A1 A2 A3 A4 A5 A6 St b j 1 s
    + A9 (ix2 0 j) * shift A0 A1 A2 A3 A4 A5 A6 St b j 2 s) (projCol A0 A1 A2 A3 A4 A5 A7 b j s)

/-- The first result. -/
def outArr (St : FVec Ideal S16x2x2816 .f32) : FVec Ideal S16x16x1024 .f32 := fun i =>
  resid A0 A1 A2 A3 A4 (i 0) (i 1) (i 2)
    + ∑ j : Fin 2816, gated A0 A1 A2 A3 A4 A5 A6 A7 A9 A10 St (i 0) (i 1) j * A8 (ix2 j (i 2))

/-- The second result: the first product's last eight rows. -/
def lastArr : FVec Ideal S16x8x2816 .f32 := fun i =>
  projCol A0 A1 A2 A3 A4 A5 A6 (i 0) (i 2) ⟨8 + (i 1).val, by have : (i 1).val < 8 := (i 1).isLt; omega⟩

end Spec

/-! ## The blocks of a grid point -/

variable (m : (ℓ : Loc nD τ sig) → Buf (Elt Ideal) ℓ) (c : Dev nD)

theorem idx : ∀ t : Fin cfg0.N, win0_0.index t = ![t.val, 0, 0] ∧ win0_1.index t = ![t.val, 0, 0]
    ∧ win0_2.index t = ![t.val, 0, 0] ∧ win0_3.index t = ![t.val, 0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![t.val, 0, 0]
    ∧ win0_12.index t = ![t.val, 0, 0] ∧ win0_13.index t = ![t.val, 0, 0] :=
  (by decide +kernel : ∀ t : Fin grid0.N, _)

theorem V1 : V m c main_v1 = (truncf .bf16 (m ((c : Thread nD τ).loc main_arg4) : FVec Ideal S1536x1024 .f32) bitsLt_bf16_f32 : FVec Ideal S1536x1024 .bf16) := rfl
theorem V3 : V m c main_v3 = (truncf .bf16 (m ((c : Thread nD τ).loc main_arg6) : FVec Ideal S1024x2816 .f32) bitsLt_bf16_f32 : FVec Ideal S1024x2816 .bf16) := rfl
theorem V4 : V m c main_v4 = (truncf .bf16 (m ((c : Thread nD τ).loc main_arg7) : FVec Ideal S1024x2816 .f32) bitsLt_bf16_f32 : FVec Ideal S1024x2816 .bf16) := rfl
theorem V5 : V m c main_v5 = (truncf .bf16 (m ((c : Thread nD τ).loc main_arg8) : FVec Ideal S2816x1024 .f32) bitsLt_bf16_f32 : FVec Ideal S2816x1024 .bf16) := rfl
theorem V2 : V m c main_v2 = shapeCast S1x1024 (m ((c : Thread nD τ).loc main_arg5) : FVec Ideal S1024 .f32) shapeCasts_S1024_S1x1024 := rfl
theorem V6 : V m c main_v6 = shapeCast S1x2816 (m ((c : Thread nD τ).loc main_arg10) : FVec Ideal S2816 .f32) shapeCasts_S2816_S1x2816 := rfl
theorem V0 : V m c main_v0 = (pad S16x8x2816 ![0, 6, 0] ![0, 0, 0] ![0, 0, 0] (m ((c : Thread nD τ).loc main_arg11) : FVec Ideal S16x2x2816 .f32)
    (sitofp .f32 (constantI S_ 32 0#32)) pads_S16x2x2816_S16x8x2816_000_600_000 h_S_ : FVec Ideal S16x8x2816 .f32) := rfl

variable (t : Fin cfg0.N)

/-- The batch entry of a grid point. -/
def bt : Fin 16 := ⟨t.val, t.isLt⟩
theorem blk0 (r : Fin 16) (k : Fin 1024) : iblk m c 0 t (ix3 0 r k) = m ((c : Thread nD τ).loc main_arg0) (ix3 (bt t) r k) := by
  blk_ext [iblk, V, idx t, bt]
theorem blk1 (r : Fin 16) (k : Fin 512) : iblk m c 1 t (ix3 0 r k) = m ((c : Thread nD τ).loc main_arg1) (ix3 (bt t) r k) := by
  blk_ext [iblk, V, idx t, bt]
theorem blk2 (r : Fin 16) (k : Fin 512) : iblk m c 2 t (ix3 0 r k) = m ((c : Thread nD τ).loc main_arg2) (ix3 (bt t) r k) := by
  blk_ext [iblk, V, idx t, bt]
theorem blk3 (r : Fin 16) (k : Fin 512) : iblk m c 3 t (ix3 0 r k) = m ((c : Thread nD τ).loc main_arg3) (ix3 (bt t) r k) := by
  blk_ext [iblk, V, idx t, bt]

theorem blk4 (k : Fin 1536) (e : Fin 1024) : iblk m c 4 t (ix2 k e) = m ((c : Thread nD τ).loc main_arg4) (ix2 k e) := by
  show V m c main_v1 (((cfg0.win 4).blk t).view.emb _) = _
  have e : ((cfg0.win 4).blk t).view.emb (ix2 k e) = ix2 k e := by blk_ext [idx t]
  rw [V1, e]
  rfl
theorem blk5 (k : Fin 1024) : iblk m c 5 t (ix2 0 k) = m ((c : Thread nD τ).loc main_arg5) (ix1 k) := by
  show V m c main_v2 (((cfg0.win 5).blk t).view.emb _) = _
  have e : ((cfg0.win 5).blk t).view.emb (ix2 0 k) = ix2 0 k := by blk_ext [idx t]
  rw [V2, e]
  refine shapeCast_apply _ _ _ _ ?_
  show (S1024.rowMajor _).val = _
  rw [Shape.rowMajor_val_one, Shape.rowMajor_val_two]
  show k.val = 0 * 1024 + k.val
  omega
theorem blk6 (k : Fin 1024) (j : Fin 2816) : iblk m c 6 t (ix2 k j) = m ((c : Thread nD τ).loc main_arg6) (ix2 k j) := by
  show V m c main_v3 (((cfg0.win 6).blk t).view.emb _) = _
  have e : ((cfg0.win 6).blk t).view.emb (ix2 k j) = ix2 k j := by blk_ext [idx t]
  rw [V3, e]
  rfl
theorem blk7 (k : Fin 1024) (j : Fin 2816) : iblk m c 7 t (ix2 k j) = m ((c : Thread nD τ).loc main_arg7) (ix2 k j) := by
  show V m c main_v4 (((cfg0.win 7).blk t).view.emb _) = _
  have e : ((cfg0.win 7).blk t).view.emb (ix2 k j) = ix2 k j := by blk_ext [idx t]
  rw [V4, e]
  rfl
theorem blk8 (j : Fin 2816) (e : Fin 1024) : iblk m c 8 t (ix2 j e) = m ((c : Thread nD τ).loc main_arg8) (ix2 j e) := by
  show V m c main_v5 (((cfg0.win 8).blk t).view.emb _) = _
  have e : ((cfg0.win 8).blk t).view.emb (ix2 j e) = ix2 j e := by blk_ext [idx t]
  rw [V5, e]
  rfl
theorem blk9 (i : Fin 3) (j : Fin 2816) : iblk m c 9 t (ix2 i j) = m ((c : Thread nD τ).loc main_arg9) (ix2 i j) := by
  blk_ext [iblk, V, idx t]
theorem blk10 (j : Fin 2816) : iblk m c 10 t (ix2 0 j) = m ((c : Thread nD τ).loc main_arg10) (ix1 j) := by
  show V m c main_v6 (((cfg0.win 10).blk t).view.emb _) = _
  have e : ((cfg0.win 10).blk t).view.emb (ix2 0 j) = ix2 0 j := by blk_ext [idx t]
  rw [V6, e]
  refine shapeCast_apply _ _ _ _ ?_
  show (S2816.rowMajor _).val = _
  rw [Shape.rowMajor_val_one, Shape.rowMajor_val_two]
  show j.val = 0 * 2816 + j.val
  omega
theorem blk11 (i : Fin 2) (j : Fin 2816) : iblk m c 11 t (ix3 0 ⟨6 + i.val, by omega⟩ j) = m ((c : Thread nD τ).loc main_arg11) (ix3 (bt t) i j) := by
  show V m c main_v0 (((cfg0.win 11).blk t).view.emb _) = _
  have e : ((cfg0.win 11).blk t).view.emb (ix3 0 ⟨6 + i.val, by omega⟩ j) = ix3 (bt t) ⟨6 + i.val, by omega⟩ j := by blk_ext [idx t, bt]
  rw [V0, e]
  refine pad_apply_of_inside _ _ _ _ _ _ _ _ (ix3 (bt t) i j) ?_
  intro a; fin_cases a
  · show (bt t).val = 0 + (bt t).val * (0 + 1); omega
  · show 6 + i.val = 6 + i.val * (0 + 1); omega
  · show j.val = 0 + j.val * (0 + 1); omega

/-- The last two of the eight rows before a block are the state. -/
theorem hist_at (i : Fin 2) (j : Fin 2816) : k0_pay2 (iblk m c 11 t) (ix3 0 ⟨6 + i.val, by omega⟩ j) = m ((c : Thread nD τ).loc main_arg11) (ix3 (bt t) i j) := by
  refine Eq.trans ?_ (blk11 m c t i j)
  pointwise [k0_pay2]

theorem ld_out (x : Vec Ideal S1536x1024 .bf16) {o : ℕ} (ho : o + 512 ≤ 1536)
    (i : ∀ a, (![o, 0] : Fin 2 → ℕ) a + (![512, 1024] : Fin 2 → ℕ) a ≤ S1536x1024.size a) (k : Fin 512) (e : Fin 1024) :
    (View.ld x (Rect.unit (s := S1536x1024) ![o, 0] ![512, 1024] i) : S512x1024.Idx → EReal) (ix2 k e) = x (ix2 ⟨o + k.val, by omega⟩ e) := by
  refine congrArg x (funext fun a => Fin.ext ?_)
  fin_cases a
  · show o + 1 * k.val = o + k.val; omega
  · show 0 + 1 * e.val = e.val; omega

section Rows

variable (x0 : Vec Ideal S1x16x1024 .f32) (x1 x2 x3 : Vec Ideal S1x16x512 .bf16) (w0 w1 w2 : Vec Ideal S512x1024 .bf16)
  (xr : FVec Ideal S16x1024 .f32) (g : Vec Ideal S1x1024 .f32) (ms : FVec Ideal S16x1 .f32)

theorem pay3_at (r : Fin 16) (e : Fin 1024) : k0_pay3 x0 x1 w0 x2 w1 x3 w2 (ix2 r e)
    = x0 (ix3 0 r e) + ∑ k : Fin 512, x1 (ix3 0 r k) * w0 (ix2 k e) + ∑ k : Fin 512, x2 (ix3 0 r k) * w1 (ix2 k e)
      + ∑ k : Fin 512, x3 (ix3 0 r k) * w2 (ix2 k e) := by
  pointwise [k0_pay3]

theorem pay5_at (r : Fin 16) : k0_pay5 x0 x1 w0 x2 w1 x3 w2 (ix2 r 0)
    = Ideal.div (∑ e : Fin 1024, k0_pay3 x0 x1 w0 x2 w1 x3 w2 (ix2 r e) * k0_pay3 x0 x1 w0 x2 w1 x3 w2 (ix2 r e))
      (Ideal.ofBits .f32 1149239296#32) := by
  pointwise [k0_pay5]

theorem pay6_at (r : Fin 16) (k : Fin 1024) : k0_pay6 xr (k0_pay4 g) ms (ix2 r k)
    = xr (ix2 r k) * Ideal.rsqrt (ms (ix2 r 0) + Ideal.ofBits .f32 897988541#32) * g (ix2 0 k) := by
  pointwise [k0_pay6, k0_pay4]

end Rows

/-- The residual stream of the program's arguments. -/
abbrev residM := resid (m ((c : Thread nD τ).loc main_arg0)) (m ((c : Thread nD τ).loc main_arg1)) (m ((c : Thread nD τ).loc main_arg2))
  (m ((c : Thread nD τ).loc main_arg3)) (m ((c : Thread nD τ).loc main_arg4))
/-- The normalised rows of the program's arguments. -/
abbrev normedM := normed (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
/-- The two products of the program's arguments. -/
abbrev projColM := projCol (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

theorem xr_at (r : Fin 16) (e : Fin 1024) : xrOf m c t (ix2 r e) = residM m c (bt t) r e := by
  refine (pay3_at _ _ _ _ _ _ _ r e).trans ?_
  show _ = resid _ _ _ _ _ _ _ _
  unfold resid
  simp only [ld_out (iblk m c 4 t) (o := 0) (by decide), ld_out (iblk m c 4 t) (o := 512) (by decide), ld_out (iblk m c 4 t) (o := 1024) (by decide), blk0, blk1, blk2, blk3, blk4]

theorem h2_at (r : Fin 16) (k : Fin 1024) : h2Of m c t (ix2 r k) = normedM m c (bt t) r k := by
  refine (pay6_at _ _ _ r k).trans ?_
  refine congr (congrArg _ (congr (congrArg _ (xr_at m c t r k)) (congrArg (fun z => Ideal.rsqrt (z + _)) ((pay5_at _ _ _ _ _ _ _ r).trans ?_)))) (blk5 m c t k)
  refine congrArg (fun z => Ideal.div z _) (Finset.sum_congr rfl fun e _ => ?_)
  exact congrArg (fun z : EReal => z * z) (xr_at m c t r e)

theorem g_at (j : Fin 2816) (r : Fin 16) : gcol (h2Of m c t) (iblk m c 6 t) j r = projColM m c (m ((c : Thread nD τ).loc main_arg6)) (bt t) j r := by
  show gcol _ _ _ _ = projCol _ _ _ _ _ _ _ _ _ _
  unfold gcol projCol
  exact Finset.sum_congr rfl fun k _ => congrArg₂ (fun a b : EReal => a * b) (h2_at m c t r k) (blk6 m c t k j)

theorem u_at (j : Fin 2816) (r : Fin 16) : gcol (h2Of m c t) (iblk m c 7 t) j r = projColM m c (m ((c : Thread nD τ).loc main_arg7)) (bt t) j r := by
  show gcol _ _ _ _ = projCol _ _ _ _ _ _ _ _ _ _
  unfold gcol projCol
  exact Finset.sum_congr rfl fun k _ => congrArg₂ (fun a b : EReal => a * b) (h2_at m c t r k) (blk7 m c t k j)

theorem last_at (i : Fin 8) (j : Fin 2816) : ((outsAt0 m c t).2 : S1x8x2816.Idx → EReal) (ix3 0 i j)
    = projColM m c (m ((c : Thread nD τ).loc main_arg6)) (bt t) j ⟨8 + i.val, by omega⟩ :=
  (last_A m c t i j).trans (g_at m c t j _)

/-- The first product of the program's arguments some rows earlier. -/
abbrev shiftM := shift (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg11))

theorem back_at (j : Fin 2816) (k : Fin 8) (hk : k.val ≤ 2) (r : Fin 16) :
    back (gcol (h2Of m c t) (iblk m c 6 t) j) (fun i => k0_pay2 (iblk m c 11 t) (ix3 0 i j)) k r = shiftM m c (bt t) j k.val r := by
  show _ = shift _ _ _ _ _ _ _ _ _ _ _ _
  unfold back shift
  by_cases hr : r.val < k.val
  · rw [dif_pos hr, dif_pos hr]
    refine Eq.trans ?_ (hist_at m c t ⟨r.val + 2 - k.val, by omega⟩ j)
    refine congrArg (fun i => k0_pay2 (iblk m c 11 t) (ix3 0 i j)) (Fin.ext ?_)
    show 8 - k.val + r.val = 6 + (r.val + 2 - k.val)
    omega
  · rw [dif_neg hr, dif_neg hr, g_at]

theorem act_at (j : Fin 2816) (r : Fin 16) :
    act (h2Of m c t) (iblk m c 6 t) (iblk m c 7 t) (iblk m c 9 t) (iblk m c 10 t) (k0_pay2 (iblk m c 11 t)) r j
      = gated (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg9))
        (m ((c : Thread nD τ).loc main_arg10)) (m ((c : Thread nD τ).loc main_arg11)) (bt t) r j := by
  unfold act gated taps
  rw [back_at m c t j 1 (by decide), back_at m c t j 2 (by decide), g_at, u_at, blk9, blk9, blk9, blk10]
  rfl

/-- The first result of the program's arguments. -/
abbrev outArrM := outArr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
/-- The second result of the program's arguments. -/
abbrev lastArrM := lastArr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6))

theorem point12 (r : Fin 16) (e : Fin 1024) : ((outsAt0 m c t).1 : S1x16x1024.Idx → EReal) (ix3 0 r e)
    = outArrM m c (ix3 (bt t) r e) :=
  (out_A m c t r e).trans (congrArg₂ (fun a b : EReal => a + b) (xr_at m c t r e) (Finset.sum_congr rfl fun j _ =>
    congrArg₂ (fun a b : EReal => a * b) (act_at m c t j r) (blk8 m c t j e)))

theorem final12 : (dats m 0 c).arrAt 12 (cfgs 0).N = outArrM m c := by
  refine (dats m 0 c).arrAt_eq_of_covers 12 _ (by decide +kernel) fun t _ y => ?_
  have e : (((cfg0.win 12).blk t).view.emb y : S16x16x1024.Idx) = ix3 (bt t) (y 1) (y 2) := by
    blk_ext [idx t, bt]
  rw [e, after0_12]
  have hy0 : (y 0).val < 1 := (y 0).isLt
  have ey : ((cfg0.win 12).xinj (cfg0.grid.coords t) y : S1x16x1024.Idx) = ix3 0 (y 1) (y 2) := by
    blk_ext []
  refine Eq.trans ?_ (point12 m c t (y 1) (y 2))
  blk_simp
  exact congrArg (outsAt0 m c t).1 ey

theorem final13 : (dats m 0 c).arrAt 13 (cfgs 0).N = lastArrM m c := by
  refine (dats m 0 c).arrAt_eq_of_covers 13 _ (by decide +kernel) fun t _ y => ?_
  have e : (((cfg0.win 13).blk t).view.emb y : S16x8x2816.Idx) = ix3 (bt t) (y 1) (y 2) := by
    blk_ext [idx t, bt]
  rw [e, after0_13]
  have hy0 : (y 0).val < 1 := (y 0).isLt
  have ey : ((cfg0.win 13).xinj (cfg0.grid.coords t) y : S1x8x2816.Idx) = ix3 0 (y 1) (y 2) := by
    blk_ext []
  refine Eq.trans ?_ (last_at m c t (y 1) (y 2))
  blk_simp
  exact congrArg (outsAt0 m c t).2 ey

end Cert.Kernel6Ideal.OutFfnSample
-- ==== Proof.OutFfnSampleRef.lean ====
module

public import proofs.«01_k».proof.Defs
public import proofs.«01_k».proof.Proof.OutFfnSampleArr
public import proofs.«01_k».proof.Proof.Gen.Reference6Ideal.Read
public import Idealize.ShloMosaic.Lib.KernelVsHost
public import Idealize.ShloMosaic.Lib.Pointwise
public import Idealize.ShloMosaic.Lib.Pipeline.ValueKit

@[expose] public section

/-!
# The sample rows' output projection and gated unit: the arrays the reference writes
-/

noncomputable section

namespace Cert.Reference6Ideal.OutFfnSample

open Cert.Reference6Ideal Cert.Reference6Ideal.Gen Idealize.ShloMosaic Idealize.ShloMosaic.TcCoe Idealize.SL.Sem
open Idealize.ShloMosaic.Pointwise Cert.Reference6Ideal.Read
open Cert.Kernel6Ideal.OutFfnSample (resid normed projCol shift gate gated outArr lastArr)

set_option maxRecDepth 16384

variable (A0 : FVec Ideal S16x16x1024 .f32) (A1 A2 A3 : FVec Ideal S16x16x512 .bf16) (A4 : FVec Ideal S1536x1024 .f32)
  (A5 : FVec Ideal S1024 .f32) (A6 A7 : FVec Ideal S1024x2816 .f32) (A8 : FVec Ideal S2816x1024 .f32) (A9 : FVec Ideal S3x2816 .f32)
  (A10 : FVec Ideal S2816 .f32) (St : FVec Ideal S16x2x2816 .f32)

theorem sum_three (f : Fin 1536 → EReal) : ∑ x : Fin 1536, f x = ∑ k : Fin 512, f ⟨0 + k.val, by omega⟩
    + ∑ k : Fin 512, f ⟨512 + k.val, by omega⟩ + ∑ k : Fin 512, f ⟨1024 + k.val, by omega⟩ := by
  show (∑ x : Fin (512 + 512 + 512), f x) = _
  rw [Fin.sum_univ_add, Fin.sum_univ_add]
  refine congrArg₂ (fun a b : EReal => a + b) (congrArg₂ (fun a b : EReal => a + b) ?_ ?_) ?_
  all_goals refine Finset.sum_congr rfl fun k _ => congrArg f (Fin.ext ?_)
  · show k.val = 0 + k.val; omega
  · rfl
  · rfl

theorem cat0 (b : Fin 16) (s : Fin 16) (k : Fin 512) : val_main_v3 (F := Ideal) A1 A2 A3 (ix3 b s ⟨0 + k.val, by omega⟩) = A1 (ix3 b s k) := by
  refine (concatenate_apply_piece (t := S16x16x1536) 2 [⟨S16x16x512, val_main_v0 (F := Ideal) A1⟩, ⟨S16x16x512, val_main_v1 (F := Ideal) A2⟩, ⟨S16x16x512, val_main_v2 (F := Ideal) A3⟩]
    concatenates_S16x16x512_S16x16x512_S16x16x512_S16x16x1536_d2 (ix3 b s ⟨0 + k.val, by omega⟩) 0 (by show 0 < 3; omega) _
    (val_main_v0 (F := Ideal) A1) rfl rfl 0 rfl (ix3 b s k) ?_ ?_).trans rfl
  · intro a ha
    fin_cases a
    · rfl
    · rfl
    · exact absurd rfl ha
  · rfl

theorem cat1 (b : Fin 16) (s : Fin 16) (k : Fin 512) : val_main_v3 (F := Ideal) A1 A2 A3 (ix3 b s ⟨512 + k.val, by omega⟩) = A2 (ix3 b s k) := by
  refine (concatenate_apply_piece (t := S16x16x1536) 2 [⟨S16x16x512, val_main_v0 (F := Ideal) A1⟩, ⟨S16x16x512, val_main_v1 (F := Ideal) A2⟩, ⟨S16x16x512, val_main_v2 (F := Ideal) A3⟩]
    concatenates_S16x16x512_S16x16x512_S16x16x512_S16x16x1536_d2 (ix3 b s ⟨512 + k.val, by omega⟩) 1 (by show 1 < 3; omega) _
    (val_main_v1 (F := Ideal) A2) rfl rfl 512 rfl (ix3 b s k) ?_ ?_).trans rfl
  · intro a ha
    fin_cases a
    · rfl
    · rfl
    · exact absurd rfl ha
  · rfl

theorem cat2 (b : Fin 16) (s : Fin 16) (k : Fin 512) : val_main_v3 (F := Ideal) A1 A2 A3 (ix3 b s ⟨1024 + k.val, by omega⟩) = A3 (ix3 b s k) := by
  refine (concatenate_apply_piece (t := S16x16x1536) 2 [⟨S16x16x512, val_main_v0 (F := Ideal) A1⟩, ⟨S16x16x512, val_main_v1 (F := Ideal) A2⟩, ⟨S16x16x512, val_main_v2 (F := Ideal) A3⟩]
    concatenates_S16x16x512_S16x16x512_S16x16x512_S16x16x1536_d2 (ix3 b s ⟨1024 + k.val, by omega⟩) 2 (by show 2 < 3; omega) _
    (val_main_v2 (F := Ideal) A3) rfl rfl 1024 rfl (ix3 b s k) ?_ ?_).trans rfl
  · intro a ha
    fin_cases a
    · rfl
    · rfl
    · exact absurd rfl ha
  · rfl

theorem resid_at (b : Fin 16) (s : Fin 16) (e : Fin 1024) : val_main_v5 (F := Ideal) A0 A1 A2 A3 A4 (ix3 b s e) = resid A0 A1 A2 A3 A4 b s e := by
  pointwise [val_main_v5, val_main_v4]
  rw [sum_three]
  simp only [cat0, cat1, cat2]
  unfold resid
  rw [add_assoc, add_assoc, add_assoc]

theorem normed_at (b : Fin 16) (s : Fin 16) (k : Fin 1024) : val_main_v18 (F := Ideal) A0 A1 A2 A3 A4 A5 (ix3 b s k) = normed A0 A1 A2 A3 A4 A5 b s k := by
  pointwise [val_main_v18, val_main_v15, val_main_v6, val_main_cst, val_main_v7, val_main_v8, val_main_cst_0, val_main_v9, val_main_v10, val_main_cst_1, val_main_v11, val_main_v12, val_main_v13, val_main_v14, val_main_v16, val_main_v17]
  simp only [resid_at]
  rfl

theorem g_at (b : Fin 16) (s : Fin 16) (j : Fin 2816) : val_main_v19 (F := Ideal) A0 A1 A2 A3 A4 A5 A6 (ix3 b s j) = projCol A0 A1 A2 A3 A4 A5 A6 b j s := by
  pointwise [val_main_v19]
  simp only [normed_at]
  rfl

theorem u_at (b : Fin 16) (s : Fin 16) (j : Fin 2816) : val_main_v20 (F := Ideal) A0 A1 A2 A3 A4 A5 A7 (ix3 b s j) = projCol A0 A1 A2 A3 A4 A5 A7 b j s := by
  pointwise [val_main_v20]
  simp only [normed_at]
  rfl

/-- The extended product at row `i` is the product two rows earlier. -/
theorem ext_at (b : Fin 16) (i : Fin 18) (j : Fin 2816) (s : Fin 16) (k : ℕ) (h : i.val + k = s.val + 2) :
    val_main_v21 (F := Ideal) A0 A1 A2 A3 A4 A5 A6 St (ix3 b i j) = shift A0 A1 A2 A3 A4 A5 A6 St b j k s := by
  unfold shift
  by_cases hk : s.val < k
  · rw [dif_pos hk]
    refine concatenate_apply_piece (t := S16x18x2816) 1 [⟨S16x2x2816, St⟩, ⟨S16x16x2816, val_main_v19 (F := Ideal) A0 A1 A2 A3 A4 A5 A6⟩]
      concatenates_S16x2x2816_S16x16x2816_S16x18x2816_d1 (ix3 b i j) 0 (by show 0 < 2; omega) _ St rfl rfl 0 rfl
      (ix3 b ⟨s.val + 2 - k, by omega⟩ j) ?_ ?_
    · intro a ha
      fin_cases a
      · rfl
      · exact absurd rfl ha
      · rfl
    · show 0 + (s.val + 2 - k) = i.val
      omega
  · rw [dif_neg hk, ← g_at]
    refine concatenate_apply_piece (t := S16x18x2816) 1 [⟨S16x2x2816, St⟩, ⟨S16x16x2816, val_main_v19 (F := Ideal) A0 A1 A2 A3 A4 A5 A6⟩]
      concatenates_S16x2x2816_S16x16x2816_S16x18x2816_d1 (ix3 b i j) 1 (by show 1 < 2; omega) _
      (val_main_v19 (F := Ideal) A0 A1 A2 A3 A4 A5 A6) rfl rfl 2 rfl (ix3 b ⟨s.val - k, by omega⟩ j) ?_ ?_
    · intro a ha
      fin_cases a
      · rfl
      · exact absurd rfl ha
      · rfl
    · show 2 + (s.val - k) = i.val
      omega

theorem shift_zero (b : Fin 16) (j : Fin 2816) (s : Fin 16) : shift A0 A1 A2 A3 A4 A5 A6 St b j 0 s = projCol A0 A1 A2 A3 A4 A5 A6 b j s := dif_neg (by omega)

theorem reorder (x2 x1 x0 w0 w1 w2 d : EReal) : x2 * w0 + x1 * w1 + x0 * w2 + d = w2 * x0 + d + w1 * x1 + w0 * x2 := by
  rw [mul_comm x2, mul_comm x1, mul_comm x0]
  generalize w0 * x2 = p
  generalize w1 * x1 = q
  generalize w2 * x0 = r
  ac_rfl

theorem gated_at (b : Fin 16) (s : Fin 16) (j : Fin 2816) : val_main_v48 (F := Ideal) A0 A1 A2 A3 A4 A5 A6 A7 A9 A10 St (ix3 b s j)
    = gated A0 A1 A2 A3 A4 A5 A6 A7 A9 A10 St b s j := by
  have hc : val_main_v46 (F := Ideal) A0 A1 A2 A3 A4 A5 A6 A9 A10 St (ix3 b s j)
      = A9 (ix2 2 j) * projCol A0 A1 A2 A3 A4 A5 A6 b j s + A10 (ix1 j) + A9 (ix2 1 j) * shift A0 A1 A2 A3 A4 A5 A6 St b j 1 s
        + A9 (ix2 0 j) * shift A0 A1 A2 A3 A4 A5 A6 St b j 2 s := by
    pointwise [val_main_v22, val_main_v23, val_main_v24, val_main_v25, val_main_v26, val_main_v27, val_main_cst_2, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
    rw [ext_at _ _ _ _ _ _ _ _ b _ j s 2 rfl, ext_at _ _ _ _ _ _ _ _ b _ j s 1 (by show 1 + s.val + 1 = s.val + 2; omega),
      ext_at _ _ _ _ _ _ _ _ b _ j s 0 (by show 2 + s.val + 0 = s.val + 2; omega), shift_zero]
    exact reorder _ _ _ _ _ _ _
  pointwise [val_main_v48, val_main_v47, val_main_call0_v0, val_main_call0_v1, val_main_call0_cst, val_main_call0_v2, val_main_call0_v3, val_main_call0_cst_0, val_main_call0_v4, val_main_call0_v5]
  rw [hc, u_at]
  unfold gated gate
  rw [zero_sub]

theorem out_eq : val_main_v50 (F := Ideal) A0 A1 A2 A3 A4 A5 A6 A7 A8 A9 A10 St = outArr A0 A1 A2 A3 A4 A5 A6 A7 A8 A9 A10 St := by
  funext i
  obtain ⟨b, s, e, rfl⟩ : ∃ b s e, i = ix3 b s e := ⟨i 0, i 1, i 2, by funext a; fin_cases a <;> rfl⟩
  pointwise [val_main_v50, val_main_v49]
  simp only [resid_at, gated_at]
  rfl

theorem last_eq : val_main_v51 (F := Ideal) A0 A1 A2 A3 A4 A5 A6 St = lastArr A0 A1 A2 A3 A4 A5 A6 := by
  funext i
  obtain ⟨b, s, e, rfl⟩ : ∃ b s e, i = ix3 b s e := ⟨i 0, i 1, i 2, by funext a; fin_cases a <;> rfl⟩
  pointwise [val_main_v51]
  refine (ext_at _ _ _ _ _ _ _ _ b _ e ⟨8 + s.val, by omega⟩ 0 (by show 10 + s.val + 0 = 8 + s.val + 2; omega)).trans ?_
  exact shift_zero _ _ _ _ _ _ _ _ _ _ _

end Cert.Reference6Ideal.OutFfnSample

namespace Cert.OutFfnSampleClaim

open Idealize.ShloMosaic Idealize.SL.Sem

theorem refQuiet : Cert.quiescent_Reference6Ideal := by
  intro m g _
  hlo_run
  all_goals first
    | exact sem_eq_zero_of_no_sems (sig := Cert.Reference6Ideal.sig) (by decide) _
    | exact fun _ => ⟨trivial, trivial, trivial, trivial, trivial, trivial, trivial, trivial, trivial, trivial, trivial, trivial⟩

theorem algebraic : Cert.algebraic_Kernel6Ideal_Reference6Ideal := by
  pair_intro
  · run_from Cert.Kernel6Ideal.Value.run_blocks m g
  · run_from Cert.Reference6Ideal.Value.run m' g'
    · have e := Cert.Reference6Ideal.Read.val_main_v50_eq (F := Ideal) m' c
      obtain ⟨a0, a1, a2, a3, a4, a5, a6, a7, a8, a9, a10, a11⟩ := hagree c
      rw [a0, a1, a2, a3, a4, a5, a6, a7, a8, a9, a10, a11] at e
      refine e.trans (Eq.trans ?_ (Cert.Kernel6Ideal.OutFfnSample.final12 m c).symm)
      exact Cert.Reference6Ideal.OutFfnSample.out_eq _ _ _ _ _ _ _ _ _ _ _ _
    · obtain ⟨a0, a1, a2, a3, a4, a5, a6, a7, a8, a9, a10, a11⟩ := hagree c
      refine (Cert.Reference6Ideal.Read.val_main_v51_eq (F := Ideal) _ _ _ _ _ _ _ _).trans (Eq.trans ?_ (Cert.Kernel6Ideal.OutFfnSample.final13 m c).symm)
      rw [a4, a5, a6, a11]
      exact Cert.Reference6Ideal.OutFfnSample.last_eq _ _ _ _ _ _ _ _

end Cert.OutFfnSampleClaim
-- ==== Proof.NormSample.lean ====
module

public import proofs.«01_k».proof.Defs
public import proofs.«01_k».proof.Proof.Gen.Kernel7Ideal.Value
public import proofs.«01_k».proof.Proof.Gen.Reference7Ideal.Read
public import Idealize.ShloMosaic.Lib.Pointwise
public import Idealize.ShloMosaic.Lib.Pipeline.ValueKit

@[expose] public section

/-!
# The final norm of the sample rows: the kernel's array is the reference's
-/

noncomputable section

namespace Cert.Kernel7Ideal.NormSample

open Cert.Kernel7Ideal Cert.Kernel7Ideal.Gen Idealize.ShloMosaic Idealize.ShloMosaic.TcCoe Idealize.SL.Sem
open Idealize.ShloMosaic.Pointwise Cert.Reference7Ideal.Read

set_option maxRecDepth 16384

variable (m : (ℓ : Loc nD τ sig) → Buf (Elt Ideal) ℓ)

theorem idx : ∀ t : Fin cfg0.N, win0_0.index t = ![t.val, 0, 0] ∧ win0_1.index t = ![0, 0] ∧ win0_2.index t = ![t.val, 0, 0] :=
  (by decide +kernel : ∀ t : Fin grid0.N, _)

theorem point (c : Dev nD) (t : Fin cfg0.N) (y) : out0_2 (iblk m c 0 t) (iblk m c 1 t) y
    = val_main_v12 (F := Ideal) (m ((c : Thread nD τ).loc main_arg0)) (m ((c : Thread nD τ).loc main_arg1)) (((cfg0.win 2).blk t).view.emb y) := by
  frame_out
  pointwise [k0_pay1, val_main_v0, val_main_v1, val_main_cst, val_main_v2, val_main_v3, val_main_cst_0, val_main_v4, val_main_v5, val_main_cst_1, val_main_v6, val_main_v7, val_main_v8, val_main_v9, val_main_v10, val_main_v11, val_main_v12]
  blk_point [iblk, V, idx t]

theorem final (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  exact point m c t y

end Cert.Kernel7Ideal.NormSample

namespace Cert.NormSampleClaim

open Idealize.ShloMosaic Idealize.SL.Sem

theorem algebraic : Cert.algebraic_Kernel7Ideal_Reference7Ideal := by
  pair_intro
  · run_from Cert.Kernel7Ideal.Value.run_blocks m g
  · run_from Cert.Reference7Ideal.Value.run m' g'
    rw [Cert.Kernel7Ideal.NormSample.final m c]
    exact Cert.Reference7Ideal.Read.val_main_v12_eq _ _

theorem refQuiet : Cert.quiescent_Reference7Ideal := by
  intro m g _
  hlo_run
  all_goals first
    | exact sem_eq_zero_of_no_sems (sig := Cert.Reference7Ideal.sig) (by decide) _
    | exact fun _ => ⟨trivial, trivial⟩

end Cert.NormSampleClaim
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel9
public import proofs.«01_k».proof.Proof.Gen.Kernel8.Skeleton
public import proofs.«01_k».proof.Proof.Gen.Kernel9.Skeleton
public import proofs.«01_k».proof.Proof.Gen.Kernel8.Launch
public import proofs.«01_k».proof.Proof.Gen.Kernel9.Launch
public import proofs.«01_k».proof.Proof.Gen.Kernel8.Points
public import proofs.«01_k».proof.Proof.Gen.Kernel9.Points
public import proofs.«01_k».proof.Proof.Gen.Kernel8.Frame
public import proofs.«01_k».proof.Proof.Gen.Kernel9.Frame
public import proofs.«01_k».proof.Proof.Gen.Kernel8Ideal
public import proofs.«01_k».proof.Proof.Gen.Kernel9Ideal
public import proofs.«01_k».proof.Proof.Gen.Kernel8Ideal.Skeleton
public import proofs.«01_k».proof.Proof.Gen.Kernel9Ideal.Skeleton
public import proofs.«01_k».proof.Proof.Gen.Kernel8Ideal.Launch
public import proofs.«01_k».proof.Proof.Gen.Kernel9Ideal.Launch
public import proofs.«01_k».proof.Proof.Gen.Kernel8Ideal.Points
public import proofs.«01_k».proof.Proof.Gen.Kernel9Ideal.Points
public import proofs.«01_k».proof.Proof.Gen.Kernel8Ideal.Frame
public import proofs.«01_k».proof.Proof.Gen.Kernel9Ideal.Frame
public import proofs.«01_k».proof.Proof.Gen.Reference8Ideal
public import proofs.«01_k».proof.Proof.Gen.Reference9Ideal
public import proofs.«01_k».proof.Proof.Gen.Pre_finite
public import proofs.«01_k».proof.Proof.Gen.Pre_below8
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Kernel9Ideal.Value
public import proofs.«01_k».proof.Proof.Gen.Reference8Ideal.Run
public import proofs.«01_k».proof.Proof.Gen.Reference9Ideal.Run
public import proofs.«01_k».proof.Proof.Gen.Reference8Ideal.Read
public import proofs.«01_k».proof.Proof.Gen.Reference9Ideal.Read
public import proofs.«01_k».proof.Proof.DaClaim
public import proofs.«01_k».proof.Proof.SsdSampleClaim
public import proofs.«01_k».proof.Proof.BiasClaim
public import proofs.«01_k».proof.Proof.InProj
public import proofs.«01_k».proof.Proof.OutFfnRef
public import proofs.«01_k».proof.Proof.Norm
public import proofs.«01_k».proof.Proof.InProjSample
public import proofs.«01_k».proof.Proof.OutFfnSampleRef
public import proofs.«01_k».proof.Proof.NormSample
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.DaClaim.preFacts, Cert.Pre_below8.Gen.facts,
  fun m g _ => Cert.Kernel.Gen.frame m g,
  fun m g _ => Cert.KernelIdeal.Gen.frame m g,
  fun m g _ => Cert.KernelIdeal.Gen.frame m g,
  Cert.DaClaim.refQuiet,
  Cert.DaClaim.refQuietPre,
  fun m g _ => Cert.Kernel2.Gen.frame m g,
  fun m g _ => Cert.Kernel2Ideal.Gen.frame m g,
  Cert.InProjClaim.refQuiet,
  fun m g _ => Cert.Kernel3.Gen.frame m g,
  fun m g _ => Cert.Kernel3Ideal.Gen.frame m g,
  Cert.OutFfnClaim.refQuiet,
  fun m g _ => Cert.Kernel4.Gen.frame m g,
  fun m g _ => Cert.Kernel4Ideal.Gen.frame m g,
  Cert.NormClaim.refQuiet,
  fun m g _ => Cert.Kernel5.Gen.frame m g,
  fun m g _ => Cert.Kernel5Ideal.Gen.frame m g,
  Cert.InProjSampleClaim.refQuiet,
  fun m g _ => Cert.Kernel6.Gen.frame m g,
  fun m g _ => Cert.Kernel6Ideal.Gen.frame m g,
  Cert.OutFfnSampleClaim.refQuiet,
  fun m g _ => Cert.Kernel7.Gen.frame m g,
  fun m g _ => Cert.Kernel7Ideal.Gen.frame m g,
  Cert.NormSampleClaim.refQuiet,
  fun m g _ => Cert.Kernel8.Gen.frame m g,
  fun m g _ => Cert.Kernel8Ideal.Gen.frame m g,
  fun m g _ => Cert.Kernel8Ideal.Gen.frame m g,
  Cert.SsdSampleClaim.refQuiet,
  Cert.SsdSampleClaim.refQuietPre,
  fun m g _ => Cert.Kernel9.Gen.frame m g,
  fun m g _ => Cert.Kernel9Ideal.Gen.frame m g,
  Cert.BiasClaim.refQuiet,
  trivial, Cert.DaClaim.algebraic, trivial, Cert.InProjClaim.algebraic, trivial, Cert.OutFfnClaim.algebraic, trivial, Cert.NormClaim.algebraic,
  trivial, Cert.InProjSampleClaim.algebraic, trivial, Cert.OutFfnSampleClaim.algebraic, trivial, Cert.NormSampleClaim.algebraic,
  trivial, Cert.SsdSampleClaim.algebraic, trivial, Cert.BiasClaim.algebraic⟩

end Cert.Proof

end
